-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.2.1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.2.2 = (fun _ => 1#1)

def Pre_MlaRef (m : (ℓ : Loc Cert.MlaRef.nD Cert.MlaRef.τ Cert.MlaRef.sig) → Buf (Elt Bits) ℓ) : Prop :=
  True

def Pre_MlaRefIdeal (m : (ℓ : Loc Cert.MlaRefIdeal.nD Cert.MlaRefIdeal.τ Cert.MlaRefIdeal.sig) → Buf (Elt Ideal) ℓ) : Prop :=
  True

def Pre_MlaRefIdeal_finite [hPre_finite : Cert.Pre_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2.1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerRefIdeal (m : (ℓ : Loc Cert.InnerRefIdeal.nD Cert.InnerRefIdeal.τ Cert.InnerRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbRef (m : (ℓ : Loc Cert.SbRef.nD Cert.SbRef.τ Cert.SbRef.sig) → Buf (Elt Bits) ℓ) : Prop :=
  True

def Pre_SbRefIdeal (m : (ℓ : Loc Cert.SbRefIdeal.nD Cert.SbRefIdeal.τ Cert.SbRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_finite [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRef [hMlaRef : Cert.MlaRef.Facts] : Prop :=
  ∀ (m : (ℓ : Loc Cert.MlaRef.nD Cert.MlaRef.τ Cert.MlaRef.sig) → Buf (Elt Bits) ℓ) (g : Dev Cert.MlaRef.nD → PrngReg), Pre_MlaRef m →
    θ_run (Cert.MlaRef.defs (F := Bits)) (onTc (τ := Cert.MlaRef.τ) (Cert.MlaRef.main (F := Bits))) ⟨m, fun _ => 0, g⟩ (fun r => (∀ c : Dev Cert.MlaRef.nD,
      r.2.mem ((c.tc : Thread Cert.MlaRef.nD Cert.MlaRef.τ).loc Cert.MlaRef.main_arg0) = m ((c.tc : Thread Cert.MlaRef.nD Cert.MlaRef.τ).loc Cert.MlaRef.main_arg0)
      ∧ r.2.mem ((c.tc : Thread Cert.MlaRef.nD Cert.MlaRef.τ).loc Cert.MlaRef.main_arg1) = m ((c.tc : Thread Cert.MlaRef.nD Cert.MlaRef.τ).loc Cert.MlaRef.main_arg1)
      ∧ r.2.mem ((c.tc : Thread Cert.MlaRef.nD Cert.MlaRef.τ).loc Cert.MlaRef.main_arg2) = m ((c.tc : Thread Cert.MlaRef.nD Cert.MlaRef.τ).loc Cert.MlaRef.main_arg2)
      ∧ r.2.mem ((c.tc : Thread Cert.MlaRef.nD Cert.MlaRef.τ).loc Cert.MlaRef.main_arg3) = m ((c.tc : Thread Cert.MlaRef.nD Cert.MlaRef.τ).loc Cert.MlaRef.main_arg3)
      ∧ r.2.mem ((c.tc : Thread Cert.MlaRef.nD Cert.MlaRef.τ).loc Cert.MlaRef.main_arg4) = m ((c.tc : Thread Cert.MlaRef.nD Cert.MlaRef.τ).loc Cert.MlaRef.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_finite [hMlaRefIdeal : Cert.MlaRefIdeal.Facts] [hPre_finite : Cert.Pre_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4)
      ∧ r.2.mem ((c.tc : Thread Cert.Inner.nD Cert.Inner.τ).loc Cert.Inner.main_arg5) = m ((c.tc : Thread Cert.Inner.nD Cert.Inner.τ).loc Cert.Inner.main_arg5)
      ∧ r.2.mem ((c.tc : Thread Cert.Inner.nD Cert.Inner.τ).loc Cert.Inner.main_arg6) = m ((c.tc : Thread Cert.Inner.nD Cert.Inner.τ).loc Cert.Inner.main_arg6)
      ∧ r.2.mem ((c.tc : Thread Cert.Inner.nD Cert.Inner.τ).loc Cert.Inner.main_arg7) = m ((c.tc : Thread Cert.Inner.nD Cert.Inner.τ).loc Cert.Inner.main_arg7)
      ∧ r.2.mem ((c.tc : Thread Cert.Inner.nD Cert.Inner.τ).loc Cert.Inner.main_arg8) = m ((c.tc : Thread Cert.Inner.nD Cert.Inner.τ).loc Cert.Inner.main_arg8)
      ∧ r.2.mem ((c.tc : Thread Cert.Inner.nD Cert.Inner.τ).loc Cert.Inner.main_arg9) = m ((c.tc : Thread Cert.Inner.nD Cert.Inner.τ).loc Cert.Inner.main_arg9)
      ∧ r.2.mem ((c.tc : Thread Cert.Inner.nD Cert.Inner.τ).loc Cert.Inner.main_arg10) = m ((c.tc : Thread Cert.Inner.nD Cert.Inner.τ).loc Cert.Inner.main_arg10)
      ∧ r.2.mem ((c.tc : Thread Cert.Inner.nD Cert.Inner.τ).loc Cert.Inner.main_arg11) = m ((c.tc : Thread Cert.Inner.nD Cert.Inner.τ).loc Cert.Inner.main_arg11)
      ∧ r.2.mem ((c.tc : Thread Cert.Inner.nD Cert.Inner.τ).loc Cert.Inner.main_arg12) = m ((c.tc : Thread Cert.Inner.nD Cert.Inner.τ).loc Cert.Inner.main_arg12)
      ∧ r.2.mem ((c.tc : Thread Cert.Inner.nD Cert.Inner.τ).loc Cert.Inner.main_arg13) = m ((c.tc : Thread Cert.Inner.nD Cert.Inner.τ).loc Cert.Inner.main_arg13))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
      ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
      ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8)
      ∧ r.2.mem ((c.tc : Thread Cert.InnerIdeal.nD Cert.InnerIdeal.τ).loc Cert.InnerIdeal.main_arg9) = m ((c.tc : Thread Cert.InnerIdeal.nD Cert.InnerIdeal.τ).loc Cert.InnerIdeal.main_arg9)
      ∧ r.2.mem ((c.tc : Thread Cert.InnerIdeal.nD Cert.InnerIdeal.τ).loc Cert.InnerIdeal.main_arg10) = m ((c.tc : Thread Cert.InnerIdeal.nD Cert.InnerIdeal.τ).loc Cert.InnerIdeal.main_arg10)
      ∧ r.2.mem ((c.tc : Thread Cert.InnerIdeal.nD Cert.InnerIdeal.τ).loc Cert.InnerIdeal.main_arg11) = m ((c.tc : Thread Cert.InnerIdeal.nD Cert.InnerIdeal.τ).loc Cert.InnerIdeal.main_arg11)
      ∧ r.2.mem ((c.tc : Thread Cert.InnerIdeal.nD Cert.InnerIdeal.τ).loc Cert.InnerIdeal.main_arg12) = m ((c.tc : Thread Cert.InnerIdeal.nD Cert.InnerIdeal.τ).loc Cert.InnerIdeal.main_arg12)
      ∧ r.2.mem ((c.tc : Thread Cert.InnerIdeal.nD Cert.InnerIdeal.τ).loc Cert.InnerIdeal.main_arg13) = m ((c.tc : Thread Cert.InnerIdeal.nD Cert.InnerIdeal.τ).loc Cert.InnerIdeal.main_arg13))
      ∧ r.2.sem = fun _ => 0)

def quiescent_InnerRefIdeal [hInnerRefIdeal : Cert.InnerRefIdeal.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6)
      ∧ r.2.mem ((c.tc : Thread Cert.InnerRefIdeal.nD Cert.InnerRefIdeal.τ).loc Cert.InnerRefIdeal.main_arg7) = m ((c.tc : Thread Cert.InnerRefIdeal.nD Cert.InnerRefIdeal.τ).loc Cert.InnerRefIdeal.main_arg7)
      ∧ r.2.mem ((c.tc : Thread Cert.InnerRefIdeal.nD Cert.InnerRefIdeal.τ).loc Cert.InnerRefIdeal.main_arg8) = m ((c.tc : Thread Cert.InnerRefIdeal.nD Cert.InnerRefIdeal.τ).loc Cert.InnerRefIdeal.main_arg8)
      ∧ r.2.mem ((c.tc : Thread Cert.InnerRefIdeal.nD Cert.InnerRefIdeal.τ).loc Cert.InnerRefIdeal.main_arg9) = m ((c.tc : Thread Cert.InnerRefIdeal.nD Cert.InnerRefIdeal.τ).loc Cert.InnerRefIdeal.main_arg9)
      ∧ r.2.mem ((c.tc : Thread Cert.InnerRefIdeal.nD Cert.InnerRefIdeal.τ).loc Cert.InnerRefIdeal.main_arg10) = m ((c.tc : Thread Cert.InnerRefIdeal.nD Cert.InnerRefIdeal.τ).loc Cert.InnerRefIdeal.main_arg10)
      ∧ r.2.mem ((c.tc : Thread Cert.InnerRefIdeal.nD Cert.InnerRefIdeal.τ).loc Cert.InnerRefIdeal.main_arg11) = m ((c.tc : Thread Cert.InnerRefIdeal.nD Cert.InnerRefIdeal.τ).loc Cert.InnerRefIdeal.main_arg11)
      ∧ r.2.mem ((c.tc : Thread Cert.InnerRefIdeal.nD Cert.InnerRefIdeal.τ).loc Cert.InnerRefIdeal.main_arg12) = m ((c.tc : Thread Cert.InnerRefIdeal.nD Cert.InnerRefIdeal.τ).loc Cert.InnerRefIdeal.main_arg12)
      ∧ r.2.mem ((c.tc : Thread Cert.InnerRefIdeal.nD Cert.InnerRefIdeal.τ).loc Cert.InnerRefIdeal.main_arg13) = m ((c.tc : Thread Cert.InnerRefIdeal.nD Cert.InnerRefIdeal.τ).loc Cert.InnerRefIdeal.main_arg13))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbRef [hSbRef : Cert.SbRef.Facts] : Prop :=
  ∀ (m : (ℓ : Loc Cert.SbRef.nD Cert.SbRef.τ Cert.SbRef.sig) → Buf (Elt Bits) ℓ) (g : Dev Cert.SbRef.nD → PrngReg), Pre_SbRef m →
    θ_run (Cert.SbRef.defs (F := Bits)) (onTc (τ := Cert.SbRef.τ) (Cert.SbRef.main (F := Bits))) ⟨m, fun _ => 0, g⟩ (fun r => (∀ c : Dev Cert.SbRef.nD,
      r.2.mem ((c.tc : Thread Cert.SbRef.nD Cert.SbRef.τ).loc Cert.SbRef.main_arg0) = m ((c.tc : Thread Cert.SbRef.nD Cert.SbRef.τ).loc Cert.SbRef.main_arg0)
      ∧ r.2.mem ((c.tc : Thread Cert.SbRef.nD Cert.SbRef.τ).loc Cert.SbRef.main_arg1) = m ((c.tc : Thread Cert.SbRef.nD Cert.SbRef.τ).loc Cert.SbRef.main_arg1)
      ∧ r.2.mem ((c.tc : Thread Cert.SbRef.nD Cert.SbRef.τ).loc Cert.SbRef.main_arg2) = m ((c.tc : Thread Cert.SbRef.nD Cert.SbRef.τ).loc Cert.SbRef.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def preserves_Mla_MlaIdeal : Prop :=
  IdealRules.named_const.Statement Cert.MlaIdeal.κ "qscale" .f32 0x3E16C740#32 (((3424635 / 33554432) * (Real.log 2)⁻¹ : ℝ) : EReal)
  ∧ IdealRules.named_const.Statement Cert.MlaIdeal.κ "mask" .f32 0xF149F2CA#32 ⊥

def algebraic_MlaIdeal_MlaRefIdeal_pre_finite [hMlaIdeal : Cert.MlaIdeal.Facts] [hMlaRefIdeal : Cert.MlaRefIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v28)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v28) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v25) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)) →
    ∃ (v0 : (c : Dev Cert.TailIdeal.nD) → Buf (Elt Ideal) ((c.tc : Thread Cert.TailIdeal.nD Cert.TailIdeal.τ).loc Cert.TailIdeal.main_v13)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v13) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v83) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13))

def preserves_Inner_InnerIdeal : Prop :=
  True

def algebraic_InnerIdeal_InnerRefIdeal [hInnerIdeal : Cert.InnerIdeal.Facts] [hInnerRefIdeal : Cert.InnerRefIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerRefIdeal.nD Cert.InnerRefIdeal.τ Cert.InnerRefIdeal.sig) → Buf (Elt Ideal) ℓ) (g' : Dev Cert.InnerRefIdeal.nD → PrngReg), Pre_InnerIdeal m →
    (∀ c : Dev Cert.InnerIdeal.nD,
      m' ((c.tc : Thread Cert.InnerRefIdeal.nD Cert.InnerRefIdeal.τ).loc Cert.InnerRefIdeal.main_arg0) = m ((c.tc : Thread Cert.InnerIdeal.nD Cert.InnerIdeal.τ).loc Cert.InnerIdeal.main_arg0)
      ∧ m' ((c.tc : Thread Cert.InnerRefIdeal.nD Cert.InnerRefIdeal.τ).loc Cert.InnerRefIdeal.main_arg1) = m ((c.tc : Thread Cert.InnerIdeal.nD Cert.InnerIdeal.τ).loc Cert.InnerIdeal.main_arg1)
      ∧ m' ((c.tc : Thread Cert.InnerRefIdeal.nD Cert.InnerRefIdeal.τ).loc Cert.InnerRefIdeal.main_arg2) = m ((c.tc : Thread Cert.InnerIdeal.nD Cert.InnerIdeal.τ).loc Cert.InnerIdeal.main_arg2)
      ∧ m' ((c.tc : Thread Cert.InnerRefIdeal.nD Cert.InnerRefIdeal.τ).loc Cert.InnerRefIdeal.main_arg3) = m ((c.tc : Thread Cert.InnerIdeal.nD Cert.InnerIdeal.τ).loc Cert.InnerIdeal.main_arg3)
      ∧ m' ((c.tc : Thread Cert.InnerRefIdeal.nD Cert.InnerRefIdeal.τ).loc Cert.InnerRefIdeal.main_arg4) = m ((c.tc : Thread Cert.InnerIdeal.nD Cert.InnerIdeal.τ).loc Cert.InnerIdeal.main_arg4)
      ∧ m' ((c.tc : Thread Cert.InnerRefIdeal.nD Cert.InnerRefIdeal.τ).loc Cert.InnerRefIdeal.main_arg5) = m ((c.tc : Thread Cert.InnerIdeal.nD Cert.InnerIdeal.τ).loc Cert.InnerIdeal.main_arg5)
      ∧ m' ((c.tc : Thread Cert.InnerRefIdeal.nD Cert.InnerRefIdeal.τ).loc Cert.InnerRefIdeal.main_arg6) = m ((c.tc : Thread Cert.InnerIdeal.nD Cert.InnerIdeal.τ).loc Cert.InnerIdeal.main_arg6)
      ∧ m' ((c.tc : Thread Cert.InnerRefIdeal.nD Cert.InnerRefIdeal.τ).loc Cert.InnerRefIdeal.main_arg7) = m ((c.tc : Thread Cert.InnerIdeal.nD Cert.InnerIdeal.τ).loc Cert.InnerIdeal.main_arg7)
      ∧ m' ((c.tc : Thread Cert.InnerRefIdeal.nD Cert.InnerRefIdeal.τ).loc Cert.InnerRefIdeal.main_arg8) = m ((c.tc : Thread Cert.InnerIdeal.nD Cert.InnerIdeal.τ).loc Cert.InnerIdeal.main_arg8)
      ∧ m' ((c.tc : Thread Cert.InnerRefIdeal.nD Cert.InnerRefIdeal.τ).loc Cert.InnerRefIdeal.main_arg9) = m ((c.tc : Thread Cert.InnerIdeal.nD Cert.InnerIdeal.τ).loc Cert.InnerIdeal.main_arg9)
      ∧ m' ((c.tc : Thread Cert.InnerRefIdeal.nD Cert.InnerRefIdeal.τ).loc Cert.InnerRefIdeal.main_arg10) = m ((c.tc : Thread Cert.InnerIdeal.nD Cert.InnerIdeal.τ).loc Cert.InnerIdeal.main_arg10)
      ∧ m' ((c.tc : Thread Cert.InnerRefIdeal.nD Cert.InnerRefIdeal.τ).loc Cert.InnerRefIdeal.main_arg11) = m ((c.tc : Thread Cert.InnerIdeal.nD Cert.InnerIdeal.τ).loc Cert.InnerIdeal.main_arg11)
      ∧ m' ((c.tc : Thread Cert.InnerRefIdeal.nD Cert.InnerRefIdeal.τ).loc Cert.InnerRefIdeal.main_arg12) = m ((c.tc : Thread Cert.InnerIdeal.nD Cert.InnerIdeal.τ).loc Cert.InnerIdeal.main_arg12)
      ∧ m' ((c.tc : Thread Cert.InnerRefIdeal.nD Cert.InnerRefIdeal.τ).loc Cert.InnerRefIdeal.main_arg13) = m ((c.tc : Thread Cert.InnerIdeal.nD Cert.InnerIdeal.τ).loc Cert.InnerIdeal.main_arg13)) →
    ∃ (v0 : (c : Dev Cert.InnerIdeal.nD) → Buf (Elt Ideal) ((c.tc : Thread Cert.InnerIdeal.nD Cert.InnerIdeal.τ).loc Cert.InnerIdeal.main_v13)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v13) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
          ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
          ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
          ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
          ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8)
          ∧ r.2.mem ((c.tc : Thread Cert.InnerIdeal.nD Cert.InnerIdeal.τ).loc Cert.InnerIdeal.main_arg9) = m ((c.tc : Thread Cert.InnerIdeal.nD Cert.InnerIdeal.τ).loc Cert.InnerIdeal.main_arg9)
          ∧ r.2.mem ((c.tc : Thread Cert.InnerIdeal.nD Cert.InnerIdeal.τ).loc Cert.InnerIdeal.main_arg10) = m ((c.tc : Thread Cert.InnerIdeal.nD Cert.InnerIdeal.τ).loc Cert.InnerIdeal.main_arg10)
          ∧ r.2.mem ((c.tc : Thread Cert.InnerIdeal.nD Cert.InnerIdeal.τ).loc Cert.InnerIdeal.main_arg11) = m ((c.tc : Thread Cert.InnerIdeal.nD Cert.InnerIdeal.τ).loc Cert.InnerIdeal.main_arg11)
          ∧ r.2.mem ((c.tc : Thread Cert.InnerIdeal.nD Cert.InnerIdeal.τ).loc Cert.InnerIdeal.main_arg12) = m ((c.tc : Thread Cert.InnerIdeal.nD Cert.InnerIdeal.τ).loc Cert.InnerIdeal.main_arg12)
          ∧ r.2.mem ((c.tc : Thread Cert.InnerIdeal.nD Cert.InnerIdeal.τ).loc Cert.InnerIdeal.main_arg13) = m ((c.tc : Thread Cert.InnerIdeal.nD Cert.InnerIdeal.τ).loc Cert.InnerIdeal.main_arg13))
      ∧ θ_run (Cert.InnerRefIdeal.defs (F := Ideal)) (onTc (τ := Cert.InnerRefIdeal.τ) (Cert.InnerRefIdeal.main (F := Ideal))) ⟨m', fun _ => 0, g'⟩ (fun r => ∀ c : Dev Cert.InnerRefIdeal.nD,
          r.2.mem ((c.tc : Thread Cert.InnerRefIdeal.nD Cert.InnerRefIdeal.τ).loc Cert.InnerRefIdeal.main_v70) = v0 c
          ∧ r.2.mem ((c.tc : Thread Cert.InnerRefIdeal.nD Cert.InnerRefIdeal.τ).loc Cert.InnerRefIdeal.main_arg0) = m' ((c.tc : Thread Cert.InnerRefIdeal.nD Cert.InnerRefIdeal.τ).loc Cert.InnerRefIdeal.main_arg0)
          ∧ r.2.mem ((c.tc : Thread Cert.InnerRefIdeal.nD Cert.InnerRefIdeal.τ).loc Cert.InnerRefIdeal.main_arg1) = m' ((c.tc : Thread Cert.InnerRefIdeal.nD Cert.InnerRefIdeal.τ).loc Cert.InnerRefIdeal.main_arg1)
          ∧ r.2.mem ((c.tc : Thread Cert.InnerRefIdeal.nD Cert.InnerRefIdeal.τ).loc Cert.InnerRefIdeal.main_arg2) = m' ((c.tc : Thread Cert.InnerRefIdeal.nD Cert.InnerRefIdeal.τ).loc Cert.InnerRefIdeal.main_arg2)
          ∧ r.2.mem ((c.tc : Thread Cert.InnerRefIdeal.nD Cert.InnerRefIdeal.τ).loc Cert.InnerRefIdeal.main_arg3) = m' ((c.tc : Thread Cert.InnerRefIdeal.nD Cert.InnerRefIdeal.τ).loc Cert.InnerRefIdeal.main_arg3)
          ∧ r.2.mem ((c.tc : Thread Cert.InnerRefIdeal.nD Cert.InnerRefIdeal.τ).loc Cert.InnerRefIdeal.main_arg4) = m' ((c.tc : Thread Cert.InnerRefIdeal.nD Cert.InnerRefIdeal.τ).loc Cert.InnerRefIdeal.main_arg4)
          ∧ r.2.mem ((c.tc : Thread Cert.InnerRefIdeal.nD Cert.InnerRefIdeal.τ).loc Cert.InnerRefIdeal.main_arg5) = m' ((c.tc : Thread Cert.InnerRefIdeal.nD Cert.InnerRefIdeal.τ).loc Cert.InnerRefIdeal.main_arg5)
          ∧ r.2.mem ((c.tc : Thread Cert.InnerRefIdeal.nD Cert.InnerRefIdeal.τ).loc Cert.InnerRefIdeal.main_arg6) = m' ((c.tc : Thread Cert.InnerRefIdeal.nD Cert.InnerRefIdeal.τ).loc Cert.InnerRefIdeal.main_arg6)
          ∧ r.2.mem ((c.tc : Thread Cert.InnerRefIdeal.nD Cert.InnerRefIdeal.τ).loc Cert.InnerRefIdeal.main_arg7) = m' ((c.tc : Thread Cert.InnerRefIdeal.nD Cert.InnerRefIdeal.τ).loc Cert.InnerRefIdeal.main_arg7)
          ∧ r.2.mem ((c.tc : Thread Cert.InnerRefIdeal.nD Cert.InnerRefIdeal.τ).loc Cert.InnerRefIdeal.main_arg8) = m' ((c.tc : Thread Cert.InnerRefIdeal.nD Cert.InnerRefIdeal.τ).loc Cert.InnerRefIdeal.main_arg8)
          ∧ r.2.mem ((c.tc : Thread Cert.InnerRefIdeal.nD Cert.InnerRefIdeal.τ).loc Cert.InnerRefIdeal.main_arg9) = m' ((c.tc : Thread Cert.InnerRefIdeal.nD Cert.InnerRefIdeal.τ).loc Cert.InnerRefIdeal.main_arg9)
          ∧ r.2.mem ((c.tc : Thread Cert.InnerRefIdeal.nD Cert.InnerRefIdeal.τ).loc Cert.InnerRefIdeal.main_arg10) = m' ((c.tc : Thread Cert.InnerRefIdeal.nD Cert.InnerRefIdeal.τ).loc Cert.InnerRefIdeal.main_arg10)
          ∧ r.2.mem ((c.tc : Thread Cert.InnerRefIdeal.nD Cert.InnerRefIdeal.τ).loc Cert.InnerRefIdeal.main_arg11) = m' ((c.tc : Thread Cert.InnerRefIdeal.nD Cert.InnerRefIdeal.τ).loc Cert.InnerRefIdeal.main_arg11)
          ∧ r.2.mem ((c.tc : Thread Cert.InnerRefIdeal.nD Cert.InnerRefIdeal.τ).loc Cert.InnerRefIdeal.main_arg12) = m' ((c.tc : Thread Cert.InnerRefIdeal.nD Cert.InnerRefIdeal.τ).loc Cert.InnerRefIdeal.main_arg12)
          ∧ r.2.mem ((c.tc : Thread Cert.InnerRefIdeal.nD Cert.InnerRefIdeal.τ).loc Cert.InnerRefIdeal.main_arg13) = m' ((c.tc : Thread Cert.InnerRefIdeal.nD Cert.InnerRefIdeal.τ).loc Cert.InnerRefIdeal.main_arg13))

def preserves_Sb_SbIdeal : Prop :=
  IdealRules.named_const.Statement Cert.SbIdeal.κ "sbscale" .f32 0x3E38AA3B#32 (((1 / 8) * (Real.log 2)⁻¹ : ℝ) : EReal)
  ∧ IdealRules.named_const.Statement Cert.SbIdeal.κ "log2e" .f32 0x3FB8AA3B#32 (((Real.log 2)⁻¹ : ℝ) : EReal)

def algebraic_SbIdeal_SbRefIdeal [hSbIdeal : Cert.SbIdeal.Facts] [hSbRefIdeal : Cert.SbRefIdeal.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v13)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v13) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v19) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def Claim : Prop :=
  ∃ (hMla : Cert.Mla.Facts) (hMlaIdeal : Cert.MlaIdeal.Facts) (hMlaRef : Cert.MlaRef.Facts) (hMlaRefIdeal : Cert.MlaRefIdeal.Facts) (hTail : Cert.Tail.Facts) (hTailIdeal : Cert.TailIdeal.Facts) (hTailRefIdeal : Cert.TailRefIdeal.Facts) (hInner : Cert.Inner.Facts) (hInnerIdeal : Cert.InnerIdeal.Facts) (hInnerRefIdeal : Cert.InnerRefIdeal.Facts) (hSb : Cert.Sb.Facts) (hSbIdeal : Cert.SbIdeal.Facts) (hSbRef : Cert.SbRef.Facts) (hSbRefIdeal : Cert.SbRefIdeal.Facts) (hPre_finite : Cert.Pre_finite.Facts),
    quiescent_Mla (hMla := hMla)
    ∧ quiescent_MlaIdeal (hMlaIdeal := hMlaIdeal)
    ∧ quiescent_MlaIdeal_pre_finite (hMlaIdeal := hMlaIdeal) (hPre_finite := hPre_finite)
    ∧ quiescent_MlaRef (hMlaRef := hMlaRef)
    ∧ quiescent_MlaRefIdeal (hMlaRefIdeal := hMlaRefIdeal)
    ∧ quiescent_MlaRefIdeal_pre_finite (hMlaRefIdeal := hMlaRefIdeal) (hPre_finite := hPre_finite)
    ∧ quiescent_Tail (hTail := hTail)
    ∧ quiescent_TailIdeal (hTailIdeal := hTailIdeal)
    ∧ quiescent_TailRefIdeal (hTailRefIdeal := hTailRefIdeal)
    ∧ quiescent_Inner (hInner := hInner)
    ∧ quiescent_InnerIdeal (hInnerIdeal := hInnerIdeal)
    ∧ quiescent_InnerRefIdeal (hInnerRefIdeal := hInnerRefIdeal)
    ∧ quiescent_Sb (hSb := hSb)
    ∧ quiescent_SbIdeal (hSbIdeal := hSbIdeal)
    ∧ quiescent_SbRef (hSbRef := hSbRef)
    ∧ quiescent_SbRefIdeal (hSbRefIdeal := hSbRefIdeal)
    ∧ preserves_Mla_MlaIdeal
    ∧ algebraic_MlaIdeal_MlaRefIdeal_pre_finite (hMlaIdeal := hMlaIdeal) (hMlaRefIdeal := hMlaRefIdeal) (hPre_finite := hPre_finite)
    ∧ preserves_Tail_TailIdeal
    ∧ algebraic_TailIdeal_TailRefIdeal (hTailIdeal := hTailIdeal) (hTailRefIdeal := hTailRefIdeal)
    ∧ preserves_Inner_InnerIdeal
    ∧ algebraic_InnerIdeal_InnerRefIdeal (hInnerIdeal := hInnerIdeal) (hInnerRefIdeal := hInnerRefIdeal)
    ∧ preserves_Sb_SbIdeal
    ∧ algebraic_SbIdeal_SbRefIdeal (hSbIdeal := hSbIdeal) (hSbRefIdeal := hSbRefIdeal)
-- ==== Pre_finite.lean ====
abbrev S2x8192x4x64 : Shape := ⟨4, ![2, 8192, 4, 64]⟩
abbrev S2x8192x4x32 : Shape := ⟨4, ![2, 8192, 4, 32]⟩
abbrev S2x8192x32 : Shape := ⟨3, ![2, 8192, 32]⟩
abbrev S_ : Shape := ⟨0, ![]⟩

class Facts : Prop where
  bcast_S_S2x8192x4x64 : S_.BroadcastsInDim S2x8192x4x64 (![] : Fin 0 → Fin S2x8192x4x64.rank)
  bcast_S_S2x8192x4x32 : S_.BroadcastsInDim S2x8192x4x32 (![] : Fin 0 → Fin S2x8192x4x32.rank)
  bcast_S_S2x8192x32 : S_.BroadcastsInDim S2x8192x32 (![] : Fin 0 → Fin S2x8192x32.rank)

variable [Facts]

def fn {F : FTy → Type} [FloatOps F] (main_arg0 : FVec F S2x8192x4x64 .f32) (main_arg1 : FVec F S2x8192x4x32 .f32) (main_arg2 : FVec F S2x8192x4x64 .f32) (main_arg3 : FVec F S2x8192x32 .f32) (main_arg4 : FVec F S2x8192x4x64 .f32) : IVec S2x8192x4x64 1 × IVec S2x8192x4x32 1 × IVec S2x8192x4x64 1 × IVec S2x8192x32 1 :=
  let main_v0 : FVec F S2x8192x4x64 .f32 := Host.absf main_arg0
  let main_cst : FVec F S_ .f32 := constant S_ .f32 0x7F800000#32
  let main_v1 : FVec F S2x8192x4x64 .f32 := broadcastInDim S2x8192x4x64 ![] bcast_S_S2x8192x4x64 main_cst
  let main_v2 : IVec S2x8192x4x64 1 := cmpf .olt main_v0 main_v1
  let main_v3 : FVec F S2x8192x4x32 .f32 := Host.absf main_arg1
  let main_cst_0 : FVec F S_ .f32 := constant S_ .f32 0x7F800000#32
  let main_v4 : FVec F S2x8192x4x32 .f32 := broadcastInDim S2x8192x4x32 ![] bcast_S_S2x8192x4x32 main_cst_0
  let main_v5 : IVec S2x8192x4x32 1 := cmpf .olt main_v3 main_v4
  let main_v6 : FVec F S2x8192x4x64 .f32 := Host.absf main_arg2
  let main_cst_1 : FVec F S_ .f32 := constant S_ .f32 0x7F800000#32
  let main_v7 : FVec F S2x8192x4x64 .f32 := broadcastInDim S2x8192x4x64 ![] bcast_S_S2x8192x4x64 main_cst_1
  let main_v8 : IVec S2x8192x4x64 1 := cmpf .olt main_v6 main_v7
  let main_v9 : FVec F S2x8192x32 .f32 := Host.absf main_arg3
  let main_cst_2 : FVec F S_ .f32 := constant S_ .f32 0x7F800000#32
  let main_v10 : FVec F S2x8192x32 .f32 := broadcastInDim S2x8192x32 ![] bcast_S_S2x8192x32 main_cst_2
  let main_v11 : IVec S2x8192x32 1 := cmpf .olt main_v9 main_v10
  (main_v2, main_v5, main_v8, main_v11)
-- ==== Mla.lean ====
abbrev S2x8192x4x64 : Shape := ⟨4, ![2, 8192, 4, 64]⟩
abbrev S2x8192x4x32 : Shape := ⟨4, ![2, 8192, 4, 32]⟩
abbrev S2x8192x32 : Shape := ⟨3, ![2, 8192, 32]⟩
abbrev S2x8192x4x96 : Shape := ⟨4, ![2, 8192, 4, 96]⟩
abbrev S16384x384 : Shape := ⟨2, ![16384, 384]⟩
abbrev S16384x4x96 : Shape := ⟨3, ![16384, 4, 96]⟩
abbrev S_ : Shape := ⟨0, ![]⟩
abbrev S16384x4x128 : Shape := ⟨3, ![16384, 4, 128]⟩
abbrev S16384x512 : Shape := ⟨2, ![16384, 512]⟩
abbrev S512x16384 : Shape := ⟨2, ![512, 16384]⟩
abbrev S2x8192x1x32 : Shape := ⟨4, ![2, 8192, 1, 32]⟩
abbrev S16384x256 : Shape := ⟨2, ![16384, 256]⟩
abbrev S16384x4x64 : Shape := ⟨3, ![16384, 4, 64]⟩
abbrev S512x256 : Shape := ⟨2, ![512, 256]⟩
abbrev S8192x512 : Shape := ⟨2, ![8192, 512]⟩
abbrev S512x8192 : Shape := ⟨2, ![512, 8192]⟩
abbrev S256x512 : Shape := ⟨2, ![256, 512]⟩
abbrev S256x1024 : Shape := ⟨2, ![256, 1024]⟩
abbrev S1x1024 : Shape := ⟨2, ![1, 1024]⟩
abbrev S128x256 : Shape := ⟨2, ![128, 256]⟩
abbrev S256x128 : Shape := ⟨2, ![256, 128]⟩
abbrev S256x256 : Shape := ⟨2, ![256, 256]⟩
abbrev S1024 : Shape := ⟨1, ![1024]⟩
abbrev S1x256 : Shape := ⟨2, ![1, 256]⟩
abbrev S2x8192x4x128 : Shape := ⟨4, ![2, 8192, 4, 128]⟩

abbrev nBuf : Space → Nat
  | .hbm => 65
  | .vmem => 13
  | .smem => 0
  | _ => 0

abbrev bufTy : (tb : Table) → Fin (tcTables nBuf tb) → BufTy
  | .hbm, ⟨0, _⟩ => ⟨S2x8192x4x64, .f32⟩
  | .hbm, ⟨1, _⟩ => ⟨S2x8192x4x32, .f32⟩
  | .hbm, ⟨2, _⟩ => ⟨S2x8192x4x64, .f32⟩
  | .hbm, ⟨3, _⟩ => ⟨S2x8192x32, .f32⟩
  | .hbm, ⟨4, _⟩ => ⟨S2x8192x4x64, .f32⟩
  | .hbm, ⟨5, _⟩ => ⟨S2x8192x4x96, .f32⟩
  | .hbm, ⟨6, _⟩ => ⟨S16384x384, .f32⟩
  | .hbm, ⟨7, _⟩ => ⟨S16384x4x96, .f32⟩
  | .hbm, ⟨8, _⟩ => ⟨S_, .i32⟩
  | .hbm, ⟨9, _⟩ => ⟨S_, .f32⟩
  | .hbm, ⟨10, _⟩ => ⟨S16384x4x128, .f32⟩
  | .hbm, ⟨11, _⟩ => ⟨S16384x512, .f32⟩
  | .hbm, ⟨12, _⟩ => ⟨S512x16384, .f32⟩
  | .hbm, ⟨13, _⟩ => ⟨S2x8192x1x32, .f32⟩
  | .hbm, ⟨14, _⟩ => ⟨S2x8192x4x32, .f32⟩
  | .hbm, ⟨15, _⟩ => ⟨S2x8192x4x96, .f32⟩
  | .hbm, ⟨16, _⟩ => ⟨S16384x384, .f32⟩
  | .hbm, ⟨17, _⟩ => ⟨S16384x4x96, .f32⟩
  | .hbm, ⟨18, _⟩ => ⟨S_, .i32⟩
  | .hbm, ⟨19, _⟩ => ⟨S_, .f32⟩
  | .hbm, ⟨20, _⟩ => ⟨S16384x4x128, .f32⟩
  | .hbm, ⟨21, _⟩ => ⟨S16384x512, .f32⟩
  | .hbm, ⟨22, _⟩ => ⟨S16384x512, .bf16⟩
  | .hbm, ⟨23, _⟩ => ⟨S16384x512, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S16384x512, .i32⟩
  | .hbm, ⟨31, _⟩ => ⟨S16384x512, .i32⟩
  | .hbm, ⟨32, _⟩ => ⟨S_, .i32⟩
  | .hbm, ⟨33, _⟩ => ⟨S16384x512, .i32⟩
  | .hbm, ⟨34, _⟩ => ⟨S16384x512, .i1⟩
  | .hbm, ⟨35, _⟩ => ⟨S_, .i32⟩
  | .hbm, ⟨36, _⟩ => ⟨S16384x512, .i32⟩
  | .hbm, ⟨37, _⟩ => ⟨S16384x512, .i1⟩
  | .hbm, ⟨38, _⟩ => ⟨S_, .i32⟩
  | .hbm, ⟨39, _⟩ => ⟨S_, .i1⟩
  | .hbm, ⟨40, _⟩ => ⟨S16384x512, .i1⟩
  | .hbm, ⟨41, _⟩ => ⟨S16384x512, .i1⟩
  | .hbm, ⟨42, _⟩ => ⟨S16384x512, .i1⟩
  | .hbm, ⟨43, _⟩ => ⟨S16384x512, .i32⟩
  | .hbm, ⟨44, _⟩ => ⟨S16384x512, .i32⟩
  | .hbm, ⟨45, _⟩ => ⟨S16384x512, .i32⟩
  | .hbm, ⟨46, _⟩ => ⟨S_, .i32⟩
  | .hbm, ⟨47, _⟩ => ⟨S16384x512, .i32⟩
  | .hbm, ⟨48, _⟩ => ⟨S16384x512, .i1⟩
  | .hbm, ⟨49, _⟩ => ⟨S16384x256, .f32⟩
  | .hbm, ⟨50, _⟩ => ⟨S16384x4x64, .f32⟩
  | .hbm, ⟨51, _⟩ => ⟨S_, .i32⟩
  | .hbm, ⟨52, _⟩ => ⟨S_, .f32⟩
  | .hbm, ⟨53, _⟩ => ⟨S16384x4x128, .f32⟩
  | .hbm, ⟨54, _⟩ => ⟨S16384x512, .f32⟩
  | .hbm, ⟨55, _⟩ => ⟨S_, .f32⟩
  | .hbm, ⟨56, _⟩ => ⟨S_, .f32⟩
  | .hbm, ⟨57, _⟩ => ⟨S16384x512, .f32⟩
  | .hbm, ⟨58, _⟩ => ⟨S16384x512, .f32⟩
  | .hbm, ⟨59, _⟩ => ⟨S512x16384, .f32⟩
  | .hbm, ⟨60, _⟩ => ⟨S512x16384, .bf16⟩
  | .hbm, ⟨61, _⟩ => ⟨S16384x512, .bf16⟩
  | .hbm, ⟨62, _⟩ => ⟨S2x8192x4x128, .bf16⟩
  | .hbm, ⟨63, _⟩ => ⟨S2x8192x4x64, .bf16⟩
  | .hbm, ⟨64, _⟩ => ⟨S2x8192x4x64, .f32⟩
  | .local _ .vmem, ⟨0, _⟩ => ⟨S512x256, .f32⟩
  | .local _ .vmem, ⟨1, _⟩ => ⟨S512x256, .f32⟩
  | .local _ .vmem, ⟨2, _⟩ => ⟨S8192x512, .bf16⟩
  | .local _ .vmem, ⟨3, _⟩ => ⟨S512x8192, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | _, _ => ⟨S2x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call2_v0 : Ref sig .tc := ⟨.hbm, 25, rfl⟩
abbrev main_call2_c : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_c_1 : Ref sig .tc := ⟨.hbm, 32, rfl⟩
abbrev main_call2_v5 : Ref sig .tc := ⟨.hbm, 33, rfl⟩
abbrev main_call2_v6 : Ref sig .tc := ⟨.hbm, 34, rfl⟩
abbrev main_call2_c_2 : Ref sig .tc := ⟨.hbm, 35, rfl⟩
abbrev main_call2_v7 : Ref sig .tc := ⟨.hbm, 36, rfl⟩
abbrev main_call2_v8 : Ref sig .tc := ⟨.hbm, 37, rfl⟩
abbrev main_call2_c_3 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_v15 : Ref sig .tc := ⟨.hbm, 45, rfl⟩
abbrev main_c_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c_3 : Ref sig .tc := ⟨.hbm, 51, rfl⟩
abbrev main_call3_v0 : Ref sig .tc := ⟨.hbm, 52, rfl⟩
abbrev main_v20 : Ref sig .tc := ⟨.hbm, 53, rfl⟩
abbrev main_v21 : Ref sig .tc := ⟨.hbm, 54, rfl⟩
abbrev main_cst : Ref sig .tc := ⟨.hbm, 55, rfl⟩
abbrev main_call4_v0 : Ref sig .tc := ⟨.hbm, 56, rfl⟩
abbrev main_call4_v1 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  c0_i32
@[reducible] def k0_t1_loop (i : grid0.Coords) : Scf.Loop 32 :=
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_33 : BitVec 32 := 1#32
  ⟨c0_i32_31, v68, c1_i32_33⟩
def k0_mult2 (i : grid0.Coords) (k0_t1 : Fin (k0_t1_loop i).trips) : BitVec 32 :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c1_i32_65 : BitVec 32 := 1#32
  let v124 : BitVec 32 := Scalar.addi v123 c1_i32_65
  let c256_i32 : BitVec 32 := 256#32
  let v125 : BitVec 32 := Scalar.muli v124 c256_i32
  v125
def k0_off1 (i : grid0.Coords) (k0_t1 : Fin (k0_t1_loop i).trips) (c1_i32_65 : BitVec 32) : Fin 2 → Nat :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let v124 : BitVec 32 := Scalar.addi v123 c1_i32_65
  let c256_i32 : BitVec 32 := 256#32
  let v125 : BitVec 32 := Scalar.muli v124 c256_i32
  let v126 : BitVec 32 := v125
  let v127 : Index := Scalar.indexCast v126
  let c0_66 : Index := 0#32
  ![v127.toNat, 0]
def k0_mult3 (i : grid0.Coords) (k0_t1 : Fin (k0_t1_loop i).trips) : BitVec 32 :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c256_i32_80 : BitVec 32 := 256#32
  let v161 : BitVec 32 := Scalar.muli v123 c256_i32_80
  v161
def k0_off2 (i : grid0.Coords) (k0_t1 : Fin (k0_t1_loop i).trips) : Fin 2 → Nat :=
  let c0_81 : Index := 0#32
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c256_i32_80 : BitVec 32 := 256#32
  let v161 : BitVec 32 := Scalar.muli v123 c256_i32_80
  let v162 : BitVec 32 := v161
  let v163 : Index := Scalar.indexCast v162
  ![0, v163.toNat]
def k0_mult4 (i : grid0.Coords) (k0_t1 : Fin (k0_t1_loop i).trips) : BitVec 32 :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c256_i32_87 : BitVec 32 := 256#32
  let v176 : BitVec 32 := Scalar.muli v123 c256_i32_87
  v176
def k0_off3 (i : grid0.Coords) (k0_t1 : Fin (k0_t1_loop i).trips) : Fin 2 → Nat :=
  let c128_88 : Index := 128#32
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c256_i32_87 : BitVec 32 := 256#32
  let v176 : BitVec 32 := Scalar.muli v123 c256_i32_87
  let v177 : BitVec 32 := v176
  let v178 : Index := Scalar.indexCast v177
  ![128, v178.toNat]
def k0_mult5 (i : grid0.Coords) (k0_t1 : Fin (k0_t1_loop i).trips) : BitVec 32 :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c256_i32_94 : BitVec 32 := 256#32
  let v191 : BitVec 32 := Scalar.muli v123 c256_i32_94
  v191
def k0_off4 (i : grid0.Coords) (k0_t1 : Fin (k0_t1_loop i).trips) : Fin 2 → Nat :=
  let c256_95 : Index := 256#32
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c256_i32_94 : BitVec 32 := 256#32
  let v191 : BitVec 32 := Scalar.muli v123 c256_i32_94
  let v192 : BitVec 32 := v191
  let v193 : Index := Scalar.indexCast v192
  ![256, v193.toNat]
def k0_mult6 (i : grid0.Coords) (k0_t1 : Fin (k0_t1_loop i).trips) : BitVec 32 :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c256_i32_101 : BitVec 32 := 256#32
  let v206 : BitVec 32 := Scalar.muli v123 c256_i32_101
  v206
def k0_off5 (i : grid0.Coords) (k0_t1 : Fin (k0_t1_loop i).trips) : Fin 2 → Nat :=
  let c384_102 : Index := 384#32
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c256_i32_101 : BitVec 32 := 256#32
  let v206 : BitVec 32 := Scalar.muli v123 c256_i32_101
  let v207 : BitVec 32 := v206
  let v208 : Index := Scalar.indexCast v207
  ![384, v208.toNat]
def k0_mult7 (i : grid0.Coords) (k0_t1 : Fin (k0_t1_loop i).trips) : BitVec 32 :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c2_i32_108 : BitVec 32 := 2#32
  let v220 : BitVec 32 := Scalar.addi v123 c2_i32_108
  let c256_i32_109 : BitVec 32 := 256#32
  let v221 : BitVec 32 := Scalar.muli v220 c256_i32_109
  v221
def k0_mult8 (i : grid0.Coords) (k0_t1 : Fin (k0_t1_loop i).trips) : BitVec 32 :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c1_i32_117 : BitVec 32 := 1#32
  let v242 : BitVec 32 := Scalar.addi v123 c1_i32_117
  let c256_i32_125 : BitVec 32 := 256#32
  let v258 : BitVec 32 := Scalar.muli v242 c256_i32_125
  v258
def k0_off6 (i : grid0.Coords) (k0_t1 : Fin (k0_t1_loop i).trips) : Fin 2 → Nat :=
  let c0_126 : Index := 0#32
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c1_i32_117 : BitVec 32 := 1#32
  let v242 : BitVec 32 := Scalar.addi v123 c1_i32_117
  let c256_i32_125 : BitVec 32 := 256#32
  let v258 : BitVec 32 := Scalar.muli v242 c256_i32_125
  let v259 : BitVec 32 := v258
  let v260 : Index := Scalar.indexCast v259
  ![0, v260.toNat]
def k0_mult9 (i : grid0.Coords) (k0_t1 : Fin (k0_t1_loop i).trips) : BitVec 32 :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c1_i32_117 : BitVec 32 := 1#32
  let v242 : BitVec 32 := Scalar.addi v123 c1_i32_117
  let c256_i32_132 : BitVec 32 := 256#32
  let v273 : BitVec 32 := Scalar.muli v242 c256_i32_132
  v273
def k0_off7 (i : grid0.Coords) (k0_t1 : Fin (k0_t1_loop i).trips) : Fin 2 → Nat :=
  let c128_133 : Index := 128#32
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c1_i32_117 : BitVec 32 := 1#32
  let v242 : BitVec 32 := Scalar.addi v123 c1_i32_117
  let c256_i32_132 : BitVec 32 := 256#32
  let v273 : BitVec 32 := Scalar.muli v242 c256_i32_132
  let v274 : BitVec 32 := v273
  let v275 : Index := Scalar.indexCast v274
  ![128, v275.toNat]
def k0_mult10 (i : grid0.Coords) (k0_t1 : Fin (k0_t1_loop i).trips) : BitVec 32 :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c1_i32_117 : BitVec 32 := 1#32
  let v242 : BitVec 32 := Scalar.addi v123 c1_i32_117
  let c256_i32_139 : BitVec 32 := 256#32
  let v288 : BitVec 32 := Scalar.muli v242 c256_i32_139
  v288
def k0_off8 (i : grid0.Coords) (k0_t1 : Fin (k0_t1_loop i).trips) : Fin 2 → Nat :=
  let c256_140 : Index := 256#32
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c1_i32_117 : BitVec 32 := 1#32
  let v242 : BitVec 32 := Scalar.addi v123 c1_i32_117
  let c256_i32_139 : BitVec 32 := 256#32
  let v288 : BitVec 32 := Scalar.muli v242 c256_i32_139
  let v289 : BitVec 32 := v288
  let v290 : Index := Scalar.indexCast v289
  ![256, v290.toNat]
def k0_mult11 (i : grid0.Coords) (k0_t1 : Fin (k0_t1_loop i).trips) : BitVec 32 :=
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c1_i32_117 : BitVec 32 := 1#32
  let v242 : BitVec 32 := Scalar.addi v123 c1_i32_117
  let c256_i32_146 : BitVec 32 := 256#32
  let v303 : BitVec 32 := Scalar.muli v242 c256_i32_146
  v303
def k0_off9 (i : grid0.Coords) (k0_t1 : Fin (k0_t1_loop i).trips) : Fin 2 → Nat :=
  let c384_147 : Index := 384#32
  let c2_i32_64 : BitVec 32 := 2#32
  let c0_i32_31 : BitVec 32 := 0#32
  let c1_i32_33 : BitVec 32 := 1#32
  let arg13 : BitVec 32 := Scf.iv c0_i32_31 c1_i32_33 k0_t1
  let v123 : BitVec 32 := Scalar.muli c2_i32_64 arg13
  let c1_i32_117 : BitVec 32 := 1#32
  let v242 : BitVec 32 := Scalar.addi v123 c1_i32_117
  let c256_i32_146 : BitVec 32 := 256#32
  let v303 : BitVec 32 := Scalar.muli v242 c256_i32_146
  let v304 : BitVec 32 := v303
  let v305 : Index := Scalar.indexCast v304
  ![384, v305.toNat]
@[reducible] def k0_t2_loop (i : grid0.Coords) : Scf.Loop 32 :=
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let v65 : BitVec 32 := Scalar.addi c0_i32_31 v64
  let c1_i32_34 : BitVec 32 := 1#32
  ⟨v68, v65, c1_i32_34⟩
def k0_mult12 (i : grid0.Coords) (k0_t2 : Fin (k0_t2_loop i).trips) : BitVec 32 :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c1_i32_65 : BitVec 32 := 1#32
  let v124 : BitVec 32 := Scalar.addi v123 c1_i32_65
  let c256_i32 : BitVec 32 := 256#32
  let v125 : BitVec 32 := Scalar.muli v124 c256_i32
  v125
def k0_off10 (i : grid0.Coords) (k0_t2 : Fin (k0_t2_loop i).trips) (c1_i32_65 : BitVec 32) : Fin 2 → Nat :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let v124 : BitVec 32 := Scalar.addi v123 c1_i32_65
  let c256_i32 : BitVec 32 := 256#32
  let v125 : BitVec 32 := Scalar.muli v124 c256_i32
  let v126 : BitVec 32 := v125
  let v127 : Index := Scalar.indexCast v126
  let c0_66 : Index := 0#32
  ![v127.toNat, 0]
def k0_mult13 (i : grid0.Coords) (k0_t2 : Fin (k0_t2_loop i).trips) : BitVec 32 :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c256_i32_80 : BitVec 32 := 256#32
  let v161 : BitVec 32 := Scalar.muli v123 c256_i32_80
  v161
def k0_off11 (i : grid0.Coords) (k0_t2 : Fin (k0_t2_loop i).trips) : Fin 2 → Nat :=
  let c0_81 : Index := 0#32
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c256_i32_80 : BitVec 32 := 256#32
  let v161 : BitVec 32 := Scalar.muli v123 c256_i32_80
  let v162 : BitVec 32 := v161
  let v163 : Index := Scalar.indexCast v162
  ![0, v163.toNat]
def k0_mult14 (i : grid0.Coords) (k0_t2 : Fin (k0_t2_loop i).trips) : BitVec 32 :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c256_i32_87 : BitVec 32 := 256#32
  let v176 : BitVec 32 := Scalar.muli v123 c256_i32_87
  v176
def k0_off12 (i : grid0.Coords) (k0_t2 : Fin (k0_t2_loop i).trips) : Fin 2 → Nat :=
  let c128_88 : Index := 128#32
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c256_i32_87 : BitVec 32 := 256#32
  let v176 : BitVec 32 := Scalar.muli v123 c256_i32_87
  let v177 : BitVec 32 := v176
  let v178 : Index := Scalar.indexCast v177
  ![128, v178.toNat]
def k0_mult15 (i : grid0.Coords) (k0_t2 : Fin (k0_t2_loop i).trips) : BitVec 32 :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c256_i32_94 : BitVec 32 := 256#32
  let v191 : BitVec 32 := Scalar.muli v123 c256_i32_94
  v191
def k0_off13 (i : grid0.Coords) (k0_t2 : Fin (k0_t2_loop i).trips) : Fin 2 → Nat :=
  let c256_95 : Index := 256#32
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c256_i32_94 : BitVec 32 := 256#32
  let v191 : BitVec 32 := Scalar.muli v123 c256_i32_94
  let v192 : BitVec 32 := v191
  let v193 : Index := Scalar.indexCast v192
  ![256, v193.toNat]
def k0_mult16 (i : grid0.Coords) (k0_t2 : Fin (k0_t2_loop i).trips) : BitVec 32 :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c256_i32_101 : BitVec 32 := 256#32
  let v206 : BitVec 32 := Scalar.muli v123 c256_i32_101
  v206
def k0_off14 (i : grid0.Coords) (k0_t2 : Fin (k0_t2_loop i).trips) : Fin 2 → Nat :=
  let c384_102 : Index := 384#32
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c256_i32_101 : BitVec 32 := 256#32
  let v206 : BitVec 32 := Scalar.muli v123 c256_i32_101
  let v207 : BitVec 32 := v206
  let v208 : Index := Scalar.indexCast v207
  ![384, v208.toNat]
def k0_mult17 (i : grid0.Coords) (k0_t2 : Fin (k0_t2_loop i).trips) : BitVec 32 :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c2_i32_108 : BitVec 32 := 2#32
  let v220 : BitVec 32 := Scalar.addi v123 c2_i32_108
  let c256_i32_109 : BitVec 32 := 256#32
  let v221 : BitVec 32 := Scalar.muli v220 c256_i32_109
  v221
def k0_mult18 (i : grid0.Coords) (k0_t2 : Fin (k0_t2_loop i).trips) : BitVec 32 :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c1_i32_117 : BitVec 32 := 1#32
  let v242 : BitVec 32 := Scalar.addi v123 c1_i32_117
  let c256_i32_125 : BitVec 32 := 256#32
  let v258 : BitVec 32 := Scalar.muli v242 c256_i32_125
  v258
def k0_off15 (i : grid0.Coords) (k0_t2 : Fin (k0_t2_loop i).trips) : Fin 2 → Nat :=
  let c0_126 : Index := 0#32
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c1_i32_117 : BitVec 32 := 1#32
  let v242 : BitVec 32 := Scalar.addi v123 c1_i32_117
  let c256_i32_125 : BitVec 32 := 256#32
  let v258 : BitVec 32 := Scalar.muli v242 c256_i32_125
  let v259 : BitVec 32 := v258
  let v260 : Index := Scalar.indexCast v259
  ![0, v260.toNat]
def k0_mult19 (i : grid0.Coords) (k0_t2 : Fin (k0_t2_loop i).trips) : BitVec 32 :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c1_i32_117 : BitVec 32 := 1#32
  let v242 : BitVec 32 := Scalar.addi v123 c1_i32_117
  let c256_i32_132 : BitVec 32 := 256#32
  let v273 : BitVec 32 := Scalar.muli v242 c256_i32_132
  v273
def k0_off16 (i : grid0.Coords) (k0_t2 : Fin (k0_t2_loop i).trips) : Fin 2 → Nat :=
  let c128_133 : Index := 128#32
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c1_i32_117 : BitVec 32 := 1#32
  let v242 : BitVec 32 := Scalar.addi v123 c1_i32_117
  let c256_i32_132 : BitVec 32 := 256#32
  let v273 : BitVec 32 := Scalar.muli v242 c256_i32_132
  let v274 : BitVec 32 := v273
  let v275 : Index := Scalar.indexCast v274
  ![128, v275.toNat]
def k0_mult20 (i : grid0.Coords) (k0_t2 : Fin (k0_t2_loop i).trips) : BitVec 32 :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c1_i32_117 : BitVec 32 := 1#32
  let v242 : BitVec 32 := Scalar.addi v123 c1_i32_117
  let c256_i32_139 : BitVec 32 := 256#32
  let v288 : BitVec 32 := Scalar.muli v242 c256_i32_139
  v288
def k0_off17 (i : grid0.Coords) (k0_t2 : Fin (k0_t2_loop i).trips) : Fin 2 → Nat :=
  let c256_140 : Index := 256#32
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c1_i32_117 : BitVec 32 := 1#32
  let v242 : BitVec 32 := Scalar.addi v123 c1_i32_117
  let c256_i32_139 : BitVec 32 := 256#32
  let v288 : BitVec 32 := Scalar.muli v242 c256_i32_139
  let v289 : BitVec 32 := v288
  let v290 : Index := Scalar.indexCast v289
  ![256, v290.toNat]
def k0_mult21 (i : grid0.Coords) (k0_t2 : Fin (k0_t2_loop i).trips) : BitVec 32 :=
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c1_i32_117 : BitVec 32 := 1#32
  let v242 : BitVec 32 := Scalar.addi v123 c1_i32_117
  let c256_i32_146 : BitVec 32 := 256#32
  let v303 : BitVec 32 := Scalar.muli v242 c256_i32_146
  v303
def k0_off18 (i : grid0.Coords) (k0_t2 : Fin (k0_t2_loop i).trips) : Fin 2 → Nat :=
  let c384_147 : Index := 384#32
  let c2_i32_64 : BitVec 32 := 2#32
  let c0_i32_31 : BitVec 32 := 0#32
  let arg1 : BitVec 32 := BitVec.ofNat 32 (i 1).val
  let c1_i32 : BitVec 32 := 1#32
  let v25 : BitVec 32 := Scalar.addi arg1 c1_i32
  let c1_i32_23 : BitVec 32 := 1#32
  let v46 : BitVec 32 := Scalar.subi v25 c1_i32_23
  let c0_i32_24 : BitVec 32 := 0#32
  let v48 : BitVec 1 := Scalar.cmpi .sgt v46 c0_i32_24
  let v49 : BitVec 32 := Scalar.extui v48
  let c0_i32_25 : BitVec 32 := 0#32
  let v50 : BitVec 1 := Scalar.cmpi .slt v46 c0_i32_25
  let v51 : BitVec 32 := Scalar.extui v50
  let v52 : BitVec 32 := Scalar.subi v49 v51
  let c2_i32 : BitVec 32 := 2#32
  let c0_i32_26 : BitVec 32 := 0#32
  let v53 : BitVec 1 := Scalar.cmpi .sgt c2_i32 c0_i32_26
  let v54 : BitVec 32 := Scalar.extui v53
  let c0_i32_27 : BitVec 32 := 0#32
  let v55 : BitVec 1 := Scalar.cmpi .slt c2_i32 c0_i32_27
  let v56 : BitVec 32 := Scalar.extui v55
  let v57 : BitVec 32 := Scalar.subi v54 v56
  let v58 : BitVec 1 := Scalar.cmpi .ne v52 v57
  let v59 : BitVec 32 := Scalar.remsi v46 c2_i32
  let c0_i32_28 : BitVec 32 := 0#32
  let v60 : BitVec 1 := Scalar.cmpi .ne v59 c0_i32_28
  let v61 : BitVec 1 := Scalar.andi v58 v60
  let v47 : BitVec 32 := Scalar.divsi v46 c2_i32
  let c1_i32_29 : BitVec 32 := 1#32
  let v62 : BitVec 32 := Scalar.subi v47 c1_i32_29
  let v63 : BitVec 32 := Scalar.select v61 v62 v47
  let v64 : BitVec 32 := Scalar.subi v63 c0_i32_31
  let c1_i32_32 : BitVec 32 := 1#32
  let v66 : BitVec 32 := Scalar.divsi v64 c1_i32_32
  let v67 : BitVec 32 := Scalar.muli v66 c1_i32_32
  let v68 : BitVec 32 := Scalar.addi c0_i32_31 v67
  let c1_i32_34 : BitVec 32 := 1#32
  let arg13 : BitVec 32 := Scf.iv v68 c1_i32_34 k0_t2
  let v123 : BitVec 32 := Scalar.muli c2_i32_64 arg13
  let c1_i32_117 : BitVec 32 := 1#32
  let v242 : BitVec 32 := Scalar.addi v123 c1_i32_117
  let c256_i32_146 : BitVec 32 := 256#32
  let v303 : BitVec 32 := Scalar.muli v242 c256_i32_146
  let v304 : BitVec 32 := v303
  let v305 : Index := Scalar.indexCast v304
  ![384, v305.toNat]
def k0_cond1 (i : grid0.Coords) : BitVec 1 :=
  let arg1 : BitVec 32 := BitVec.ofNat 32 (i 1).val
  let c1_i32 : BitVec 32 := 1#32
  let v25 : BitVec 32 := Scalar.addi arg1 c1_i32
  let c2_i32_35 : BitVec 32 := 2#32
  let c0_i32_36 : BitVec 32 := 0#32
  let v69 : BitVec 1 := Scalar.cmpi .eq c2_i32_35 c0_i32_36
  let c1_i32_37 : BitVec 32 := 1#32
  let v70 : BitVec 32 := Scalar.select v69 c1_i32_37 c2_i32_35
  let v71 : BitVec 32 := Scalar.remsi v25 v70
  let c0_i32_39 : BitVec 32 := 0#32
  let v73 : BitVec 1 := Scalar.cmpi .slt v71 c0_i32_39
  let c0_i32_40 : BitVec 32 := 0#32
  let v74 : BitVec 1 := Scalar.cmpi .slt v70 c0_i32_40
  let v75 : BitVec 1 := Scalar.xori v73 v74
  let c0_i32_38 : BitVec 32 := 0#32
  let v72 : BitVec 1 := Scalar.cmpi .ne v71 c0_i32_38
  let v76 : BitVec 1 := Scalar.andi v75 v72
  let v77 : BitVec 32 := Scalar.addi v71 v70
  let v78 : BitVec 32 := Scalar.select v76 v77 v71
  let c1_i32_41 : BitVec 32 := 1#32
  let v79 : BitVec 1 := Scalar.cmpi .eq v78 c1_i32_41
  let v80 : BitVec 32 := Scalar.extui v79
  let c0_i32_42 : BitVec 32 := 0#32
  let v81 : BitVec 1 := Scalar.cmpi .ne v80 c0_i32_42
  v81

def k0_mult22 (i : grid0.Coords) : BitVec 32 :=
  let arg1 : BitVec 32 := BitVec.ofNat 32 (i 1).val
  let c1_i32 : BitVec 32 := 1#32
  let v25 : BitVec 32 := Scalar.addi arg1 c1_i32
  let c1_i32_64 : BitVec 32 := 1#32
  let v123 : BitVec 32 := Scalar.subi v25 c1_i32_64
  let c256_i32_78 : BitVec 32 := 256#32
  let v160 : BitVec 32 := Scalar.muli v123 c256_i32_78
  v160
def k0_off19 (i : grid0.Coords) : Fin 2 → Nat :=
  let c0_79 : Index := 0#32
  let arg1 : BitVec 32 := BitVec.ofNat 32 (i 1).val
  let c1_i32 : BitVec 32 := 1#32
  let v25 : BitVec 32 := Scalar.addi arg1 c1_i32
  let c1_i32_64 : BitVec 32 := 1#32
  let v123 : BitVec 32 := Scalar.subi v25 c1_i32_64
  let c256_i32_78 : BitVec 32 := 256#32
  let v160 : BitVec 32 := Scalar.muli v123 c256_i32_78
  let v161 : BitVec 32 := v160
  let v162 : Index := Scalar.indexCast v161
  ![0, v162.toNat]
def k0_mult23 (i : grid0.Coords) : BitVec 32 :=
  let arg1 : BitVec 32 := BitVec.ofNat 32 (i 1).val
  let c1_i32 : BitVec 32 := 1#32
  let v25 : BitVec 32 := Scalar.addi arg1 c1_i32
  let c1_i32_64 : BitVec 32 := 1#32
  let v123 : BitVec 32 := Scalar.subi v25 c1_i32_64
  let c256_i32_85 : BitVec 32 := 256#32
  let v175 : BitVec 32 := Scalar.muli v123 c256_i32_85
  v175
def k0_off20 (i : grid0.Coords) : Fin 2 → Nat :=
  let c128_86 : Index := 128#32
  let arg1 : BitVec 32 := BitVec.ofNat 32 (i 1).val
  let c1_i32 : BitVec 32 := 1#32
  let v25 : BitVec 32 := Scalar.addi arg1 c1_i32
  let c1_i32_64 : BitVec 32 := 1#32
  let v123 : BitVec 32 := Scalar.subi v25 c1_i32_64
  let c256_i32_85 : BitVec 32 := 256#32
  let v175 : BitVec 32 := Scalar.muli v123 c256_i32_85
  let v176 : BitVec 32 := v175
  let v177 : Index := Scalar.indexCast v176
  ![128, v177.toNat]
def k0_mult24 (i : grid0.Coords) : BitVec 32 :=
  let arg1 : BitVec 32 := BitVec.ofNat 32 (i 1).val
  let c1_i32 : BitVec 32 := 1#32
  let v25 : BitVec 32 := Scalar.addi arg1 c1_i32
  let c1_i32_64 : BitVec 32 := 1#32
  let v123 : BitVec 32 := Scalar.subi v25 c1_i32_64
  let c256_i32_92 : BitVec 32 := 256#32
  let v190 : BitVec 32 := Scalar.muli v123 c256_i32_92
  v190
def k0_off21 (i : grid0.Coords) : Fin 2 → Nat :=
  let c256_93 : Index := 256#32
  let arg1 : BitVec 32 := BitVec.ofNat 32 (i 1).val
  let c1_i32 : BitVec 32 := 1#32
  let v25 : BitVec 32 := Scalar.addi arg1 c1_i32
  let c1_i32_64 : BitVec 32 := 1#32
  let v123 : BitVec 32 := Scalar.subi v25 c1_i32_64
  let c256_i32_92 : BitVec 32 := 256#32
  let v190 : BitVec 32 := Scalar.muli v123 c256_i32_92
  let v191 : BitVec 32 := v190
  let v192 : Index := Scalar.indexCast v191
  ![256, v192.toNat]
def k0_mult25 (i : grid0.Coords) : BitVec 32 :=
  let arg1 : BitVec 32 := BitVec.ofNat 32 (i 1).val
  let c1_i32 : BitVec 32 := 1#32
  let v25 : BitVec 32 := Scalar.addi arg1 c1_i32
  let c1_i32_64 : BitVec 32 := 1#32
  let v123 : BitVec 32 := Scalar.subi v25 c1_i32_64
  let c256_i32_99 : BitVec 32 := 256#32
  let v205 : BitVec 32 := Scalar.muli v123 c256_i32_99
  v205
def k0_off22 (i : grid0.Coords) : Fin 2 → Nat :=
  let c384_100 : Index := 384#32
  let arg1 : BitVec 32 := BitVec.ofNat 32 (i 1).val
  let c1_i32 : BitVec 32 := 1#32
  let v25 : BitVec 32 := Scalar.addi arg1 c1_i32
  let c1_i32_64 : BitVec 32 := 1#32
  let v123 : BitVec 32 := Scalar.subi v25 c1_i32_64
  let c256_i32_99 : BitVec 32 := 256#32
  let v205 : BitVec 32 := Scalar.muli v123 c256_i32_99
  let v206 : BitVec 32 := v205
  let v207 : Index := Scalar.indexCast v206
  ![384, v207.toNat]
def k0_cond2 (i : grid0.Coords) : BitVec 1 :=
  let arg1 : BitVec 32 := BitVec.ofNat 32 (i 1).val
  let c1_i32 : BitVec 32 := 1#32
  let v25 : BitVec 32 := Scalar.addi arg1 c1_i32
  let c2_i32_43 : BitVec 32 := 2#32
  let c0_i32_44 : BitVec 32 := 0#32
  let v82 : BitVec 1 := Scalar.cmpi .eq c2_i32_43 c0_i32_44
  let c1_i32_45 : BitVec 32 := 1#32
  let v83 : BitVec 32 := Scalar.select v82 c1_i32_45 c2_i32_43
  let v84 : BitVec 32 := Scalar.remsi v25 v83
  let c0_i32_47 : BitVec 32 := 0#32
  let v86 : BitVec 1 := Scalar.cmpi .slt v84 c0_i32_47
  let c0_i32_48 : BitVec 32 := 0#32
  let v87 : BitVec 1 := Scalar.cmpi .slt v83 c0_i32_48
  let v88 : BitVec 1 := Scalar.xori v86 v87
  let c0_i32_46 : BitVec 32 := 0#32
  let v85 : BitVec 1 := Scalar.cmpi .ne v84 c0_i32_46
  let v89 : BitVec 1 := Scalar.andi v88 v85
  let v90 : BitVec 32 := Scalar.addi v84 v83
  let v91 : BitVec 32 := Scalar.select v89 v90 v84
  let c0_i32_49 : BitVec 32 := 0#32
  let v92 : BitVec 1 := Scalar.cmpi .eq v91 c0_i32_49
  let v93 : BitVec 32 := Scalar.extui v92
  let c0_i32_50 : BitVec 32 := 0#32
  let v94 : BitVec 1 := Scalar.cmpi .ne v93 c0_i32_50
  v94

def k0_mult26 (i : grid0.Coords) : BitVec 32 :=
  let arg1 : BitVec 32 := BitVec.ofNat 32 (i 1).val
  let c1_i32 : BitVec 32 := 1#32
  let v25 : BitVec 32 := Scalar.addi arg1 c1_i32
  let c1_i32_64 : BitVec 32 := 1#32
  let v123 : BitVec 32 := Scalar.subi v25 c1_i32_64
  let c256_i32 : BitVec 32 := 256#32
  let v124 : BitVec 32 := Scalar.muli v123 c256_i32
  v124
def k0_off23 (i : grid0.Coords) : Fin 2 → Nat :=
  let arg1 : BitVec 32 := BitVec.ofNat 32 (i 1).val
  let c1_i32 : BitVec 32 := 1#32
  let v25 : BitVec 32 := Scalar.addi arg1 c1_i32
  let c1_i32_64 : BitVec 32 := 1#32
  let v123 : BitVec 32 := Scalar.subi v25 c1_i32_64
  let c256_i32 : BitVec 32 := 256#32
  let v124 : BitVec 32 := Scalar.muli v123 c256_i32
  let v125 : BitVec 32 := v124
  let v126 : Index := Scalar.indexCast v125
  let c0_65 : Index := 0#32
  ![v126.toNat, 0]
def k0_mult27 (i : grid0.Coords) : BitVec 32 :=
  let arg1 : BitVec 32 := BitVec.ofNat 32 (i 1).val
  let c1_i32 : BitVec 32 := 1#32
  let v25 : BitVec 32 := Scalar.addi arg1 c1_i32
  let c2_i32_72 : BitVec 32 := 2#32
  let v145 : BitVec 32 := Scalar.subi v25 c2_i32_72
  let c256_i32_80 : BitVec 32 := 256#32
  let v161 : BitVec 32 := Scalar.muli v145 c256_i32_80
  v161
def k0_off24 (i : grid0.Coords) (c2_i32_72 : BitVec 32) : Fin 2 → Nat :=
  let c0_81 : Index := 0#32
  let arg1 : BitVec 32 := BitVec.ofNat 32 (i 1).val
  let c1_i32 : BitVec 32 := 1#32
  let v25 : BitVec 32 := Scalar.addi arg1 c1_i32
  let v145 : BitVec 32 := Scalar.subi v25 c2_i32_72
  let c256_i32_80 : BitVec 32 := 256#32
  let v161 : BitVec 32 := Scalar.muli v145 c256_i32_80
  let v162 : BitVec 32 := v161
  let v163 : Index := Scalar.indexCast v162
  ![0, v163.toNat]
def k0_mult28 (i : grid0.Coords) : BitVec 32 :=
  let arg1 : BitVec 32 := BitVec.ofNat 32 (i 1).val
  let c1_i32 : BitVec 32 := 1#32
  let v25 : BitVec 32 := Scalar.addi arg1 c1_i32
  let c2_i32_72 : BitVec 32 := 2#32
  let v145 : BitVec 32 := Scalar.subi v25 c2_i32_72
  let c256_i32_87 : BitVec 32 := 256#32
  let v176 : BitVec 32 := Scalar.muli v145 c256_i32_87
  v176
def k0_off25 (i : grid0.Coords) (c2_i32_72 : BitVec 32) : Fin 2 → Nat :=
  let c128_88 : Index := 128#32
  let arg1 : BitVec 32 := BitVec.ofNat 32 (i 1).val
  let c1_i32 : BitVec 32 := 1#32
  let v25 : BitVec 32 := Scalar.addi arg1 c1_i32
  let v145 : BitVec 32 := Scalar.subi v25 c2_i32_72
  let c256_i32_87 : BitVec 32 := 256#32
  let v176 : BitVec 32 := Scalar.muli v145 c256_i32_87
  let v177 : BitVec 32 := v176
  let v178 : Index := Scalar.indexCast v177
  ![128, v178.toNat]
def k0_mult29 (i : grid0.Coords) : BitVec 32 :=
  let arg1 : BitVec 32 := BitVec.ofNat 32 (i 1).val
  let c1_i32 : BitVec 32 := 1#32
  let v25 : BitVec 32 := Scalar.addi arg1 c1_i32
  let c2_i32_72 : BitVec 32 := 2#32
  let v145 : BitVec 32 := Scalar.subi v25 c2_i32_72
  let c256_i32_94 : BitVec 32 := 256#32
  let v191 : BitVec 32 := Scalar.muli v145 c256_i32_94
  v191
def k0_off26 (i : grid0.Coords) (c2_i32_72 : BitVec 32) : Fin 2 → Nat :=
  let c256_95 : Index := 256#32
  let arg1 : BitVec 32 := BitVec.ofNat 32 (i 1).val
  let c1_i32 : BitVec 32 := 1#32
  let v25 : BitVec 32 := Scalar.addi arg1 c1_i32
  let v145 : BitVec 32 := Scalar.subi v25 c2_i32_72
  let c256_i32_94 : BitVec 32 := 256#32
  let v191 : BitVec 32 := Scalar.muli v145 c256_i32_94
  let v192 : BitVec 32 := v191
  let v193 : Index := Scalar.indexCast v192
  ![256, v193.toNat]
def k0_mult30 (i : grid0.Coords) : BitVec 32 :=
  let arg1 : BitVec 32 := BitVec.ofNat 32 (i 1).val
  let c1_i32 : BitVec 32 := 1#32
  let v25 : BitVec 32 := Scalar.addi arg1 c1_i32
  let c2_i32_72 : BitVec 32 := 2#32
  let v145 : BitVec 32 := Scalar.subi v25 c2_i32_72
  let c256_i32_101 : BitVec 32 := 256#32
  let v206 : BitVec 32 := Scalar.muli v145 c256_i32_101
  v206
def k0_off27 (i : grid0.Coords) (c2_i32_72 : BitVec 32) : Fin 2 → Nat :=
  let c384_102 : Index := 384#32
  let arg1 : BitVec 32 := BitVec.ofNat 32 (i 1).val
  let c1_i32 : BitVec 32 := 1#32
  let v25 : BitVec 32 := Scalar.addi arg1 c1_i32
  let v145 : BitVec 32 := Scalar.subi v25 c2_i32_72
  let c256_i32_101 : BitVec 32 := 256#32
  let v206 : BitVec 32 := Scalar.muli v145 c256_i32_101
  let v207 : BitVec 32 := v206
  let v208 : Index := Scalar.indexCast v207
  ![384, v208.toNat]
def k0_mult31 (i : grid0.Coords) : BitVec 32 :=
  let arg1 : BitVec 32 := BitVec.ofNat 32 (i 1).val
  let c1_i32 : BitVec 32 := 1#32
  let v25 : BitVec 32 := Scalar.addi arg1 c1_i32
  let c1_i32_108 : BitVec 32 := 1#32
  let v220 : BitVec 32 := Scalar.subi v25 c1_i32_108
  let c256_i32_123 : BitVec 32 := 256#32
  let v257 : BitVec 32 := Scalar.muli v220 c256_i32_123
  v257
def k0_mult32 (i : grid0.Coords) : BitVec 32 :=
  let arg1 : BitVec 32 := BitVec.ofNat 32 (i 1).val
  let c1_i32 : BitVec 32 := 1#32
  let v25 : BitVec 32 := Scalar.addi arg1 c1_i32
  let c1_i32_108 : BitVec 32 := 1#32
  let v220 : BitVec 32 := Scalar.subi v25 c1_i32_108
  let c256_i32_130 : BitVec 32 := 256#32
  let v272 : BitVec 32 := Scalar.muli v220 c256_i32_130
  v272
def k0_mult33 (i : grid0.Coords) : BitVec 32 :=
  let arg1 : BitVec 32 := BitVec.ofNat 32 (i 1).val
  let c1_i32 : BitVec 32 := 1#32
  let v25 : BitVec 32 := Scalar.addi arg1 c1_i32
  let c1_i32_108 : BitVec 32 := 1#32
  let v220 : BitVec 32 := Scalar.subi v25 c1_i32_108
  let c256_i32_137 : BitVec 32 := 256#32
  let v287 : BitVec 32 := Scalar.muli v220 c256_i32_137
  v287
def k0_mult34 (i : grid0.Coords) : BitVec 32 :=
  let arg1 : BitVec 32 := BitVec.ofNat 32 (i 1).val
  let c1_i32 : BitVec 32 := 1#32
  let v25 : BitVec 32 := Scalar.addi arg1 c1_i32
  let c1_i32_108 : BitVec 32 := 1#32
  let v220 : BitVec 32 := Scalar.subi v25 c1_i32_108
  let c256_i32_144 : BitVec 32 := 256#32
  let v302 : BitVec 32 := Scalar.muli v220 c256_i32_144
  v302
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaIdeal.lean ====
variable {F : FTy → Type} [FloatOps F] [Named F]
def κ : String → Option EReal := fun
  | "mask" => some ⊥
  | "qscale" => some (((3424635 / 33554432) * (Real.log 2)⁻¹ : ℝ) : EReal)
  | _ => none
-- ==== MlaRef.lean ====
abbrev S2x8192x4x64 : Shape := ⟨4, ![2, 8192, 4, 64]⟩
abbrev S2x8192x4x32 : Shape := ⟨4, ![2, 8192, 4, 32]⟩
abbrev S2x8192x32 : Shape := ⟨3, ![2, 8192, 32]⟩
abbrev S8192 : Shape := ⟨1, ![8192]⟩
abbrev S2x4x8192x8192 : Shape := ⟨4, ![2, 4, 8192, 8192]⟩
abbrev S2x8192x8192x4 : Shape := ⟨4, ![2, 8192, 8192, 4]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x4x64, .f32⟩
  | .hbm, ⟨1, _⟩ => ⟨S2x8192x4x32, .f32⟩
  | .hbm, ⟨2, _⟩ => ⟨S2x8192x4x64, .f32⟩
  | .hbm, ⟨3, _⟩ => ⟨S2x8192x32, .f32⟩
  | .hbm, ⟨4, _⟩ => ⟨S2x8192x4x64, .f32⟩
  | .hbm, ⟨5, _⟩ => ⟨S8192, .i32⟩
  | .hbm, ⟨6, _⟩ => ⟨S2x4x8192x8192, .f32⟩
  | .hbm, ⟨7, _⟩ => ⟨S2x8192x8192x4, .f32⟩
  | .hbm, ⟨8, _⟩ => ⟨S2x4x8192x8192, .f32⟩
  | .hbm, ⟨9, _⟩ => ⟨S2x4x8192x8192, .f32⟩
  | .hbm, ⟨10, _⟩ => ⟨S_, .f32⟩
  | .hbm, ⟨11, _⟩ => ⟨S2x4x8192x8192, .f32⟩
  | .hbm, ⟨12, _⟩ => ⟨S2x4x8192x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S2x4x8192x8192, .i1⟩
  | .hbm, ⟨21, _⟩ => ⟨S2x4x8192x8192, .f32⟩
  | .hbm, ⟨22, _⟩ => ⟨S2x4x8192x8192, .f32⟩
  | .hbm, ⟨23, _⟩ => ⟨S_, .f32⟩
  | .hbm, ⟨24, _⟩ => ⟨S2x4x8192, .f32⟩
  | .hbm, ⟨25, _⟩ => ⟨S_, .f32⟩
  | .hbm, ⟨26, _⟩ => ⟨S2x4x8192, .f32⟩
  | .hbm, ⟨27, _⟩ => ⟨S2x4x8192, .f32⟩
  | .hbm, ⟨28, _⟩ => ⟨S2x4x8192x1, .f32⟩
  | .hbm, ⟨29, _⟩ => ⟨S2x4x8192x8192, .f32⟩
  | .hbm, ⟨30, _⟩ => ⟨S2x4x8192x8192, .f32⟩
  | .hbm, ⟨31, _⟩ => ⟨S2x4x8192x8192, .f32⟩
  | .hbm, ⟨32, _⟩ => ⟨S_, .f32⟩
  | .hbm, ⟨33, _⟩ => ⟨S2x4x8192, .f32⟩
  | .hbm, ⟨34, _⟩ => ⟨S2x4x8192x1, .f32⟩
  | .hbm, ⟨35, _⟩ => ⟨S2x4x8192x8192, .f32⟩
  | .hbm, ⟨36, _⟩ => ⟨S2x4x8192x8192, .f32⟩
  | .hbm, ⟨37, _⟩ => ⟨S2x4x64x8192, .f32⟩
  | .hbm, ⟨38, _⟩ => ⟨S2x8192x4x64, .f32⟩
  | _, _ => ⟨S2x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Tail.lean ====
abbrev S2x8192x1024 : Shape := ⟨3, ![2, 8192, 1024]⟩
abbrev S1024 : Shape := ⟨1, ![1024]⟩
abbrev S1024x7112 : Shape := ⟨2, ![1024, 7112]⟩
abbrev S4x1024 : Shape := ⟨2, ![4, 1024]⟩
abbrev S16384x512 : Shape := ⟨2, ![16384, 512]⟩
abbrev S4x256x1024 : Shape := ⟨3, ![4, 256, 1024]⟩
abbrev S1024x1024 : Shape := ⟨2, ![1024, 1024]⟩
abbrev S1024x4096 : Shape := ⟨2, ![1024, 4096]⟩
abbrev S4096x1024 : Shape := ⟨2, ![4096, 1024]⟩
abbrev S4x4x64x1024 : Shape := ⟨4, ![4, 4, 64, 1024]⟩
abbrev S_ : Shape := ⟨0, ![]⟩
abbrev S4x4x128x1024 : Shape := ⟨4, ![4, 4, 128, 1024]⟩
abbrev S4x512x1024 : Shape := ⟨3, ![4, 512, 1024]⟩
abbrev S16384x1024 : Shape := ⟨2, ![16384, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 30
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x7112, .f32⟩
  | .hbm, ⟨3, _⟩ => ⟨S4x1024, .f32⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S4x256x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S1024x4096, .f32⟩
  | .hbm, ⟨15, _⟩ => ⟨S1024x4096, .bf16⟩
  | .hbm, ⟨16, _⟩ => ⟨S4x4x64x1024, .f32⟩
  | .hbm, ⟨17, _⟩ => ⟨S_, .i32⟩
  | .hbm, ⟨18, _⟩ => ⟨S_, .f32⟩
  | .hbm, ⟨19, _⟩ => ⟨S4x4x128x1024, .f32⟩
  | .hbm, ⟨20, _⟩ => ⟨S4x512x1024, .f32⟩
  | .hbm, ⟨21, _⟩ => ⟨S4x512x1024, .bf16⟩
  | .hbm, ⟨22, _⟩ => ⟨S16384x1024, .f32⟩
  | .hbm, ⟨23, _⟩ => ⟨S1x1024, .f32⟩
  | .hbm, ⟨24, _⟩ => ⟨S1024x1024, .bf16⟩
  | .hbm, ⟨25, _⟩ => ⟨S1x1024, .f32⟩
  | .hbm, ⟨26, _⟩ => ⟨S1024x4096, .bf16⟩
  | .hbm, ⟨27, _⟩ => ⟨S4096x1024, .bf16⟩
  | .hbm, ⟨28, _⟩ => ⟨S1x1024, .f32⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S4x512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== TailRefIdeal.lean ====
abbrev S2x8192x1024 : Shape := ⟨3, ![2, 8192, 1024]⟩
abbrev S1024 : Shape := ⟨1, ![1024]⟩
abbrev S1024x7112 : Shape := ⟨2, ![1024, 7112]⟩
abbrev S4x1024 : Shape := ⟨2, ![4, 1024]⟩
abbrev S16384x512 : Shape := ⟨2, ![16384, 512]⟩
abbrev S4x256x1024 : Shape := ⟨3, ![4, 256, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S2x8192x4x128 : Shape := ⟨4, ![2, 8192, 4, 128]⟩
abbrev S2x8192x4x64 : Shape := ⟨4, ![2, 8192, 4, 64]⟩
abbrev S2x8192x256 : Shape := ⟨3, ![2, 8192, 256]⟩
abbrev S2x8192x1x256 : Shape := ⟨4, ![2, 8192, 1, 256]⟩
abbrev S2x8192x4x256 : Shape := ⟨4, ![2, 8192, 4, 256]⟩
abbrev S2x8192x4x1024 : Shape := ⟨4, ![2, 8192, 4, 1024]⟩
abbrev S1x1x4x1024 : Shape := ⟨4, ![1, 1, 4, 1024]⟩
abbrev S4x1024x2x8192 : Shape := ⟨4, ![4, 1024, 2, 8192]⟩
abbrev S16384x1024 : Shape := ⟨2, ![16384, 1024]⟩

abbrev nBuf : Space → Nat
  | .hbm => 112
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x7112, .f32⟩
  | .hbm, ⟨3, _⟩ => ⟨S4x1024, .f32⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S4x256x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S1024x4096, .f32⟩
  | .hbm, ⟨31, _⟩ => ⟨S2x8192x4096, .f32⟩
  | .hbm, ⟨32, _⟩ => ⟨S16384x512, .f32⟩
  | .hbm, ⟨33, _⟩ => ⟨S2x8192x4x128, .f32⟩
  | .hbm, ⟨34, _⟩ => ⟨S2x8192x4x64, .f32⟩
  | .hbm, ⟨35, _⟩ => ⟨S2x8192x256, .f32⟩
  | .hbm, ⟨36, _⟩ => ⟨S16384x512, .f32⟩
  | .hbm, ⟨37, _⟩ => ⟨S2x8192x4x128, .f32⟩
  | .hbm, ⟨38, _⟩ => ⟨S2x8192x4x64, .f32⟩
  | .hbm, ⟨39, _⟩ => ⟨S2x8192x256, .f32⟩
  | .hbm, ⟨40, _⟩ => ⟨S16384x512, .f32⟩
  | .hbm, ⟨41, _⟩ => ⟨S2x8192x4x128, .f32⟩
  | .hbm, ⟨42, _⟩ => ⟨S2x8192x4x64, .f32⟩
  | .hbm, ⟨43, _⟩ => ⟨S2x8192x256, .f32⟩
  | .hbm, ⟨44, _⟩ => ⟨S16384x512, .f32⟩
  | .hbm, ⟨45, _⟩ => ⟨S2x8192x4x128, .f32⟩
  | .hbm, ⟨46, _⟩ => ⟨S2x8192x4x64, .f32⟩
  | .hbm, ⟨47, _⟩ => ⟨S2x8192x256, .f32⟩
  | .hbm, ⟨48, _⟩ => ⟨S2x8192x1x256, .f32⟩
  | .hbm, ⟨49, _⟩ => ⟨S2x8192x1x256, .f32⟩
  | .hbm, ⟨50, _⟩ => ⟨S2x8192x1x256, .f32⟩
  | .hbm, ⟨51, _⟩ => ⟨S2x8192x1x256, .f32⟩
  | .hbm, ⟨52, _⟩ => ⟨S2x8192x4x256, .f32⟩
  | .hbm, ⟨53, _⟩ => ⟨S2x8192x4x1024, .f32⟩
  | .hbm, ⟨54, _⟩ => ⟨S1x1x4x1024, .f32⟩
  | .hbm, ⟨55, _⟩ => ⟨S2x8192x4x1024, .f32⟩
  | .hbm, ⟨56, _⟩ => ⟨S2x8192x4x1024, .f32⟩
  | .hbm, ⟨57, _⟩ => ⟨S2x8192x4x1024, .f32⟩
  | .hbm, ⟨58, _⟩ => ⟨S2x8192x4x1024, .f32⟩
  | .hbm, ⟨59, _⟩ => ⟨S_, .f32⟩
  | .hbm, ⟨60, _⟩ => ⟨S2x8192x4x1024, .f32⟩
  | .hbm, ⟨61, _⟩ => ⟨S2x8192x4x1024, .f32⟩
  | .hbm, ⟨62, _⟩ => ⟨S_, .f32⟩
  | .hbm, ⟨63, _⟩ => ⟨S2x8192x4x1024, .f32⟩
  | .hbm, ⟨64, _⟩ => ⟨S2x8192x4x1024, .f32⟩
  | .hbm, ⟨65, _⟩ => ⟨S4x1024x2x8192, .f32⟩
  | .hbm, ⟨66, _⟩ => ⟨S2x8192x4x1024, .f32⟩
  | .hbm, ⟨67, _⟩ => ⟨S2x8192x4x1024, .f32⟩
  | .hbm, ⟨68, _⟩ => ⟨S_, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S2x8192x1, .f32⟩
  | .hbm, ⟨83, _⟩ => ⟨S2x8192x1024, .f32⟩
  | .hbm, ⟨84, _⟩ => ⟨S2x8192x1024, .f32⟩
  | .hbm, ⟨85, _⟩ => ⟨S1x1x1024, .f32⟩
  | .hbm, ⟨86, _⟩ => ⟨S2x8192x1024, .f32⟩
  | .hbm, ⟨87, _⟩ => ⟨S2x8192x1024, .f32⟩
  | .hbm, ⟨88, _⟩ => ⟨S2x8192x4096, .f32⟩
  | .hbm, ⟨89, _⟩ => ⟨S_, .f32⟩
  | .hbm, ⟨90, _⟩ => ⟨S2x8192x4096, .f32⟩
  | .hbm, ⟨91, _⟩ => ⟨S2x8192x4096, .f32⟩
  | .hbm, ⟨92, _⟩ => ⟨S2x8192x4096, .f32⟩
  | .hbm, ⟨93, _⟩ => ⟨S2x8192x1024, .f32⟩
  | .hbm, ⟨94, _⟩ => ⟨S2x8192x1024, .f32⟩
  | .hbm, ⟨95, _⟩ => ⟨S2x8192x1024, .f32⟩
  | .hbm, ⟨96, _⟩ => ⟨S_, .f32⟩
  | .hbm, ⟨97, _⟩ => ⟨S2x8192, .f32⟩
  | .hbm, ⟨98, _⟩ => ⟨S2x8192x1, .f32⟩
  | .hbm, ⟨99, _⟩ => ⟨S_, .f32⟩
  | .hbm, ⟨100, _⟩ => ⟨S2x8192x1, .f32⟩
  | .hbm, ⟨101, _⟩ => ⟨S2x8192x1, .f32⟩
  | .hbm, ⟨102, _⟩ => ⟨S_, .f32⟩
  | .hbm, ⟨103, _⟩ => ⟨S2x8192x1, .f32⟩
  | .hbm, ⟨104, _⟩ => ⟨S2x8192x1, .f32⟩
  | .hbm, ⟨105, _⟩ => ⟨S2x8192x1, .f32⟩
  | .hbm, ⟨106, _⟩ => ⟨S2x8192x1024, .f32⟩
  | .hbm, ⟨107, _⟩ => ⟨S2x8192x1024, .f32⟩
  | .hbm, ⟨108, _⟩ => ⟨S1x1x1024, .f32⟩
  | .hbm, ⟨109, _⟩ => ⟨S2x8192x1024, .f32⟩
  | .hbm, ⟨110, _⟩ => ⟨S2x8192x1024, .f32⟩
  | .hbm, ⟨111, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_2 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call0_cst : Ref sig .tc := ⟨.hbm, 89, rfl⟩
abbrev main_call0_v0 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_8 : Ref sig .tc := ⟨.hbm, 96, rfl⟩
abbrev main_v71 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]
-- ==== Inner.lean ====
abbrev S2x8192x1024 : Shape := ⟨3, ![2, 8192, 1024]⟩
abbrev S1024 : Shape := ⟨1, ![1024]⟩
abbrev S1024x7112 : Shape := ⟨2, ![1024, 7112]⟩
abbrev S4x1024 : Shape := ⟨2, ![4, 1024]⟩
abbrev S16384x512 : Shape := ⟨2, ![16384, 512]⟩
abbrev S4x256x1024 : Shape := ⟨3, ![4, 256, 1024]⟩
abbrev S1024x1024 : Shape := ⟨2, ![1024, 1024]⟩
abbrev S1024x4096 : Shape := ⟨2, ![1024, 4096]⟩
abbrev S4096x1024 : Shape := ⟨2, ![4096, 1024]⟩
abbrev S4x4x64x1024 : Shape := ⟨4, ![4, 4, 64, 1024]⟩
abbrev S_ : Shape := ⟨0, ![]⟩
abbrev S4x4x128x1024 : Shape := ⟨4, ![4, 4, 128, 1024]⟩
abbrev S4x512x1024 : Shape := ⟨3, ![4, 512, 1024]⟩
abbrev S16384x1024 : Shape := ⟨2, ![16384, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 30
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x7112, .f32⟩
  | .hbm, ⟨3, _⟩ => ⟨S4x1024, .f32⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S4x256x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S1024x4096, .f32⟩
  | .hbm, ⟨15, _⟩ => ⟨S1024x4096, .bf16⟩
  | .hbm, ⟨16, _⟩ => ⟨S4x4x64x1024, .f32⟩
  | .hbm, ⟨17, _⟩ => ⟨S_, .i32⟩
  | .hbm, ⟨18, _⟩ => ⟨S_, .f32⟩
  | .hbm, ⟨19, _⟩ => ⟨S4x4x128x1024, .f32⟩
  | .hbm, ⟨20, _⟩ => ⟨S4x512x1024, .f32⟩
  | .hbm, ⟨21, _⟩ => ⟨S4x512x1024, .bf16⟩
  | .hbm, ⟨22, _⟩ => ⟨S16384x1024, .f32⟩
  | .hbm, ⟨23, _⟩ => ⟨S1x1024, .f32⟩
  | .hbm, ⟨24, _⟩ => ⟨S1024x1024, .bf16⟩
  | .hbm, ⟨25, _⟩ => ⟨S1x1024, .f32⟩
  | .hbm, ⟨26, _⟩ => ⟨S1024x4096, .bf16⟩
  | .hbm, ⟨27, _⟩ => ⟨S4096x1024, .bf16⟩
  | .hbm, ⟨28, _⟩ => ⟨S1x1024, .f32⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S4x512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InnerRefIdeal.lean ====
abbrev S2x8192x1024 : Shape := ⟨3, ![2, 8192, 1024]⟩
abbrev S1024 : Shape := ⟨1, ![1024]⟩
abbrev S1024x7112 : Shape := ⟨2, ![1024, 7112]⟩
abbrev S4x1024 : Shape := ⟨2, ![4, 1024]⟩
abbrev S16384x512 : Shape := ⟨2, ![16384, 512]⟩
abbrev S4x256x1024 : Shape := ⟨3, ![4, 256, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S2x8192x4x128 : Shape := ⟨4, ![2, 8192, 4, 128]⟩
abbrev S2x8192x4x64 : Shape := ⟨4, ![2, 8192, 4, 64]⟩
abbrev S2x8192x256 : Shape := ⟨3, ![2, 8192, 256]⟩
abbrev S2x8192x1x256 : Shape := ⟨4, ![2, 8192, 1, 256]⟩
abbrev S2x8192x4x256 : Shape := ⟨4, ![2, 8192, 4, 256]⟩
abbrev S2x8192x4x1024 : Shape := ⟨4, ![2, 8192, 4, 1024]⟩
abbrev S1x1x4x1024 : Shape := ⟨4, ![1, 1, 4, 1024]⟩
abbrev S4x1024x2x8192 : Shape := ⟨4, ![4, 1024, 2, 8192]⟩
abbrev S16384x1024 : Shape := ⟨2, ![16384, 1024]⟩

abbrev nBuf : Space → Nat
  | .hbm => 96
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x7112, .f32⟩
  | .hbm, ⟨3, _⟩ => ⟨S4x1024, .f32⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S4x256x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S1024x4096, .f32⟩
  | .hbm, ⟨31, _⟩ => ⟨S2x8192x4096, .f32⟩
  | .hbm, ⟨32, _⟩ => ⟨S16384x512, .f32⟩
  | .hbm, ⟨33, _⟩ => ⟨S2x8192x4x128, .f32⟩
  | .hbm, ⟨34, _⟩ => ⟨S2x8192x4x64, .f32⟩
  | .hbm, ⟨35, _⟩ => ⟨S2x8192x256, .f32⟩
  | .hbm, ⟨36, _⟩ => ⟨S16384x512, .f32⟩
  | .hbm, ⟨37, _⟩ => ⟨S2x8192x4x128, .f32⟩
  | .hbm, ⟨38, _⟩ => ⟨S2x8192x4x64, .f32⟩
  | .hbm, ⟨39, _⟩ => ⟨S2x8192x256, .f32⟩
  | .hbm, ⟨40, _⟩ => ⟨S16384x512, .f32⟩
  | .hbm, ⟨41, _⟩ => ⟨S2x8192x4x128, .f32⟩
  | .hbm, ⟨42, _⟩ => ⟨S2x8192x4x64, .f32⟩
  | .hbm, ⟨43, _⟩ => ⟨S2x8192x256, .f32⟩
  | .hbm, ⟨44, _⟩ => ⟨S16384x512, .f32⟩
  | .hbm, ⟨45, _⟩ => ⟨S2x8192x4x128, .f32⟩
  | .hbm, ⟨46, _⟩ => ⟨S2x8192x4x64, .f32⟩
  | .hbm, ⟨47, _⟩ => ⟨S2x8192x256, .f32⟩
  | .hbm, ⟨48, _⟩ => ⟨S2x8192x1x256, .f32⟩
  | .hbm, ⟨49, _⟩ => ⟨S2x8192x1x256, .f32⟩
  | .hbm, ⟨50, _⟩ => ⟨S2x8192x1x256, .f32⟩
  | .hbm, ⟨51, _⟩ => ⟨S2x8192x1x256, .f32⟩
  | .hbm, ⟨52, _⟩ => ⟨S2x8192x4x256, .f32⟩
  | .hbm, ⟨53, _⟩ => ⟨S2x8192x4x1024, .f32⟩
  | .hbm, ⟨54, _⟩ => ⟨S1x1x4x1024, .f32⟩
  | .hbm, ⟨55, _⟩ => ⟨S2x8192x4x1024, .f32⟩
  | .hbm, ⟨56, _⟩ => ⟨S2x8192x4x1024, .f32⟩
  | .hbm, ⟨57, _⟩ => ⟨S2x8192x4x1024, .f32⟩
  | .hbm, ⟨58, _⟩ => ⟨S2x8192x4x1024, .f32⟩
  | .hbm, ⟨59, _⟩ => ⟨S_, .f32⟩
  | .hbm, ⟨60, _⟩ => ⟨S2x8192x4x1024, .f32⟩
  | .hbm, ⟨61, _⟩ => ⟨S2x8192x4x1024, .f32⟩
  | .hbm, ⟨62, _⟩ => ⟨S_, .f32⟩
  | .hbm, ⟨63, _⟩ => ⟨S2x8192x4x1024, .f32⟩
  | .hbm, ⟨64, _⟩ => ⟨S2x8192x4x1024, .f32⟩
  | .hbm, ⟨65, _⟩ => ⟨S4x1024x2x8192, .f32⟩
  | .hbm, ⟨66, _⟩ => ⟨S2x8192x4x1024, .f32⟩
  | .hbm, ⟨67, _⟩ => ⟨S2x8192x4x1024, .f32⟩
  | .hbm, ⟨68, _⟩ => ⟨S_, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S2x8192x1, .f32⟩
  | .hbm, ⟨83, _⟩ => ⟨S2x8192x1024, .f32⟩
  | .hbm, ⟨84, _⟩ => ⟨S2x8192x1024, .f32⟩
  | .hbm, ⟨85, _⟩ => ⟨S1x1x1024, .f32⟩
  | .hbm, ⟨86, _⟩ => ⟨S2x8192x1024, .f32⟩
  | .hbm, ⟨87, _⟩ => ⟨S2x8192x1024, .f32⟩
  | .hbm, ⟨88, _⟩ => ⟨S2x8192x4096, .f32⟩
  | .hbm, ⟨89, _⟩ => ⟨S_, .f32⟩
  | .hbm, ⟨90, _⟩ => ⟨S2x8192x4096, .f32⟩
  | .hbm, ⟨91, _⟩ => ⟨S2x8192x4096, .f32⟩
  | .hbm, ⟨92, _⟩ => ⟨S2x8192x4096, .f32⟩
  | .hbm, ⟨93, _⟩ => ⟨S2x8192x1024, .f32⟩
  | .hbm, ⟨94, _⟩ => ⟨S2x8192x1024, .f32⟩
  | .hbm, ⟨95, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_2 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call0_cst : Ref sig .tc := ⟨.hbm, 89, rfl⟩
abbrev main_call0_v0 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Sb.lean ====
abbrev S2x8192x4x64 : Shape := ⟨4, ![2, 8192, 4, 64]⟩
abbrev S16384x256 : Shape := ⟨2, ![16384, 256]⟩
abbrev S256x16384 : Shape := ⟨2, ![256, 16384]⟩
abbrev S16384x4x64 : Shape := ⟨3, ![16384, 4, 64]⟩
abbrev S_ : Shape := ⟨0, ![]⟩
abbrev S16384x4x128 : Shape := ⟨3, ![16384, 4, 128]⟩
abbrev S16384x512 : Shape := ⟨2, ![16384, 512]⟩
abbrev S512x16384 : Shape := ⟨2, ![512, 16384]⟩
abbrev S256x256 : Shape := ⟨2, ![256, 256]⟩
abbrev S8192x256 : Shape := ⟨2, ![8192, 256]⟩
abbrev S512x8192 : Shape := ⟨2, ![512, 8192]⟩
abbrev S256x512 : Shape := ⟨2, ![256, 512]⟩
abbrev S256x1024 : Shape := ⟨2, ![256, 1024]⟩
abbrev S1x1024 : Shape := ⟨2, ![1, 1024]⟩
abbrev S128x256 : Shape := ⟨2, ![128, 256]⟩
abbrev S1024 : Shape := ⟨1, ![1024]⟩
abbrev S256x128 : Shape := ⟨2, ![256, 128]⟩
abbrev S2x8192x4x128 : Shape := ⟨4, ![2, 8192, 4, 128]⟩

abbrev nBuf : Space → Nat
  | .hbm => 19
  | .vmem => 13
  | .smem => 0
  | _ => 0

abbrev bufTy : (tb : Table) → Fin (tcTables nBuf tb) → BufTy
  | .hbm, ⟨0, _⟩ => ⟨S2x8192x4x64, .f32⟩
  | .hbm, ⟨1, _⟩ => ⟨S2x8192x4x64, .f32⟩
  | .hbm, ⟨2, _⟩ => ⟨S2x8192x4x64, .f32⟩
  | .hbm, ⟨3, _⟩ => ⟨S16384x256, .f32⟩
  | .hbm, ⟨4, _⟩ => ⟨S256x16384, .f32⟩
  | .hbm, ⟨5, _⟩ => ⟨S16384x256, .f32⟩
  | .hbm, ⟨6, _⟩ => ⟨S16384x4x64, .f32⟩
  | .hbm, ⟨7, _⟩ => ⟨S_, .i32⟩
  | .hbm, ⟨8, _⟩ => ⟨S_, .f32⟩
  | .hbm, ⟨9, _⟩ => ⟨S16384x4x128, .f32⟩
  | .hbm, ⟨10, _⟩ => ⟨S16384x512, .f32⟩
  | .hbm, ⟨11, _⟩ => ⟨S512x16384, .f32⟩
  | .hbm, ⟨12, _⟩ => ⟨S512x16384, .bf16⟩
  | .hbm, ⟨13, _⟩ => ⟨S16384x256, .f32⟩
  | .hbm, ⟨14, _⟩ => ⟨S16384x256, .bf16⟩
  | .hbm, ⟨15, _⟩ => ⟨S16384x512, .bf16⟩
  | .hbm, ⟨16, _⟩ => ⟨S2x8192x4x128, .bf16⟩
  | .hbm, ⟨17, _⟩ => ⟨S2x8192x4x64, .bf16⟩
  | .hbm, ⟨18, _⟩ => ⟨S2x8192x4x64, .f32⟩
  | .local _ .vmem, ⟨0, _⟩ => ⟨S256x256, .f32⟩
  | .local _ .vmem, ⟨1, _⟩ => ⟨S256x256, .f32⟩
  | .local _ .vmem, ⟨2, _⟩ => ⟨S8192x256, .bf16⟩
  | .local _ .vmem, ⟨3, _⟩ => ⟨S512x8192, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | _, _ => ⟨S2x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c256_i32 : BitVec 32 := 256#32
  let v75 : BitVec 32 := Scalar.muli arg1 c256_i32
  v75
def k0_off1 (i : grid0.Coords) : Fin 2 → Nat :=
  let arg1 : BitVec 32 := BitVec.ofNat 32 (i 1).val
  let c256_i32 : BitVec 32 := 256#32
  let v75 : BitVec 32 := Scalar.muli arg1 c256_i32
  let v76 : BitVec 32 := v75
  let v77 : Index := Scalar.indexCast v76
  let c0_26 : Index := 0#32
  ![v77.toNat, 0]
def k0_mult2 (i : grid0.Coords) : BitVec 32 :=
  let arg1 : BitVec 32 := BitVec.ofNat 32 (i 1).val
  let c256_i32_45 : BitVec 32 := 256#32
  let v126 : BitVec 32 := Scalar.muli arg1 c256_i32_45
  v126
def k0_off2 (i : grid0.Coords) : Fin 2 → Nat :=
  let c0_46 : Index := 0#32
  let arg1 : BitVec 32 := BitVec.ofNat 32 (i 1).val
  let c256_i32_45 : BitVec 32 := 256#32
  let v126 : BitVec 32 := Scalar.muli arg1 c256_i32_45
  let v127 : BitVec 32 := v126
  let v128 : Index := Scalar.indexCast v127
  ![0, v128.toNat]
def k0_mult3 (i : grid0.Coords) : BitVec 32 :=
  let arg1 : BitVec 32 := BitVec.ofNat 32 (i 1).val
  let c256_i32_52 : BitVec 32 := 256#32
  let v138 : BitVec 32 := Scalar.muli arg1 c256_i32_52
  v138
def k0_off3 (i : grid0.Coords) : Fin 2 → Nat :=
  let c128 : Index := 128#32
  let arg1 : BitVec 32 := BitVec.ofNat 32 (i 1).val
  let c256_i32_52 : BitVec 32 := 256#32
  let v138 : BitVec 32 := Scalar.muli arg1 c256_i32_52
  let v139 : BitVec 32 := v138
  let v140 : Index := Scalar.indexCast v139
  ![128, v140.toNat]
def k0_mult4 (i : grid0.Coords) : BitVec 32 :=
  let arg1 : BitVec 32 := BitVec.ofNat 32 (i 1).val
  let c256_i32_58 : BitVec 32 := 256#32
  let v150 : BitVec 32 := Scalar.muli arg1 c256_i32_58
  v150
def k0_off4 (i : grid0.Coords) : Fin 2 → Nat :=
  let c256 : Index := 256#32
  let arg1 : BitVec 32 := BitVec.ofNat 32 (i 1).val
  let c256_i32_58 : BitVec 32 := 256#32
  let v150 : BitVec 32 := Scalar.muli arg1 c256_i32_58
  let v151 : BitVec 32 := v150
  let v152 : Index := Scalar.indexCast v151
  ![256, v152.toNat]
def k0_mult5 (i : grid0.Coords) : BitVec 32 :=
  let arg1 : BitVec 32 := BitVec.ofNat 32 (i 1).val
  let c256_i32_64 : BitVec 32 := 256#32
  let v162 : BitVec 32 := Scalar.muli arg1 c256_i32_64
  v162
def k0_off5 (i : grid0.Coords) : Fin 2 → Nat :=
  let c384 : Index := 384#32
  let arg1 : BitVec 32 := BitVec.ofNat 32 (i 1).val
  let c256_i32_64 : BitVec 32 := 256#32
  let v162 : BitVec 32 := Scalar.muli arg1 c256_i32_64
  let v163 : BitVec 32 := v162
  let v164 : Index := Scalar.indexCast v163
  ![384, v164.toNat]
def k0_cond1 (i : grid0.Coords) : BitVec 1 :=
  let arg1 : BitVec 32 := BitVec.ofNat 32 (i 1).val
  let c0_i32_73 : BitVec 32 := 0#32
  let v180 : BitVec 1 := Scalar.cmpi .sgt arg1 c0_i32_73
  let v181 : BitVec 32 := Scalar.extui v180
  let c0_i32_74 : BitVec 32 := 0#32
  let v182 : BitVec 1 := Scalar.cmpi .ne v181 c0_i32_74
  v182

def k0_mult6 (i : grid0.Coords) : BitVec 32 :=
  let arg1 : BitVec 32 := BitVec.ofNat 32 (i 1).val
  let c1_i32_91 : BitVec 32 := 1#32
  let v199 : BitVec 32 := Scalar.subi arg1 c1_i32_91
  let c0_i32_92 : BitVec 32 := 0#32
  let v200 : BitVec 32 := Scalar.subi v199 c0_i32_92
  let c256_i32_93 : BitVec 32 := 256#32
  let v201 : BitVec 32 := Scalar.muli v200 c256_i32_93
  v201
def k0_off6 (i : grid0.Coords) : Fin 2 → Nat :=
  let arg1 : BitVec 32 := BitVec.ofNat 32 (i 1).val
  let c1_i32_91 : BitVec 32 := 1#32
  let v199 : BitVec 32 := Scalar.subi arg1 c1_i32_91
  let c0_i32_92 : BitVec 32 := 0#32
  let v200 : BitVec 32 := Scalar.subi v199 c0_i32_92
  let c256_i32_93 : BitVec 32 := 256#32
  let v201 : BitVec 32 := Scalar.muli v200 c256_i32_93
  let v202 : BitVec 32 := v201
  let v203 : Index := Scalar.indexCast v202
  let c0_94 : Index := 0#32
  ![v203.toNat, 0]
@[reducible] def k0_t1_loop (i : grid0.Coords) : Scf.Loop 32 :=
  let c0_i32_107 : BitVec 32 := 0#32
  let arg1 : BitVec 32 := BitVec.ofNat 32 (i 1).val
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_109 : BitVec 32 := 1#32
  ⟨c0_i32_107, v232, c1_i32_109⟩
def k0_mult7 (i : grid0.Coords) (k0_t1 : Fin (k0_t1_loop i).trips) : BitVec 32 :=
  let arg1 : BitVec 32 := BitVec.ofNat 32 (i 1).val
  let c1_i32_129 : BitVec 32 := 1#32
  let v261 : BitVec 32 := Scalar.subi arg1 c1_i32_129
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let c1_i32_128 : BitVec 32 := 1#32
  let v260 : BitVec 32 := Scalar.addi v259 c1_i32_128
  let v262 : BitVec 32 := Scalar.subi v261 v260
  let c256_i32_130 : BitVec 32 := 256#32
  let v263 : BitVec 32 := Scalar.muli v262 c256_i32_130
  v263
def k0_off7 (i : grid0.Coords) (k0_t1 : Fin (k0_t1_loop i).trips) (c1_i32_128 : BitVec 32) : Fin 2 → Nat :=
  let arg1 : BitVec 32 := BitVec.ofNat 32 (i 1).val
  let c1_i32_129 : BitVec 32 := 1#32
  let v261 : BitVec 32 := Scalar.subi arg1 c1_i32_129
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let v260 : BitVec 32 := Scalar.addi v259 c1_i32_128
  let v262 : BitVec 32 := Scalar.subi v261 v260
  let c256_i32_130 : BitVec 32 := 256#32
  let v263 : BitVec 32 := Scalar.muli v262 c256_i32_130
  let v264 : BitVec 32 := v263
  let v265 : Index := Scalar.indexCast v264
  let c0_131 : Index := 0#32
  ![v265.toNat, 0]
def k0_mult8 (i : grid0.Coords) (k0_t1 : Fin (k0_t1_loop i).trips) : BitVec 32 :=
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let v274 : BitVec 32 := Scalar.subi v273 v259
  let c256_i32_147 : BitVec 32 := 256#32
  let v297 : BitVec 32 := Scalar.muli v274 c256_i32_147
  v297
def k0_off8 (i : grid0.Coords) (k0_t1 : Fin (k0_t1_loop i).trips) : Fin 2 → Nat :=
  let c0_148 : Index := 0#32
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let v274 : BitVec 32 := Scalar.subi v273 v259
  let c256_i32_147 : BitVec 32 := 256#32
  let v297 : BitVec 32 := Scalar.muli v274 c256_i32_147
  let v298 : BitVec 32 := v297
  let v299 : Index := Scalar.indexCast v298
  ![0, v299.toNat]
def k0_mult9 (i : grid0.Coords) (k0_t1 : Fin (k0_t1_loop i).trips) : BitVec 32 :=
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let v274 : BitVec 32 := Scalar.subi v273 v259
  let c256_i32_154 : BitVec 32 := 256#32
  let v309 : BitVec 32 := Scalar.muli v274 c256_i32_154
  v309
def k0_off9 (i : grid0.Coords) (k0_t1 : Fin (k0_t1_loop i).trips) : Fin 2 → Nat :=
  let c128_155 : Index := 128#32
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let v274 : BitVec 32 := Scalar.subi v273 v259
  let c256_i32_154 : BitVec 32 := 256#32
  let v309 : BitVec 32 := Scalar.muli v274 c256_i32_154
  let v310 : BitVec 32 := v309
  let v311 : Index := Scalar.indexCast v310
  ![128, v311.toNat]
def k0_mult10 (i : grid0.Coords) (k0_t1 : Fin (k0_t1_loop i).trips) : BitVec 32 :=
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let v274 : BitVec 32 := Scalar.subi v273 v259
  let c256_i32_161 : BitVec 32 := 256#32
  let v321 : BitVec 32 := Scalar.muli v274 c256_i32_161
  v321
def k0_off10 (i : grid0.Coords) (k0_t1 : Fin (k0_t1_loop i).trips) : Fin 2 → Nat :=
  let c256_162 : Index := 256#32
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let v274 : BitVec 32 := Scalar.subi v273 v259
  let c256_i32_161 : BitVec 32 := 256#32
  let v321 : BitVec 32 := Scalar.muli v274 c256_i32_161
  let v322 : BitVec 32 := v321
  let v323 : Index := Scalar.indexCast v322
  ![256, v323.toNat]
def k0_mult11 (i : grid0.Coords) (k0_t1 : Fin (k0_t1_loop i).trips) : BitVec 32 :=
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let v274 : BitVec 32 := Scalar.subi v273 v259
  let c256_i32_168 : BitVec 32 := 256#32
  let v333 : BitVec 32 := Scalar.muli v274 c256_i32_168
  v333
def k0_off11 (i : grid0.Coords) (k0_t1 : Fin (k0_t1_loop i).trips) : Fin 2 → Nat :=
  let c384_169 : Index := 384#32
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let v274 : BitVec 32 := Scalar.subi v273 v259
  let c256_i32_168 : BitVec 32 := 256#32
  let v333 : BitVec 32 := Scalar.muli v274 c256_i32_168
  let v334 : BitVec 32 := v333
  let v335 : Index := Scalar.indexCast v334
  ![384, v335.toNat]
def k0_mult12 (i : grid0.Coords) (k0_t1 : Fin (k0_t1_loop i).trips) : BitVec 32 :=
  let arg1 : BitVec 32 := BitVec.ofNat 32 (i 1).val
  let c1_i32_179 : BitVec 32 := 1#32
  let v352 : BitVec 32 := Scalar.subi arg1 c1_i32_179
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let c2_i32_178 : BitVec 32 := 2#32
  let v351 : BitVec 32 := Scalar.addi v259 c2_i32_178
  let v353 : BitVec 32 := Scalar.subi v352 v351
  let c256_i32_180 : BitVec 32 := 256#32
  let v354 : BitVec 32 := Scalar.muli v353 c256_i32_180
  v354
def k0_mult13 (i : grid0.Coords) (k0_t1 : Fin (k0_t1_loop i).trips) : BitVec 32 :=
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_198 : BitVec 32 := 256#32
  let v389 : BitVec 32 := Scalar.muli v366 c256_i32_198
  v389
def k0_off12 (i : grid0.Coords) (k0_t1 : Fin (k0_t1_loop i).trips) : Fin 2 → Nat :=
  let c0_199 : Index := 0#32
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_198 : BitVec 32 := 256#32
  let v389 : BitVec 32 := Scalar.muli v366 c256_i32_198
  let v390 : BitVec 32 := v389
  let v391 : Index := Scalar.indexCast v390
  ![0, v391.toNat]
def k0_mult14 (i : grid0.Coords) (k0_t1 : Fin (k0_t1_loop i).trips) : BitVec 32 :=
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_205 : BitVec 32 := 256#32
  let v401 : BitVec 32 := Scalar.muli v366 c256_i32_205
  v401
def k0_off13 (i : grid0.Coords) (k0_t1 : Fin (k0_t1_loop i).trips) : Fin 2 → Nat :=
  let c128_206 : Index := 128#32
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_205 : BitVec 32 := 256#32
  let v401 : BitVec 32 := Scalar.muli v366 c256_i32_205
  let v402 : BitVec 32 := v401
  let v403 : Index := Scalar.indexCast v402
  ![128, v403.toNat]
def k0_mult15 (i : grid0.Coords) (k0_t1 : Fin (k0_t1_loop i).trips) : BitVec 32 :=
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_212 : BitVec 32 := 256#32
  let v413 : BitVec 32 := Scalar.muli v366 c256_i32_212
  v413
def k0_off14 (i : grid0.Coords) (k0_t1 : Fin (k0_t1_loop i).trips) : Fin 2 → Nat :=
  let c256_213 : Index := 256#32
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_212 : BitVec 32 := 256#32
  let v413 : BitVec 32 := Scalar.muli v366 c256_i32_212
  let v414 : BitVec 32 := v413
  let v415 : Index := Scalar.indexCast v414
  ![256, v415.toNat]
def k0_mult16 (i : grid0.Coords) (k0_t1 : Fin (k0_t1_loop i).trips) : BitVec 32 :=
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_219 : BitVec 32 := 256#32
  let v425 : BitVec 32 := Scalar.muli v366 c256_i32_219
  v425
def k0_off15 (i : grid0.Coords) (k0_t1 : Fin (k0_t1_loop i).trips) : Fin 2 → Nat :=
  let c384_220 : Index := 384#32
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_109 : BitVec 32 := 1#32
  let arg13 : BitVec 32 := Scf.iv c0_i32_107 c1_i32_109 k0_t1
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_219 : BitVec 32 := 256#32
  let v425 : BitVec 32 := Scalar.muli v366 c256_i32_219
  let v426 : BitVec 32 := v425
  let v427 : Index := Scalar.indexCast v426
  ![384, v427.toNat]
@[reducible] def k0_t2_loop (i : grid0.Coords) : Scf.Loop 32 :=
  let c0_i32_107 : BitVec 32 := 0#32
  let arg1 : BitVec 32 := BitVec.ofNat 32 (i 1).val
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let v229 : BitVec 32 := Scalar.addi c0_i32_107 v228
  let c1_i32_110 : BitVec 32 := 1#32
  ⟨v232, v229, c1_i32_110⟩
def k0_mult17 (i : grid0.Coords) (k0_t2 : Fin (k0_t2_loop i).trips) : BitVec 32 :=
  let arg1 : BitVec 32 := BitVec.ofNat 32 (i 1).val
  let c1_i32_129 : BitVec 32 := 1#32
  let v261 : BitVec 32 := Scalar.subi arg1 c1_i32_129
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let c1_i32_128 : BitVec 32 := 1#32
  let v260 : BitVec 32 := Scalar.addi v259 c1_i32_128
  let v262 : BitVec 32 := Scalar.subi v261 v260
  let c256_i32_130 : BitVec 32 := 256#32
  let v263 : BitVec 32 := Scalar.muli v262 c256_i32_130
  v263
def k0_off16 (i : grid0.Coords) (k0_t2 : Fin (k0_t2_loop i).trips) (c1_i32_128 : BitVec 32) : Fin 2 → Nat :=
  let arg1 : BitVec 32 := BitVec.ofNat 32 (i 1).val
  let c1_i32_129 : BitVec 32 := 1#32
  let v261 : BitVec 32 := Scalar.subi arg1 c1_i32_129
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let v260 : BitVec 32 := Scalar.addi v259 c1_i32_128
  let v262 : BitVec 32 := Scalar.subi v261 v260
  let c256_i32_130 : BitVec 32 := 256#32
  let v263 : BitVec 32 := Scalar.muli v262 c256_i32_130
  let v264 : BitVec 32 := v263
  let v265 : Index := Scalar.indexCast v264
  let c0_131 : Index := 0#32
  ![v265.toNat, 0]
def k0_mult18 (i : grid0.Coords) (k0_t2 : Fin (k0_t2_loop i).trips) : BitVec 32 :=
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let v274 : BitVec 32 := Scalar.subi v273 v259
  let c256_i32_147 : BitVec 32 := 256#32
  let v297 : BitVec 32 := Scalar.muli v274 c256_i32_147
  v297
def k0_off17 (i : grid0.Coords) (k0_t2 : Fin (k0_t2_loop i).trips) : Fin 2 → Nat :=
  let c0_148 : Index := 0#32
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let v274 : BitVec 32 := Scalar.subi v273 v259
  let c256_i32_147 : BitVec 32 := 256#32
  let v297 : BitVec 32 := Scalar.muli v274 c256_i32_147
  let v298 : BitVec 32 := v297
  let v299 : Index := Scalar.indexCast v298
  ![0, v299.toNat]
def k0_mult19 (i : grid0.Coords) (k0_t2 : Fin (k0_t2_loop i).trips) : BitVec 32 :=
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let v274 : BitVec 32 := Scalar.subi v273 v259
  let c256_i32_154 : BitVec 32 := 256#32
  let v309 : BitVec 32 := Scalar.muli v274 c256_i32_154
  v309
def k0_off18 (i : grid0.Coords) (k0_t2 : Fin (k0_t2_loop i).trips) : Fin 2 → Nat :=
  let c128_155 : Index := 128#32
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let v274 : BitVec 32 := Scalar.subi v273 v259
  let c256_i32_154 : BitVec 32 := 256#32
  let v309 : BitVec 32 := Scalar.muli v274 c256_i32_154
  let v310 : BitVec 32 := v309
  let v311 : Index := Scalar.indexCast v310
  ![128, v311.toNat]
def k0_mult20 (i : grid0.Coords) (k0_t2 : Fin (k0_t2_loop i).trips) : BitVec 32 :=
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let v274 : BitVec 32 := Scalar.subi v273 v259
  let c256_i32_161 : BitVec 32 := 256#32
  let v321 : BitVec 32 := Scalar.muli v274 c256_i32_161
  v321
def k0_off19 (i : grid0.Coords) (k0_t2 : Fin (k0_t2_loop i).trips) : Fin 2 → Nat :=
  let c256_162 : Index := 256#32
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let v274 : BitVec 32 := Scalar.subi v273 v259
  let c256_i32_161 : BitVec 32 := 256#32
  let v321 : BitVec 32 := Scalar.muli v274 c256_i32_161
  let v322 : BitVec 32 := v321
  let v323 : Index := Scalar.indexCast v322
  ![256, v323.toNat]
def k0_mult21 (i : grid0.Coords) (k0_t2 : Fin (k0_t2_loop i).trips) : BitVec 32 :=
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let v274 : BitVec 32 := Scalar.subi v273 v259
  let c256_i32_168 : BitVec 32 := 256#32
  let v333 : BitVec 32 := Scalar.muli v274 c256_i32_168
  v333
def k0_off20 (i : grid0.Coords) (k0_t2 : Fin (k0_t2_loop i).trips) : Fin 2 → Nat :=
  let c384_169 : Index := 384#32
  let arg1 : BitVec 32 := BitVec.ofNat 32 (i 1).val
  let c1_i32_137 : BitVec 32 := 1#32
  let v273 : BitVec 32 := Scalar.subi arg1 c1_i32_137
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let v274 : BitVec 32 := Scalar.subi v273 v259
  let c256_i32_168 : BitVec 32 := 256#32
  let v333 : BitVec 32 := Scalar.muli v274 c256_i32_168
  let v334 : BitVec 32 := v333
  let v335 : Index := Scalar.indexCast v334
  ![384, v335.toNat]
def k0_mult22 (i : grid0.Coords) (k0_t2 : Fin (k0_t2_loop i).trips) : BitVec 32 :=
  let arg1 : BitVec 32 := BitVec.ofNat 32 (i 1).val
  let c1_i32_179 : BitVec 32 := 1#32
  let v352 : BitVec 32 := Scalar.subi arg1 c1_i32_179
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let c2_i32_178 : BitVec 32 := 2#32
  let v351 : BitVec 32 := Scalar.addi v259 c2_i32_178
  let v353 : BitVec 32 := Scalar.subi v352 v351
  let c256_i32_180 : BitVec 32 := 256#32
  let v354 : BitVec 32 := Scalar.muli v353 c256_i32_180
  v354
def k0_mult23 (i : grid0.Coords) (k0_t2 : Fin (k0_t2_loop i).trips) : BitVec 32 :=
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_198 : BitVec 32 := 256#32
  let v389 : BitVec 32 := Scalar.muli v366 c256_i32_198
  v389
def k0_off21 (i : grid0.Coords) (k0_t2 : Fin (k0_t2_loop i).trips) : Fin 2 → Nat :=
  let c0_199 : Index := 0#32
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_198 : BitVec 32 := 256#32
  let v389 : BitVec 32 := Scalar.muli v366 c256_i32_198
  let v390 : BitVec 32 := v389
  let v391 : Index := Scalar.indexCast v390
  ![0, v391.toNat]
def k0_mult24 (i : grid0.Coords) (k0_t2 : Fin (k0_t2_loop i).trips) : BitVec 32 :=
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_205 : BitVec 32 := 256#32
  let v401 : BitVec 32 := Scalar.muli v366 c256_i32_205
  v401
def k0_off22 (i : grid0.Coords) (k0_t2 : Fin (k0_t2_loop i).trips) : Fin 2 → Nat :=
  let c128_206 : Index := 128#32
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_205 : BitVec 32 := 256#32
  let v401 : BitVec 32 := Scalar.muli v366 c256_i32_205
  let v402 : BitVec 32 := v401
  let v403 : Index := Scalar.indexCast v402
  ![128, v403.toNat]
def k0_mult25 (i : grid0.Coords) (k0_t2 : Fin (k0_t2_loop i).trips) : BitVec 32 :=
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_212 : BitVec 32 := 256#32
  let v413 : BitVec 32 := Scalar.muli v366 c256_i32_212
  v413
def k0_off23 (i : grid0.Coords) (k0_t2 : Fin (k0_t2_loop i).trips) : Fin 2 → Nat :=
  let c256_213 : Index := 256#32
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_212 : BitVec 32 := 256#32
  let v413 : BitVec 32 := Scalar.muli v366 c256_i32_212
  let v414 : BitVec 32 := v413
  let v415 : Index := Scalar.indexCast v414
  ![256, v415.toNat]
def k0_mult26 (i : grid0.Coords) (k0_t2 : Fin (k0_t2_loop i).trips) : BitVec 32 :=
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_219 : BitVec 32 := 256#32
  let v425 : BitVec 32 := Scalar.muli v366 c256_i32_219
  v425
def k0_off24 (i : grid0.Coords) (k0_t2 : Fin (k0_t2_loop i).trips) : Fin 2 → Nat :=
  let c384_220 : Index := 384#32
  let arg1 : BitVec 32 := BitVec.ofNat 32 (i 1).val
  let c1_i32_188 : BitVec 32 := 1#32
  let v365 : BitVec 32 := Scalar.subi arg1 c1_i32_188
  let c2_i32_127 : BitVec 32 := 2#32
  let c0_i32_107 : BitVec 32 := 0#32
  let c1_i32_98 : BitVec 32 := 1#32
  let v210 : BitVec 32 := Scalar.subi arg1 c1_i32_98
  let c0_i32_100 : BitVec 32 := 0#32
  let v212 : BitVec 1 := Scalar.cmpi .sgt v210 c0_i32_100
  let v213 : BitVec 32 := Scalar.extui v212
  let c0_i32_101 : BitVec 32 := 0#32
  let v214 : BitVec 1 := Scalar.cmpi .slt v210 c0_i32_101
  let v215 : BitVec 32 := Scalar.extui v214
  let v216 : BitVec 32 := Scalar.subi v213 v215
  let c2_i32_99 : BitVec 32 := 2#32
  let c0_i32_102 : BitVec 32 := 0#32
  let v217 : BitVec 1 := Scalar.cmpi .sgt c2_i32_99 c0_i32_102
  let v218 : BitVec 32 := Scalar.extui v217
  let c0_i32_103 : BitVec 32 := 0#32
  let v219 : BitVec 1 := Scalar.cmpi .slt c2_i32_99 c0_i32_103
  let v220 : BitVec 32 := Scalar.extui v219
  let v221 : BitVec 32 := Scalar.subi v218 v220
  let v222 : BitVec 1 := Scalar.cmpi .ne v216 v221
  let v223 : BitVec 32 := Scalar.remsi v210 c2_i32_99
  let c0_i32_104 : BitVec 32 := 0#32
  let v224 : BitVec 1 := Scalar.cmpi .ne v223 c0_i32_104
  let v225 : BitVec 1 := Scalar.andi v222 v224
  let v211 : BitVec 32 := Scalar.divsi v210 c2_i32_99
  let c1_i32_105 : BitVec 32 := 1#32
  let v226 : BitVec 32 := Scalar.subi v211 c1_i32_105
  let v227 : BitVec 32 := Scalar.select v225 v226 v211
  let v228 : BitVec 32 := Scalar.subi v227 c0_i32_107
  let c1_i32_108 : BitVec 32 := 1#32
  let v230 : BitVec 32 := Scalar.divsi v228 c1_i32_108
  let v231 : BitVec 32 := Scalar.muli v230 c1_i32_108
  let v232 : BitVec 32 := Scalar.addi c0_i32_107 v231
  let c1_i32_110 : BitVec 32 := 1#32
  let arg13 : BitVec 32 := Scf.iv v232 c1_i32_110 k0_t2
  let v259 : BitVec 32 := Scalar.muli c2_i32_127 arg13
  let c1_i32_185 : BitVec 32 := 1#32
  let v363 : BitVec 32 := Scalar.addi v259 c1_i32_185
  let v366 : BitVec 32 := Scalar.subi v365 v363
  let c256_i32_219 : BitVec 32 := 256#32
  let v425 : BitVec 32 := Scalar.muli v366 c256_i32_219
  let v426 : BitVec 32 := v425
  let v427 : Index := Scalar.indexCast v426
  ![384, v427.toNat]
def k0_cond2 (i : grid0.Coords) : BitVec 1 :=
  let arg1 : BitVec 32 := BitVec.ofNat 32 (i 1).val
  let c2_i32_111 : BitVec 32 := 2#32
  let c0_i32_112 : BitVec 32 := 0#32
  let v233 : BitVec 1 := Scalar.cmpi .eq c2_i32_111 c0_i32_112
  let c1_i32_113 : BitVec 32 := 1#32
  let v234 : BitVec 32 := Scalar.select v233 c1_i32_113 c2_i32_111
  let v235 : BitVec 32 := Scalar.remsi arg1 v234
  let c0_i32_115 : BitVec 32 := 0#32
  let v237 : BitVec 1 := Scalar.cmpi .slt v235 c0_i32_115
  let c0_i32_116 : BitVec 32 := 0#32
  let v238 : BitVec 1 := Scalar.cmpi .slt v234 c0_i32_116
  let v239 : BitVec 1 := Scalar.xori v237 v238
  let c0_i32_114 : BitVec 32 := 0#32
  let v236 : BitVec 1 := Scalar.cmpi .ne v235 c0_i32_114
  let v240 : BitVec 1 := Scalar.andi v239 v236
  let v241 : BitVec 32 := Scalar.addi v235 v234
  let v242 : BitVec 32 := Scalar.select v240 v241 v235
  let c1_i32_117 : BitVec 32 := 1#32
  let v243 : BitVec 1 := Scalar.cmpi .eq v242 c1_i32_117
  let v244 : BitVec 32 := Scalar.extui v243
  let c0_i32_118 : BitVec 32 := 0#32
  let v245 : BitVec 1 := Scalar.cmpi .ne v244 c0_i32_118
  v245

def k0_mult27 (i : grid0.Coords) : BitVec 32 :=
  let arg1 : BitVec 32 := BitVec.ofNat 32 (i 1).val
  let c1_i32_130 : BitVec 32 := 1#32
  let v261 : BitVec 32 := Scalar.subi arg1 c1_i32_130
  let c1_i32_127 : BitVec 32 := 1#32
  let v259 : BitVec 32 := Scalar.subi arg1 c1_i32_127
  let v262 : BitVec 32 := Scalar.subi v261 v259
  let c256_i32_140 : BitVec 32 := 256#32
  let v285 : BitVec 32 := Scalar.muli v262 c256_i32_140
  v285
def k0_off25 (i : grid0.Coords) : Fin 2 → Nat :=
  let c0_141 : Index := 0#32
  let arg1 : BitVec 32 := BitVec.ofNat 32 (i 1).val
  let c1_i32_130 : BitVec 32 := 1#32
  let v261 : BitVec 32 := Scalar.subi arg1 c1_i32_130
  let c1_i32_127 : BitVec 32 := 1#32
  let v259 : BitVec 32 := Scalar.subi arg1 c1_i32_127
  let v262 : BitVec 32 := Scalar.subi v261 v259
  let c256_i32_140 : BitVec 32 := 256#32
  let v285 : BitVec 32 := Scalar.muli v262 c256_i32_140
  let v286 : BitVec 32 := v285
  let v287 : Index := Scalar.indexCast v286
  ![0, v287.toNat]
def k0_mult28 (i : grid0.Coords) : BitVec 32 :=
  let arg1 : BitVec 32 := BitVec.ofNat 32 (i 1).val
  let c1_i32_130 : BitVec 32 := 1#32
  let v261 : BitVec 32 := Scalar.subi arg1 c1_i32_130
  let c1_i32_127 : BitVec 32 := 1#32
  let v259 : BitVec 32 := Scalar.subi arg1 c1_i32_127
  let v262 : BitVec 32 := Scalar.subi v261 v259
  let c256_i32_147 : BitVec 32 := 256#32
  let v297 : BitVec 32 := Scalar.muli v262 c256_i32_147
  v297
def k0_off26 (i : grid0.Coords) : Fin 2 → Nat :=
  let c128_148 : Index := 128#32
  let arg1 : BitVec 32 := BitVec.ofNat 32 (i 1).val
  let c1_i32_130 : BitVec 32 := 1#32
  let v261 : BitVec 32 := Scalar.subi arg1 c1_i32_130
  let c1_i32_127 : BitVec 32 := 1#32
  let v259 : BitVec 32 := Scalar.subi arg1 c1_i32_127
  let v262 : BitVec 32 := Scalar.subi v261 v259
  let c256_i32_147 : BitVec 32 := 256#32
  let v297 : BitVec 32 := Scalar.muli v262 c256_i32_147
  let v298 : BitVec 32 := v297
  let v299 : Index := Scalar.indexCast v298
  ![128, v299.toNat]
def k0_mult29 (i : grid0.Coords) : BitVec 32 :=
  let arg1 : BitVec 32 := BitVec.ofNat 32 (i 1).val
  let c1_i32_130 : BitVec 32 := 1#32
  let v261 : BitVec 32 := Scalar.subi arg1 c1_i32_130
  let c1_i32_127 : BitVec 32 := 1#32
  let v259 : BitVec 32 := Scalar.subi arg1 c1_i32_127
  let v262 : BitVec 32 := Scalar.subi v261 v259
  let c256_i32_154 : BitVec 32 := 256#32
  let v309 : BitVec 32 := Scalar.muli v262 c256_i32_154
  v309
def k0_off27 (i : grid0.Coords) : Fin 2 → Nat :=
  let c256_155 : Index := 256#32
  let arg1 : BitVec 32 := BitVec.ofNat 32 (i 1).val
  let c1_i32_130 : BitVec 32 := 1#32
  let v261 : BitVec 32 := Scalar.subi arg1 c1_i32_130
  let c1_i32_127 : BitVec 32 := 1#32
  let v259 : BitVec 32 := Scalar.subi arg1 c1_i32_127
  let v262 : BitVec 32 := Scalar.subi v261 v259
  let c256_i32_154 : BitVec 32 := 256#32
  let v309 : BitVec 32 := Scalar.muli v262 c256_i32_154
  let v310 : BitVec 32 := v309
  let v311 : Index := Scalar.indexCast v310
  ![256, v311.toNat]
def k0_mult30 (i : grid0.Coords) : BitVec 32 :=
  let arg1 : BitVec 32 := BitVec.ofNat 32 (i 1).val
  let c1_i32_130 : BitVec 32 := 1#32
  let v261 : BitVec 32 := Scalar.subi arg1 c1_i32_130
  let c1_i32_127 : BitVec 32 := 1#32
  let v259 : BitVec 32 := Scalar.subi arg1 c1_i32_127
  let v262 : BitVec 32 := Scalar.subi v261 v259
  let c256_i32_161 : BitVec 32 := 256#32
  let v321 : BitVec 32 := Scalar.muli v262 c256_i32_161
  v321
def k0_off28 (i : grid0.Coords) : Fin 2 → Nat :=
  let c384_162 : Index := 384#32
  let arg1 : BitVec 32 := BitVec.ofNat 32 (i 1).val
  let c1_i32_130 : BitVec 32 := 1#32
  let v261 : BitVec 32 := Scalar.subi arg1 c1_i32_130
  let c1_i32_127 : BitVec 32 := 1#32
  let v259 : BitVec 32 := Scalar.subi arg1 c1_i32_127
  let v262 : BitVec 32 := Scalar.subi v261 v259
  let c256_i32_161 : BitVec 32 := 256#32
  let v321 : BitVec 32 := Scalar.muli v262 c256_i32_161
  let v322 : BitVec 32 := v321
  let v323 : Index := Scalar.indexCast v322
  ![384, v323.toNat]
def k0_cond3 (i : grid0.Coords) : BitVec 1 :=
  let arg1 : BitVec 32 := BitVec.ofNat 32 (i 1).val
  let c2_i32_119 : BitVec 32 := 2#32
  let c0_i32_120 : BitVec 32 := 0#32
  let v246 : BitVec 1 := Scalar.cmpi .eq c2_i32_119 c0_i32_120
  let c1_i32_121 : BitVec 32 := 1#32
  let v247 : BitVec 32 := Scalar.select v246 c1_i32_121 c2_i32_119
  let v248 : BitVec 32 := Scalar.remsi arg1 v247
  let c0_i32_123 : BitVec 32 := 0#32
  let v250 : BitVec 1 := Scalar.cmpi .slt v248 c0_i32_123
  let c0_i32_124 : BitVec 32 := 0#32
  let v251 : BitVec 1 := Scalar.cmpi .slt v247 c0_i32_124
  let v252 : BitVec 1 := Scalar.xori v250 v251
  let c0_i32_122 : BitVec 32 := 0#32
  let v249 : BitVec 1 := Scalar.cmpi .ne v248 c0_i32_122
  let v253 : BitVec 1 := Scalar.andi v252 v249
  let v254 : BitVec 32 := Scalar.addi v248 v247
  let v255 : BitVec 32 := Scalar.select v253 v254 v248
  let c0_i32_125 : BitVec 32 := 0#32
  let v256 : BitVec 1 := Scalar.cmpi .eq v255 c0_i32_125
  let v257 : BitVec 32 := Scalar.extui v256
  let c0_i32_126 : BitVec 32 := 0#32
  let v258 : BitVec 1 := Scalar.cmpi .ne v257 c0_i32_126
  v258

def k0_mult31 (i : grid0.Coords) : BitVec 32 :=
  let arg1 : BitVec 32 := BitVec.ofNat 32 (i 1).val
  let c1_i32_128 : BitVec 32 := 1#32
  let v260 : BitVec 32 := Scalar.subi arg1 c1_i32_128
  let c1_i32_127 : BitVec 32 := 1#32
  let v259 : BitVec 32 := Scalar.subi arg1 c1_i32_127
  let v261 : BitVec 32 := Scalar.subi v260 v259
  let c256_i32_129 : BitVec 32 := 256#32
  let v262 : BitVec 32 := Scalar.muli v261 c256_i32_129
  v262
def k0_off29 (i : grid0.Coords) : Fin 2 → Nat :=
  let arg1 : BitVec 32 := BitVec.ofNat 32 (i 1).val
  let c1_i32_128 : BitVec 32 := 1#32
  let v260 : BitVec 32 := Scalar.subi arg1 c1_i32_128
  let c1_i32_127 : BitVec 32 := 1#32
  let v259 : BitVec 32 := Scalar.subi arg1 c1_i32_127
  let v261 : BitVec 32 := Scalar.subi v260 v259
  let c256_i32_129 : BitVec 32 := 256#32
  let v262 : BitVec 32 := Scalar.muli v261 c256_i32_129
  let v263 : BitVec 32 := v262
  let v264 : Index := Scalar.indexCast v263
  let c0_130 : Index := 0#32
  ![v264.toNat, 0]
def k0_mult32 (i : grid0.Coords) : BitVec 32 :=
  let arg1 : BitVec 32 := BitVec.ofNat 32 (i 1).val
  let c1_i32_137 : BitVec 32 := 1#32
  let v273 : BitVec 32 := Scalar.subi arg1 c1_i32_137
  let c2_i32_134 : BitVec 32 := 2#32
  let v271 : BitVec 32 := Scalar.subi arg1 c2_i32_134
  let v274 : BitVec 32 := Scalar.subi v273 v271
  let c256_i32_147 : BitVec 32 := 256#32
  let v297 : BitVec 32 := Scalar.muli v274 c256_i32_147
  v297
def k0_off30 (i : grid0.Coords) (c2_i32_134 : BitVec 32) : Fin 2 → Nat :=
  let c0_148 : Index := 0#32
  let arg1 : BitVec 32 := BitVec.ofNat 32 (i 1).val
  let c1_i32_137 : BitVec 32 := 1#32
  let v273 : BitVec 32 := Scalar.subi arg1 c1_i32_137
  let v271 : BitVec 32 := Scalar.subi arg1 c2_i32_134
  let v274 : BitVec 32 := Scalar.subi v273 v271
  let c256_i32_147 : BitVec 32 := 256#32
  let v297 : BitVec 32 := Scalar.muli v274 c256_i32_147
  let v298 : BitVec 32 := v297
  let v299 : Index := Scalar.indexCast v298
  ![0, v299.toNat]
def k0_mult33 (i : grid0.Coords) : BitVec 32 :=
  let arg1 : BitVec 32 := BitVec.ofNat 32 (i 1).val
  let c1_i32_137 : BitVec 32 := 1#32
  let v273 : BitVec 32 := Scalar.subi arg1 c1_i32_137
  let c2_i32_134 : BitVec 32 := 2#32
  let v271 : BitVec 32 := Scalar.subi arg1 c2_i32_134
  let v274 : BitVec 32 := Scalar.subi v273 v271
  let c256_i32_154 : BitVec 32 := 256#32
  let v309 : BitVec 32 := Scalar.muli v274 c256_i32_154
  v309
def k0_off31 (i : grid0.Coords) (c2_i32_134 : BitVec 32) : Fin 2 → Nat :=
  let c128_155 : Index := 128#32
  let arg1 : BitVec 32 := BitVec.ofNat 32 (i 1).val
  let c1_i32_137 : BitVec 32 := 1#32
  let v273 : BitVec 32 := Scalar.subi arg1 c1_i32_137
  let v271 : BitVec 32 := Scalar.subi arg1 c2_i32_134
  let v274 : BitVec 32 := Scalar.subi v273 v271
  let c256_i32_154 : BitVec 32 := 256#32
  let v309 : BitVec 32 := Scalar.muli v274 c256_i32_154
  let v310 : BitVec 32 := v309
  let v311 : Index := Scalar.indexCast v310
  ![128, v311.toNat]
def k0_mult34 (i : grid0.Coords) : BitVec 32 :=
  let arg1 : BitVec 32 := BitVec.ofNat 32 (i 1).val
  let c1_i32_137 : BitVec 32 := 1#32
  let v273 : BitVec 32 := Scalar.subi arg1 c1_i32_137
  let c2_i32_134 : BitVec 32 := 2#32
  let v271 : BitVec 32 := Scalar.subi arg1 c2_i32_134
  let v274 : BitVec 32 := Scalar.subi v273 v271
  let c256_i32_161 : BitVec 32 := 256#32
  let v321 : BitVec 32 := Scalar.muli v274 c256_i32_161
  v321
def k0_off32 (i : grid0.Coords) (c2_i32_134 : BitVec 32) : Fin 2 → Nat :=
  let c256_162 : Index := 256#32
  let arg1 : BitVec 32 := BitVec.ofNat 32 (i 1).val
  let c1_i32_137 : BitVec 32 := 1#32
  let v273 : BitVec 32 := Scalar.subi arg1 c1_i32_137
  let v271 : BitVec 32 := Scalar.subi arg1 c2_i32_134
  let v274 : BitVec 32 := Scalar.subi v273 v271
  let c256_i32_161 : BitVec 32 := 256#32
  let v321 : BitVec 32 := Scalar.muli v274 c256_i32_161
  let v322 : BitVec 32 := v321
  let v323 : Index := Scalar.indexCast v322
  ![256, v323.toNat]
def k0_mult35 (i : grid0.Coords) : BitVec 32 :=
  let arg1 : BitVec 32 := BitVec.ofNat 32 (i 1).val
  let c1_i32_137 : BitVec 32 := 1#32
  let v273 : BitVec 32 := Scalar.subi arg1 c1_i32_137
  let c2_i32_134 : BitVec 32 := 2#32
  let v271 : BitVec 32 := Scalar.subi arg1 c2_i32_134
  let v274 : BitVec 32 := Scalar.subi v273 v271
  let c256_i32_168 : BitVec 32 := 256#32
  let v333 : BitVec 32 := Scalar.muli v274 c256_i32_168
  v333
def k0_off33 (i : grid0.Coords) (c2_i32_134 : BitVec 32) : Fin 2 → Nat :=
  let c384_169 : Index := 384#32
  let arg1 : BitVec 32 := BitVec.ofNat 32 (i 1).val
  let c1_i32_137 : BitVec 32 := 1#32
  let v273 : BitVec 32 := Scalar.subi arg1 c1_i32_137
  let v271 : BitVec 32 := Scalar.subi arg1 c2_i32_134
  let v274 : BitVec 32 := Scalar.subi v273 v271
  let c256_i32_168 : BitVec 32 := 256#32
  let v333 : BitVec 32 := Scalar.muli v274 c256_i32_168
  let v334 : BitVec 32 := v333
  let v335 : Index := Scalar.indexCast v334
  ![384, v335.toNat]
def k0_mult36 (i : grid0.Coords) : BitVec 32 :=
  let arg1 : BitVec 32 := BitVec.ofNat 32 (i 1).val
  let c1_i32_181 : BitVec 32 := 1#32
  let v353 : BitVec 32 := Scalar.subi arg1 c1_i32_181
  let c1_i32_178 : BitVec 32 := 1#32
  let v351 : BitVec 32 := Scalar.subi arg1 c1_i32_178
  let v354 : BitVec 32 := Scalar.subi v353 v351
  let c256_i32_191 : BitVec 32 := 256#32
  let v377 : BitVec 32 := Scalar.muli v354 c256_i32_191
  v377
def k0_mult37 (i : grid0.Coords) : BitVec 32 :=
  let arg1 : BitVec 32 := BitVec.ofNat 32 (i 1).val
  let c1_i32_181 : BitVec 32 := 1#32
  let v353 : BitVec 32 := Scalar.subi arg1 c1_i32_181
  let c1_i32_178 : BitVec 32 := 1#32
  let v351 : BitVec 32 := Scalar.subi arg1 c1_i32_178
  let v354 : BitVec 32 := Scalar.subi v353 v351
  let c256_i32_198 : BitVec 32 := 256#32
  let v389 : BitVec 32 := Scalar.muli v354 c256_i32_198
  v389
def k0_mult38 (i : grid0.Coords) : BitVec 32 :=
  let arg1 : BitVec 32 := BitVec.ofNat 32 (i 1).val
  let c1_i32_181 : BitVec 32 := 1#32
  let v353 : BitVec 32 := Scalar.subi arg1 c1_i32_181
  let c1_i32_178 : BitVec 32 := 1#32
  let v351 : BitVec 32 := Scalar.subi arg1 c1_i32_178
  let v354 : BitVec 32 := Scalar.subi v353 v351
  let c256_i32_205 : BitVec 32 := 256#32
  let v401 : BitVec 32 := Scalar.muli v354 c256_i32_205
  v401
def k0_mult39 (i : grid0.Coords) : BitVec 32 :=
  let arg1 : BitVec 32 := BitVec.ofNat 32 (i 1).val
  let c1_i32_181 : BitVec 32 := 1#32
  let v353 : BitVec 32 := Scalar.subi arg1 c1_i32_181
  let c1_i32_178 : BitVec 32 := 1#32
  let v351 : BitVec 32 := Scalar.subi arg1 c1_i32_178
  let v354 : BitVec 32 := Scalar.subi v353 v351
  let c256_i32_212 : BitVec 32 := 256#32
  let v413 : BitVec 32 := Scalar.muli v354 c256_i32_212
  v413
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbIdeal.lean ====
variable {F : FTy → Type} [FloatOps F] [Named F]
def κ : String → Option EReal := fun
  | "log2e" => some (((Real.log 2)⁻¹ : ℝ) : EReal)
  | "sbscale" => some (((1 / 8) * (Real.log 2)⁻¹ : ℝ) : EReal)
  | _ => none
-- ==== SbRef.lean ====
abbrev S2x8192x4x64 : Shape := ⟨4, ![2, 8192, 4, 64]⟩
abbrev S8192 : Shape := ⟨1, ![8192]⟩
abbrev S2x4x8192x8192 : Shape := ⟨4, ![2, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x4x64x8192 : Shape := ⟨4, ![2, 4, 64, 8192]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x4x64, .f32⟩
  | .hbm, ⟨1, _⟩ => ⟨S2x8192x4x64, .f32⟩
  | .hbm, ⟨2, _⟩ => ⟨S2x8192x4x64, .f32⟩
  | .hbm, ⟨3, _⟩ => ⟨S8192, .i32⟩
  | .hbm, ⟨4, _⟩ => ⟨S2x4x8192x8192, .f32⟩
  | .hbm, ⟨5, _⟩ => ⟨S_, .f32⟩
  | .hbm, ⟨6, _⟩ => ⟨S2x4x8192x8192, .f32⟩
  | .hbm, ⟨7, _⟩ => ⟨S2x4x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S2x4x8192x8192, .f32⟩
  | .hbm, ⟨14, _⟩ => ⟨S2x4x8192x8192, .f32⟩
  | .hbm, ⟨15, _⟩ => ⟨S_, .f32⟩
  | .hbm, ⟨16, _⟩ => ⟨S2x4x8192x8192, .f32⟩
  | .hbm, ⟨17, _⟩ => ⟨S2x4x8192x8192, .f32⟩
  | .hbm, ⟨18, _⟩ => ⟨S2x4x8192x8192, .f32⟩
  | .hbm, ⟨19, _⟩ => ⟨S2x4x8192x8192, .f32⟩
  | .hbm, ⟨20, _⟩ => ⟨S2x4x8192x8192, .i1⟩
  | .hbm, ⟨21, _⟩ => ⟨S2x4x8192x8192, .f32⟩
  | .hbm, ⟨22, _⟩ => ⟨S2x4x8192x8192, .f32⟩
  | .hbm, ⟨23, _⟩ => ⟨S2x4x8192x8192, .f32⟩
  | .hbm, ⟨24, _⟩ => ⟨S2x4x8192x8192, .f32⟩
  | .hbm, ⟨25, _⟩ => ⟨S2x4x8192x8192, .f32⟩
  | .hbm, ⟨26, _⟩ => ⟨S2x4x8192x8192, .f32⟩
  | .hbm, ⟨27, _⟩ => ⟨S2x4x8192x8192, .f32⟩
  | .hbm, ⟨28, _⟩ => ⟨S2x4x8192x8192, .f32⟩
  | .hbm, ⟨29, _⟩ => ⟨S2x4x8192x8192, .f32⟩
  | .hbm, ⟨30, _⟩ => ⟨S_, .f32⟩
  | .hbm, ⟨31, _⟩ => ⟨S_, .f32⟩
  | .hbm, ⟨32, _⟩ => ⟨S2x4x8192x8192, .i1⟩
  | .hbm, ⟨33, _⟩ => ⟨S2x4x8192x8192, .f32⟩
  | .hbm, ⟨34, _⟩ => ⟨S2x4x8192x8192, .f32⟩
  | .hbm, ⟨35, _⟩ => ⟨S_, .f32⟩
  | .hbm, ⟨36, _⟩ => ⟨S_, .f32⟩
  | .hbm, ⟨37, _⟩ => ⟨S2x4x8192x8192, .f32⟩
  | .hbm, ⟨38, _⟩ => ⟨S2x4x8192x8192, .f32⟩
  | .hbm, ⟨39, _⟩ => ⟨S2x4x8192x8192, .f32⟩
  | .hbm, ⟨40, _⟩ => ⟨S_, .f32⟩
  | .hbm, ⟨41, _⟩ => ⟨S2x4x8192x8192, .f32⟩
  | .hbm, ⟨42, _⟩ => ⟨S2x4x8192x8192, .f32⟩
  | .hbm, ⟨43, _⟩ => ⟨S2x4x8192x8192, .f32⟩
  | .hbm, ⟨44, _⟩ => ⟨S2x4x8192x8192, .f32⟩
  | .hbm, ⟨45, _⟩ => ⟨S2x4x8192x8192, .i1⟩
  | .hbm, ⟨46, _⟩ => ⟨S2x4x8192x8192, .f32⟩
  | .hbm, ⟨47, _⟩ => ⟨S2x4x8192x8192, .f32⟩
  | .hbm, ⟨48, _⟩ => ⟨S2x4x8192x8192, .f32⟩
  | .hbm, ⟨49, _⟩ => ⟨S2x4x8192x8192, .f32⟩
  | .hbm, ⟨50, _⟩ => ⟨S2x4x8192x8192, .f32⟩
  | .hbm, ⟨51, _⟩ => ⟨S2x4x8192x8192, .f32⟩
  | .hbm, ⟨52, _⟩ => ⟨S2x4x8192x8192, .f32⟩
  | .hbm, ⟨53, _⟩ => ⟨S2x4x8192x8192, .f32⟩
  | .hbm, ⟨54, _⟩ => ⟨S2x4x8192x8192, .f32⟩
  | .hbm, ⟨55, _⟩ => ⟨S2x4x8192x8192, .f32⟩
  | .hbm, ⟨56, _⟩ => ⟨S2x4x8192x8192, .f32⟩
  | .hbm, ⟨57, _⟩ => ⟨S_, .f32⟩
  | .hbm, ⟨58, _⟩ => ⟨S_, .f32⟩
  | .hbm, ⟨59, _⟩ => ⟨S2x4x8192x8192, .i1⟩
  | .hbm, ⟨60, _⟩ => ⟨S2x4x8192x8192, .f32⟩
  | .hbm, ⟨61, _⟩ => ⟨S2x4x8192x8192, .f32⟩
  | .hbm, ⟨62, _⟩ => ⟨S2x4x64x8192, .f32⟩
  | .hbm, ⟨63, _⟩ => ⟨S2x8192x4x64, .f32⟩
  | _, _ => ⟨S2x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩

abbrev nD : Nat := 1
abbrev τ : Topo := Topo.v7x

variable {F : FTy → Type} [FloatOps F]
-- ==== Proof.MlaState.lean ====
module

public import proofs.«01_k».proof.Proof.Gen.MlaIdeal.Frame
public import proofs.«01_k».proof.Proof.Gen.MlaIdeal.Skeleton
public import Idealize.ShloMosaic.Lib.Tactic
public import Idealize.ShloMosaic.Lib.WholeRead
public import Idealize.ShloMosaic.Lib.VecWindow
public import Idealize.ShloMosaic.Lib.Pointwise

@[expose] public section

set_option maxRecDepth 16384

noncomputable section

namespace Cert.MlaIdeal.Run

open Cert.MlaIdeal Cert.MlaIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-! ## What one tile of keys does to the running softmax

The four heads' logits stand side by side in one `256 × 1024` array (keys down, head and query across). The running state
is the maximum of each column and, for each head, the weighted sum of the values, whose row 64 is the sum of the
weights. The payloads named here are those of the loop's first half; the other places of the body write the same
operations. -/

/-- The logits of one tile of keys `K` against the queries `q`, the four heads side by side. -/
def lg (q : FVec F S512x256 .bf16) (K : Vec F S256x512 .bf16) : FVec F S256x1024 .f32 := k0_pay4 q K

/-- The running state: the columns' maximum and the four heads' weighted sums. -/
structure St (F : FTy → Type) where
  m : Vec F S1x1024 .f32
  a : Vec F S128x256 .f32
  b : Vec F S128x256 .f32
  d : Vec F S128x256 .f32
  e : Vec F S128x256 .f32

/-- The state before the first tile. -/
def st₀ : St F := ⟨k0_pay75, k0_pay76, k0_pay77, k0_pay78, k0_pay79⟩

/-- The state after a tile of logits `s`, the tile's values being `V h` for head `h`. -/
def consume (V : Fin 4 → Vec F S128x256 .bf16) (s : Vec F S256x1024 .f32) (t : St F) : St F where
  m := k0_pay13 (k0_pay5 s t.m)
  a := k0_pay9 (k0_pay7 s t.m) (k0_pay8 s t.m t.a) (V 0)
  b := k0_pay10 (k0_pay6 s t.m) (k0_pay7 s t.m) t.b (V 1)
  d := k0_pay11 (k0_pay6 s t.m) (k0_pay7 s t.m) t.d (V 2)
  e := k0_pay12 (k0_pay6 s t.m) (k0_pay7 s t.m) t.e (V 3)

/-- The causal mask on the tile that meets the diagonal. -/
def msk (s : Vec F S256x1024 .f32) : Vec F S256x1024 .f32 := k0_pay44 s

/-- Tile `j` of the keys: rows `256 j …` of the block. -/
def kT (x : Vec F S8192x512 .bf16) (j : ℕ) : Vec F S256x512 .bf16 :=
  fun y => x (ix2 (⟨(256 * j + (y 0).val) % 8192, Nat.mod_lt _ (by decide)⟩ : Fin 8192) (⟨(y 1).val, (y 1).isLt⟩ : Fin 512))

/-- Tile `j` of head `h`'s values: rows `128 h …`, columns `256 j …` of the block. -/
def vT (x : Vec F S512x8192 .bf16) (j : ℕ) (h : Fin 4) : Vec F S128x256 .bf16 :=
  fun y => x (ix2 (⟨128 * h.val + (y 0).val, by have : (y 0).val < 128 := (y 0).isLt; have := h.isLt; omega⟩ : Fin 512)
    (⟨(256 * j + (y 1).val) % 8192, Nat.mod_lt _ (by decide)⟩ : Fin 8192))

/-- The state after the first `n` tiles, none of them masked. -/
def stN (q : FVec F S512x256 .bf16) (K : Vec F S8192x512 .bf16) (V : Vec F S512x8192 .bf16) : ℕ → St F
  | 0 => st₀
  | n + 1 => consume (vT V n) (lg q (kT K n)) (stN q K V n)

/-- The state the block of queries `n` ends with: `n` whole tiles, then the tile on the diagonal, masked. -/
def stF (q : FVec F S512x256 .bf16) (K : Vec F S8192x512 .bf16) (V : Vec F S512x8192 .bf16) (n : ℕ) : St F :=
  consume (vT V n) (msk (lg q (kT K n))) (stN q K V n)

/-- What the body leaves in its result block, from the state it ends with: each head in its 128 lanes. -/
def outOf (t : St F) : Vec F S256x512 .bf16 := fun y =>
  if (y 1).val < 128 then k0_pay89 t.a (ix2 (⟨(y 0).val, (y 0).isLt⟩ : Fin 256) (⟨(y 1).val % 128, Nat.mod_lt _ (by decide)⟩ : Fin 128))
  else if (y 1).val < 256 then k0_pay89 t.b (ix2 (⟨(y 0).val, (y 0).isLt⟩ : Fin 256) (⟨(y 1).val % 128, Nat.mod_lt _ (by decide)⟩ : Fin 128))
  else if (y 1).val < 384 then k0_pay89 t.d (ix2 (⟨(y 0).val, (y 0).isLt⟩ : Fin 256) (⟨(y 1).val % 128, Nat.mod_lt _ (by decide)⟩ : Fin 128))
  else k0_pay89 t.e (ix2 (⟨(y 0).val, (y 0).isLt⟩ : Fin 256) (⟨(y 1).val % 128, Nat.mod_lt _ (by decide)⟩ : Fin 128))

/-! ## The loads of a tile, by their offsets -/

/-- Where a tile is read or written. -/
theorem off1_1 : ∀ (i : grid0.Coords) (k : Fin (k0_t1_loop i).trips), k0_off1 i k 1#32 = ![256 * (2 * k.val + 1), 0] := by decide +kernel
/-- Where a tile is read or written. -/
theorem off1_2 : ∀ (i : grid0.Coords) (k : Fin (k0_t1_loop i).trips), k0_off1 i k 2#32 = ![256 * (2 * k.val + 2), 0] := by decide +kernel
/-- Where a tile is read or written. -/
theorem off2_e : ∀ (i : grid0.Coords) (k : Fin (k0_t1_loop i).trips), k0_off2 i k = ![0, 256 * (2 * k.val)] := by decide +kernel
/-- Where a tile is read or written. -/
theorem off3_e : ∀ (i : grid0.Coords) (k : Fin (k0_t1_loop i).trips), k0_off3 i k = ![128, 256 * (2 * k.val)] := by decide +kernel
/-- Where a tile is read or written. -/
theorem off4_e : ∀ (i : grid0.Coords) (k : Fin (k0_t1_loop i).trips), k0_off4 i k = ![256, 256 * (2 * k.val)] := by decide +kernel
/-- Where a tile is read or written. -/
theorem off5_e : ∀ (i : grid0.Coords) (k : Fin (k0_t1_loop i).trips), k0_off5 i k = ![384, 256 * (2 * k.val)] := by decide +kernel
/-- Where a tile is read or written. -/
theorem off6_e : ∀ (i : grid0.Coords) (k : Fin (k0_t1_loop i).trips), k0_off6 i k = ![0, 256 * (2 * k.val + 1)] := by decide +kernel
/-- Where a tile is read or written. -/
theorem off7_e : ∀ (i : grid0.Coords) (k : Fin (k0_t1_loop i).trips), k0_off7 i k = ![128, 256 * (2 * k.val + 1)] := by decide +kernel
/-- Where a tile is read or written. -/
theorem off8_e : ∀ (i : grid0.Coords) (k : Fin (k0_t1_loop i).trips), k0_off8 i k = ![256, 256 * (2 * k.val + 1)] := by decide +kernel
/-- Where a tile is read or written. -/
theorem off9_e : ∀ (i : grid0.Coords) (k : Fin (k0_t1_loop i).trips), k0_off9 i k = ![384, 256 * (2 * k.val + 1)] := by decide +kernel
/-- Where a tile is read or written. -/
theorem off19_e : ∀ (i : grid0.Coords), k0_off19 i = ![0, 256 * (i 1).val] := by decide +kernel
/-- Where a tile is read or written. -/
theorem off20_e : ∀ (i : grid0.Coords), k0_off20 i = ![128, 256 * (i 1).val] := by decide +kernel
/-- Where a tile is read or written. -/
theorem off21_e : ∀ (i : grid0.Coords), k0_off21 i = ![256, 256 * (i 1).val] := by decide +kernel
/-- Where a tile is read or written. -/
theorem off22_e : ∀ (i : grid0.Coords), k0_off22 i = ![384, 256 * (i 1).val] := by decide +kernel
/-- Where a tile is read or written. -/
theorem off23_e : ∀ (i : grid0.Coords), k0_off23 i = ![256 * (i 1).val, 0] := by decide +kernel
/-- Where a tile is read or written. -/
theorem off24_1 : ∀ (i : grid0.Coords), k0_off24 i 1#32 = ![0, 256 * (i 1).val] := by decide +kernel
/-- Where a tile is read or written. -/
theorem off24_2 : ∀ (i : grid0.Coords), k0_cond2 i = 1#1 → k0_off24 i 2#32 = ![0, 256 * ((i 1).val - 1)] := by decide +kernel
/-- Where a tile is read or written. -/
theorem off25_1 : ∀ (i : grid0.Coords), k0_off25 i 1#32 = ![128, 256 * (i 1).val] := by decide +kernel
/-- Where a tile is read or written. -/
theorem off25_2 : ∀ (i : grid0.Coords), k0_cond2 i = 1#1 → k0_off25 i 2#32 = ![128, 256 * ((i 1).val - 1)] := by decide +kernel
/-- Where a tile is read or written. -/
theorem off26_1 : ∀ (i : grid0.Coords), k0_off26 i 1#32 = ![256, 256 * (i 1).val] := by decide +kernel
/-- Where a tile is read or written. -/
theorem off26_2 : ∀ (i : grid0.Coords), k0_cond2 i = 1#1 → k0_off26 i 2#32 = ![256, 256 * ((i 1).val - 1)] := by decide +kernel
/-- Where a tile is read or written. -/
theorem off27_1 : ∀ (i : grid0.Coords), k0_off27 i 1#32 = ![384, 256 * (i 1).val] := by decide +kernel
/-- Where a tile is read or written. -/
theorem off27_2 : ∀ (i : grid0.Coords), k0_cond2 i = 1#1 → k0_off27 i 2#32 = ![384, 256 * ((i 1).val - 1)] := by decide +kernel

/-- The loop takes two tiles a round. -/
theorem trips_e : ∀ i : grid0.Coords, (k0_t1_loop i).trips = (i 1).val / 2 := by decide +kernel
/-- An even block of queries takes the first branch and not the second. -/
theorem cond_even : ∀ i : grid0.Coords, (i 1).val % 2 = 0 → k0_cond1 i = 1#1 ∧ ¬ k0_cond2 i = 1#1 := by decide +kernel
/-- An odd block of queries takes the second branch and not the first. -/
theorem cond_odd : ∀ i : grid0.Coords, (i 1).val % 2 = 1 → ¬ k0_cond1 i = 1#1 ∧ k0_cond2 i = 1#1 := by decide +kernel

/-- A load of 256 rows of the keys at row `256 j` is tile `j`. -/
theorem read_kT {κ' : Kind} {sp : Space} {M : Memref sig κ' sp S8192x512 .bf16} (h : M.IsWhole) (x : Vec F S8192x512 .bf16) (j : ℕ)
    {off : Fin 2 → ℕ} (inb : ∀ a, off a + S256x512.size a ≤ S8192x512.size a) (e : off = ![256 * j, 0]) :
    View.readAt (Elt F) M.view (Rect.unit (s := S8192x512) off S256x512.size inb).toLoadRect (h.unread x) = kT x j := by
  subst e
  funext y
  rw [h.readAt_unread]
  have h0 : 256 * j + 256 ≤ 8192 := inb 0
  have hy : (y 0).val < 256 := (y 0).isLt
  refine congrArg x (funext fun a => Fin.ext ?_)
  match a with
  | ⟨0, _⟩ =>
    show 256 * j + 1 * (y 0).val = (256 * j + (y 0).val) % 8192
    rw [Nat.mod_eq_of_lt (by omega)]; omega
  | ⟨1, _⟩ =>
    show 0 + 1 * (y 1).val = (y 1).val
    omega

/-- A load of 128 rows and 256 columns of the values at row `128 h`, column `256 j` is tile `j` of head `h`. -/
theorem read_vT {κ' : Kind} {sp : Space} {M : Memref sig κ' sp S512x8192 .bf16} (hM : M.IsWhole) (x : Vec F S512x8192 .bf16) (j : ℕ) (h : Fin 4)
    {off : Fin 2 → ℕ} (inb : ∀ a, off a + S128x256.size a ≤ S512x8192.size a) (e : off = ![128 * h.val, 256 * j]) :
    View.readAt (Elt F) M.view (Rect.unit (s := S512x8192) off S128x256.size inb).toLoadRect (hM.unread x) = vT x j h := by
  subst e
  funext y
  rw [hM.readAt_unread]
  have h0 : 256 * j + 256 ≤ 8192 := inb 1
  have hy : (y 1).val < 256 := (y 1).isLt
  refine congrArg x (funext fun a => Fin.ext ?_)
  match a with
  | ⟨0, _⟩ =>
    show 128 * h.val + 1 * (y 0).val = 128 * h.val + (y 0).val
    omega
  | ⟨1, _⟩ =>
    show 256 * j + 1 * (y 1).val = (256 * j + (y 1).val) % 8192
    rw [Nat.mod_eq_of_lt (by omega)]; omega

/-- A whole memref after a store of all of it holds what was stored. -/
theorem writes_unread {κ' : Kind} {sp : Space} {s : Shape} {el : EltTy} {M : Memref sig κ' sp s el} (h : M.IsWhole)
    (f : M.view.ty.Contents (Elt F)) {off : Fin s.rank → ℕ} (inb : ∀ a, off a + s.size a ≤ s.size a)
    (w : (Rect.unit off s.size inb).shape.Idx → Elt F el) (L : List (View.Piece (Elt F) s el)) :
    M.view.writes (Elt F) f (⟨Rect.unit off s.size inb, w⟩ :: L) = h.unread w :=
  h.eq_unread (View.read_writes_full M.view f inb w L)

/-- A load of all of a whole memref. -/
theorem readAt_unread_full {κ' : Kind} {sp : Space} {s : Shape} {el : EltTy} {M : Memref sig κ' sp s el} (h : M.IsWhole)
    (x : s.Idx → Elt F el) {off : Fin s.rank → ℕ} (inb : ∀ a, off a + s.size a ≤ s.size a) :
    View.readAt (Elt F) M.view (Rect.unit off s.size inb).toLoadRect (h.unread x) = x := by
  rw [View.readAt_full, h.read_unread]

/-! ## The other places of the body write the same operations -/

/-- The same step, printed a second time by the program. -/
theorem second_m (s : Vec F S256x1024 .f32) (m : Vec F S1x1024 .f32) : k0_pay23 (k0_pay15 s m) = k0_pay13 (k0_pay5 s m) := rfl
/-- The same step, printed a second time by the program. -/
theorem second_lg (q : FVec F S512x256 .bf16) (K : Vec F S256x512 .bf16) : k0_pay14 q K = lg q K := rfl
/-- The same step, printed a second time by the program. -/
theorem second_a (s : Vec F S256x1024 .f32) (m : Vec F S1x1024 .f32) (x : Vec F S128x256 .f32) (V : Vec F S128x256 .bf16) :
    k0_pay18 s m x V = k0_pay9 (k0_pay7 s m) (k0_pay8 s m x) V := rfl
/-- The same step, printed a second time by the program. -/
theorem second_b (s : Vec F S256x1024 .f32) (m : Vec F S1x1024 .f32) (x : Vec F S128x256 .f32) (V : Vec F S128x256 .bf16) :
    k0_pay20 (k0_pay19 s m x V) = k0_pay10 (k0_pay6 s m) (k0_pay7 s m) x V := rfl
/-- The same step, printed a second time by the program. -/
theorem second_d (s : Vec F S256x1024 .f32) (m : Vec F S1x1024 .f32) (x : Vec F S128x256 .f32) (V : Vec F S128x256 .bf16) :
    k0_pay21 (k0_pay16 s m) (k0_pay17 s m) x V = k0_pay11 (k0_pay6 s m) (k0_pay7 s m) x V := rfl
/-- The same step, printed a second time by the program. -/
theorem second_e (s : Vec F S256x1024 .f32) (m : Vec F S1x1024 .f32) (x : Vec F S128x256 .f32) (V : Vec F S128x256 .bf16) :
    k0_pay22 (k0_pay16 s m) (k0_pay17 s m) x V = k0_pay12 (k0_pay6 s m) (k0_pay7 s m) x V := rfl
/-- The same step, printed a second time by the program. -/
theorem first_lg (v : Vec F S512x256 .f32) (K : Vec F S256x512 .bf16) :
    k0_pay83 (k0_pay74 v) (k0_pay80 K) (k0_pay81 K) (k0_pay82 v) = lg (k0_pay74 v) K := rfl

end Cert.MlaIdeal.Run

end
-- ==== Proof.MlaPoint.lean ====
/- The attention kernel's arithmetic at one element, over the extended reals. -/
module

public import proofs.«01_k».proof.Proof.MlaState
public import Idealize.ShloMosaic.Lib.Pointwise

@[expose] public section

set_option maxRecDepth 16384

noncomputable section

namespace Cert.MlaIdeal.Run

open scoped BigOperators
open Cert.MlaIdeal Cert.MlaIdeal.Gen
open Idealize.ShloMosaic
open Idealize.ShloMosaic.TcCoe Idealize.ShloMosaic.Tactic

/-! ## The logits of a tile, head by head: a key's 128 lanes against the query's -/

/-- An entry of a tile of logits: the sum of products of key and query. -/
theorem lg0_at (q : FVec Ideal S512x256 .bf16) (K : Vec Ideal S256x512 .bf16) (r c : Fin 256) :
    lg q K (ix2 r (⟨c.val, by omega⟩ : Fin 1024))
      = ∑ w : Fin 128, K (ix2 r (⟨w.val, by omega⟩ : Fin 512)) * q (ix2 (⟨w.val, by omega⟩ : Fin 512) c) := by
  pointwise [lg, k0_pay4]

/-- An entry of a tile of logits: the sum of products of key and query. -/
theorem lg1_at (q : FVec Ideal S512x256 .bf16) (K : Vec Ideal S256x512 .bf16) (r c : Fin 256) :
    lg q K (ix2 r (⟨256 + c.val, by omega⟩ : Fin 1024))
      = ∑ w : Fin 128, K (ix2 r (⟨128 + w.val, by omega⟩ : Fin 512)) * q (ix2 (⟨128 + w.val, by omega⟩ : Fin 512) c) := by
  pointwise [lg, k0_pay4]

/-- An entry of a tile of logits: the sum of products of key and query. -/
theorem lg2_at (q : FVec Ideal S512x256 .bf16) (K : Vec Ideal S256x512 .bf16) (r c : Fin 256) :
    lg q K (ix2 r (⟨512 + c.val, by omega⟩ : Fin 1024))
      = ∑ w : Fin 128, K (ix2 r (⟨256 + w.val, by omega⟩ : Fin 512)) * q (ix2 (⟨256 + w.val, by omega⟩ : Fin 512) c) := by
  pointwise [lg, k0_pay4]
  rw [dif_neg (by omega), dif_neg (by omega), dif_pos (by omega)]
  exact Finset.sum_congr rfl fun w _ => congrArg (fun z : Fin 256 => K (ix2 r (⟨256 + w.val, by omega⟩ : Fin 512)) * q (ix2 (⟨256 + w.val, by omega⟩ : Fin 512) z))
    (Fin.ext (by show 512 + c.val - 256 - 256 = c.val; omega))

/-- An entry of a tile of logits: the sum of products of key and query. -/
theorem lg3_at (q : FVec Ideal S512x256 .bf16) (K : Vec Ideal S256x512 .bf16) (r c : Fin 256) :
    lg q K (ix2 r (⟨768 + c.val, by omega⟩ : Fin 1024))
      = ∑ w : Fin 128, K (ix2 r (⟨384 + w.val, by omega⟩ : Fin 512)) * q (ix2 (⟨384 + w.val, by omega⟩ : Fin 512) c) := by
  pointwise [lg, k0_pay4]
  rw [dif_neg (by omega), dif_neg (by omega), dif_neg (by omega)]
  exact Finset.sum_congr rfl fun w _ => congrArg (fun z : Fin 256 => K (ix2 r (⟨384 + w.val, by omega⟩ : Fin 512)) * q (ix2 (⟨384 + w.val, by omega⟩ : Fin 512) z))
    (Fin.ext (by show 768 + c.val - 256 - 256 - 256 = c.val; omega))

/-! ## A head's weighted sum after a tile: the old one rescaled, and the tile's values by their weights -/

/-- An entry of an accumulator after a tile: the old one rescaled, plus the tile's weighted values. -/
theorem acc0_at (s : Vec Ideal S256x1024 .f32) (m : Vec Ideal S1x1024 .f32) (x : Vec Ideal S128x256 .f32) (V : Vec Ideal S128x256 .bf16)
    (r : Fin 128) (c : Fin 256) :
    k0_pay9 (k0_pay7 s m) (k0_pay8 s m x) V (ix2 r c)
      = Ideal.exp2 (m (ix2 (0 : Fin 1) (⟨c.val, by omega⟩ : Fin 1024)) - k0_pay5 s m (ix2 (0 : Fin 1) (⟨c.val, by omega⟩ : Fin 1024))) * x (ix2 r c)
        + ∑ k : Fin 256, V (ix2 r k) * Ideal.exp2 (s (ix2 k (⟨c.val, by omega⟩ : Fin 1024)) - k0_pay5 s m (ix2 (0 : Fin 1) (⟨c.val, by omega⟩ : Fin 1024))) := by
  pointwise [k0_pay9, k0_pay7, k0_pay8, k0_pay6]
  rfl

/-- An entry of an accumulator after a tile: the old one rescaled, plus the tile's weighted values. -/
theorem acc1_at (s : Vec Ideal S256x1024 .f32) (m : Vec Ideal S1x1024 .f32) (x : Vec Ideal S128x256 .f32) (V : Vec Ideal S128x256 .bf16)
    (r : Fin 128) (c : Fin 256) :
    k0_pay10 (k0_pay6 s m) (k0_pay7 s m) x V (ix2 r c)
      = Ideal.exp2 (m (ix2 (0 : Fin 1) (⟨256 + c.val, by omega⟩ : Fin 1024)) - k0_pay5 s m (ix2 (0 : Fin 1) (⟨256 + c.val, by omega⟩ : Fin 1024))) * x (ix2 r c)
        + ∑ k : Fin 256, V (ix2 r k) * Ideal.exp2 (s (ix2 k (⟨256 + c.val, by omega⟩ : Fin 1024)) - k0_pay5 s m (ix2 (0 : Fin 1) (⟨256 + c.val, by omega⟩ : Fin 1024))) := by
  pointwise [k0_pay10, k0_pay7, k0_pay6]
  rfl

/-- An entry of an accumulator after a tile: the old one rescaled, plus the tile's weighted values. -/
theorem acc2_at (s : Vec Ideal S256x1024 .f32) (m : Vec Ideal S1x1024 .f32) (x : Vec Ideal S128x256 .f32) (V : Vec Ideal S128x256 .bf16)
    (r : Fin 128) (c : Fin 256) :
    k0_pay11 (k0_pay6 s m) (k0_pay7 s m) x V (ix2 r c)
      = Ideal.exp2 (m (ix2 (0 : Fin 1) (⟨512 + c.val, by omega⟩ : Fin 1024)) - k0_pay5 s m (ix2 (0 : Fin 1) (⟨512 + c.val, by omega⟩ : Fin 1024))) * x (ix2 r c)
        + ∑ k : Fin 256, V (ix2 r k) * Ideal.exp2 (s (ix2 k (⟨512 + c.val, by omega⟩ : Fin 1024)) - k0_pay5 s m (ix2 (0 : Fin 1) (⟨512 + c.val, by omega⟩ : Fin 1024))) := by
  pointwise [k0_pay11, k0_pay7, k0_pay6]
  rfl

/-- An entry of an accumulator after a tile: the old one rescaled, plus the tile's weighted values. -/
theorem acc3_at (s : Vec Ideal S256x1024 .f32) (m : Vec Ideal S1x1024 .f32) (x : Vec Ideal S128x256 .f32) (V : Vec Ideal S128x256 .bf16)
    (r : Fin 128) (c : Fin 256) :
    k0_pay12 (k0_pay6 s m) (k0_pay7 s m) x V (ix2 r c)
      = Ideal.exp2 (m (ix2 (0 : Fin 1) (⟨768 + c.val, by omega⟩ : Fin 1024)) - k0_pay5 s m (ix2 (0 : Fin 1) (⟨768 + c.val, by omega⟩ : Fin 1024))) * x (ix2 r c)
        + ∑ k : Fin 256, V (ix2 r k) * Ideal.exp2 (s (ix2 k (⟨768 + c.val, by omega⟩ : Fin 1024)) - k0_pay5 s m (ix2 (0 : Fin 1) (⟨768 + c.val, by omega⟩ : Fin 1024))) := by
  pointwise [k0_pay12, k0_pay7, k0_pay6]
  rfl

/-- The column's maximum after a tile. -/
theorem max_at (s : Vec Ideal S256x1024 .f32) (m : Vec Ideal S1x1024 .f32) (c : Fin 1024) :
    k0_pay5 s m (ix2 (0 : Fin 1) c)
      = max (m (ix2 (0 : Fin 1) c)) (Finset.fold max (Ideal.ofBits .f32 0xFF800000#32) (fun r : Fin 256 => s (ix2 r c)) Finset.univ) := by
  pointwise [k0_pay5]

/-- The running maximum is stored unchanged. -/
theorem max'_at (s : FVec Ideal S1x1024 .f32) (c : Fin 1024) : k0_pay13 s (ix2 (0 : Fin 1) c) = s (ix2 (0 : Fin 1) c) := by
  pointwise [k0_pay13]

/-- The named mask is the bottom of the extended reals. -/
theorem mask_eq : (Named.named κ "mask" 0xF149F2CA#32 : Ideal .f32) = (⊥ : EReal) := rfl

/-- The named scale. -/
def qs : ℝ := (3424635 / 33554432) * (Real.log 2)⁻¹
/-- The named scale on extended reals. -/
theorem qscale_eq : (Named.named κ "qscale" 0x3E16C740#32 : Ideal .f32) = (qs : EReal) := rfl

/-- The columns of a head among those of all four. -/
theorem col_eq : ∀ c : Fin 1024,
    (Scalar.select
        (IntOp.andi
          (IntOp.xori
            (IntOp.cmpi CmpIPredicate.slt
              (IntOp.remsi ArithUnit.vector (BitVec.ofNat 32 c.val)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 c.val)
              (Scalar.select (Scalar.cmpi CmpIPredicate.eq 256#32 0#32) 1#32 256#32))
            0#32))
        (IntOp.addi
          (IntOp.remsi ArithUnit.vector (BitVec.ofNat 32 c.val)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 c.val)
          (Scalar.select (Scalar.cmpi CmpIPredicate.eq 256#32 0#32) 1#32 256#32)) : BitVec 32) = BitVec.ofNat 32 (c.val % 256) := by
  decide +kernel

/-- The mask on the diagonal's tile keeps the keys up to the query. -/
theorem msk_at (s : Vec Ideal S256x1024 .f32) (r : Fin 256) (c : Fin 1024) :
    msk s (ix2 r c) = if r.val ≤ c.val % 256 then s (ix2 r c) else (⊥ : EReal) := by
  pointwise [msk, k0_pay44]
  rw [col_eq, mask_eq, WordCmp.cmpi_sle_of_lt (by simp; omega) (by simp; omega)]
  have hr : (BitVec.ofNat 32 r.val).toNat = r.val := by simp; omega
  have hc : (BitVec.ofNat 32 (c.val % 256)).toNat = c.val % 256 := by simp; omega
  rw [hr, hc]
  by_cases h : r.val ≤ c.val % 256 <;> simp [h, Scalar.select]

/-- The queries, scaled. -/
theorem q_at (x : Vec Ideal S512x256 .f32) (r : Fin 512) (c : Fin 256) :
    k0_pay74 x (ix2 r c) = x (ix2 r c) * (qs : EReal) := by
  pointwise [k0_pay74]
  rw [qscale_eq]

/-- A head's result: its weighted sum over the sum of the weights, which is row 64. -/
theorem out_at (x : Vec Ideal S128x256 .f32) (r : Fin 256) (c : Fin 128) :
    k0_pay89 x (ix2 r c) = Ideal.div (x (ix2 c r)) (x (ix2 (64 : Fin 128) r)) := by
  pointwise [k0_pay89]

/-! ## The state before the first tile -/

/-- The running maximum starts from negative infinity. -/
theorem m₀_at (c : Fin 1024) : (k0_pay75 : FVec Ideal S1x1024 .f32) (ix2 (0 : Fin 1) c) = (⊥ : EReal) := by
  pointwise [k0_pay75]
  exact mask_eq
/-- The accumulator starts from zero. -/
theorem a₀_at (r : Fin 128) (c : Fin 256) : (k0_pay76 : FVec Ideal S128x256 .f32) (ix2 r c) = (0 : EReal) := by
  pointwise [k0_pay76]
/-- The accumulator starts from zero. -/
theorem b₀_at (r : Fin 128) (c : Fin 256) : (k0_pay77 : FVec Ideal S128x256 .f32) (ix2 r c) = (0 : EReal) := by
  pointwise [k0_pay77]
/-- The accumulator starts from zero. -/
theorem d₀_at (r : Fin 128) (c : Fin 256) : (k0_pay78 : FVec Ideal S128x256 .f32) (ix2 r c) = (0 : EReal) := by
  pointwise [k0_pay78]
/-- The accumulator starts from zero. -/
theorem e₀_at (r : Fin 128) (c : Fin 256) : (k0_pay79 : FVec Ideal S128x256 .f32) (ix2 r c) = (0 : EReal) := by
  pointwise [k0_pay79]

end Cert.MlaIdeal.Run

end
-- ==== Proof.MlaSoft.lean ====
/- A softmax-weighted sum taken tile by tile, over the extended reals. -/
module

public import Idealize.ShloMosaic.Lib.Pointwise

@[expose] public section

noncomputable section

namespace Cert.Mla.Soft

open scoped BigOperators
open Idealize.ShloMosaic

/-! ## Extended reals: what is used of them -/

/-- A non-negative real distributes over a sum of extended reals. -/
theorem pos_mul_add {r : ℝ} (hr : 0 ≤ r) (x y : EReal) : (r : EReal) * (x + y) = r * x + r * y :=
  EReal.left_distrib_of_nonneg_of_ne_top (EReal.coe_nonneg.2 hr) (EReal.coe_ne_top r) x y

/-- A nonnegative real goes into a sum. -/
theorem mul_sum_nonneg {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, pos_mul_add hr, ih]

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight a logit has against a real maximum. -/
def wt (x : EReal) (μ : ℝ) : ℝ := match x with
  | ⊥ => 0
  | ⊤ => 0
  | (r : ℝ) => Real.rpow 2 (r - μ)

/-- A plain fact about the weight. -/
theorem wt_nonneg (x : EReal) (μ : ℝ) : 0 ≤ wt x μ := by
  induction x using EReal.rec with
  | bot => exact le_refl _
  | top => exact le_refl _
  | coe r => exact (Real.rpow_pos_of_pos (by norm_num) _).le

/-- A plain fact about the weight. -/
theorem wt_coe (r μ : ℝ) : wt (r : EReal) μ = Real.rpow 2 (r - μ) := rfl
/-- A plain fact about the weight. -/
theorem wt_bot (μ : ℝ) : wt ⊥ μ = 0 := rfl

/-- The power of two the kernel takes is the weight. -/
theorem exp2_sub (x : EReal) (hx : x ≠ ⊤) (μ : ℝ) : Ideal.exp2 (x - μ) = (wt x μ : EReal) := by
  induction x using EReal.rec with
  | bot => simp [wt_bot, Ideal.exp2_bot]
  | top => exact absurd rfl hx
  | coe r => rw [← EReal.coe_sub, Ideal.exp2_coe, wt_coe]

/-- A change of maximum rescales the weight. -/
theorem wt_change (x : EReal) (μ ν : ℝ) : wt (μ : EReal) ν * wt x μ = wt x ν := by
  induction x using EReal.rec with
  | bot => simp [wt_bot]
  | top => show _ * (0 : ℝ) = 0; simp
  | coe r =>
    rw [wt_coe, wt_coe, wt_coe]
    show (2 : ℝ) ^ (μ - ν) * (2 : ℝ) ^ (r - μ) = (2 : ℝ) ^ (r - ν)
    rw [← Real.rpow_add (by norm_num)]
    congr 1; ring

/-- The maximum of a tile and of what came before, real where a logit of the tile is and none is infinite. -/
theorem fold_real {n : ℕ} (b : EReal) (hb : b ≠ ⊤) (m : EReal) (hm : m ≠ ⊤) (x : Fin n → EReal) (hx : ∀ i, x i ≠ ⊤) (hne : ∃ i, x i ≠ ⊥) :
    ∃ μ : ℝ, max m (Finset.fold max b x Finset.univ) = (μ : EReal) := by
  have ht : Finset.fold max b x Finset.univ < ⊤ :=
    (Finset.fold_max_lt _).2 ⟨lt_top_iff_ne_top.2 hb, fun i _ => lt_top_iff_ne_top.2 (hx i)⟩
  have hl : ⊥ < Finset.fold max b x Finset.univ := by
    obtain ⟨i, hi⟩ := hne
    exact (Finset.lt_fold_max _).2 (.inr ⟨i, Finset.mem_univ i, bot_lt_iff_ne_bot.2 hi⟩)
  have h1 : max m (Finset.fold max b x Finset.univ) < ⊤ := max_lt (lt_top_iff_ne_top.2 hm) ht
  have h2 : ⊥ < max m (Finset.fold max b x Finset.univ) := lt_of_lt_of_le hl (le_max_right _ _)
  exact ⟨_, (EReal.coe_toReal h1.ne h2.ne').symm⟩

/-- What is held of a column and a row after `N` keys: no key yet, or a real maximum and the keys' values by their
weights against it. -/
def Held (x v : ℕ → EReal) (N : ℕ) (m a : EReal) : Prop :=
  (N = 0 ∧ m = ⊥ ∧ a = 0) ∨ ∃ μ : ℝ, m = μ ∧ a = ∑ p ∈ Finset.range N, v p * (wt (x p) μ : EReal)

/-- One tile: the maximum moves, the sum is rescaled, the tile's keys are added. -/
theorem held_step (x v : ℕ → EReal) (N n : ℕ) (m a m' : EReal) (hx : ∀ p, x p ≠ ⊤) {b : EReal} (hb : b ≠ ⊤) (s : Fin n → EReal)
    (hs : ∀ k, s k = x (N + k.val)) (hne : ∃ k, s k ≠ ⊥)
    (hm' : m' = max m (Finset.fold max b s Finset.univ)) (V : Fin n → EReal) (hV : ∀ k, V k = v (N + k.val)) (h : Held x v N m a) :
    ∃ μ : ℝ, m' = μ ∧ Ideal.exp2 (m - m') * a + ∑ k, V k * Ideal.exp2 (s k - m')
      = ∑ p ∈ Finset.range (N + n), v p * (wt (x p) μ : EReal) := by
  have hmt : m ≠ ⊤ := by
    rcases h with ⟨-, h, -⟩ | ⟨μ, h, -⟩ <;> rw [h]
    · exact bot_ne_top
    · exact EReal.coe_ne_top μ
  obtain ⟨ν, hν⟩ := fold_real b hb m hmt s (fun k => by rw [hs]; exact hx _) hne
  refine ⟨ν, hm'.trans hν, ?_⟩
  rw [hm'.trans hν, Finset.sum_range_add]
  have ht : ∑ k, V k * Ideal.exp2 (s k - (ν : EReal)) = ∑ p ∈ Finset.range n, v (N + p) * (wt (x (N + p)) ν : EReal) := by
    rw [Finset.sum_range]
    refine Finset.sum_congr rfl fun k _ => ?_
    rw [hV, hs, exp2_sub _ (hx _)]
  rw [ht]
  congr 1
  rcases h with ⟨h0, h1, h2⟩ | ⟨μ, h1, h2⟩
  · rw [h0, h2, mul_zero]; rfl
  · rw [h1, h2, exp2_sub _ (EReal.coe_ne_top μ), mul_sum_nonneg _ (wt_nonneg _ _)]
    refine Finset.sum_congr rfl fun p _ => ?_
    rw [← wt_change (x p) μ ν, EReal.coe_mul, mul_left_comm]

/-! ## The quotient does not depend on the maximum -/

/-- Weighted sum over the sum of the weights, whatever positive factor the weights share. -/
theorem quot_eq {ι : Type} (s : Finset ι) (v : ι → EReal) (w e : ι → ℝ) (c : ℝ) (hc : 0 < c) (hw : ∀ i ∈ s, w i = c * e i) (he : ∀ i ∈ s, 0 ≤ e i)
    (hpos : 0 < ∑ i ∈ s, e i) :
    Ideal.div (∑ i ∈ s, v i * (w i : EReal)) (∑ i ∈ s, (w i : EReal)) = ∑ i ∈ s, v i * ((e i / ∑ j ∈ s, e j : ℝ) : EReal) := by
  have hL : ∑ i ∈ s, (w i : EReal) = ((c * ∑ i ∈ s, e i : ℝ) : EReal) := by
    rw [← coe_sum, Finset.mul_sum]; exact congrArg _ (Finset.sum_congr rfl hw)
  have hne : (c * ∑ i ∈ s, e i) ≠ 0 := (mul_pos hc hpos).ne'
  rw [hL]
  unfold Ideal.div
  rw [if_neg (by rw [← EReal.coe_zero]; exact fun h => hne (EReal.coe_injective h)), ← EReal.coe_inv, mul_comm,
    mul_sum_nonneg _ (inv_nonneg.2 (mul_pos hc hpos).le)]
  refine Finset.sum_congr rfl fun i hi => ?_
  rw [mul_left_comm, ← EReal.coe_mul, hw i hi]
  congr 2
  field_simp

end Cert.Mla.Soft

end
-- ==== Proof.MlaOut.lean ====
/- What the attention kernel leaves in a block of its result: each query's softmax-weighted sum of the values. -/
module

public import proofs.«01_k».proof.Proof.MlaPoint
public import proofs.«01_k».proof.Proof.MlaSoft

@[expose] public section

set_option maxRecDepth 16384

noncomputable section

namespace Cert.MlaIdeal.Run

open scoped BigOperators
open Cert.MlaIdeal Cert.MlaIdeal.Gen
open Idealize.ShloMosaic
open Idealize.ShloMosaic.TcCoe Idealize.ShloMosaic.Tactic
open Cert.Mla.Soft

/-- The column of head `h`'s query `c`. -/
def col (h : Fin 4) (c : Fin 256) : Fin 1024 := ⟨256 * h.val + c.val, by omega⟩
/-- Lane `w` of head `h`. -/
def slot (h : Fin 4) (w : Fin 128) : Fin 512 := ⟨128 * h.val + w.val, by omega⟩

/-- The head's weighted sum in a state. -/
def St.acc (t : St Ideal) (h : Fin 4) : Vec Ideal S128x256 .f32 := match h with
  | 0 => t.a
  | 1 => t.b
  | 2 => t.d
  | 3 => t.e

/-- The columns of a head among those of all four. -/
theorem col_zero (c : Fin 256) : col 0 c = ⟨c.val, by omega⟩ := Fin.ext (by show 256 * 0 + c.val = c.val; omega)
/-- The columns of a head among those of all four. -/
theorem slot_zero (w : Fin 128) : slot 0 w = ⟨w.val, by omega⟩ := Fin.ext (by show 128 * 0 + w.val = w.val; omega)

/-- An entry of a tile of logits: the sum of products of key and query. -/
theorem lg_at (q : FVec Ideal S512x256 .bf16) (K : Vec Ideal S256x512 .bf16) (h : Fin 4) (r c : Fin 256) :
    lg q K (ix2 r (col h c)) = (∑ w : Fin 128, K (ix2 r (slot h w)) * q (ix2 (slot h w) c) : EReal) := by
  match h with
  | 0 =>
    rw [col_zero]
    simp only [slot_zero]
    exact lg0_at q K r c
  | 1 => exact lg1_at q K r c
  | 2 => exact lg2_at q K r c
  | 3 => exact lg3_at q K r c

/-- The column's maximum after a tile. -/
theorem consume_m (V : Fin 4 → Vec Ideal S128x256 .bf16) (s : Vec Ideal S256x1024 .f32) (t : St Ideal) (c : Fin 1024) :
    (consume V s t).m (ix2 (0 : Fin 1) c)
      = (max (t.m (ix2 (0 : Fin 1) c) : EReal) (Finset.fold max (Ideal.ofBits .f32 0xFF800000#32) (fun r : Fin 256 => s (ix2 r c)) Finset.univ) : EReal) :=
  (max'_at _ c).trans (max_at s t.m c)

/-- The head's weighted sum after a tile. -/
theorem consume_acc (V : Fin 4 → Vec Ideal S128x256 .bf16) (s : Vec Ideal S256x1024 .f32) (t : St Ideal) (h : Fin 4) (r : Fin 128) (c : Fin 256) :
    (consume V s t).acc h (ix2 r c)
      = (Ideal.exp2 ((t.m (ix2 (0 : Fin 1) (col h c)) : EReal) - (consume V s t).m (ix2 (0 : Fin 1) (col h c))) * t.acc h (ix2 r c)
        + ∑ k : Fin 256, V h (ix2 r k) * Ideal.exp2 ((s (ix2 k (col h c)) : EReal) - (consume V s t).m (ix2 (0 : Fin 1) (col h c))) : EReal) := by
  rw [show (consume V s t).m (ix2 (0 : Fin 1) (col h c)) = k0_pay5 s t.m (ix2 (0 : Fin 1) (col h c)) from max'_at (k0_pay5 s t.m) _]
  match h with
  | 0 =>
    rw [col_zero]
    exact acc0_at s t.m t.a (V 0) r c
  | 1 => exact acc1_at s t.m t.b (V 1) r c
  | 2 => exact acc2_at s t.m t.d (V 2) r c
  | 3 => exact acc3_at s t.m t.e (V 3) r c

/-- The accumulators start from zero. -/
theorem st₀_acc (h : Fin 4) (r : Fin 128) (c : Fin 256) : (st₀ : St Ideal).acc h (ix2 r c) = (0 : EReal) := by
  match h with
  | 0 => exact a₀_at r c
  | 1 => exact b₀_at r c
  | 2 => exact d₀_at r c
  | 3 => exact e₀_at r c

section column

variable (q : FVec Ideal S512x256 .bf16) (K : Vec Ideal S8192x512 .bf16) (V : Vec Ideal S512x8192 .bf16) (h : Fin 4) (c : Fin 256)

/-- Key `p`'s logit against the column's query. -/
def logit (p : ℕ) : EReal := ∑ w : Fin 128, K (ix2 (⟨p % 8192, Nat.mod_lt _ (by decide)⟩ : Fin 8192) (slot h w)) * q (ix2 (slot h w) c)
/-- Row `r` of the head's values at key `p`. -/
def val (r : Fin 128) (p : ℕ) : EReal := V (ix2 (slot h r) (⟨p % 8192, Nat.mod_lt _ (by decide)⟩ : Fin 8192))
/-- The logit where the key is not after query `T`, and nothing where it is. -/
def masked (T : ℕ) (p : ℕ) : EReal := if p ≤ T then logit q K h c p else ⊥

/-- An entry of a tile of logits: the sum of products of key and query. -/
theorem lg_tile (j : ℕ) (k : Fin 256) : lg q (kT K j) (ix2 k (col h c)) = logit q K h c (256 * j + k.val) := by
  rw [lg_at]
  rfl

/-- An entry of a tile of values. -/
theorem val_tile (r : Fin 128) (j : ℕ) (k : Fin 256) : vT V j h (ix2 r k) = val V h r (256 * j + k.val) := rfl

variable (hfin : ∀ p, logit q K h c p ≠ ⊤ ∧ logit q K h c p ≠ ⊥)
include hfin

/-- It is not positive infinity. -/
theorem masked_ne (T p : ℕ) : masked q K h c T p ≠ ⊤ := by
  unfold masked
  split
  · exact (hfin p).1
  · exact bot_ne_top

/-- It is not positive infinity. -/
theorem ninf_ne : (Ideal.ofBits .f32 0xFF800000#32 : EReal) ≠ ⊤ := by
  simp [Ideal.ofBits, Ideal.ieee]

/-- After `j` whole tiles, all before the query, the state holds the keys so far. -/
theorem stN_held (T : ℕ) (r : Fin 128) (j : ℕ) (hj : 256 * j ≤ T) :
    Held (masked q K h c T) (val V h r) (256 * j) ((stN q K V j).m (ix2 (0 : Fin 1) (col h c))) ((stN q K V j).acc h (ix2 r c)) := by
  induction j with
  | zero => exact .inl ⟨rfl, m₀_at (col h c), st₀_acc h r c⟩
  | succ j ih =>
    have hs : ∀ k : Fin 256, lg q (kT K j) (ix2 k (col h c)) = masked q K h c T (256 * j + k.val) := fun k => by
      rw [lg_tile, masked, if_pos (by omega)]
    refine .inr ?_
    obtain ⟨μ, h1, h2⟩ := held_step (masked q K h c T) (val V h r) (256 * j) 256 _ _
      ((stN q K V (j + 1)).m (ix2 (0 : Fin 1) (col h c))) (masked_ne q K h c hfin T) (ninf_ne q K h c hfin)
      (fun k => lg q (kT K j) (ix2 k (col h c))) hs ⟨0, by rw [lg_tile]; exact (hfin _).2⟩
      (consume_m _ _ _ _) (fun k => vT V j h (ix2 r k)) (val_tile V h r j) (ih (by omega))
    refine ⟨μ, h1, ?_⟩
    rw [Nat.mul_succ, ← h2]
    exact consume_acc _ _ _ h r c

/-- What the diagonal's tile leaves: a real maximum, and the values by the weights of the keys up to the query. -/
theorem stF_held (n : ℕ) :
    ∃ μ : ℝ, ∀ r : Fin 128, (stF q K V n).acc h (ix2 r c)
      = (∑ p ∈ Finset.range (256 * n + 256), val V h r p * (wt (masked q K h c (256 * n + c.val) p) μ : EReal) : EReal) := by
  have hs : ∀ k : Fin 256, msk (lg q (kT K n)) (ix2 k (col h c)) = masked q K h c (256 * n + c.val) (256 * n + k.val) := fun k => by
    rw [msk_at, lg_tile, masked]
    have : (col h c).val % 256 = c.val := by show (256 * h.val + c.val) % 256 = c.val; omega
    rw [this]
    by_cases hk : k.val ≤ c.val
    · rw [if_pos hk, if_pos (by omega)]
    · rw [if_neg hk, if_neg (by omega)]
  have step : ∀ r : Fin 128, ∃ μ : ℝ, (stF q K V n).m (ix2 (0 : Fin 1) (col h c)) = (μ : EReal) ∧ (stF q K V n).acc h (ix2 r c)
      = (∑ p ∈ Finset.range (256 * n + 256), val V h r p * (wt (masked q K h c (256 * n + c.val) p) μ : EReal) : EReal) := fun r => by
    obtain ⟨μ, h1, h2⟩ := held_step (masked q K h c (256 * n + c.val)) (val V h r) (256 * n) 256 _ _
      ((stF q K V n).m (ix2 (0 : Fin 1) (col h c))) (masked_ne q K h c hfin _) (ninf_ne q K h c hfin)
      (fun k => msk (lg q (kT K n)) (ix2 k (col h c))) hs
      ⟨0, by rw [hs, masked, if_pos (by show 256 * n + 0 ≤ _; omega)]; exact (hfin _).2⟩
      (consume_m _ _ _ _) (fun k => vT V n h (ix2 r k)) (val_tile V h r n) (stN_held q K V h c hfin _ r n (by omega))
    exact ⟨μ, h1, (consume_acc _ _ _ h r c).trans h2⟩
  obtain ⟨μ, h1, -⟩ := step 0
  refine ⟨μ, fun r => ?_⟩
  obtain ⟨ν, g1, g2⟩ := step r
  rw [h1] at g1
  rw [g2, EReal.coe_injective g1]

/-- The head's quotient, the sum of the weights read off row 64, where the values hold one. -/
theorem stF_out (hone : ∀ p, val V h 64 p = 1) (n : ℕ) (r : Fin 128) :
    Ideal.div ((stF q K V n).acc h (ix2 r c)) ((stF q K V n).acc h (ix2 (64 : Fin 128) c))
      = ∑ p ∈ Finset.range (256 * n + 256), val V h r p
        * ((wt (masked q K h c (256 * n + c.val) p) 0 / ∑ j ∈ Finset.range (256 * n + 256), wt (masked q K h c (256 * n + c.val) j) 0 : ℝ) : EReal) := by
  obtain ⟨μ, hμ⟩ := stF_held q K V h c hfin n
  rw [hμ r, hμ 64]
  have h1 : (∑ p ∈ Finset.range (256 * n + 256), val V h 64 p * (wt (masked q K h c (256 * n + c.val) p) μ : EReal) : EReal)
      = ∑ p ∈ Finset.range (256 * n + 256), (wt (masked q K h c (256 * n + c.val) p) μ : EReal) :=
    Finset.sum_congr rfl fun p _ => by rw [hone, one_mul]
  rw [h1]
  refine quot_eq _ _ _ _ (wt ((0 : ℝ) : EReal) μ) (Real.rpow_pos_of_pos (by norm_num) _) (fun i _ => (wt_change _ 0 μ).symm) (fun i _ => wt_nonneg _ _) ?_
  refine Finset.sum_pos' (fun i _ => wt_nonneg _ _) ⟨0, by simp, ?_⟩
  rw [masked, if_pos (Nat.zero_le _)]
  obtain ⟨a, ha⟩ : ∃ a : ℝ, logit q K h c 0 = a := ⟨_, (EReal.coe_toReal (hfin 0).1 (hfin 0).2).symm⟩
  rw [ha]
  exact Real.rpow_pos_of_pos (by norm_num) _

end column

/-- The result block at a query's lane. -/
theorem outOf_at (t : St Ideal) (h : Fin 4) (c : Fin 256) (d : Fin 128) :
    outOf t (ix2 c (slot h d)) = (Ideal.div (t.acc h (ix2 d c)) (t.acc h (ix2 (64 : Fin 128) c)) : EReal) := by
  have e : ∀ (x : Vec Ideal S128x256 .f32), k0_pay89 x (ix2 (⟨c.val, c.isLt⟩ : Fin 256) (⟨(slot h d).val % 128, Nat.mod_lt _ (by decide)⟩ : Fin 128))
      = Ideal.div (x (ix2 d c)) (x (ix2 (64 : Fin 128) c)) := fun x => by
    rw [show (⟨(slot h d).val % 128, Nat.mod_lt _ (by decide)⟩ : Fin 128) = d from Fin.ext (by show (128 * h.val + d.val) % 128 = d.val; omega)]
    exact out_at x c d
  have hd := d.isLt
  show (if (slot h d).val < 128 then _ else if (slot h d).val < 256 then _ else if (slot h d).val < 384 then _ else _) = _
  have hs : (slot h d).val = 128 * h.val + d.val := rfl
  match h with
  | 0 => rw [if_pos (by rw [hs]; show 128 * 0 + _ < _; omega)]; exact e t.a
  | 1 => rw [if_neg (by rw [hs]; show ¬ 128 * 1 + _ < _; omega), if_pos (by rw [hs]; show 128 * 1 + _ < _; omega)]; exact e t.b
  | 2 => rw [if_neg (by rw [hs]; show ¬ 128 * 2 + _ < _; omega), if_neg (by rw [hs]; show ¬ 128 * 2 + _ < _; omega), if_pos (by rw [hs]; show 128 * 2 + _ < _; omega)]; exact e t.d
  | 3 => rw [if_neg (by rw [hs]; show ¬ 128 * 3 + _ < _; omega), if_neg (by rw [hs]; show ¬ 128 * 3 + _ < _; omega), if_neg (by rw [hs]; show ¬ 128 * 3 + _ < _; omega)]; exact e t.e

end Cert.MlaIdeal.Run

end
-- ==== Proof.MlaRun.lean ====
module

public import proofs.«01_k».proof.Proof.Gen.MlaIdeal.Frame
public import proofs.«01_k».proof.Proof.Gen.MlaIdeal.Skeleton
public import proofs.«01_k».proof.Proof.Gen.MlaIdeal.Loops
public import proofs.«01_k».proof.Proof.MlaState
public import Idealize.ShloMosaic.Lib.Tactic
public import Idealize.ShloMosaic.Lib.LoopRemainder
public import Idealize.ShloMosaic.Lib.WholeRead
public import Idealize.ShloMosaic.Lib.VecWindow

@[expose] public section

set_option maxRecDepth 16384

noncomputable section

namespace Cert.MlaIdeal.Run

open Cert.MlaIdeal Cert.MlaIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

/-- The program has one variant. -/
abbrev 𝒱₀ : Variants := Variants.none

/-- What the loop's buffers hold before trip `k`: the two blocks it reads, the logits of tile `2 k` and the state after `2 k` tiles. -/
abbrev inv (c : Dev nD) (i : grid0.Coords) (arg2 : Memref sig .tc .vmem S512x256 .f32) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (q : FVec F S512x256 .bf16) (x3 : Vec F S8192x512 .bf16) (x4 : Vec F S512x8192 .bf16)
     (k : ℕ) : sProp 𝕄 :=
  iprop((arg3.view.loc (c : Thread nD τ) ↦{fullShare} harg3.unread x3) ∗ (arg4.view.loc (c : Thread nD τ) ↦{fullShare} harg4.unread x4) ∗ (arg6.view.loc (c : Thread nD τ) ↦{fullShare} harg6.unread (lg q (kT x3 (2 * k)))) ∗ (∃ f, (arg7.view.loc (c : Thread nD τ) ↦{fullShare} f))
    ∗ (arg8.view.loc (c : Thread nD τ) ↦{fullShare} harg8.unread (stN q x3 x4 (2 * k)).m) ∗ (arg9.view.loc (c : Thread nD τ) ↦{fullShare} harg9.unread (stN q x3 x4 (2 * k)).a) ∗ (arg10.view.loc (c : Thread nD τ) ↦{fullShare} harg10.unread (stN q x3 x4 (2 * k)).b)
    ∗ (arg11.view.loc (c : Thread nD τ) ↦{fullShare} harg11.unread (stN q x3 x4 (2 * k)).d) ∗ (arg12.view.loc (c : Thread nD τ) ↦{fullShare} harg12.unread (stN q x3 x4 (2 * k)).e))

/-- A load of a whole view just stored whole. -/
theorem readCov_1 {κ' : Kind} {sp : Space} {s : Shape} {el : EltTy} (v : View sig κ' sp s el) {off off' : Fin s.rank → ℕ}
    (inb : ∀ a, off a + s.size a ≤ s.size a) (inb' : ∀ a, off' a + s.size a ≤ s.size a)
    (w : (Rect.unit off' s.size inb').shape.Idx → Elt F el) (L : List (View.Piece (Elt F) s el)) :
    v.readCov (⟨Rect.unit off' s.size inb', w⟩ :: L) (Rect.unit off s.size inb).toLoadRect = w := View.readCov_full v inb inb' w L

/-- One trip from any contents: the second tile's logits, two tiles consumed, the third tile's logits. -/
theorem trip (c : Dev nD) (i : grid0.Coords) (arg2 : Memref sig .tc .vmem S512x256 .f32) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (q : FVec F S512x256 .bf16) (v25 : BitVec 32) (v29 : FVec F S256x512 .bf16) (v30 : FVec F S256x128 .bf16) (v31 : FVec F S128x256 .bf16)
    (k : Fin (k0_t1_loop i).trips) (x3 : Vec F S8192x512 .bf16) (x4 : Vec F S512x8192 .bf16)
    (s : Vec F S256x1024 .f32) (t : St F) (f7 : arg7.view.ty.Contents (Elt F)) :
    iprop((arg3.view.loc (c : Thread nD τ) ↦{fullShare} harg3.unread x3) ∗ (arg4.view.loc (c : Thread nD τ) ↦{fullShare} harg4.unread x4) ∗ (arg6.view.loc (c : Thread nD τ) ↦{fullShare} harg6.unread s) ∗ (arg7.view.loc (c : Thread nD τ) ↦{fullShare} f7) ∗ (arg8.view.loc (c : Thread nD τ) ↦{fullShare} harg8.unread t.m)
      ∗ (arg9.view.loc (c : Thread nD τ) ↦{fullShare} harg9.unread t.a) ∗ (arg10.view.loc (c : Thread nD τ) ↦{fullShare} harg10.unread t.b) ∗ (arg11.view.loc (c : Thread nD τ) ↦{fullShare} harg11.unread t.d) ∗ (arg12.view.loc (c : Thread nD τ) ↦{fullShare} harg12.unread t.e))
    ⊢ (wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 q v25 v29 v30 v31 k ())
       (fun _ => iprop((arg3.view.loc (c : Thread nD τ) ↦{fullShare} harg3.unread x3) ∗ (arg4.view.loc (c : Thread nD τ) ↦{fullShare} harg4.unread x4) ∗ (arg6.view.loc (c : Thread nD τ) ↦{fullShare} harg6.unread (lg q (kT x3 (2 * k.val + 2))))
         ∗ (∃ f, (arg7.view.loc (c : Thread nD τ) ↦{fullShare} f)) ∗ (arg8.view.loc (c : Thread nD τ) ↦{fullShare} harg8.unread (consume (vT x4 (2 * k.val + 1)) (lg q (kT x3 (2 * k.val + 1))) (consume (vT x4 (2 * k.val)) s t)).m) ∗ (arg9.view.loc (c : Thread nD τ) ↦{fullShare} harg9.unread (consume (vT x4 (2 * k.val + 1)) (lg q (kT x3 (2 * k.val + 1))) (consume (vT x4 (2 * k.val)) s t)).a) ∗ (arg10.view.loc (c : Thread nD τ) ↦{fullShare} harg10.unread (consume (vT x4 (2 * k.val + 1)) (lg q (kT x3 (2 * k.val + 1))) (consume (vT x4 (2 * k.val)) s t)).b)
         ∗ (arg11.view.loc (c : Thread nD τ) ↦{fullShare} harg11.unread (consume (vT x4 (2 * k.val + 1)) (lg q (kT x3 (2 * k.val + 1))) (consume (vT x4 (2 * k.val)) s t)).d) ∗ (arg12.view.loc (c : Thread nD τ) ↦{fullShare} harg12.unread (consume (vT x4 (2 * k.val + 1)) (lg q (kT x3 (2 * k.val + 1))) (consume (vT x4 (2 * k.val)) s t)).e))) : sProp 𝕄) := by
  unfold k0_t1_body
  sl_open_parts
  iintro ⟨H3, H4, H6, H7, H8, H9, H10, H11, H12⟩
  sl_exec
  sl_step
  sl_unfold_run_names
  simp only [writes_unread harg6, writes_unread harg8, writes_unread harg9, writes_unread harg10, writes_unread harg11, writes_unread harg12, readCov_1 arg7.view, readCov_1 arg8.view, readCov_1 arg9.view, readCov_1 arg10.view, readCov_1 arg11.view, readCov_1 arg12.view, readAt_unread_full harg6, readAt_unread_full harg8, readAt_unread_full harg9, readAt_unread_full harg10, readAt_unread_full harg11, readAt_unread_full harg12, Memref.IsWhole.read_unread, second_m, second_lg, second_a, second_b, second_d, second_e,
    read_kT harg3 x3 (2 * k.val + 1) _ (off1_1 i k), read_kT harg3 x3 (2 * k.val + 2) _ (off1_2 i k),
    read_vT harg4 x4 (2 * k.val) 0 _ (off2_e i k), read_vT harg4 x4 (2 * k.val) 1 _ (off3_e i k),
    read_vT harg4 x4 (2 * k.val) 2 _ (off4_e i k), read_vT harg4 x4 (2 * k.val) 3 _ (off5_e i k),
    read_vT harg4 x4 (2 * k.val + 1) 0 _ (off6_e i k), read_vT harg4 x4 (2 * k.val + 1) 1 _ (off7_e i k),
    read_vT harg4 x4 (2 * k.val + 1) 2 _ (off8_e i k), read_vT harg4 x4 (2 * k.val + 1) 3 _ (off9_e i k)]
  isplitl [H3]; · iexact H3
  isplitl [H4]; · iexact H4
  isplitl [H6]; · iexact H6
  isplitl [H7]; · iexists _; iexact H7
  isplitl [H8]; · iexact H8
  isplitl [H9]; · iexact H9
  isplitl [H10]; · iexact H10
  isplitl [H11]; · iexact H11
  iexact H12

set_option warn.classDefReducibility false in
/-- The loop's invariant, by one trip from each state. -/
@[sl_loop] def loopInv (c : Dev nD) (i : grid0.Coords) (arg2 : Memref sig .tc .vmem S512x256 .f32) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (q : FVec F S512x256 .bf16) (v25 : BitVec 32) (v29 : FVec F S256x512 .bf16) (v30 : FVec F S256x128 .bf16) (v31 : FVec F S128x256 .bf16)
    (x3 : Vec F S8192x512 .bf16) (x4 : Vec F S512x8192 .bf16)  :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 q v25 v29 v30 v31 where
  inv := fun k _ => inv c i arg2 harg2 arg3 harg3 arg4 harg4 arg5 harg5 arg6 harg6 arg7 harg7 arg8 harg8 arg9 harg9 arg10 harg10 arg11 harg11 arg12 harg12 q x3 x4 k
  step := fun k acc => by
    iintro ⟨H3, H4, H6, ⟨%f7, H7⟩, H8, H9, H10, H11, H12⟩
    iapply (wp_wand_r Idealize.ShloMosaic.frame (wpE (defs₀ (F := F)) 𝒱₀ (c : Thread nD τ) none) Set.univ)
    isplitl [H3 H4 H6 H7 H8 H9 H10 H11 H12]
    · iapply (trip c i arg2 harg2 arg3 harg3 arg4 harg4 arg5 harg5 arg6 harg6 arg7 harg7 arg8 harg8 arg9 harg9 arg10 harg10 arg11 harg11 arg12 harg12 q v25 v29 v30 v31 k x3 x4 (lg q (kT x3 (2 * k.val))) (stN q x3 x4 (2 * k.val)) f7)
      iframe
    · iintro %_ ⟨H3, H4, H6, ⟨%f7', H7⟩, H8, H9, H10, H11, H12⟩
      isplitl [H3]; · iexact H3
      isplitl [H4]; · iexact H4
      isplitl [H6]; · iexact H6
      isplitl [H7]; · iexists _; iexact H7
      isplitl [H8]; · iexact H8
      isplitl [H9]; · iexact H9
      isplitl [H10]; · iexact H10
      isplitl [H11]; · iexact H11
      iexact H12

end Cert.MlaIdeal.Run

end
-- ==== Proof.MlaBody.lean ====
module

public import proofs.«01_k».proof.Proof.Gen.MlaIdeal.Frame
public import proofs.«01_k».proof.Proof.Gen.MlaIdeal.Skeleton
public import proofs.«01_k».proof.Proof.Gen.MlaIdeal.Loops
public import proofs.«01_k».proof.Proof.MlaRun
public import Idealize.ShloMosaic.Lib.WritesUnit
public import Idealize.ShloMosaic.Lib.Tactic
public import Idealize.ShloMosaic.Lib.LoopRemainder
public import Idealize.ShloMosaic.Lib.WholeRead
public import Idealize.ShloMosaic.Lib.VecWindow

@[expose] public section

set_option maxRecDepth 16384

noncomputable section

namespace Cert.MlaIdeal.Run

open Cert.MlaIdeal Cert.MlaIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

set_option maxHeartbeats 2000000
theorem off0_e : (![0, 0] : Fin 2 → ℕ) = ![256 * 0, 0] := rfl

/-- The branch without a tile left over is taken at even tiles of queries. -/
theorem par_even : ∀ i : grid0.Coords, k0_cond1 i = 1#1 → (i 1).val % 2 = 0 := by decide +kernel
/-- The branch with one tile left over is taken at odd tiles of queries. -/
theorem par_odd : ∀ i : grid0.Coords, k0_cond2 i = 1#1 → (i 1).val % 2 = 1 := by decide +kernel

/-- A later block of queries' state, its last whole tile taken apart. -/
theorem stF_pred (q : FVec F S512x256 .bf16) (K : Vec F S8192x512 .bf16) (V : Vec F S512x8192 .bf16) (n : ℕ) (h : 0 < n) :
    stF q K V n = consume (vT V n) (msk (lg q (kT K n))) (consume (vT V (n - 1)) (lg q (kT K (n - 1))) (stN q K V (n - 1))) := by
  obtain ⟨n, rfl⟩ : ∃ k, n = k + 1 := ⟨n - 1, by omega⟩
  rfl

/-- The four stores of the result block, a head each, leave the block at `outOf`. -/
theorem out_eq {M : Memref sig .tc .vmem S256x512 .bf16} (h : M.IsWhole) (f : M.view.ty.Contents (Elt F)) (m : Vec F S1x1024 .f32)
    (a b d e : Vec F S128x256 .f32) (i0 i1 i2 i3) :
    M.view.writes (Elt F) f [⟨Rect.unit (s := S256x512) ![0, 384] S256x128.size i3, k0_pay3 e⟩, ⟨Rect.unit (s := S256x512) ![0, 256] S256x128.size i2, k0_pay2 d⟩,
      ⟨Rect.unit (s := S256x512) ![0, 128] S256x128.size i1, k0_pay1 b (k0_pay90 b)⟩, ⟨Rect.unit (s := S256x512) ![0, 0] S256x128.size i0, k0_pay89 a⟩]
      = h.unread (outOf ⟨m, a, b, d, e⟩) := by
  refine h.eq_unread (funext fun y => ?_)
  have hy0 : (y 0).val < 256 := (y 0).isLt
  have hy1 : (y 1).val < 512 := (y 1).isLt
  unfold outOf
  by_cases c1 : (y 1).val < 128
  · rw [if_pos c1]
    refine (View.read_writes_cons_unit_of_not_mem _ _ _ _ _ _ rfl 1 (.inl (by show (y 1).val < 384; omega))).trans ?_
    refine (View.read_writes_cons_unit_of_not_mem _ _ _ _ _ _ rfl 1 (.inl (by show (y 1).val < 256; omega))).trans ?_
    refine (View.read_writes_cons_unit_of_not_mem _ _ _ _ _ _ rfl 1 (.inl (by show (y 1).val < 128; omega))).trans ?_
    exact View.read_writes_cons_unit_of_mem _ _ _ _ _ _ _ rfl (fun q => by match q with | ⟨0, _⟩ => (show (y 0).val = 0 + (y 0).val; omega) | ⟨1, _⟩ => (show (y 1).val = 0 + (y 1).val % 128; omega))
  rw [if_neg c1]
  by_cases c2 : (y 1).val < 256
  · rw [if_pos c2]
    refine (View.read_writes_cons_unit_of_not_mem _ _ _ _ _ _ rfl 1 (.inl (by show (y 1).val < 384; omega))).trans ?_
    refine (View.read_writes_cons_unit_of_not_mem _ _ _ _ _ _ rfl 1 (.inl (by show (y 1).val < 256; omega))).trans ?_
    exact View.read_writes_cons_unit_of_mem _ _ _ _ _ _ _ rfl (fun q => by match q with | ⟨0, _⟩ => (show (y 0).val = 0 + (y 0).val; omega) | ⟨1, _⟩ => (show (y 1).val = 128 + (y 1).val % 128; omega))
  rw [if_neg c2]
  by_cases c3 : (y 1).val < 384
  · rw [if_pos c3]
    refine (View.read_writes_cons_unit_of_not_mem _ _ _ _ _ _ rfl 1 (.inl (by show (y 1).val < 384; omega))).trans ?_
    exact View.read_writes_cons_unit_of_mem _ _ _ _ _ _ _ rfl (fun q => by match q with | ⟨0, _⟩ => (show (y 0).val = 0 + (y 0).val; omega) | ⟨1, _⟩ => (show (y 1).val = 256 + (y 1).val % 128; omega))
  rw [if_neg c3]
  exact View.read_writes_cons_unit_of_mem _ _ _ _ _ _ _ rfl (fun q => by match q with | ⟨0, _⟩ => (show (y 0).val = 0 + (y 0).val; omega) | ⟨1, _⟩ => (show (y 1).val = 384 + (y 1).val % 128; omega))

/-- One point of the grid at an even tile of queries: the body ends and leaves the tile's result. -/
theorem run_even (c : Dev nD) (i : grid0.Coords) (arg2 : Memref sig .tc .vmem S512x256 .f32) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (hc1 : k0_cond1 i = 1#1) (hc2 : ¬ k0_cond2 i = 1#1)
    (x2 : Vec F S512x256 .f32) (x3 : Vec F S8192x512 .bf16) (x4 : Vec F S512x8192 .bf16) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (E : Set ℕ) (K : PUnit → sProp 𝕄) :
    iprop((arg2.view.loc (c : Thread nD τ) ↦{fullShare} harg2.unread x2) ∗ (arg3.view.loc (c : Thread nD τ) ↦{fullShare} harg3.unread x3) ∗ (arg4.view.loc (c : Thread nD τ) ↦{fullShare} harg4.unread x4)
      ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12)
      ∗ (iprop((arg2.view.loc (c : Thread nD τ) ↦{fullShare} harg2.unread x2) ∗ (arg3.view.loc (c : Thread nD τ) ↦{fullShare} harg3.unread x3) ∗ (arg4.view.loc (c : Thread nD τ) ↦{fullShare} harg4.unread x4)
        ∗ (arg5.view.loc (c : Thread nD τ) ↦{fullShare} harg5.unread (outOf (stF (k0_pay74 x2) x3 x4 (i 1).val)))
        ∗ (∃ f, (arg6.view.loc (c : Thread nD τ) ↦{fullShare} f)) ∗ (∃ f, (arg7.view.loc (c : Thread nD τ) ↦{fullShare} f)) ∗ (∃ f, (arg8.view.loc (c : Thread nD τ) ↦{fullShare} f)) ∗ (∃ f, (arg9.view.loc (c : Thread nD τ) ↦{fullShare} f)) ∗ (∃ f, (arg10.view.loc (c : Thread nD τ) ↦{fullShare} f)) ∗ (∃ f, (arg11.view.loc (c : Thread nD τ) ↦{fullShare} f)) ∗ (∃ f, (arg12.view.loc (c : Thread nD τ) ↦{fullShare} f))) -∗ K ⟨⟩))
      ⊢ wp frame (wpE (defs₀ (F := F)) 𝒱₀ (c : Thread nD τ) none) Set.univ (cc0_mla (F := F) i arg2 harg2 arg3 harg3 arg4 harg4 arg5 harg5 arg6 harg6 arg7 harg7 arg8 harg8 arg9 harg9 arg10 harg10 arg11 harg11 arg12 harg12) K := by
  iintro ⟨H2, H3, H4, H5, H6, H7, H8, H9, H10, H11, H12, Hk⟩
  have h2 : 2 * Scf.trips (k0_t1_loop i).lb (k0_t1_loop i).ub (k0_t1_loop i).st = (i 1).val := (congrArg (2 * ·) (trips_e i)).trans (by have := par_even i hc1; omega)
  sl_unfold [cc0_mla]
  sl_open_parts
  sl_exec
  rw [Prog.bind_assoc]
  sl_unfold_run_names
  rw [writes_unread harg6, writes_unread harg8, writes_unread harg9, writes_unread harg10, writes_unread harg11, writes_unread harg12, readAt_unread_full harg2 x2, read_kT harg3 x3 0 _ off0_e, first_lg]
  sl_exec
  rw [Prog.bind_assoc]
  sl_exec
  sl_unfold_run_names
  rw [h2]
  simp only [writes_unread harg6, writes_unread harg7, writes_unread harg8, writes_unread harg9, writes_unread harg10, writes_unread harg11, writes_unread harg12,
    readCov_1 arg6.view, readCov_1 arg7.view, readCov_1 arg8.view, readCov_1 arg9.view, readCov_1 arg10.view, readCov_1 arg11.view, readCov_1 arg12.view,
    readAt_unread_full harg6, readAt_unread_full harg7, readAt_unread_full harg8, readAt_unread_full harg9, readAt_unread_full harg10, readAt_unread_full harg11, readAt_unread_full harg12, read_vT harg4 x4 (i 1).val 0 _ (off19_e i), read_vT harg4 x4 (i 1).val 1 _ (off20_e i), read_vT harg4 x4 (i 1).val 2 _ (off21_e i), read_vT harg4 x4 (i 1).val 3 _ (off22_e i)]
  rw [out_eq harg5 _ (stF (k0_pay74 x2) x3 x4 (i 1).val).m]
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

/-- One point of the grid at an odd tile of queries: the body ends and leaves the tile's result. -/
theorem run_odd (c : Dev nD) (i : grid0.Coords) (arg2 : Memref sig .tc .vmem S512x256 .f32) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (hc1 : ¬ k0_cond1 i = 1#1) (hc2 : k0_cond2 i = 1#1)
    (x2 : Vec F S512x256 .f32) (x3 : Vec F S8192x512 .bf16) (x4 : Vec F S512x8192 .bf16) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (E : Set ℕ) (K : PUnit → sProp 𝕄) :
    iprop((arg2.view.loc (c : Thread nD τ) ↦{fullShare} harg2.unread x2) ∗ (arg3.view.loc (c : Thread nD τ) ↦{fullShare} harg3.unread x3) ∗ (arg4.view.loc (c : Thread nD τ) ↦{fullShare} harg4.unread x4)
      ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12)
      ∗ (iprop((arg2.view.loc (c : Thread nD τ) ↦{fullShare} harg2.unread x2) ∗ (arg3.view.loc (c : Thread nD τ) ↦{fullShare} harg3.unread x3) ∗ (arg4.view.loc (c : Thread nD τ) ↦{fullShare} harg4.unread x4)
        ∗ (arg5.view.loc (c : Thread nD τ) ↦{fullShare} harg5.unread (outOf (stF (k0_pay74 x2) x3 x4 (i 1).val)))
        ∗ (∃ f, (arg6.view.loc (c : Thread nD τ) ↦{fullShare} f)) ∗ (∃ f, (arg7.view.loc (c : Thread nD τ) ↦{fullShare} f)) ∗ (∃ f, (arg8.view.loc (c : Thread nD τ) ↦{fullShare} f)) ∗ (∃ f, (arg9.view.loc (c : Thread nD τ) ↦{fullShare} f)) ∗ (∃ f, (arg10.view.loc (c : Thread nD τ) ↦{fullShare} f)) ∗ (∃ f, (arg11.view.loc (c : Thread nD τ) ↦{fullShare} f)) ∗ (∃ f, (arg12.view.loc (c : Thread nD τ) ↦{fullShare} f))) -∗ K ⟨⟩))
      ⊢ wp frame (wpE (defs₀ (F := F)) 𝒱₀ (c : Thread nD τ) none) Set.univ (cc0_mla (F := F) i arg2 harg2 arg3 harg3 arg4 harg4 arg5 harg5 arg6 harg6 arg7 harg7 arg8 harg8 arg9 harg9 arg10 harg10 arg11 harg11 arg12 harg12) K := by
  iintro ⟨H2, H3, H4, H5, H6, H7, H8, H9, H10, H11, H12, Hk⟩
  have h2 : 2 * Scf.trips (k0_t1_loop i).lb (k0_t1_loop i).ub (k0_t1_loop i).st = (i 1).val - 1 := (congrArg (2 * ·) (trips_e i)).trans (by have := par_odd i hc2; omega)
  sl_unfold [cc0_mla]
  sl_open_parts
  sl_exec
  rw [Prog.bind_assoc]
  sl_unfold_run_names
  rw [writes_unread harg6, writes_unread harg8, writes_unread harg9, writes_unread harg10, writes_unread harg11, writes_unread harg12, readAt_unread_full harg2 x2, read_kT harg3 x3 0 _ off0_e, first_lg]
  sl_exec
  rw [Prog.bind_assoc]
  sl_exec
  sl_unfold_run_names
  rw [h2]
  simp only [writes_unread harg6, writes_unread harg7, writes_unread harg8, writes_unread harg9, writes_unread harg10, writes_unread harg11, writes_unread harg12,
    readCov_1 arg6.view, readCov_1 arg7.view, readCov_1 arg8.view, readCov_1 arg9.view, readCov_1 arg10.view, readCov_1 arg11.view, readCov_1 arg12.view,
    readAt_unread_full harg6, readAt_unread_full harg7, readAt_unread_full harg8, readAt_unread_full harg9, readAt_unread_full harg10, readAt_unread_full harg11, readAt_unread_full harg12, read_vT harg4 x4 (i 1).val 0 _ (off24_1 i), read_vT harg4 x4 ((i 1).val - 1) 0 _ (off24_2 i hc2), read_vT harg4 x4 (i 1).val 1 _ (off25_1 i), read_vT harg4 x4 ((i 1).val - 1) 1 _ (off25_2 i hc2), read_vT harg4 x4 (i 1).val 2 _ (off26_1 i), read_vT harg4 x4 ((i 1).val - 1) 2 _ (off26_2 i hc2), read_vT harg4 x4 (i 1).val 3 _ (off27_1 i), read_vT harg4 x4 ((i 1).val - 1) 3 _ (off27_2 i hc2), read_kT harg3 x3 (i 1).val _ (off23_e i)]
  rw [stF_pred (k0_pay74 x2) x3 x4 (i 1).val (by have := par_odd i hc2; omega)]
  rw [out_eq harg5 _ k0_pay75]
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.MlaIdeal.Run

end
-- ==== Proof.MlaFrame.lean ====
module

public import proofs.«01_k».proof.Proof.Gen.MlaIdeal.Frame
public import proofs.«01_k».proof.Proof.Gen.MlaIdeal.Skeleton
public import proofs.«01_k».proof.Proof.Gen.MlaIdeal.Loops
public import proofs.«01_k».proof.Proof.MlaBody
public import Idealize.ShloMosaic.Lib.Tactic
public import Idealize.ShloMosaic.Lib.LoopRemainder
public import Idealize.ShloMosaic.Lib.WholeRead
public import Idealize.ShloMosaic.Lib.VecWindow

@[expose] public section

set_option maxRecDepth 16384

noncomputable section

namespace Cert.MlaIdeal.Run

open Cert.MlaIdeal Cert.MlaIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-- One step of the grid on whole staging memrefs: the three blocks come back as they were, the result block holds what
the queries' block `i 1` ends with, and the scratch holds something. -/
theorem kernelRun (c : Dev nD) (i : grid0.Coords) (arg2 : Memref sig .tc .vmem S512x256 .f32) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole)
    (x2 : Vec F S512x256 .f32) (x3 : Vec F S8192x512 .bf16) (x4 : Vec F S512x8192 .bf16) (K : PUnit → sProp 𝕄) :
    iprop(owns (c : Thread nD τ) arg2 fullShare x2 ∗ owns (c : Thread nD τ) arg3 fullShare x3 ∗ owns (c : Thread nD τ) arg4 fullShare x4
      ∗ (∃ d, owns (c : Thread nD τ) arg5 fullShare d) ∗ (∃ f, (arg6.view.loc (c : Thread nD τ) ↦{fullShare} f)) ∗ (∃ f, (arg7.view.loc (c : Thread nD τ) ↦{fullShare} f)) ∗ (∃ f, (arg8.view.loc (c : Thread nD τ) ↦{fullShare} f)) ∗ (∃ f, (arg9.view.loc (c : Thread nD τ) ↦{fullShare} f)) ∗ (∃ f, (arg10.view.loc (c : Thread nD τ) ↦{fullShare} f)) ∗ (∃ f, (arg11.view.loc (c : Thread nD τ) ↦{fullShare} f)) ∗ (∃ f, (arg12.view.loc (c : Thread nD τ) ↦{fullShare} f))
      ∗ (iprop(owns (c : Thread nD τ) arg2 fullShare x2 ∗ owns (c : Thread nD τ) arg3 fullShare x3 ∗ owns (c : Thread nD τ) arg4 fullShare x4
        ∗ owns (c : Thread nD τ) arg5 fullShare (outOf (stF (k0_pay74 x2) x3 x4 (i 1).val)) ∗ (∃ f, (arg6.view.loc (c : Thread nD τ) ↦{fullShare} f)) ∗ (∃ f, (arg7.view.loc (c : Thread nD τ) ↦{fullShare} f)) ∗ (∃ f, (arg8.view.loc (c : Thread nD τ) ↦{fullShare} f)) ∗ (∃ f, (arg9.view.loc (c : Thread nD τ) ↦{fullShare} f)) ∗ (∃ f, (arg10.view.loc (c : Thread nD τ) ↦{fullShare} f)) ∗ (∃ f, (arg11.view.loc (c : Thread nD τ) ↦{fullShare} f)) ∗ (∃ f, (arg12.view.loc (c : Thread nD τ) ↦{fullShare} f))) -∗ K ⟨⟩))
      ⊢ wp frame (wpE (defs₀ (F := F)) 𝒱₀ (c : Thread nD τ) none) Set.univ (cc0_mla (F := F) i arg2 harg2 arg3 harg3 arg4 harg4 arg5 harg5 arg6 harg6 arg7 harg7 arg8 harg8 arg9 harg9 arg10 harg10 arg11 harg11 arg12 harg12) K := by
  unfold owns
  rw [harg2.set_eq_univ, harg3.set_eq_univ, harg4.set_eq_univ, harg5.set_eq_univ]
  iintro ⟨⟨%f2, %hf2, H2⟩, ⟨%f3, %hf3, H3⟩, ⟨%f4, %hf4, H4⟩, ⟨%d5, %f5, -, H5⟩, ⟨%f6, H6⟩, ⟨%f7, H7⟩, ⟨%f8, H8⟩, ⟨%f9, H9⟩, ⟨%f10, H10⟩, ⟨%f11, H11⟩, ⟨%f12, H12⟩, Hk⟩
  obtain rfl := harg2.eq_unread hf2; obtain rfl := harg3.eq_unread hf3; obtain rfl := harg4.eq_unread hf4
  rcases Nat.mod_two_eq_zero_or_one (i 1).val with hp | hp
  · iapply (run_even c i arg2 harg2 arg3 harg3 arg4 harg4 arg5 harg5 arg6 harg6 arg7 harg7 arg8 harg8 arg9 harg9 arg10 harg10 arg11 harg11 arg12 harg12 (cond_even i hp).1 (cond_even i hp).2 x2 x3 x4 f5 f6 f7 f8 f9 f10 f11 f12 Set.univ K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]; · iexact H8
    isplitl [H9]; · iexact H9
    isplitl [H10]; · iexact H10
    isplitl [H11]; · iexact H11
    iexact H12
  · iapply (run_odd c i arg2 harg2 arg3 harg3 arg4 harg4 arg5 harg5 arg6 harg6 arg7 harg7 arg8 harg8 arg9 harg9 arg10 harg10 arg11 harg11 arg12 harg12 (cond_odd i hp).1 (cond_odd i hp).2 x2 x3 x4 f5 f6 f7 f8 f9 f10 f11 f12 Set.univ K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]; · iexact H8
    isplitl [H9]; · iexact H9
    isplitl [H10]; · iexact H10
    isplitl [H11]; · iexact H11
    iexact H12

/-- What the body leaves in the result's staging buffer at a point. -/
def outsAt (c : Dev nD) (t : Fin cfg0.N) : Vec F S256x512 .bf16 :=
  outOf (stF (k0_pay74 (iblk m c 0 t)) (iblk m c 1 t) (iblk m c 2 t) (grid0.coords t 1).val)

/-- The arrays as the region finds them; after the body each input's buffer at its block and the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

/-- The arrays the pipeline starts from are those at the launch. -/
theorem A_eq (c : Dev nD) (w : Fin cfg0.W) : (dats m 0 c).A w = V m c (Pipeline.arrRef spec0 w) := rfl
/-- What a window holds after a step. -/
theorem after0_0 (c : Dev nD) (t : Fin cfg0.N) : (dats m 0 c).after 0 t = iblk m c 0 t := by dsimp only [dats]
/-- What a window holds after a step. -/
theorem after0_1 (c : Dev nD) (t : Fin cfg0.N) : (dats m 0 c).after 1 t = iblk m c 1 t := by dsimp only [dats]
/-- What a window holds after a step. -/
theorem after0_2 (c : Dev nD) (t : Fin cfg0.N) : (dats m 0 c).after 2 t = iblk m c 2 t := by dsimp only [dats]
/-- What a window holds after a step. -/
theorem after0_3 (c : Dev nD) (t : Fin cfg0.N) : (dats m 0 c).after 3 t = outsAt m c t := by dsimp only [dats]

/-- What a window holds before a step. -/
theorem before0_0 (c : Dev nD) (t : Fin cfg0.N) (d) : (dats m 0 c).before 0 t d = iblk m c 0 t :=
  before0_0_of m (dats m 0 c) (A_eq m c 0) (after0_0 m c) t d
/-- What a window holds before a step. -/
theorem before0_1 (c : Dev nD) (t : Fin cfg0.N) (d) : (dats m 0 c).before 1 t d = iblk m c 1 t :=
  before0_1_of m (dats m 0 c) (A_eq m c 1) (after0_1 m c) t d
/-- What a window holds before a step. -/
theorem before0_2 (c : Dev nD) (t : Fin cfg0.N) (d) : (dats m 0 c).before 2 t d = iblk m c 2 t :=
  before0_2_of m (dats m 0 c) (A_eq m c 2) (after0_2 m c) t d

/-- The class invariant opened: the seven scratch buffers at something, and the generator's register. -/
theorem phi_eq (c : Dev nD) : (Pipeline.ΦA (Val := Elt F) spec0 c : sProp 𝕄) = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f)) ∗ ∃ r, prngReg c r) := by
  unfold Pipeline.ΦA
  rw [scopedRest0_eq]

/-- Every step of the grid meets the pipeline's obligation. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3,
    show (dats m 0 c).Φ t.castSucc = Pipeline.ΦA spec0 c from rfl, phi_eq]
  unfold outsAt
  iintro ⟨⟨⟨G0, G1, G2, G3, G4, G5, G6⟩, Hr⟩, Ho, ⟨%d0, H0⟩, ⟨%d1, H1⟩, ⟨%d2, H2⟩, ⟨%d3, H3⟩⟩
  iapply (kernelRun c (grid0.coords t) _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [G0]; · iexact G0
  isplitl [G1]; · iexact G1
  isplitl [G2]; · iexact G2
  isplitl [G3]; · iexact G3
  isplitl [G4]; · iexact G4
  isplitl [G5]; · iexact G5
  isplitl [G6]; · iexact G6
  iintro ⟨H0, H1, H2, H3, G0, G1, G2, G3, G4, G5, G6⟩
  isplitl [G0 G1 G2 G3 G4 G5 G6 Hr]
  · isplitl [G0 G1 G2 G3 G4 G5 G6]
    · isplitl [G0]; · iexact G0
      isplitl [G1]; · iexact G1
      isplitl [G2]; · iexact G2
      isplitl [G3]; · iexact G3
      isplitl [G4]; · iexact G4
      isplitl [G5]; · iexact G5
      iexact G6
    iexact Hr
  isplitl [Ho]; · iexact Ho
  isplitl [H0]; · iexact H0
  isplitl [H1]; · iexact H1
  isplitl [H2]; · iexact H2
  iexact H3

set_option backward.isDefEq.respectTransparency.types false in
/-- Every run of the program ends, the pipeline's arrays as the proof data say, the host lines after the region done. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- Every run ends with the arguments as they were and no semaphore held. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_with_sems (frame_of m ρ (dats m) fun _ _ => rfl) (run_main (F := F) m ρ)

end Cert.MlaIdeal.Run

end
-- ==== Proof.MlaEnt.lean ====
/- The attention kernel's input arrays, as the launch finds them, in terms of the arguments. -/
module

public import proofs.«01_k».proof.Proof.MlaFrame
public import Idealize.ShloMosaic.Lib.Pointwise
public import Idealize.ShloMosaic.Lib.Pipeline.ValueKit

@[expose] public section

set_option maxRecDepth 16384

noncomputable section

namespace Cert.MlaIdeal.Run

open scoped BigOperators
open Cert.MlaIdeal Cert.MlaIdeal.Gen
open Idealize.ShloMosaic Idealize.SL.Sem
open Idealize.ShloMosaic.TcCoe Idealize.ShloMosaic.Tactic
open Idealize.ShloMosaic.Pipeline (Dat)

/-- Each head's 96 lanes, in slots of 128. -/
def padded (x : FVec Ideal S2x8192x4x96 .f32) : FVec Ideal S16384x512 .f32 :=
  shapeCast S16384x512 (pad S16384x4x128 ![0, 0, 0] ![0, 0, 32] ![0, 0, 0]
    (shapeCast S16384x4x96 (shapeCast S16384x384 x shapeCasts_S2x8192x4x96_S16384x384) shapeCasts_S16384x384_S16384x4x96)
    (sitofp (F := Ideal) .f32 (constantI S_ 32 0#32)) pads_S16384x4x96_S16384x4x128_000_000_0320 h_S_ : FVec Ideal S16384x4x128 .f32)
    shapeCasts_S16384x4x128_S16384x512

/-- The array the host hands to the kernel, from the arguments. -/
def qArr (a0 : FVec Ideal S2x8192x4x64 .f32) (a1 : FVec Ideal S2x8192x4x32 .f32) : FVec Ideal S512x16384 .f32 :=
  transpose S512x16384 [1, 0] (padded (concatenate S2x8192x4x96 3 [⟨S2x8192x4x64, a0⟩, ⟨S2x8192x4x32, a1⟩] concatenates_S2x8192x4x64_S2x8192x4x32_S2x8192x4x96_d3))
    transposes_S16384x512_S512x16384_1_0

/-- The array the host hands to the kernel, from the arguments. -/
def kArr (a2 : FVec Ideal S2x8192x4x64 .f32) (a3 : FVec Ideal S2x8192x32 .f32) : FVec Ideal S16384x512 .bf16 :=
  truncf .bf16 (padded (concatenate S2x8192x4x96 3 [⟨S2x8192x4x64, a2⟩, ⟨S2x8192x4x32, (broadcastInDim S2x8192x4x32 ![0, 1, 2, 3] bcast_S2x8192x1x32_S2x8192x4x32_0_1_2_3
      (broadcastInDim S2x8192x1x32 ![0, 1, 3] bcast_S2x8192x32_S2x8192x1x32_0_1_3 a3) : FVec Ideal S2x8192x4x32 .f32)⟩] concatenates_S2x8192x4x64_S2x8192x4x32_S2x8192x4x96_d3)) bitsLt_bf16_f32

variable (m : (ℓ : Loc nD τ sig) → Buf (Elt Ideal) ℓ)

/-- The array the launch finds is the one the host code prepares from the arguments. -/
theorem ent_q (c : Dev nD) : V m c main_v5 = qArr (m ((c : Thread nD τ).loc main_arg0)) (m ((c : Thread nD τ).loc main_arg1)) := by
  show StableHlo.after ([hostOps0, hostOps0_1, hostOps0_2, hostOps0_3, hostOps0_4, hostOps0_5, hostOps0_6, hostOps0_7, hostOps0_8, hostOps0_9, hostOps0_10].flatten) _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
    List.nil_append, StableHlo.TRef.binary, StableHlo.TRef.nullary, StableHlo.TRef.unary, StableHlo.TRef.ternary, StableHlo.TRef.toBuf,
    StableHlo.TRef.ofBuf, cast_eq]
  after_results_simp
  rfl

/-- The array the launch finds is the one the host code prepares from the arguments. -/
theorem ent_k (c : Dev nD) : V m c main_v13 = kArr (m ((c : Thread nD τ).loc main_arg2)) (m ((c : Thread nD τ).loc main_arg3)) := by
  show StableHlo.after ([hostOps0, hostOps0_1, hostOps0_2, hostOps0_3, hostOps0_4, hostOps0_5, hostOps0_6, hostOps0_7, hostOps0_8, hostOps0_9, hostOps0_10].flatten) _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
    List.nil_append, StableHlo.TRef.binary, StableHlo.TRef.nullary, StableHlo.TRef.unary, StableHlo.TRef.ternary, StableHlo.TRef.toBuf,
    StableHlo.TRef.ofBuf, cast_eq]
  after_results_simp
  rfl

/-- Zero converted from an integer. -/
theorem sitofp_z : ((((0#32 : BitVec 32).toInt : ℤ) : ℝ) : EReal) = 0 := by simp

/-- A slot's lane holds the head's lane, or zero past the 96 there are. -/
theorem padded_at (x : FVec Ideal S2x8192x4x96 .f32) (b : Fin 2) (t : Fin 8192) (h : Fin 4) (w : Fin 128) :
    padded x (ix2 (⟨b.val * 8192 + t.val, by omega⟩ : Fin 16384) (⟨128 * h.val + w.val, by omega⟩ : Fin 512))
      = if hw : w.val < 96 then x (ix4 b t h (⟨w.val, hw⟩ : Fin 96)) else (0 : EReal) := by
  pointwise [padded]
  by_cases hw : w.val < 96
  · rw [dif_pos ⟨by omega, hw⟩, dif_pos hw]
  · rw [dif_neg (fun h' => hw h'.2), dif_neg hw]
    exact sitofp_z

/-- The prepared queries: 64 lanes of one part, 32 of the other, zeros. -/
theorem qArr_at (a0 : FVec Ideal S2x8192x4x64 .f32) (a1 : FVec Ideal S2x8192x4x32 .f32) (b : Fin 2) (t : Fin 8192) (h : Fin 4) (w : Fin 128) :
    qArr a0 a1 (ix2 (⟨128 * h.val + w.val, by omega⟩ : Fin 512) (⟨b.val * 8192 + t.val, by omega⟩ : Fin 16384))
      = if hw : w.val < 64 then a0 (ix4 b t h (⟨w.val, hw⟩ : Fin 64)) else if hw' : w.val < 96 then a1 (ix4 b t h (⟨w.val - 64, by omega⟩ : Fin 32)) else (0 : EReal) := by
  pointwise [qArr]
  rw [padded_at]
  by_cases hw : w.val < 64
  · rw [dif_pos (by omega), dif_pos hw]
    pointwise []
    rw [dif_pos hw]
  · rw [dif_neg hw]
    by_cases hw' : w.val < 96
    · rw [dif_pos hw', dif_pos hw']
      pointwise []
      rw [dif_neg hw]
    · rw [dif_neg hw', dif_neg hw']

/-- The prepared keys: 64 lanes of the head's own, 32 lanes that the heads share, zeros. -/
theorem kArr_at (a2 : FVec Ideal S2x8192x4x64 .f32) (a3 : FVec Ideal S2x8192x32 .f32) (b : Fin 2) (t : Fin 8192) (h : Fin 4) (w : Fin 128) :
    kArr a2 a3 (ix2 (⟨b.val * 8192 + t.val, by omega⟩ : Fin 16384) (⟨128 * h.val + w.val, by omega⟩ : Fin 512))
      = if hw : w.val < 64 then a2 (ix4 b t h (⟨w.val, hw⟩ : Fin 64)) else if hw' : w.val < 96 then a3 (ix3 b t (⟨w.val - 64, by omega⟩ : Fin 32)) else (0 : EReal) := by
  pointwise [kArr]
  rw [padded_at]
  by_cases hw : w.val < 64
  · rw [dif_pos (by omega), dif_pos hw]
    pointwise []
    rw [dif_pos hw]
  · rw [dif_neg hw]
    by_cases hw' : w.val < 96
    · rw [dif_pos hw', dif_pos hw']
      pointwise []
      rw [dif_neg hw]
    · rw [dif_neg hw', dif_neg hw']

/-- The column's lane within its slot, as the host computes it. -/
def laneOf : IVec S16384x512 32 :=
  let d : IVec S_ 32 := select (cmpi .eq (id (constantI S_ 32 128#32)) (constantI S_ 32 0#32)) (constantI S_ 32 1#32) (id (constantI S_ 32 128#32))
  let q : IVec S16384x512 32 := Host.remsi (iotaInDim S16384x512 32 1) (broadcastInDim S16384x512 ![] bcast_S_S16384x512 d)
  select (andi (cmpi .ne (cmpi .slt q (broadcastInDim S16384x512 ![] bcast_S_S16384x512 (constantI S_ 32 0#32)))
      (broadcastInDim S16384x512 ![] bcast_S_S16384x512 (cmpi .slt d (constantI S_ 32 0#32))))
      (cmpi .ne q (broadcastInDim S16384x512 ![] bcast_S_S16384x512 (constantI S_ 32 0#32))))
    (addi q (broadcastInDim S16384x512 ![] bcast_S_S16384x512 d)) q

/-- The array the host hands to the kernel, from the arguments. -/
def vArr (a4 : FVec Ideal S2x8192x4x64 .f32) : FVec Ideal S512x16384 .bf16 :=
  truncf .bf16 (transpose S512x16384 [1, 0] (select (cmpi .eq laneOf (broadcastInDim S16384x512 ![] bcast_S_S16384x512 (constantI S_ 32 64#32)))
    (broadcastInDim S16384x512 ![] bcast_S_S16384x512 (id (constant (F := Ideal) S_ .f32 0x3F800000#32)))
    (shapeCast S16384x512 (pad S16384x4x128 ![0, 0, 0] ![0, 0, 64] ![0, 0, 0]
      (shapeCast S16384x4x64 (shapeCast S16384x256 a4 shapeCasts_S2x8192x4x64_S16384x256) shapeCasts_S16384x256_S16384x4x64)
      (sitofp (F := Ideal) .f32 (constantI S_ 32 0#32)) pads_S16384x4x64_S16384x4x128_000_000_0640 h_S_ : FVec Ideal S16384x4x128 .f32)
      shapeCasts_S16384x4x128_S16384x512) : FVec Ideal S16384x512 .f32)
    transposes_S16384x512_S512x16384_1_0) bitsLt_bf16_f32

/-- The array the launch finds is the one the host code prepares from the arguments. -/
theorem ent_v (c : Dev nD) : V m c main_v24 = vArr (m ((c : Thread nD τ).loc main_arg4)) := by
  show StableHlo.after ([hostOps0, hostOps0_1, hostOps0_2, hostOps0_3, hostOps0_4, hostOps0_5, hostOps0_6, hostOps0_7, hostOps0_8, hostOps0_9, hostOps0_10].flatten) _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
    List.nil_append, StableHlo.TRef.binary, StableHlo.TRef.nullary, StableHlo.TRef.unary, StableHlo.TRef.ternary, StableHlo.TRef.toBuf,
    StableHlo.TRef.ofBuf, cast_eq]
  after_results_simp
  rfl

/-- It is the remainder by 128. -/
theorem laneOf_at (n : Fin 16384) (k : Fin 512) : laneOf (ix2 n k) = BitVec.ofNat 32 (k.val % 128) := by
  pointwise [laneOf]
  clear n
  revert k
  decide +kernel

/-- The prepared values: the head's 64 rows, a row of ones, zeros. -/
theorem vArr_at (a4 : FVec Ideal S2x8192x4x64 .f32) (b : Fin 2) (t : Fin 8192) (h : Fin 4) (w : Fin 128) :
    vArr a4 (ix2 (⟨128 * h.val + w.val, by omega⟩ : Fin 512) (⟨b.val * 8192 + t.val, by omega⟩ : Fin 16384))
      = if hw : w.val < 64 then a4 (ix4 b t h (⟨w.val, hw⟩ : Fin 64)) else if w.val = 64 then (1 : EReal) else 0 := by
  pointwise [vArr]
  rw [laneOf_at, WordCmp.cmpi_eq_eq]
  have hl : (128 * h.val + w.val) % 128 = w.val := by omega
  have h1 : (id (constant (F := Ideal) S_ .f32 0x3F800000#32) ix0 : EReal) = 1 := Ideal.ofBits_one_f32
  have hb : BitVec.ofNat 32 w.val = 64#32 ↔ w.val = 64 :=
    ⟨fun e => by have := congrArg BitVec.toNat e; simpa [Nat.mod_eq_of_lt (show w.val < 4294967296 by omega)] using this, fun e => by rw [e]⟩
  simp only [hl, hb]
  by_cases hw : w.val < 64
  · rw [dif_pos ⟨by omega, hw⟩, dif_pos hw]
    simp [Scalar.select, show ¬ w.val = 64 by omega]
  · rw [dif_neg (fun h' => hw h'.2), dif_neg hw]
    by_cases hw' : w.val = 64
    · rw [if_pos hw']
      simpa [Scalar.select, hw'] using h1
    · rw [if_neg hw']
      simp only [Scalar.select, hw', decide_false]
      exact sitofp_z

end Cert.MlaIdeal.Run

end
-- ==== Proof.MlaSpec.lean ====
/- Causal softmax attention over the extended reals, and two ways to it. -/
module

public import proofs.«01_k».proof.Proof.MlaSoft

@[expose] public section

noncomputable section

namespace Cert.Mla.Soft

open scoped BigOperators
open Idealize.ShloMosaic

/-- The softmax's scale: the f32 nearest `96 ^ (-1/2)`. -/
def sc : ℝ := 3424635 / 33554432

/-- A key's unnormalised weight for query `T`: the exponential of the scaled score, nothing after the query. -/
def ew (x : ℕ → ℝ) (T p : ℕ) : ℝ := if p ≤ T then Real.exp (x p * sc) else 0

/-- Query `T`'s result: the values by the keys' normalised weights. -/
def att (x : ℕ → ℝ) (v : ℕ → EReal) (T : ℕ) : EReal :=
  ∑ p ∈ Finset.range 8192, v p * ((ew x T p / ∑ j ∈ Finset.range 8192, ew x T j : ℝ) : EReal)

/-- A plain fact about the weight. -/
theorem ew_nonneg (x : ℕ → ℝ) (T p : ℕ) : 0 ≤ ew x T p := by
  unfold ew; split
  · exact (Real.exp_pos _).le
  · exact le_refl _

/-- A plain fact about the weight. -/
theorem ew_pos (x : ℕ → ℝ) (T : ℕ) : 0 < ∑ j ∈ Finset.range 8192, ew x T j := by
  refine Finset.sum_pos' (fun i _ => ew_nonneg x T i) ⟨0, by simp, ?_⟩
  rw [ew, if_pos (Nat.zero_le _)]
  exact Real.exp_pos _

/-- Powers of two of scores scaled by `log₂ e` more are the exponentials. -/
theorem wt_ew (x : ℕ → ℝ) (T p : ℕ) :
    wt (if p ≤ T then ((x p * (3424635 / 33554432 * (Real.log 2)⁻¹) : ℝ) : EReal) else ⊥) 0 = ew x T p := by
  unfold ew
  split
  · rw [wt_coe]
    show (2 : ℝ) ^ (x p * (3424635 / 33554432 * (Real.log 2)⁻¹) - 0 : ℝ) = Real.exp (x p * sc)
    rw [Real.rpow_def_of_pos (by norm_num)]
    have : Real.log 2 ≠ 0 := (Real.log_pos (by norm_num)).ne'
    congr 1
    unfold sc
    field_simp
    ring
  · rfl

/-- The keys of the query's own block of 256 and of those before it are all that count. -/
theorem att_of_range (x : ℕ → ℝ) (v : ℕ → EReal) (T N : ℕ) (hT : T < N) (hN : N ≤ 8192) :
    ∑ p ∈ Finset.range N, v p * ((ew x T p / ∑ j ∈ Finset.range N, ew x T j : ℝ) : EReal) = att x v T := by
  have hs : Finset.range N ⊆ Finset.range 8192 := Finset.range_subset_range.2 hN
  have h0 : ∀ p, p ∉ Finset.range N → ew x T p = 0 := fun p hp => by
    rw [ew, if_neg (by simp at hp; omega)]
  have hd : ∑ j ∈ Finset.range N, ew x T j = ∑ j ∈ Finset.range 8192, ew x T j :=
    Finset.sum_subset hs fun p _ hp => h0 p hp
  rw [hd]
  refine Finset.sum_subset hs fun p _ hp => ?_
  rw [h0 p hp, zero_div, EReal.coe_zero, mul_zero]

/-- A sum over a slot's 128 lanes, the last 32 of which hold zero. -/
theorem sum_lanes {M : Type} [AddCommMonoid M] (f : Fin 128 → M) (hf : ∀ w : Fin 128, 96 ≤ w.val → f w = 0) :
    ∑ w, f w = ∑ w : Fin 64, f ⟨w.val, by omega⟩ + ∑ w : Fin 32, f ⟨64 + w.val, by omega⟩ := by
  refine (Fin.sum_univ_add (a := 64) (b := 64) f).trans ?_
  refine congrArg₂ (· + ·) rfl ?_
  refine (Fin.sum_univ_add (a := 32) (b := 32) fun w => f (Fin.natAdd 64 w)).trans ?_
  refine (congrArg₂ (· + ·) rfl (Finset.sum_eq_zero fun w _ => hf _ ?_)).trans (add_zero _)
  show 96 ≤ 64 + (32 + w.val)
  omega

/-- An extended real that is no infinity. -/
def Real' (x : EReal) : Prop := x ≠ ⊤ ∧ x ≠ ⊥

/-- Being a real number, as a value and as a property. -/
theorem Real'.eq {x : EReal} (h : Real' x) : x = (x.toReal : EReal) := (EReal.coe_toReal h.1 h.2).symm
/-- Being a real number, as a value and as a property. -/
theorem real'_coe (r : ℝ) : Real' (r : EReal) := ⟨EReal.coe_ne_top r, EReal.coe_ne_bot r⟩

/-- A query's score against a key before scaling: both parts' products summed. -/
def score (q0 k0 : Fin 64 → EReal) (q1 k1 : Fin 32 → EReal) : EReal := ∑ w, q0 w * k0 w + ∑ w, k1 w * q1 w

/-- Reals have a real score. -/
theorem score_real (q0 k0 : Fin 64 → EReal) (q1 k1 : Fin 32 → EReal) (h0 : ∀ w, Real' (q0 w)) (h1 : ∀ w, Real' (q1 w))
    (g0 : ∀ w, Real' (k0 w)) (g1 : ∀ w, Real' (k1 w)) :
    score q0 k0 q1 k1 = ((∑ w, (q0 w).toReal * (k0 w).toReal + ∑ w, (k1 w).toReal * (q1 w).toReal : ℝ) : EReal) := by
  unfold score
  rw [EReal.coe_add, coe_sum, coe_sum]
  refine congrArg₂ (· + ·) (Finset.sum_congr rfl fun w _ => ?_) (Finset.sum_congr rfl fun w _ => ?_)
  · rw [EReal.coe_mul, ← (h0 w).eq, ← (g0 w).eq]
  · rw [EReal.coe_mul, ← (h1 w).eq, ← (g1 w).eq]

/-- The kernel's logit, over a slot's lanes with the scale on the query, is the scaled score. -/
theorem lanes_score (q0 k0 : Fin 64 → EReal) (q1 k1 : Fin 32 → EReal) (h0 : ∀ w, Real' (q0 w)) (h1 : ∀ w, Real' (q1 w))
    (g0 : ∀ w, Real' (k0 w)) (g1 : ∀ w, Real' (k1 w)) (s : ℝ) (q k : Fin 128 → EReal)
    (hq : ∀ w, q w = if hw : w.val < 64 then q0 ⟨w.val, hw⟩ else if hw' : w.val < 96 then q1 ⟨w.val - 64, by omega⟩ else 0)
    (hk : ∀ w, k w = if hw : w.val < 64 then k0 ⟨w.val, hw⟩ else if hw' : w.val < 96 then k1 ⟨w.val - 64, by omega⟩ else 0) :
    ∑ w, k w * (q w * (s : EReal)) = (((score q0 k0 q1 k1).toReal * s : ℝ) : EReal) := by
  rw [score_real q0 k0 q1 k1 h0 h1 g0 g1, EReal.toReal_coe]
  rw [sum_lanes _ fun w hw => by rw [hk, dif_neg (by omega), dif_neg (by omega), zero_mul]]
  rw [add_mul, EReal.coe_add, Finset.sum_mul, Finset.sum_mul, coe_sum, coe_sum]
  refine congrArg₂ (· + ·) (Finset.sum_congr rfl fun w _ => ?_) (Finset.sum_congr rfl fun w _ => ?_)
  · rw [hq, hk, dif_pos w.isLt, dif_pos w.isLt, EReal.coe_mul, EReal.coe_mul, ← (h0 w).eq, ← (g0 w).eq]
    rw [mul_left_comm, mul_assoc]
  · have e : (⟨64 + w.val - 64, by omega⟩ : Fin 32) = w := Fin.ext (by simp)
    rw [hq, hk]
    rw [dif_neg (by show ¬ 64 + w.val < 64; omega), dif_pos (by show 64 + w.val < 96; omega),
      dif_neg (by show ¬ 64 + w.val < 64; omega), dif_pos (by show 64 + w.val < 96; omega)]
    show k1 (⟨64 + w.val - 64, _⟩) * (q1 (⟨64 + w.val - 64, _⟩) * _) = _
    rw [e, EReal.coe_mul, EReal.coe_mul, ← (h1 w).eq, ← (g1 w).eq, mul_assoc]

end Cert.Mla.Soft

end
-- ==== Proof.MlaArr.lean ====
/- The attention kernel's result array after its run. -/
module

public import proofs.«01_k».proof.Proof.MlaOut
public import proofs.«01_k».proof.Proof.MlaEnt
public import proofs.«01_k».proof.Proof.MlaSpec

@[expose] public section

set_option maxRecDepth 16384

noncomputable section

namespace Cert.MlaIdeal.Run

open scoped BigOperators
open Cert.MlaIdeal Cert.MlaIdeal.Gen
open Idealize.ShloMosaic Idealize.SL.Sem
open Idealize.ShloMosaic.TcCoe Idealize.ShloMosaic.Tactic
open Idealize.ShloMosaic.Pipeline (Dat)
open Cert.Mla.Soft

variable (m : (ℓ : Loc nD τ sig) → Buf (Elt Ideal) ℓ)

/-- The windows' blocks: the queries' and the result's move with the point, the keys' and the values' with the batch. -/
theorem idx : ∀ t : Fin cfg0.N, win0_0.index t = ![0, t.val] ∧ win0_1.index t = ![t.val / 32, 0] ∧ win0_2.index t = ![0, t.val / 32]
    ∧ win0_3.index t = ![t.val, 0] :=
  (by decide +kernel : ∀ t : Fin grid0.N, _)

/-- The point's block of queries. -/
theorem coord1 : ∀ t : Fin cfg0.N, (grid0.coords t 1).val = t.val % 32 := (by decide +kernel : ∀ t : Fin grid0.N, _)

/-- The entry of the block of queries at a point of the grid, in the array it is cut from. -/
theorem q_blk (c : Dev nD) (t : Fin cfg0.N) (r : Fin 512) (y : Fin 256) :
    (iblk m c 0 t : FVec Ideal S512x256 .f32) (ix2 r y)
      = qArr (m ((c : Thread nD τ).loc main_arg0)) (m ((c : Thread nD τ).loc main_arg1))
          (ix2 r ⟨t.val * 256 + y.val, by have h : t.val < 64 := t.isLt; omega⟩) := by
  have h : (iblk m c 0 t : FVec Ideal S512x256 .f32) (ix2 r y) = (V m c main_v5 : FVec Ideal S512x16384 .f32)
      (ix2 r ⟨t.val * 256 + y.val, by have h : t.val < 64 := t.isLt; omega⟩) := by
    blk_ext [iblk, idx t]
  rw [h, ent_q]

/-- The entry of the block of keys at a point of the grid, in the array it is cut from. -/
theorem k_blk (c : Dev nD) (t : Fin cfg0.N) (p : Fin 8192) (w : Fin 512) :
    (iblk m c 1 t : FVec Ideal S8192x512 .bf16) (ix2 p w)
      = kArr (m ((c : Thread nD τ).loc main_arg2)) (m ((c : Thread nD τ).loc main_arg3))
          (ix2 ⟨t.val / 32 * 8192 + p.val, by have h : t.val < 64 := t.isLt; omega⟩ w) := by
  have h : (iblk m c 1 t : FVec Ideal S8192x512 .bf16) (ix2 p w) = (V m c main_v13 : FVec Ideal S16384x512 .bf16)
      (ix2 ⟨t.val / 32 * 8192 + p.val, by have h : t.val < 64 := t.isLt; omega⟩ w) := by
    blk_ext [iblk, idx t]
  rw [h, ent_k]

/-- The entry of the block of values at a point of the grid, in the array it is cut from. -/
theorem v_blk (c : Dev nD) (t : Fin cfg0.N) (r : Fin 512) (p : Fin 8192) :
    (iblk m c 2 t : FVec Ideal S512x8192 .bf16) (ix2 r p)
      = vArr (m ((c : Thread nD τ).loc main_arg4))
          (ix2 r ⟨t.val / 32 * 8192 + p.val, by have h : t.val < 64 := t.isLt; omega⟩) := by
  have h : (iblk m c 2 t : FVec Ideal S512x8192 .bf16) (ix2 r p) = (V m c main_v24 : FVec Ideal S512x16384 .bf16)
      (ix2 r ⟨t.val / 32 * 8192 + p.val, by have h : t.val < 64 := t.isLt; omega⟩) := by
    blk_ext [iblk, idx t]
  rw [h, ent_v]

/-- A query's score against key `p`, before scaling. -/
def sco (a0 : FVec Ideal S2x8192x4x64 .f32) (a1 : FVec Ideal S2x8192x4x32 .f32) (a2 : FVec Ideal S2x8192x4x64 .f32) (a3 : FVec Ideal S2x8192x32 .f32)
    (b : Fin 2) (T : Fin 8192) (h : Fin 4) (p : ℕ) : ℝ :=
  (score (fun w => a0 (ix4 b T h w)) (fun w => a2 (ix4 b ⟨p % 8192, Nat.mod_lt _ (by decide)⟩ h w)) (fun w => a1 (ix4 b T h w))
    (fun w => a3 (ix3 b ⟨p % 8192, Nat.mod_lt _ (by decide)⟩ w))).toReal

/-- The kernel's result array over its arguments: every query's attention, lane by lane. -/
def G (a0 : FVec Ideal S2x8192x4x64 .f32) (a1 : FVec Ideal S2x8192x4x32 .f32) (a2 : FVec Ideal S2x8192x4x64 .f32) (a3 : FVec Ideal S2x8192x32 .f32)
    (a4 : FVec Ideal S2x8192x4x64 .f32) : FVec Ideal S16384x512 .bf16 := fun j =>
  att (sco a0 a1 a2 a3 ⟨(j 0).val / 8192, by have h := (j 0).isLt; exact Nat.div_lt_of_lt_mul h⟩ ⟨(j 0).val % 8192, Nat.mod_lt _ (by decide)⟩
      ⟨(j 1).val / 128, by have h := (j 1).isLt; exact Nat.div_lt_of_lt_mul h⟩)
    (fun p => vArr a4 (ix2 (⟨(j 1).val, (j 1).isLt⟩ : Fin 512) (⟨(j 0).val / 8192 * 8192 + p % 8192, by
      have h : (j 0).val < 16384 := (j 0).isLt; omega⟩ : Fin 16384)))
    ((j 0).val % 8192)

/-- Every point leaves its queries' attention. -/
theorem point (c : Dev nD) (t : Fin cfg0.N)
    (f0 : ∀ i, Real' ((m ((c : Thread nD τ).loc main_arg0) : FVec Ideal S2x8192x4x64 .f32) i)) (f1 : ∀ i, Real' ((m ((c : Thread nD τ).loc main_arg1) : FVec Ideal S2x8192x4x32 .f32) i))
    (f2 : ∀ i, Real' ((m ((c : Thread nD τ).loc main_arg2) : FVec Ideal S2x8192x4x64 .f32) i)) (f3 : ∀ i, Real' ((m ((c : Thread nD τ).loc main_arg3) : FVec Ideal S2x8192x32 .f32) i))
    (y : Fin 256) (l : Fin 512) :
    outsAt m c t (ix2 y l)
      = G (m ((c : Thread nD τ).loc main_arg0)) (m ((c : Thread nD τ).loc main_arg1)) (m ((c : Thread nD τ).loc main_arg2))
          (m ((c : Thread nD τ).loc main_arg3)) (m ((c : Thread nD τ).loc main_arg4))
          (ix2 ⟨t.val * 256 + y.val, by have h : t.val < 64 := t.isLt; omega⟩ l) := by
  have ht : t.val < 64 := t.isLt
  obtain ⟨h, d, rfl⟩ : ∃ (h : Fin 4) (d : Fin 128), l = slot h d :=
    ⟨⟨l.val / 128, by omega⟩, ⟨l.val % 128, by omega⟩, Fin.ext (by show l.val = 128 * (l.val / 128) + l.val % 128; omega)⟩
  generalize hA0 : (m ((c : Thread nD τ).loc main_arg0) : FVec Ideal S2x8192x4x64 .f32) = a0 at *
  generalize hA1 : (m ((c : Thread nD τ).loc main_arg1) : FVec Ideal S2x8192x4x32 .f32) = a1 at *
  generalize hA2 : (m ((c : Thread nD τ).loc main_arg2) : FVec Ideal S2x8192x4x64 .f32) = a2 at *
  generalize hA3 : (m ((c : Thread nD τ).loc main_arg3) : FVec Ideal S2x8192x32 .f32) = a3 at *
  generalize hA4 : (m ((c : Thread nD τ).loc main_arg4) : FVec Ideal S2x8192x4x64 .f32) = a4 at *
  have hi : (grid0.coords t 1).val = t.val % 32 := coord1 t
  -- the logits
  have hlog : ∀ p : ℕ, logit (k0_pay74 (iblk m c 0 t)) (iblk m c 1 t) h y p
      = ((sco a0 a1 a2 a3 ⟨t.val / 32, by omega⟩ ⟨t.val % 32 * 256 + y.val, by omega⟩ h p * qs : ℝ) : EReal) := fun p => by
    unfold logit
    have e : ∀ (x : FVec Ideal S512x256 .f32) (w : Fin 128), (k0_pay74 x : FVec Ideal S512x256 .bf16) (ix2 (slot h w) y) = (x (ix2 (slot h w) y) * (qs : EReal) : EReal) :=
      fun x w => q_at x (slot h w) y
    simp only [e]
    refine lanes_score _ _ _ _ (fun w => f0 _) (fun w => f1 _) (fun w => f2 _) (fun w => f3 _) qs _ _ (fun w => ?_) (fun w => ?_)
    · rw [q_blk, hA0, hA1]
      have := qArr_at a0 a1 ⟨t.val / 32, by omega⟩ ⟨t.val % 32 * 256 + y.val, by omega⟩ h w
      refine Eq.trans (congrArg (fun n => qArr a0 a1 (ix2 (slot h w) n)) (Fin.ext ?_)) this
      show t.val * 256 + y.val = t.val / 32 * 8192 + (t.val % 32 * 256 + y.val)
      omega
    · rw [k_blk, hA2, hA3]
      exact kArr_at a2 a3 ⟨t.val / 32, by omega⟩ ⟨p % 8192, Nat.mod_lt _ (by decide)⟩ h w
  have hfin : ∀ p, logit (k0_pay74 (iblk m c 0 t)) (iblk m c 1 t) h y p ≠ ⊤ ∧ logit (k0_pay74 (iblk m c 0 t)) (iblk m c 1 t) h y p ≠ ⊥ := fun p => by
    rw [hlog]; exact real'_coe _
  have hval : ∀ (r : Fin 128) (p : ℕ), val (iblk m c 2 t) h r p
      = vArr a4 (ix2 (slot h r) ⟨t.val / 32 * 8192 + p % 8192, by omega⟩) := fun r p => by
    unfold val
    rw [v_blk, hA4]
  have hone : ∀ p, val (iblk m c 2 t) h 64 p = 1 := fun p => by
    rw [hval]
    exact (vArr_at a4 ⟨t.val / 32, by omega⟩ ⟨p % 8192, Nat.mod_lt _ (by decide)⟩ h 64).trans (by
      rw [dif_neg (by decide), if_pos (by decide)])
  unfold outsAt
  rw [outOf_at, hi, stF_out _ _ _ h y hfin hone]
  have hw : ∀ p, wt (masked (k0_pay74 (iblk m c 0 t)) (iblk m c 1 t) h y (256 * (t.val % 32) + y.val) p) 0
      = ew (sco a0 a1 a2 a3 ⟨t.val / 32, by omega⟩ ⟨t.val % 32 * 256 + y.val, by omega⟩ h) (256 * (t.val % 32) + y.val) p := fun p => by
    unfold masked
    rw [hlog]
    exact wt_ew _ _ _
  simp only [hw, hval]
  rw [att_of_range _ _ _ _ (by omega) (by omega)]
  unfold G
  have g0 : (t.val * 256 + y.val) / 8192 = t.val / 32 := by omega
  have g1 : (t.val * 256 + y.val) % 8192 = t.val % 32 * 256 + y.val := by omega
  have g2 : (slot h d).val / 128 = h.val := by show (128 * h.val + d.val) / 128 = h.val; omega
  have g3 : 256 * (t.val % 32) + y.val = t.val % 32 * 256 + y.val := by omega
  rw [g3]
  show att (sco a0 a1 a2 a3 _ _ _) _ _ = att (sco a0 a1 a2 a3 ⟨(t.val * 256 + y.val) / 8192, _⟩ ⟨(t.val * 256 + y.val) % 8192, _⟩ ⟨(slot h d).val / 128, _⟩)
    (fun p => vArr a4 (ix2 (slot h d) ⟨(t.val * 256 + y.val) / 8192 * 8192 + p % 8192, _⟩)) ((t.val * 256 + y.val) % 8192)
  simp only [g0, g1, g2]

/-- The kernel's result array after the run. -/
theorem final (c : Dev nD)
    (f0 : ∀ i, Real' ((m ((c : Thread nD τ).loc main_arg0) : FVec Ideal S2x8192x4x64 .f32) i)) (f1 : ∀ i, Real' ((m ((c : Thread nD τ).loc main_arg1) : FVec Ideal S2x8192x4x32 .f32) i))
    (f2 : ∀ i, Real' ((m ((c : Thread nD τ).loc main_arg2) : FVec Ideal S2x8192x4x64 .f32) i)) (f3 : ∀ i, Real' ((m ((c : Thread nD τ).loc main_arg3) : FVec Ideal S2x8192x32 .f32) i)) :
    (dats m 0 c).arrAt 3 (cfgs 0).N
      = G (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 3 _ (by decide +kernel) fun t _ y => ?_
  blk_simp
  rw [after0_3]
  idx_vars y
  refine (point m c t f0 f1 f2 f3 _ _).trans (congrArg _ ?_)
  blk_ext [idx t]

end Cert.MlaIdeal.Run

end
-- ==== Proof.MlaRef.lean ====
/- The reference's attention, entry by entry: its logits under the causal mask, their maximum and exponentials, the
weights and the weighted values. -/
module

public import proofs.«01_k».proof.Proof.Gen.MlaRefIdeal.Run
public import proofs.«01_k».proof.Proof.MlaSpec
public import Idealize.ShloMosaic.Lib.Pointwise
public import Idealize.ShloMosaic.Lib.WordCmp

@[expose] public section

set_option maxRecDepth 16384

noncomputable section

open scoped BigOperators
open Idealize.ShloMosaic Idealize.ShloMosaic.TcCoe Idealize.SL.Sem

namespace Cert.MlaRefIdeal.Val

open Cert.MlaRefIdeal Cert.MlaRefIdeal.Gen Cert.Mla.Soft

/-- Where a key is no later than a query. -/
def causalR : IVec S8192x8192 1 :=
  cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))

/-- The scaled scores. -/
def scoresR (a0 : FVec Ideal S2x8192x4x64 .f32) (a1 : FVec Ideal S2x8192x4x32 .f32) (a2 : FVec Ideal S2x8192x4x64 .f32) (a3 : FVec Ideal S2x8192x32 .f32) :
    FVec Ideal S2x4x8192x8192 .f32 :=
  mulf (addf (Host.dotGeneral dot_S2x8192x4x64_S2x8192x4x64_S2x4x8192x8192_3_3_1_1_02_02 none a0 a2) (transpose S2x4x8192x8192 [0, 3, 2, 1] (Host.dotGeneral dot_S2x8192x32_S2x8192x4x32_S2x8192x8192x4_2_3_1_12_0_0 none a3 a1) transposes_S2x8192x8192x4_S2x4x8192x8192_0_3_2_1)) (broadcastInDim S2x4x8192x8192 ![] bcast_S_S2x4x8192x8192 (constant S_ .f32 0x3DD105EC#32))

/-- The scores under the mask. -/
def maskR (s : FVec Ideal S2x4x8192x8192 .f32) : FVec Ideal S2x4x8192x8192 .f32 :=
  select (broadcastInDim S2x4x8192x8192 ![2, 3] bcast_S8192x8192_S2x4x8192x8192_2_3 causalR) s (broadcastInDim S2x4x8192x8192 ![] bcast_S_S2x4x8192x8192 (id (constant S_ .f32 0xFF800000#32)))

/-- Every row's maximum. -/
def maxR (l : FVec Ideal S2x4x8192x8192 .f32) : FVec Ideal S2x4x8192 .f32 :=
  maximumf (broadcastInDim S2x4x8192 ![] bcast_S_S2x4x8192 (constant S_ .f32 0xFF800000#32)) (Host.reduce FloatOps.maximumf l (constant S_ .f32 0xFF800000#32) reducesTo_S2x4x8192x8192_S2x4x8192_d3 h_S_)

/-- The exponentials below the maximum. -/
def expR (l : FVec Ideal S2x4x8192x8192 .f32) (u : FVec Ideal S2x4x8192 .f32) : FVec Ideal S2x4x8192x8192 .f32 :=
  Host.exp (subf l (broadcastInDim S2x4x8192x8192 ![0, 1, 2, 3] bcast_S2x4x8192x1_S2x4x8192x8192_0_1_2_3 (broadcastInDim S2x4x8192x1 ![0, 1, 2] bcast_S2x4x8192_S2x4x8192x1_0_1_2 u)))

/-- The weights. -/
def probR (e : FVec Ideal S2x4x8192x8192 .f32) : FVec Ideal S2x4x8192x8192 .f32 :=
  Host.divf e (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduceAdd e (constant S_ .f32 0x00000000#32) reducesTo_S2x4x8192x8192_S2x4x8192_d3 h_S_)))

/-- The weighted values. -/
def outR (a4 : FVec Ideal S2x8192x4x64 .f32) (p : FVec Ideal S2x4x8192x8192 .f32) : FVec Ideal S2x8192x4x64 .f32 :=
  transpose S2x8192x4x64 [0, 3, 1, 2] (Host.dotGeneral dot_S2x8192x4x64_S2x4x8192x8192_S2x4x64x8192_1_3_3_2_02_01 none a4 p) transposes_S2x4x64x8192_S2x8192x4x64_0_3_1_2

/-- The reference's result as a function of its arguments. -/
def REF (a0 : FVec Ideal S2x8192x4x64 .f32) (a1 : FVec Ideal S2x8192x4x32 .f32) (a2 : FVec Ideal S2x8192x4x64 .f32) (a3 : FVec Ideal S2x8192x32 .f32)
    (a4 : FVec Ideal S2x8192x4x64 .f32) : FVec Ideal S2x8192x4x64 .f32 :=
  outR a4 (probR (expR (maskR (scoresR a0 a1 a2 a3)) (maxR (maskR (scoresR a0 a1 a2 a3)))))

/-- The reference's run leaves that function of the arguments. -/
theorem res_eq (m : (ℓ : Loc nD τ sig) → Buf (Elt Ideal) ℓ) (c : Dev nD) :
    Value.res_main_v25 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The literal scale. -/
theorem scale_eq : Ideal.ofBits .f32 0x3DD105EC#32 = (sc : EReal) := by
  simp [Ideal.ofBits, Ideal.ieee, sc, -EReal.coe_mul]; norm_num

/-- The literal below every score. -/
theorem bot_eq : Ideal.ofBits .f32 0xFF800000#32 = ⊥ := by simp [Ideal.ofBits, Ideal.ieee]

/-- The mask at a query and a key. -/
theorem causal_at (T p : Fin 8192) : causalR (ix2 T p) = if p.val ≤ T.val then 1#1 else 0#1 := by
  have h : causalR (ix2 T p) = IntOp.cmpi CmpIPredicate.sle (BitVec.ofNat 32 p.val) (BitVec.ofNat 32 T.val) := by
    pointwise [causalR]
  have hp : (BitVec.ofNat 32 p.val).toNat = p.val := by simp; omega
  have hT : (BitVec.ofNat 32 T.val).toNat = T.val := by simp; omega
  rw [h, WordCmp.cmpi_sle_of_lt (by simp; omega) (by simp; omega), hp, hT]
  by_cases hc : p.val ≤ T.val <;> simp [hc]

/-- A scaled score. -/
theorem scores_at (a0 : FVec Ideal S2x8192x4x64 .f32) (a1 : FVec Ideal S2x8192x4x32 .f32) (a2 : FVec Ideal S2x8192x4x64 .f32) (a3 : FVec Ideal S2x8192x32 .f32)
    (b : Fin 2) (h : Fin 4) (T p : Fin 8192) :
    scoresR a0 a1 a2 a3 (ix4 b h T p)
      = score (fun w => a0 (ix4 b T h w)) (fun w => a2 (ix4 b p h w)) (fun w => a1 (ix4 b T h w)) (fun w => a3 (ix3 b p w)) * (sc : EReal) := by
  rw [← scale_eq]
  pointwise [scoresR, score]

/-- A masked score. -/
theorem mask_at (s : FVec Ideal S2x4x8192x8192 .f32) (b : Fin 2) (h : Fin 4) (T p : Fin 8192) :
    maskR s (ix4 b h T p) = if p.val ≤ T.val then s (ix4 b h T p) else ⊥ := by
  have h1 : maskR s (ix4 b h T p) = Scalar.select (causalR (ix2 T p)) (s (ix4 b h T p)) (id (constant S_ FTy.f32 0xFF800000#32) ix0) := by
    pointwise [maskR]
  have h2 : id (constant (F := Ideal) S_ FTy.f32 0xFF800000#32) ix0 = (⊥ : EReal) := bot_eq
  rw [h1, causal_at, h2]
  by_cases hc : p.val ≤ T.val <;> simp [hc, Scalar.select]

/-- The host's maximum along the last axis, at any sizes. -/
theorem fold_last {n0 n1 n2 n3 : ℕ} (x : FVec Ideal (⟨4, ![n0, n1, n2, n3]⟩ : Shape) .f32) (init : S_.Idx → Ideal .f32)
    (hr : (⟨4, ![n0, n1, n2, n3]⟩ : Shape).ReducesTo [3] (⟨3, ![n0, n1, n2]⟩ : Shape)) (hu : 0 < S_.numel) (a : Fin n0) (b : Fin n1) (c : Fin n2) :
    Host.reduce FloatOps.maximumf x init hr hu (ix3 a b c) = Finset.fold max (init (Shape.Idx.first hu)) (fun k : Fin n3 => x (ix4 a b c k)) Finset.univ := by
  pointwise []

/-- The maximum with a constant, at a row. -/
theorem top_at (r : FVec Ideal S2x4x8192 .f32) (b : Fin 2) (h : Fin 4) (T : Fin 8192) :
    maximumf (broadcastInDim S2x4x8192 ![] bcast_S_S2x4x8192 (constant S_ .f32 0xFF800000#32)) r (ix3 b h T)
      = max (Ideal.ofBits .f32 0xFF800000#32) (r (ix3 b h T)) := by
  pointwise []

/-- A row's maximum. -/
theorem max_at (l : FVec Ideal S2x4x8192x8192 .f32) (b : Fin 2) (h : Fin 4) (T : Fin 8192) :
    maxR l (ix3 b h T) = max (Ideal.ofBits .f32 0xFF800000#32)
      (Finset.fold max (Ideal.ofBits .f32 0xFF800000#32) (fun p : Fin 8192 => l (ix4 b h T p)) Finset.univ) :=
  (top_at _ b h T).trans (congrArg (max (Ideal.ofBits .f32 0xFF800000#32))
    (fold_last l (constant S_ .f32 0xFF800000#32) reducesTo_S2x4x8192x8192_S2x4x8192_d3 h_S_ b h T))

/-- An exponential. -/
theorem exp_at (l : FVec Ideal S2x4x8192x8192 .f32) (u : FVec Ideal S2x4x8192 .f32) (b : Fin 2) (h : Fin 4) (T p : Fin 8192) :
    expR l u (ix4 b h T p) = Ideal.exp (l (ix4 b h T p) - u (ix3 b h T)) := by
  pointwise [expR]

/-- A weight. -/
theorem prob_at (e : FVec Ideal S2x4x8192x8192 .f32) (b : Fin 2) (h : Fin 4) (T p : Fin 8192) :
    probR e (ix4 b h T p) = Ideal.div (e (ix4 b h T p)) (∑ j : Fin 8192, e (ix4 b h T j)) := by
  pointwise [probR]

/-- An entry of the result. -/
theorem out_at (a4 : FVec Ideal S2x8192x4x64 .f32) (p : FVec Ideal S2x4x8192x8192 .f32) (b : Fin 2) (h : Fin 4) (T : Fin 8192) (d : Fin 64) :
    outR a4 p (ix4 b T h d) = ∑ j : Fin 8192, a4 (ix4 b j h d) * p (ix4 b h T j) := by
  pointwise [outR]

/-- A row's weights, from real scores: the exponentials over their sum. -/
theorem weight (x : ℕ → ℝ) (l : FVec Ideal S2x4x8192x8192 .f32) (b : Fin 2) (h : Fin 4) (T : Fin 8192)
    (hl : ∀ p : Fin 8192, l (ix4 b h T p) = if p.val ≤ T.val then ((x p.val * sc : ℝ) : EReal) else ⊥) (p : Fin 8192) :
    probR (expR l (maxR l)) (ix4 b h T p)
      = ((ew x T.val p.val / ∑ j ∈ Finset.range 8192, ew x T.val j : ℝ) : EReal) := by
  obtain ⟨μ, hμ⟩ := fold_real (n := 8192) (Ideal.ofBits .f32 0xFF800000#32) (by rw [bot_eq]; exact bot_ne_top)
    (Ideal.ofBits .f32 0xFF800000#32) (by rw [bot_eq]; exact bot_ne_top) (fun p : Fin 8192 => l (ix4 b h T p))
    (fun i => by show l (ix4 b h T i) ≠ ⊤; rw [hl]; split; exacts [EReal.coe_ne_top _, bot_ne_top])
    ⟨T, by show l (ix4 b h T T) ≠ ⊥; rw [hl, if_pos (le_refl _)]; exact EReal.coe_ne_bot _⟩
  have he : ∀ j : Fin 8192, expR l (maxR l) (ix4 b h T j) = ((Real.exp (-μ) * ew x T.val j.val : ℝ) : EReal) := fun j => by
    rw [exp_at, max_at, hμ, hl, ew]
    split
    · rw [← EReal.coe_sub, Ideal.exp_coe, ← Real.exp_add]
      congr 2; ring
    · rw [EReal.bot_sub, Ideal.exp_bot, mul_zero, EReal.coe_zero]
  have hs : ∑ j : Fin 8192, ew x T.val j.val = ∑ j ∈ Finset.range 8192, ew x T.val j := (Finset.sum_range _).symm
  have h0 := ew_pos x T.val
  have hc := Real.exp_pos (-μ)
  rw [prob_at, he, Finset.sum_congr rfl (fun j _ => he j), ← coe_sum, ← Finset.mul_sum, hs]
  unfold Ideal.div
  rw [if_neg (by rw [EReal.coe_eq_zero]; exact (mul_pos hc h0).ne'), ← EReal.coe_inv, ← EReal.coe_mul]
  congr 1
  field_simp

/-- From real queries and keys, an entry of the result: the attention of the row's scores to the values. -/
theorem REF_at (a0 : FVec Ideal S2x8192x4x64 .f32) (a1 : FVec Ideal S2x8192x4x32 .f32) (a2 : FVec Ideal S2x8192x4x64 .f32) (a3 : FVec Ideal S2x8192x32 .f32)
    (a4 : FVec Ideal S2x8192x4x64 .f32) (b : Fin 2) (T : Fin 8192) (h : Fin 4) (d : Fin 64) (x : ℕ → ℝ)
    (hx : ∀ p : Fin 8192, score (fun w => a0 (ix4 b T h w)) (fun w => a2 (ix4 b p h w)) (fun w => a1 (ix4 b T h w)) (fun w => a3 (ix3 b p w)) = (x p.val : EReal)) :
    REF a0 a1 a2 a3 a4 (ix4 b T h d) = ∑ p : Fin 8192, a4 (ix4 b p h d) * ((ew x T.val p.val / ∑ j ∈ Finset.range 8192, ew x T.val j : ℝ) : EReal) := by
  unfold REF
  rw [out_at]
  refine Finset.sum_congr rfl fun p _ => congrArg _ (weight x _ b h T (fun p => ?_) p)
  rw [mask_at, scores_at, hx, EReal.coe_mul]

end Cert.MlaRefIdeal.Val

end
-- ==== Proof.MlaClaim.lean ====
/- The latent attention's claims: its frames, its idealization, its value. -/
module

public import proofs.«01_k».proof.Defs
public import proofs.«01_k».proof.Proof.Gen.MlaRef.Run
public import proofs.«01_k».proof.Proof.BitsFrame
public import proofs.«01_k».proof.Proof.MlaArr
public import proofs.«01_k».proof.Proof.MlaRef
public import proofs.«01_k».proof.Proof.Gen.Pre_finite

@[expose] public section

set_option maxRecDepth 16384

noncomputable section

open scoped BigOperators
open Idealize.ShloMosaic Idealize.SL.Sem
open Cert.Mla.Soft

namespace Cert.Mla.Claims

/-- The kernel runs and leaves its arguments, on machine floats. -/
theorem frame_p : Cert.quiescent_Mla := fun m ρ _ => Cert.Mla.Run.frame_all m ρ

/-- The kernel runs and leaves its arguments, on extended reals. -/
theorem frame_pi : Cert.quiescent_MlaIdeal := fun m ρ _ => Cert.MlaIdeal.Run.frame_all m ρ

/-- The same of the memories the value is claimed of. -/
theorem frame_pi_pre : Cert.quiescent_MlaIdeal_pre_finite := fun m ρ _ => Cert.MlaIdeal.Run.frame_all m ρ

/-- The reference runs and leaves its arguments, on machine floats: its run at the arguments; it declares no semaphore. -/
theorem frame_r : Cert.quiescent_MlaRef := fun m ρ _ =>
  (θ_run Cert.MlaRef.defs _ _).mono (fun r h => ⟨fun c => (h c).2, sem_eq_zero_of_no_sems (by decide) r.2⟩)
    (Cert.MlaRef.Value.run (F := Bits) m ρ)

/-- The same on extended reals. -/
theorem frame_ri : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The same of the memories the value is claimed of. -/
theorem frame_ri_pre : Cert.quiescent_MlaRefIdeal_pre_finite := fun m ρ _ => frame_ri m ρ trivial

/-- The two named constants: the scale, and the bottom of the extended reals where the mask is. -/
theorem preserves : Cert.preserves_Mla_MlaIdeal :=
  ⟨IdealRules.named_const.statement Cert.MlaIdeal.κ "qscale" .f32 0x3E16C740#32 (((3424635 / 33554432) * (Real.log 2)⁻¹ : ℝ) : EReal) rfl,
    IdealRules.named_const.statement Cert.MlaIdeal.κ "mask" .f32 0xF149F2CA#32 ⊥ rfl⟩

/-- An extended real whose absolute value is below the top is real. -/
theorem real_of_abs (x : EReal) (h : BitVec.ofBool (decide (max x (-x) < Ideal.ofBits .f32 0x7F800000#32)) = 1#1) : Real' x := by
  have ht : Ideal.ofBits .f32 0x7F800000#32 = ⊤ := by simp [Ideal.ofBits, Ideal.ieee]
  rw [ht] at h
  induction x using EReal.rec with
  | bot => simp at h
  | top => simp at h
  | coe r => exact real'_coe r

/-- The precondition, of the queries' and the keys' arrays, entry by entry. -/
theorem real_of_pre (a0 : FVec Ideal Cert.Pre_finite.S2x8192x4x64 .f32) (a1 : FVec Ideal Cert.Pre_finite.S2x8192x4x32 .f32)
    (a2 : FVec Ideal Cert.Pre_finite.S2x8192x4x64 .f32) (a3 : FVec Ideal Cert.Pre_finite.S2x8192x32 .f32) (a4 : FVec Ideal Cert.Pre_finite.S2x8192x4x64 .f32)
    (h : (Cert.Pre_finite.fn (F := Ideal) a0 a1 a2 a3 a4).1 = (fun _ => 1#1) ∧ (Cert.Pre_finite.fn (F := Ideal) a0 a1 a2 a3 a4).2.1 = (fun _ => 1#1)
      ∧ (Cert.Pre_finite.fn (F := Ideal) a0 a1 a2 a3 a4).2.2.1 = (fun _ => 1#1) ∧ (Cert.Pre_finite.fn (F := Ideal) a0 a1 a2 a3 a4).2.2.2 = (fun _ => 1#1)) :
    (∀ i, Real' (a0 i)) ∧ (∀ i, Real' (a1 i)) ∧ (∀ i, Real' (a2 i)) ∧ (∀ i, Real' (a3 i)) :=
  ⟨fun i => real_of_abs (a0 i) (congrFun h.1 i), fun i => real_of_abs (a1 i) (congrFun h.2.1 i),
    fun i => real_of_abs (a2 i) (congrFun h.2.2.1 i), fun i => real_of_abs (a3 i) (congrFun h.2.2.2 i)⟩

/-- The kernel's result on the host, from the array its call leaves: every head's 64 lanes of its slot. -/
def heads (o : FVec Ideal Cert.MlaIdeal.S16384x512 .bf16) : FVec Ideal Cert.MlaIdeal.S2x8192x4x64 .f32 :=
  extf .f32 (extractStridedSlice Cert.MlaIdeal.S2x8192x4x64 ![0, 0, 0, 0] (shapeCast Cert.MlaIdeal.S2x8192x4x128 o Cert.MlaIdeal.Gen.shapeCasts_S16384x512_S2x8192x4x128)
    Cert.MlaIdeal.Gen.slices_S2x8192x4x128_S2x8192x4x64_0_0_0_0) Cert.MlaIdeal.Gen.bitsLt_bf16_f32

/-- An entry of it. -/
theorem heads_at (o : FVec Ideal Cert.MlaIdeal.S16384x512 .bf16) (b : Fin 2) (T : Fin 8192) (h : Fin 4) (d : Fin 64) :
    heads o (ix4 b T h d) = o (ix2 (⟨b.val * 8192 + T.val, by omega⟩ : Fin 16384) (⟨h.val * 128 + d.val, by omega⟩ : Fin 512)) := by
  pointwise [heads]

/-- What the host leaves after the call. -/
theorem tail_read (m : (ℓ : Loc Cert.MlaIdeal.nD Cert.MlaIdeal.τ Cert.MlaIdeal.sig) → Buf (Elt Ideal) ℓ) (c : Dev Cert.MlaIdeal.nD) :
    Pipeline.afterTail₀ Cert.MlaIdeal.cfgs (Cert.MlaIdeal.Run.dats m) 0 (Cert.MlaIdeal.Gen.V0 m) [Cert.MlaIdeal.Gen.hostOps1] c Cert.MlaIdeal.main_v28
      = heads ((Cert.MlaIdeal.Run.dats m 0 c).arrAt 3 (Cert.MlaIdeal.cfgs 0).N) := by
  unfold Pipeline.afterTail₀
  simp only [Cert.MlaIdeal.Gen.hostOps1, List.flatten_cons, List.flatten_nil, List.append_nil]
  after_results_simp
  exact congrArg heads (Pipeline.withArrays_arr (Cert.MlaIdeal.cfgs 0).spec (by decide) c (Cert.MlaIdeal.Gen.V0 m c)
    (fun w => (Cert.MlaIdeal.Run.dats m 0 c).arrAt w (Cert.MlaIdeal.cfgs 0).N) 3)

/-- The kernel's run: its result read, its arguments as they were. -/
theorem run_value (m : (ℓ : Loc Cert.MlaIdeal.nD Cert.MlaIdeal.τ Cert.MlaIdeal.sig) → Buf (Elt Ideal) ℓ) (ρ : Dev Cert.MlaIdeal.nD → PrngReg) :
    θ_run Cert.MlaIdeal.defs (onTc (τ := Cert.MlaIdeal.τ) (Cert.MlaIdeal.main (F := Ideal))) ⟨m, fun _ => 0, ρ⟩ fun r => ∀ c : Dev Cert.MlaIdeal.nD,
      r.2.mem ((c.tc : Thread Cert.MlaIdeal.nD Cert.MlaIdeal.τ).loc Cert.MlaIdeal.main_v28) = heads ((Cert.MlaIdeal.Run.dats m 0 c).arrAt 3 (Cert.MlaIdeal.cfgs 0).N)
      ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4) :=
  (θ_run Cert.MlaIdeal.defs _ _).mono (fun r h c =>
    ⟨((h.1.1 c).2 Cert.MlaIdeal.main_v28 (Pipeline.mem_restRefs_of Cert.MlaIdeal.main_v28 (by decide) (by decide))).trans (tail_read m c), h.2.1 c⟩)
    (θ_run_and (Cert.MlaIdeal.Run.run_main m ρ) (Cert.MlaIdeal.Run.frame_all m ρ))

/-- The attention a head's lane of the kernel's array holds. -/
theorem G_at (a0 : FVec Ideal Cert.MlaIdeal.S2x8192x4x64 .f32) (a1 : FVec Ideal Cert.MlaIdeal.S2x8192x4x32 .f32) (a2 : FVec Ideal Cert.MlaIdeal.S2x8192x4x64 .f32)
    (a3 : FVec Ideal Cert.MlaIdeal.S2x8192x32 .f32) (a4 : FVec Ideal Cert.MlaIdeal.S2x8192x4x64 .f32) (b : Fin 2) (T : Fin 8192) (h : Fin 4) (d : Fin 64) :
    Cert.MlaIdeal.Run.G a0 a1 a2 a3 a4 (ix2 (⟨b.val * 8192 + T.val, by omega⟩ : Fin 16384) (⟨h.val * 128 + d.val, by omega⟩ : Fin 512))
      = ∑ p : Fin 8192, a4 (ix4 b p h d) * ((ew (Cert.MlaIdeal.Run.sco a0 a1 a2 a3 b T h) T.val p.val
          / ∑ j ∈ Finset.range 8192, ew (Cert.MlaIdeal.Run.sco a0 a1 a2 a3 b T h) T.val j : ℝ) : EReal) := by
  have e0 : (b.val * 8192 + T.val) / 8192 = b.val := by omega
  have e1 : (b.val * 8192 + T.val) % 8192 = T.val := by omega
  have e2 : (h.val * 128 + d.val) / 128 = h.val := by omega
  have hG : Cert.MlaIdeal.Run.G a0 a1 a2 a3 a4 (ix2 (⟨b.val * 8192 + T.val, by omega⟩ : Fin 16384) (⟨h.val * 128 + d.val, by omega⟩ : Fin 512))
      = att (Cert.MlaIdeal.Run.sco a0 a1 a2 a3 ⟨(b.val * 8192 + T.val) / 8192, by omega⟩ ⟨(b.val * 8192 + T.val) % 8192, by omega⟩ ⟨(h.val * 128 + d.val) / 128, by omega⟩)
        (fun p => Cert.MlaIdeal.Run.vArr a4 (ix2 (⟨h.val * 128 + d.val, by omega⟩ : Fin 512) (⟨(b.val * 8192 + T.val) / 8192 * 8192 + p % 8192, by omega⟩ : Fin 16384)))
        ((b.val * 8192 + T.val) % 8192) := rfl
  rw [hG]
  simp only [e0, e1, e2, Fin.eta]
  unfold att
  rw [Finset.sum_range]
  refine Finset.sum_congr rfl fun p _ => congrArg (· * _) ?_
  have hp : p.val % 8192 = p.val := Nat.mod_eq_of_lt p.isLt
  have hv := Cert.MlaIdeal.Run.vArr_at a4 b p h (⟨d.val, by omega⟩ : Fin 128)
  rw [dif_pos d.isLt] at hv
  refine Eq.trans (congrArg _ ?_) hv
  congr 1
  · exact Fin.ext (by show h.val * 128 + d.val = 128 * h.val + d.val; omega)
  · exact Fin.ext (by show b.val * 8192 + p.val % 8192 = b.val * 8192 + p.val; omega)

/-- From real queries and keys, the reference's entry and the kernel's. -/
theorem same_at (a0 : FVec Ideal Cert.MlaIdeal.S2x8192x4x64 .f32) (a1 : FVec Ideal Cert.MlaIdeal.S2x8192x4x32 .f32) (a2 : FVec Ideal Cert.MlaIdeal.S2x8192x4x64 .f32)
    (a3 : FVec Ideal Cert.MlaIdeal.S2x8192x32 .f32) (a4 : FVec Ideal Cert.MlaIdeal.S2x8192x4x64 .f32)
    (f : (∀ i, Real' (a0 i)) ∧ (∀ i, Real' (a1 i)) ∧ (∀ i, Real' (a2 i)) ∧ (∀ i, Real' (a3 i))) (b : Fin 2) (T : Fin 8192) (h : Fin 4) (d : Fin 64) :
    Cert.MlaRefIdeal.Val.REF a0 a1 a2 a3 a4 (ix4 b T h d) = heads (Cert.MlaIdeal.Run.G a0 a1 a2 a3 a4) (ix4 b T h d) := by
  rw [heads_at, G_at]
  refine Cert.MlaRefIdeal.Val.REF_at a0 a1 a2 a3 a4 b T h d (Cert.MlaIdeal.Run.sco a0 a1 a2 a3 b T h) fun p => ?_
  have hp : p.val % 8192 = p.val := Nat.mod_eq_of_lt p.isLt
  unfold Cert.MlaIdeal.Run.sco
  simp only [hp, Fin.eta]
  rw [score_real _ _ _ _ (fun w => f.1 _) (fun w => f.2.1 _) (fun w => f.2.2.1 _) (fun w => f.2.2.2 _), EReal.toReal_coe]

/-- The reference's array is the kernel's. -/
theorem same (a0 : FVec Ideal Cert.MlaIdeal.S2x8192x4x64 .f32) (a1 : FVec Ideal Cert.MlaIdeal.S2x8192x4x32 .f32) (a2 : FVec Ideal Cert.MlaIdeal.S2x8192x4x64 .f32)
    (a3 : FVec Ideal Cert.MlaIdeal.S2x8192x32 .f32) (a4 : FVec Ideal Cert.MlaIdeal.S2x8192x4x64 .f32)
    (f : (∀ i, Real' (a0 i)) ∧ (∀ i, Real' (a1 i)) ∧ (∀ i, Real' (a2 i)) ∧ (∀ i, Real' (a3 i))) :
    Cert.MlaRefIdeal.Val.REF a0 a1 a2 a3 a4 = heads (Cert.MlaIdeal.Run.G a0 a1 a2 a3 a4) := by
  funext j
  idx_vars j
  exact same_at a0 a1 a2 a3 a4 f _ _ _ _

/-- The kernel's result is the reference's. -/
theorem algebraic : Cert.algebraic_MlaIdeal_MlaRefIdeal_pre_finite := by
  pair_intro
  · run_from run_value m g
  · run_from Cert.MlaRefIdeal.Value.run m' g'
    obtain ⟨h0, h1, h2, h3, h4⟩ := hagree c
    have f := real_of_pre _ _ _ _ _ (hpre c)
    refine (Cert.MlaRefIdeal.Val.res_eq m' c).trans (Eq.trans ?_ (congrArg heads (Cert.MlaIdeal.Run.final m c f.1 f.2.1 f.2.2.1 f.2.2.2)).symm)
    rw [h0, h1, h2, h3, h4]
    exact same _ _ _ _ _ f

end Cert.Mla.Claims

end
-- ==== Proof.TailSpec.lean ====
/- The mathematics of the layer's tail on one row, over the extended reals. -/
module

public import Idealize.ShloMosaic.Lib.Pointwise

@[expose] public section

noncomputable section

open scoped BigOperators
open Idealize.ShloMosaic

namespace Cert.Tail.Spec

/-- A row of the model's width. -/
abbrev Row : Type := Fin 1024 → EReal

/-- The width, 1024, as the programs' literal. -/
def width : EReal := Ideal.ofBits .f32 0x44800000#32

/-- The norm's epsilon, the programs' literal. -/
def eps : EReal := Ideal.ofBits .f32 0x358637BD#32

/-- The root-mean-square norm of a row, scaled by `g`. -/
def rms (x g : Row) : Row := fun d =>
  x d * Ideal.rsqrt (Ideal.div (∑ k, x k * x k) width + eps) * g d

/-- The sigmoid gate of a row: of the product with one column of the gate's weights and one bias. -/
def gate (h w : Row) (b : EReal) : EReal :=
  Ideal.div 1 (1 + Ideal.exp (-(∑ k, h k * w k + b)))

/-- The row after the gated merge and the output projection. -/
def mixed (x : Row) (gates proj : Fin 4 → Row) (wout : Fin 1024 → Row) : Row := fun d =>
  x d + ∑ k, (∑ n, gates n k * proj n k) * wout k d

/-- One hidden unit of the feed-forward part: the square of the rectified product. -/
def unit (h w : Row) : EReal := max (∑ k, h k * w k) 0 * max (∑ k, h k * w k) 0

/-- The row after the feed-forward part. -/
def fed (x1 h2 : Row) (wup : Fin 4096 → Row) (wdown : Fin 4096 → Row) : Row := fun d =>
  x1 d + ∑ f, unit h2 (wup f) * wdown f d

/-- The whole tail on one row. `wg n d` is the column of the gate's weights for branch `n` and channel `d`,
    `proj n` the projected branch. -/
def tail (x g : Row) (wg : Fin 4 → Fin 1024 → Row) (bg : Fin 4 → Row) (proj : Fin 4 → Row) (wout : Fin 1024 → Row)
    (g2 : Row) (wup wdown : Fin 4096 → Row) (gf : Row) : Row :=
  let x1 := mixed x (fun n d => gate (rms x g) (wg n d) (bg n d)) proj wout
  rms (fed x1 (rms x1 g2) wup wdown) gf

/-- The tail of an inner layer on one row: without the final norm. -/
def innerTail (x g : Row) (wg : Fin 4 → Fin 1024 → Row) (bg : Fin 4 → Row) (proj : Fin 4 → Row) (wout : Fin 1024 → Row)
    (g2 : Row) (wup wdown : Fin 4096 → Row) : Row :=
  let x1 := mixed x (fun n d => gate (rms x g) (wg n d) (bg n d)) proj wout
  fed x1 (rms x1 g2) wup wdown

/-- The feed-forward part by four blocks of hidden units. -/
theorem fed_blocks (x1 h2 : Row) (wup wdown : Fin 4096 → Row) (d : Fin 1024) :
    fed x1 h2 wup wdown d
      = (((x1 d + ∑ f : Fin 1024, unit h2 (wup ⟨f.val, by omega⟩) * wdown ⟨f.val, by omega⟩ d)
          + ∑ f : Fin 1024, unit h2 (wup ⟨1024 + f.val, by omega⟩) * wdown ⟨1024 + f.val, by omega⟩ d)
          + ∑ f : Fin 1024, unit h2 (wup ⟨2048 + f.val, by omega⟩) * wdown ⟨2048 + f.val, by omega⟩ d)
          + ∑ f : Fin 1024, unit h2 (wup ⟨3072 + f.val, by omega⟩) * wdown ⟨3072 + f.val, by omega⟩ d := by
  unfold fed
  rw [Fin.sum_univ_tiles 4 1024 rfl, Fin.sum_univ_four]
  simp [add_assoc]

/-- The merge written out over its four branches. -/
theorem mixed_four (x : Row) (gates proj : Fin 4 → Row) (wout : Fin 1024 → Row) (d : Fin 1024) :
    mixed x gates proj wout d
      = x d + ∑ k, (gates 0 k * proj 0 k + gates 1 k * proj 1 k + gates 2 k * proj 2 k + gates 3 k * proj 3 k)
          * wout k d := by
  unfold mixed
  simp only [Fin.sum_univ_four]

end Cert.Tail.Spec

end
-- ==== Proof.TailKernel.lean ====
/- What the tail's kernel stores, row by row. -/
module

public import proofs.«01_k».proof.Proof.TailSpec
public import proofs.«01_k».proof.Proof.Gen.TailIdeal.Frame
public import Idealize.ShloMosaic.Lib.Pointwise

@[expose] public section

set_option maxRecDepth 16384

noncomputable section

open scoped BigOperators
open Idealize.ShloMosaic Idealize.ShloMosaic.TcCoe Idealize.SL.Sem

namespace Cert.TailIdeal.Val

open Cert.TailIdeal Cert.TailIdeal.Gen Cert.Tail.Spec

/-- The normed row. -/
theorem pay3_at (v0 : Vec Ideal S512x1024 .f32) (v2 : Vec Ideal S1x1024 .f32) (r : Fin 512) (d : Fin 1024) :
    k0_pay3 (F := Ideal) v0 v2 (ix2 r d) = rms (fun k => v0 (ix2 r k)) (fun k => v2 (ix2 0 k)) d := by
  pointwise [k0_pay3, k0_pay2, rms, width, eps]

/-- The first gated branch. -/
theorem pay4_at (v0 : Vec Ideal S512x1024 .f32) (v2 : Vec Ideal S1x1024 .f32) (w : Vec Ideal S1024x1024 .bf16)
    (b : Vec Ideal S1x1024 .f32) (o : Vec Ideal S512x512 .bf16) (wb : Vec Ideal S1x512x1024 .bf16)
    (r : Fin 512) (d : Fin 1024) :
    k0_pay4 (F := Ideal) v0 v2 w b o wb (ix2 r d)
      = gate (fun k => k0_pay3 (F := Ideal) v0 v2 (ix2 r k)) (fun k => w (ix2 k d)) (b (ix2 0 d))
        * ∑ c : Fin 512, o (ix2 r c) * wb (ix3 0 c d) := by
  pointwise [k0_pay4, gate]
  simp only [zero_sub]

/-- The second gated branch, added. -/
theorem pay5_at (h : FVec Ideal S512x1024 .bf16) (a : FVec Ideal S512x1024 .f32) (w : Vec Ideal S1024x1024 .bf16)
    (b : Vec Ideal S1x1024 .f32) (o : Vec Ideal S512x512 .bf16) (wb : Vec Ideal S1x512x1024 .bf16)
    (r : Fin 512) (d : Fin 1024) :
    k0_pay5 (F := Ideal) h a w b o wb (ix2 r d)
      = a (ix2 r d) + gate (fun k => h (ix2 r k)) (fun k => w (ix2 k d)) (b (ix2 0 d))
        * ∑ c : Fin 512, o (ix2 r c) * wb (ix3 0 c d) := by
  pointwise [k0_pay5, gate]
  simp only [zero_sub]

/-- The third gate. -/
theorem pay6_at (h : FVec Ideal S512x1024 .bf16) (w : Vec Ideal S1024x1024 .bf16)
    (b : Vec Ideal S1x1024 .f32) (r : Fin 512) (d : Fin 1024) :
    k0_pay6 (F := Ideal) h w b (ix2 r d)
      = gate (fun k => h (ix2 r k)) (fun k => w (ix2 k d)) (b (ix2 0 d)) := by
  pointwise [k0_pay6, gate]
  simp only [zero_sub]

/-- The row after the merge and the output projection. -/
theorem pay8_at (v1 : FVec Ideal S512x1024 .f32) (v16 : FVec Ideal S512x1024 .bf16) (v53 v66 : FVec Ideal S512x1024 .f32)
    (v67 : Vec Ideal S512x512 .bf16) (v68 : Vec Ideal S1x512x1024 .bf16)
    (v73 : Vec Ideal S1024x1024 .bf16) (v76 : Vec Ideal S1x1024 .f32) (v86 : Vec Ideal S512x512 .bf16)
    (v87 : Vec Ideal S1x512x1024 .bf16) (v93 : Vec Ideal S1024x1024 .bf16) (r : Fin 512) (d : Fin 1024) :
    k0_pay8 (F := Ideal) v1 v16 v53 v66 v67 (k0_pay7 v68) (constant S512x1024 .f32 0x00000000#32) v73 v76 v86 v87 v93 (ix2 r d)
      = v1 (ix2 r d) + ∑ k : Fin 1024, ((v53 (ix2 r k) + v66 (ix2 r k) * ∑ c : Fin 512, v67 (ix2 r c) * v68 (ix3 0 c k))
          + gate (fun l => v16 (ix2 r l)) (fun l => v73 (ix2 l k)) (v76 (ix2 0 k))
            * ∑ c : Fin 512, v86 (ix2 r c) * v87 (ix3 0 c k)) * v93 (ix2 k d) := by
  pointwise [k0_pay8, k0_pay7, gate]
  simp only [zero_sub]

/-- The second norm. -/
theorem pay11_at (v1 : FVec Ideal S512x1024 .f32) (v16 : FVec Ideal S512x1024 .bf16) (v53 v66 : FVec Ideal S512x1024 .f32)
    (v67 : Vec Ideal S512x512 .bf16) (v69 : FVec Ideal S512x1024 .bf16) (z : FVec Ideal S512x1024 .f32)
    (v73 : Vec Ideal S1024x1024 .bf16) (v76 : Vec Ideal S1x1024 .f32) (v86 : Vec Ideal S512x512 .bf16)
    (v87 : Vec Ideal S1x512x1024 .bf16) (v93 : Vec Ideal S1024x1024 .bf16) (g : Vec Ideal S1x1024 .f32)
    (r : Fin 512) (d : Fin 1024) :
    k0_pay11 (F := Ideal) (k0_pay8 v1 v16 v53 v66 v67 v69 z v73 v76 v86 v87 v93) (k0_pay9 g)
        (k0_pay10 v1 v16 v53 v66 v67 v69 z v73 v76 v86 v87 v93) (ix2 r d)
      = rms (fun k => k0_pay8 (F := Ideal) v1 v16 v53 v66 v67 v69 z v73 v76 v86 v87 v93 (ix2 r k)) (fun k => g (ix2 0 k)) d := by
  generalize hy : k0_pay8 (F := Ideal) v1 v16 v53 v66 v67 v69 z v73 v76 v86 v87 v93 = y
  pointwise [k0_pay11, k0_pay9, k0_pay10, rms, width, eps, hy]

/-- Three of the four chunks of the feed-forward part. -/
theorem pay12_at (x1 : FVec Ideal S512x1024 .f32) (g : FVec Ideal S1x1024 .f32) (s : FVec Ideal S512x1024 .f32)
    (u0 d0 u1 d1 u2 d2 : Vec Ideal S1024x1024 .bf16) (r : Fin 512) (d : Fin 1024) :
    k0_pay12 (F := Ideal) x1 g s u0 d0 u1 d1 u2 d2 (ix2 r d)
      = ((x1 (ix2 r d)
          + ∑ f : Fin 1024, unit (fun k => k0_pay11 (F := Ideal) x1 g s (ix2 r k)) (fun k => u0 (ix2 k f)) * d0 (ix2 f d))
          + ∑ f : Fin 1024, unit (fun k => k0_pay11 (F := Ideal) x1 g s (ix2 r k)) (fun k => u1 (ix2 k f)) * d1 (ix2 f d))
          + ∑ f : Fin 1024, unit (fun k => k0_pay11 (F := Ideal) x1 g s (ix2 r k)) (fun k => u2 (ix2 k f)) * d2 (ix2 f d) := by
  pointwise [k0_pay12, unit]

/-- The last chunk, in the normed form that is stored. -/
theorem pay1_at (h2 : FVec Ideal S512x1024 .bf16) (y : FVec Ideal S512x1024 .f32) (u : Vec Ideal S1024x1024 .bf16)
    (w : Vec Ideal S1024x1024 .bf16) (gf : Vec Ideal S1x1024 .f32) (r : Fin 512) (d : Fin 1024) :
    k0_pay1 (F := Ideal) h2 y u w gf (ix2 r d)
      = rms (fun k => y (ix2 r k) + ∑ f : Fin 1024, unit (fun l => h2 (ix2 r l)) (fun l => u (ix2 l f)) * w (ix2 f k))
          (fun k => gf (ix2 0 k)) d := by
  pointwise [k0_pay1, unit, rms, width, eps]

end Cert.TailIdeal.Val

end
-- ==== Proof.TailOut.lean ====
/- What the tail's kernel leaves in its output block: the tail of every row of its input block. -/
module

public import proofs.«01_k».proof.Proof.TailKernel
public import Idealize.ShloMosaic.Lib.Pipeline.ValueKit

@[expose] public section

set_option maxRecDepth 16384

noncomputable section

open scoped BigOperators
open Idealize.ShloMosaic Idealize.ShloMosaic.TcCoe Idealize.SL.Sem

namespace Cert.TailIdeal.Val

open Cert.TailIdeal Cert.TailIdeal.Gen Cert.Tail.Spec

/-- The output block, row by row. -/
theorem out_at (x0 : Vec Ideal S512x1024 .f32) (x1 : Vec Ideal S1x1024 .f32) (x2 : Vec Ideal S1024x4096 .bf16)
    (x3 : Vec Ideal S4x1024 .f32) (x4 x5 x6 x7 : Vec Ideal S512x512 .bf16) (x8 : Vec Ideal S4x512x1024 .bf16)
    (x9 : Vec Ideal S1024x1024 .bf16) (x10 : Vec Ideal S1x1024 .f32) (x11 : Vec Ideal S1024x4096 .bf16)
    (x12 : Vec Ideal S4096x1024 .bf16) (x13 : Vec Ideal S1x1024 .f32) (r : Fin 512) (d : Fin 1024) :
    out0_14 (F := Ideal) x0 x1 x2 x3 x4 x5 x6 x7 x8 x9 x10 x11 x12 x13 (ix2 r d)
      = tail (fun k => x0 (ix2 r k)) (fun k => x1 (ix2 0 k))
          (fun n e k => x2 (ix2 k ⟨n.val * 1024 + e.val, by omega⟩)) (fun n e => x3 (ix2 n e))
          (fun n e => ∑ c : Fin 512, (![x4, x5, x6, x7] n) (ix2 r c) * x8 (ix3 n c e))
          (fun k e => x9 (ix2 k e)) (fun k => x10 (ix2 0 k)) (fun f k => x11 (ix2 k f)) (fun f e => x12 (ix2 f e))
          (fun k => x13 (ix2 0 k)) d := by
  frame_out
  rw [pay1_at]
  unfold k0_pay21 k0_pay20 k0_pay19
  simp only [k0_pay13, k0_pay14, k0_pay15, k0_pay16, k0_pay17, k0_pay18, pay12_at, pay11_at, pay8_at, pay6_at, pay5_at, pay4_at, pay3_at]
  have hp : ∀ k : Fin 1024, k0_pay2 (F := Ideal) (View.ld x0 r0_0) (ix2 r k) = x0 (ix2 r k) := fun k => by
    pointwise [k0_pay2]
  unfold tail
  simp only [hp]
  rw [funext (fed_blocks _ _ _ _)]
  rw [funext (mixed_four _ _ _ _)]
  pointwise []

end Cert.TailIdeal.Val

end
-- ==== Proof.TailEnt.lean ====
/- The tail's input blocks, as the launch finds them. -/
module

public import proofs.«01_k».proof.Proof.TailOut
public import proofs.«01_k».proof.Proof.Gen.TailIdeal.Value

@[expose] public section

set_option maxRecDepth 16384

noncomputable section

open scoped BigOperators
open Idealize.ShloMosaic Idealize.ShloMosaic.TcCoe Idealize.SL.Sem
open Idealize.ShloMosaic.Pipeline (Dat)

namespace Cert.TailIdeal.Val

open Cert.TailIdeal Cert.TailIdeal.Gen Cert.Tail.Spec

variable (m : (ℓ : Loc nD τ sig) → Buf (Elt Ideal) ℓ)

/-- A sum over four slots of 128 lanes, of which the last 64 hold zero, is the sum over four times 64. -/
theorem sum_slots (f : Fin 512 → EReal) (hf : ∀ k : Fin 512, 64 ≤ k.val % 128 → f k = 0) :
    ∑ c : Fin 512, f c = ∑ k : Fin 256, f ⟨(k.val / 64) * 128 + k.val % 64, by omega⟩ := by
  rw [Fin.sum_univ_tiles 4 128 rfl f, Fin.sum_univ_tiles 4 64 rfl]
  refine Finset.sum_congr rfl fun h _ => ?_
  refine (Fin.sum_univ_add (a := 64) (b := 64) _).trans ?_
  refine (congrArg₂ (· + ·) ?_ ?_).trans (add_zero _)
  · refine Finset.sum_congr rfl fun t _ => ?_
    congr 1
    ext
    simp only [Fin.val_castAdd]
    omega
  · refine Finset.sum_eq_zero fun t _ => hf _ ?_
    simp only [Fin.val_natAdd]
    omega

/-- The windows' blocks: the rows' windows move with the point, the others stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] ∧ win0_8.index t = ![0, 0, 0]
    ∧ win0_9.index t = ![0, 0] ∧ win0_10.index t = ![0, 0] ∧ win0_11.index t = ![0, 0] ∧ win0_12.index t = ![0, 0]
    ∧ win0_13.index t = ![0, 0] ∧ win0_14.index t = ![t.val, 0] :=
  (by decide +kernel : ∀ t : Fin grid0.N, _)

/-! What the launch finds in the arrays that the host prepared. -/

/-- An array the host prepared, from the arguments. -/
theorem ent_v1 (c : Dev nD) : V m c main_v1 = (truncf .bf16 (extractStridedSlice S1024x4096 ![0, 3016] (m ((c : Thread nD τ).loc main_arg2) : FVec Ideal S1024x7112 .f32) slices_S1024x7112_S1024x4096_0_3016) bitsLt_bf16_f32 : FVec Ideal S1024x4096 .bf16) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp

/-- An array the host prepared, from the arguments. -/
theorem ent_v6 (c : Dev nD) : V m c main_v6 = (shapeCast _ (m ((c : Thread nD τ).loc main_arg0)) shapeCasts_S2x8192x1024_S16384x1024) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp
  rfl

/-- An array the host prepared, from the arguments. -/
theorem ent_v7 (c : Dev nD) : V m c main_v7 = (shapeCast _ (m ((c : Thread nD τ).loc main_arg1)) shapeCasts_S1024_S1x1024) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp
  rfl

/-- An array the host prepared, from the arguments. -/
theorem ent_v9 (c : Dev nD) : V m c main_v9 = (shapeCast _ (m ((c : Thread nD τ).loc main_arg10)) shapeCasts_S1024_S1x1024) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp
  rfl

/-- An array the host prepared, from the arguments. -/
theorem ent_v12 (c : Dev nD) : V m c main_v12 = (shapeCast _ (m ((c : Thread nD τ).loc main_arg13)) shapeCasts_S1024_S1x1024) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp
  rfl

/-- An array the host prepared, from the arguments. -/
theorem ent_v8 (c : Dev nD) : V m c main_v8 = (truncf .bf16 (m ((c : Thread nD τ).loc main_arg9) : FVec Ideal S1024x1024 .f32) bitsLt_bf16_f32 : FVec Ideal S1024x1024 .bf16) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp

/-- An array the host prepared, from the arguments. -/
theorem ent_v10 (c : Dev nD) : V m c main_v10 = (truncf .bf16 (m ((c : Thread nD τ).loc main_arg11) : FVec Ideal S1024x4096 .f32) bitsLt_bf16_f32 : FVec Ideal S1024x4096 .bf16) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp

/-- An array the host prepared, from the arguments. -/
theorem ent_v11 (c : Dev nD) : V m c main_v11 = (truncf .bf16 (m ((c : Thread nD τ).loc main_arg12) : FVec Ideal S4096x1024 .f32) bitsLt_bf16_f32 : FVec Ideal S4096x1024 .bf16) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp

/-- An array the host prepared, from the arguments. -/
theorem ent_v5 (c : Dev nD) : V m c main_v5 = (truncf .bf16 (shapeCast _ (pad S4x4x128x1024 ![0, 0, 0, 0] ![0, 0, 64, 0] ![0, 0, 0, 0] (shapeCast _ (m ((c : Thread nD τ).loc main_arg8)) shapeCasts_S4x256x1024_S4x4x64x1024) (sitofp (F := Ideal) .f32 (constantI S_ 32 0#32)) pads_S4x4x64x1024_S4x4x128x1024_000_000_0640_000 h_S_ : FVec Ideal S4x4x128x1024 .f32) shapeCasts_S4x4x128x1024_S4x512x1024) bitsLt_bf16_f32 : FVec Ideal S4x512x1024 .bf16) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp
  rfl

/-- The rows, reshaped, read at a row. -/
theorem rows_at (A : FVec Ideal S2x8192x1024 .f32) (R : Fin 16384) (k : Fin 1024) :
    (shapeCast _ A shapeCasts_S2x8192x1024_S16384x1024 : FVec Ideal S16384x1024 .f32) (ix2 R k)
      = A (ix3 ⟨R.val / 8192, by omega⟩ ⟨R.val % 8192, by omega⟩ k) := by
  pointwise []

/-- The branch weights, padded head by head, read at a row. -/
theorem slots_at (A : FVec Ideal S4x256x1024 .f32) (n : Fin 4) (k : Fin 512) (e : Fin 1024) :
    (truncf .bf16 (shapeCast _ (pad S4x4x128x1024 ![0, 0, 0, 0] ![0, 0, 64, 0] ![0, 0, 0, 0]
        (shapeCast _ A shapeCasts_S4x256x1024_S4x4x64x1024) (sitofp (F := Ideal) .f32 (constantI S_ 32 0#32))
        pads_S4x4x64x1024_S4x4x128x1024_000_000_0640_000 h_S_ : FVec Ideal S4x4x128x1024 .f32)
        shapeCasts_S4x4x128x1024_S4x512x1024) bitsLt_bf16_f32 : FVec Ideal S4x512x1024 .bf16) (ix3 n k e)
      = if h : k.val % 128 < 64 then A (ix3 n ⟨(k.val / 128) * 64 + k.val % 128, by omega⟩ e) else (0 : EReal) := by
  pointwise []
  by_cases h : k.val % 128 < 64
  · rw [dif_pos ⟨by omega, h⟩, dif_pos h]
  · rw [dif_neg (fun h' => h h'.2), dif_neg h]
    show (((0#32 : BitVec 32).toInt : ℝ) : EReal) = 0
    simp

/-- The branch weights' block: a head's 64 rows at the head's slot, zero in the lanes between. -/
theorem wb_at (c : Dev nD) (t : Fin cfg0.N) (n : Fin 4) (k : Fin 512) (e : Fin 1024) :
    (iblk m c 8 t : FVec Ideal S4x512x1024 .bf16) (ix3 n k e)
      = if h : k.val % 128 < 64 then
          (m ((c : Thread nD τ).loc main_arg8) : FVec Ideal S4x256x1024 .f32)
            (ix3 n ⟨(k.val / 128) * 64 + k.val % 128, by omega⟩ e)
        else (0 : EReal) := by
  have h : (iblk m c 8 t : FVec Ideal S4x512x1024 .bf16) (ix3 n k e) = (V m c main_v5 : FVec Ideal S4x512x1024 .bf16) (ix3 n k e) := by
    blk_ext [iblk, idx t]
  rw [h, ent_v5]
  exact slots_at _ n k e

/-- The rows' block. -/
theorem x_at (c : Dev nD) (t : Fin cfg0.N) (r : Fin 512) (k : Fin 1024) :
    (iblk m c 0 t : FVec Ideal S512x1024 .f32) (ix2 r k)
      = (m ((c : Thread nD τ).loc main_arg0) : FVec Ideal S2x8192x1024 .f32)
          (ix3 ⟨(t.val * 512 + r.val) / 8192, by have := t.isLt; have h : t.val < 32 := t.isLt; omega⟩
            ⟨(t.val * 512 + r.val) % 8192, by omega⟩ k) := by
  have h : (iblk m c 0 t : FVec Ideal S512x1024 .f32) (ix2 r k) = (V m c main_v6 : FVec Ideal S16384x1024 .f32)
      (ix2 ⟨t.val * 512 + r.val, by have h : t.val < 32 := t.isLt; omega⟩ k) := by
    blk_ext [iblk, idx t]
  rw [h, ent_v6]
  exact rows_at _ _ k

/-- The gates' weights. -/
theorem wg_at (c : Dev nD) (t : Fin cfg0.N) (k : Fin 1024) (e : Fin 4096) :
    (iblk m c 2 t : FVec Ideal S1024x4096 .bf16) (ix2 k e)
      = (m ((c : Thread nD τ).loc main_arg2) : FVec Ideal S1024x7112 .f32) (ix2 k ⟨3016 + e.val, by omega⟩) := by
  have h : (iblk m c 2 t : FVec Ideal S1024x4096 .bf16) (ix2 k e) = (V m c main_v1 : FVec Ideal S1024x4096 .bf16) (ix2 k e) := by
    blk_ext [iblk, idx t]
  rw [h, ent_v1]
  pointwise []

/-- The first norm's scale. -/
theorem g1_at (c : Dev nD) (t : Fin cfg0.N) (k : Fin 1024) :
    (iblk m c 1 t : FVec Ideal S1x1024 .f32) (ix2 0 k)
      = (m ((c : Thread nD τ).loc main_arg1) : FVec Ideal S1024 .f32) (ix1 k) := by
  have h : (iblk m c 1 t : FVec Ideal S1x1024 .f32) (ix2 0 k) = (V m c main_v7 : FVec Ideal S1x1024 .f32) (ix2 0 k) := by
    blk_ext [iblk, idx t]
  rw [h, ent_v7]
  pointwise []

/-- The second norm's scale. -/
theorem g10_at (c : Dev nD) (t : Fin cfg0.N) (k : Fin 1024) :
    (iblk m c 10 t : FVec Ideal S1x1024 .f32) (ix2 0 k)
      = (m ((c : Thread nD τ).loc main_arg10) : FVec Ideal S1024 .f32) (ix1 k) := by
  have h : (iblk m c 10 t : FVec Ideal S1x1024 .f32) (ix2 0 k) = (V m c main_v9 : FVec Ideal S1x1024 .f32) (ix2 0 k) := by
    blk_ext [iblk, idx t]
  rw [h, ent_v9]
  pointwise []

/-- The last norm's scale. -/
theorem g13_at (c : Dev nD) (t : Fin cfg0.N) (k : Fin 1024) :
    (iblk m c 13 t : FVec Ideal S1x1024 .f32) (ix2 0 k)
      = (m ((c : Thread nD τ).loc main_arg13) : FVec Ideal S1024 .f32) (ix1 k) := by
  have h : (iblk m c 13 t : FVec Ideal S1x1024 .f32) (ix2 0 k) = (V m c main_v12 : FVec Ideal S1x1024 .f32) (ix2 0 k) := by
    blk_ext [iblk, idx t]
  rw [h, ent_v12]
  pointwise []

/-- The output projection's weights. -/
theorem w9_at (c : Dev nD) (t : Fin cfg0.N) (k : Fin 1024) (e : Fin 1024) :
    (iblk m c 9 t : FVec Ideal S1024x1024 .bf16) (ix2 k e)
      = (m ((c : Thread nD τ).loc main_arg9) : FVec Ideal S1024x1024 .f32) (ix2 k e) := by
  have h : (iblk m c 9 t : FVec Ideal S1024x1024 .bf16) (ix2 k e) = (V m c main_v8 : FVec Ideal S1024x1024 .bf16) (ix2 k e) := by
    blk_ext [iblk, idx t]
  rw [h, ent_v8]
  pointwise []

/-- The feed-forward part's first weights. -/
theorem w11_at (c : Dev nD) (t : Fin cfg0.N) (k : Fin 1024) (e : Fin 4096) :
    (iblk m c 11 t : FVec Ideal S1024x4096 .bf16) (ix2 k e)
      = (m ((c : Thread nD τ).loc main_arg11) : FVec Ideal S1024x4096 .f32) (ix2 k e) := by
  have h : (iblk m c 11 t : FVec Ideal S1024x4096 .bf16) (ix2 k e) = (V m c main_v10 : FVec Ideal S1024x4096 .bf16) (ix2 k e) := by
    blk_ext [iblk, idx t]
  rw [h, ent_v10]
  pointwise []

/-- The feed-forward part's second weights. -/
theorem w12_at (c : Dev nD) (t : Fin cfg0.N) (k : Fin 4096) (e : Fin 1024) :
    (iblk m c 12 t : FVec Ideal S4096x1024 .bf16) (ix2 k e)
      = (m ((c : Thread nD τ).loc main_arg12) : FVec Ideal S4096x1024 .f32) (ix2 k e) := by
  have h : (iblk m c 12 t : FVec Ideal S4096x1024 .bf16) (ix2 k e) = (V m c main_v11 : FVec Ideal S4096x1024 .bf16) (ix2 k e) := by
    blk_ext [iblk, idx t]
  rw [h, ent_v11]
  pointwise []

/-- The gates' biases. -/
theorem b_at (c : Dev nD) (t : Fin cfg0.N) (n : Fin 4) (e : Fin 1024) :
    (iblk m c 3 t : FVec Ideal S4x1024 .f32) (ix2 n e)
      = (m ((c : Thread nD τ).loc main_arg3) : FVec Ideal S4x1024 .f32) (ix2 n e) := by
  blk_ext [iblk, V, idx t]

/-- The rows of branch 0. -/
theorem o4_at (c : Dev nD) (t : Fin cfg0.N) (r k : Fin 512) :
    (iblk m c 4 t : FVec Ideal S512x512 .bf16) (ix2 r k)
      = (m ((c : Thread nD τ).loc main_arg4) : FVec Ideal S16384x512 .bf16)
          (ix2 ⟨t.val * 512 + r.val, by have h : t.val < 32 := t.isLt; omega⟩ k) := by
  blk_ext [iblk, V, idx t]

/-- The rows of branch 1. -/
theorem o5_at (c : Dev nD) (t : Fin cfg0.N) (r k : Fin 512) :
    (iblk m c 5 t : FVec Ideal S512x512 .bf16) (ix2 r k)
      = (m ((c : Thread nD τ).loc main_arg5) : FVec Ideal S16384x512 .bf16)
          (ix2 ⟨t.val * 512 + r.val, by have h : t.val < 32 := t.isLt; omega⟩ k) := by
  blk_ext [iblk, V, idx t]

/-- The rows of branch 2. -/
theorem o6_at (c : Dev nD) (t : Fin cfg0.N) (r k : Fin 512) :
    (iblk m c 6 t : FVec Ideal S512x512 .bf16) (ix2 r k)
      = (m ((c : Thread nD τ).loc main_arg6) : FVec Ideal S16384x512 .bf16)
          (ix2 ⟨t.val * 512 + r.val, by have h : t.val < 32 := t.isLt; omega⟩ k) := by
  blk_ext [iblk, V, idx t]

/-- The rows of branch 3. -/
theorem o7_at (c : Dev nD) (t : Fin cfg0.N) (r k : Fin 512) :
    (iblk m c 7 t : FVec Ideal S512x512 .bf16) (ix2 r k)
      = (m ((c : Thread nD τ).loc main_arg7) : FVec Ideal S16384x512 .bf16)
          (ix2 ⟨t.val * 512 + r.val, by have h : t.val < 32 := t.isLt; omega⟩ k) := by
  blk_ext [iblk, V, idx t]

end Cert.TailIdeal.Val

end
-- ==== Proof.TailArr.lean ====
/- The tail's result array after the kernel's run. -/
module

public import proofs.«01_k».proof.Proof.TailOut
public import proofs.«01_k».proof.Proof.TailEnt
public import proofs.«01_k».proof.Proof.Gen.TailIdeal.Value

@[expose] public section

set_option maxRecDepth 16384

noncomputable section

open scoped BigOperators
open Idealize.ShloMosaic Idealize.ShloMosaic.TcCoe Idealize.SL.Sem
open Idealize.ShloMosaic.Pipeline (Dat)

namespace Cert.TailIdeal.Val

open Cert.TailIdeal Cert.TailIdeal.Gen Cert.Tail.Spec

variable (m : (ℓ : Loc nD τ sig) → Buf (Elt Ideal) ℓ)

/-- The result over the kernel's arguments: the tail of every row. -/
def G (a0 : FVec Ideal S2x8192x1024 .f32) (a1 : FVec Ideal S1024 .f32) (a2 : FVec Ideal S1024x7112 .f32)
    (a3 : FVec Ideal S4x1024 .f32) (a4 a5 a6 a7 : FVec Ideal S16384x512 .bf16) (a8 : FVec Ideal S4x256x1024 .f32)
    (a9 : FVec Ideal S1024x1024 .f32) (a10 : FVec Ideal S1024 .f32) (a11 : FVec Ideal S1024x4096 .f32)
    (a12 : FVec Ideal S4096x1024 .f32) (a13 : FVec Ideal S1024 .f32) : FVec Ideal S16384x1024 .f32 := fun j =>
  tail (fun k => a0 (ix3 ⟨(j 0).val / 8192, by have h := (j 0).isLt; exact Nat.div_lt_of_lt_mul h⟩
        ⟨(j 0).val % 8192, Nat.mod_lt _ (by decide)⟩ k)) (fun k => a1 (ix1 k))
    (fun n e k => a2 (ix2 k ⟨3016 + (n.val * 1024 + e.val), by omega⟩)) (fun n e => a3 (ix2 n e))
    (fun n e => ∑ k : Fin 256, (![a4, a5, a6, a7] n) (ix2 (j 0) ⟨(k.val / 64) * 128 + k.val % 64, by omega⟩) * a8 (ix3 n k e))
    (fun k e => a9 (ix2 k e)) (fun k => a10 (ix1 k)) (fun f k => a11 (ix2 k f)) (fun f e => a12 (ix2 f e))
    (fun k => a13 (ix1 k)) (j 1)

/-- The branch weights and a branch's rows, slot by slot, give the branch's projection. -/
theorem proj_slots (c : Dev nD) (t : Fin cfg0.N) (o : FVec Ideal S512x512 .bf16) (a : FVec Ideal S16384x512 .bf16)
    (ho : ∀ r k : Fin 512, o (ix2 r k) = a (ix2 ⟨t.val * 512 + r.val, by have h : t.val < 32 := t.isLt; omega⟩ k))
    (r : Fin 512) (n : Fin 4) (e : Fin 1024) :
    (∑ k : Fin 512, o (ix2 r k) * (iblk m c 8 t : FVec Ideal S4x512x1024 .bf16) (ix3 n k e) : EReal)
      = ∑ k : Fin 256, a (ix2 ⟨t.val * 512 + r.val, by have h : t.val < 32 := t.isLt; omega⟩
          ⟨(k.val / 64) * 128 + k.val % 64, by omega⟩)
          * (m ((c : Thread nD τ).loc main_arg8) : FVec Ideal S4x256x1024 .f32) (ix3 n k e) := by
  rw [sum_slots _ fun k hk => by rw [wb_at, dif_neg (by omega), mul_zero]]
  refine Finset.sum_congr rfl fun k _ => ?_
  rw [wb_at, dif_pos (by simp only []; omega), ho]
  congr 3
  ext
  simp only []
  omega

/-- Every point leaves its rows' tails. -/
theorem point (c : Dev nD) (t : Fin cfg0.N) (r : Fin 512) (d : Fin 1024) :
    out0_14 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (ix2 r d)
      = G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13))
          (ix2 ⟨t.val * 512 + r.val, by have h : t.val < 32 := t.isLt; omega⟩ d) := by
  rw [out_at]
  unfold G
  congr 1
  · funext k; exact x_at m c t r k
  · funext k; exact g1_at m c t k
  · funext n e k; exact wg_at m c t k _
  · funext n e; exact b_at m c t n e
  · funext n e
    fin_cases n
    · exact proj_slots m c t _ _ (o4_at m c t) r 0 e
    · exact proj_slots m c t _ _ (o5_at m c t) r 1 e
    · exact proj_slots m c t _ _ (o6_at m c t) r 2 e
    · exact proj_slots m c t _ _ (o7_at m c t) r 3 e
  · funext k e; exact w9_at m c t k e
  · funext k; exact g10_at m c t k
  · funext f k; exact w11_at m c t k f
  · funext f e; exact w12_at m c t f e
  · funext k; exact g13_at m c t k

/-- The result array after the run. -/
theorem final (c : Dev nD) : (dats m 0 c).arrAt 14 (cfgs 0).N
    = G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13)) := by
  refine (dats m 0 c).arrAt_eq_of_covers 14 _ (by decide +kernel) fun t _ y => ?_
  blk_simp
  rw [after0_14]
  idx_vars y
  refine (point m c t _ _).trans (congrArg _ ?_)
  blk_ext [idx t]

end Cert.TailIdeal.Val

end
-- ==== Proof.TailRef.lean ====
/- The reference of the tail, stage by stage, read at a row. -/
module

public import proofs.«01_k».proof.Proof.TailSpec
public import proofs.«01_k».proof.Proof.Gen.TailRefIdeal.Run
public import Idealize.ShloMosaic.Lib.Pointwise

@[expose] public section

set_option maxRecDepth 16384

noncomputable section

open scoped BigOperators
open Idealize.ShloMosaic Idealize.ShloMosaic.TcCoe Idealize.SL.Sem

namespace Cert.TailRefIdeal.Val

open Cert.TailRefIdeal Cert.TailRefIdeal.Gen Cert.Tail.Spec

/-- The norm over the whole array. -/
def rmsR (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The gates. -/
def gatesR (h : FVec Ideal S2x8192x1024 .f32) (w : FVec Ideal S1024x7112 .f32) (b : FVec Ideal S4x1024 .f32) :
    FVec Ideal S2x8192x4x1024 .f32 :=
  Host.divf (broadcastInDim S2x8192x4x1024 ![] bcast_S_S2x8192x4x1024 (constant S_ .f32 0x3F800000#32)) (addf (broadcastInDim S2x8192x4x1024 ![] bcast_S_S2x8192x4x1024 (constant S_ .f32 0x3F800000#32)) (Host.exp (Host.negf (addf (shapeCast _ (Host.dotGeneral dot_S2x8192x1024_S1024x4096_S2x8192x4096_2_0_01_1_n_n none h (extractStridedSlice S1024x4096 ![0, 3016] w slices_S1024x7112_S1024x4096_0_3016)) shapeCasts_S2x8192x4096_S2x8192x4x1024) (broadcastInDim S2x8192x4x1024 ![0, 1, 2, 3] bcast_S1x1x4x1024_S2x8192x4x1024_0_1_2_3 (broadcastInDim S1x1x4x1024 ![2, 3] bcast_S4x1024_S1x1x4x1024_2_3 b))))))

/-- A branch's four heads side by side, without the lanes that pad them. -/
def headsR (a : FVec Ideal S16384x512 .bf16) : FVec Ideal S2x8192x256 .f32 :=
  shapeCast _ (extractStridedSlice S2x8192x4x64 ![0, 0, 0, 0] (shapeCast _ (extf .f32 a bitsLt_bf16_f32) shapeCasts_S16384x512_S2x8192x4x128) slices_S2x8192x4x128_S2x8192x4x64_0_0_0_0) shapeCasts_S2x8192x4x64_S2x8192x256

/-- The four branches side by side. -/
def branchesR (oa ob oc od : FVec Ideal S16384x512 .bf16) : FVec Ideal S2x8192x4x256 .f32 :=
  concatenate S2x8192x4x256 2 [⟨S2x8192x1x256, ((broadcastInDim S2x8192x1x256 ![0, 1, 3] bcast_S2x8192x256_S2x8192x1x256_0_1_3 (headsR oa)) : (⟨S2x8192x1x256, .f32⟩ : BufTy).Contents (Elt Ideal))⟩, ⟨S2x8192x1x256, ((broadcastInDim S2x8192x1x256 ![0, 1, 3] bcast_S2x8192x256_S2x8192x1x256_0_1_3 (headsR ob)) : (⟨S2x8192x1x256, .f32⟩ : BufTy).Contents (Elt Ideal))⟩, ⟨S2x8192x1x256, ((broadcastInDim S2x8192x1x256 ![0, 1, 3] bcast_S2x8192x256_S2x8192x1x256_0_1_3 (headsR oc)) : (⟨S2x8192x1x256, .f32⟩ : BufTy).Contents (Elt Ideal))⟩, ⟨S2x8192x1x256, ((broadcastInDim S2x8192x1x256 ![0, 1, 3] bcast_S2x8192x256_S2x8192x1x256_0_1_3 (headsR od)) : (⟨S2x8192x1x256, .f32⟩ : BufTy).Contents (Elt Ideal))⟩] concatenates_S2x8192x1x256_S2x8192x1x256_S2x8192x1x256_S2x8192x1x256_S2x8192x4x256_d2

/-- The branches' projections. -/
def projR (w : FVec Ideal S4x256x1024 .f32) (o : FVec Ideal S2x8192x4x256 .f32) : FVec Ideal S2x8192x4x1024 .f32 :=
  transpose S2x8192x4x1024 [2, 3, 0, 1] (Host.dotGeneral dot_S4x256x1024_S2x8192x4x256_S4x1024x2x8192_1_3_2_01_0_2 none w o) transposes_S4x1024x2x8192_S2x8192x4x1024_2_3_0_1

/-- The rows after the merge and the output projection. -/
def mixedR (x : FVec Ideal S2x8192x1024 .f32) (gates proj : FVec Ideal S2x8192x4x1024 .f32) (w : FVec Ideal S1024x1024 .f32) :
    FVec Ideal S2x8192x1024 .f32 :=
  addf x (Host.dotGeneral dot_S2x8192x1024_S1024x1024_S2x8192x1024_2_0_01_1_n_n none (Host.reduceAdd (mulf gates proj) (constant S_ .f32 0x00000000#32) reducesTo_S2x8192x4x1024_S2x8192x1024_d2 h_S_) w)

/-- The rows after the feed-forward part. -/
def fedR (x1 h2 : FVec Ideal S2x8192x1024 .f32) (u : FVec Ideal S1024x4096 .f32) (w : FVec Ideal S4096x1024 .f32) :
    FVec Ideal S2x8192x1024 .f32 :=
  addf x1 (Host.dotGeneral dot_S2x8192x4096_S4096x1024_S2x8192x1024_2_0_01_1_n_n none (mulf (maximumf (Host.dotGeneral dot_S2x8192x1024_S1024x4096_S2x8192x4096_2_0_01_1_n_n none h2 u) (broadcastInDim S2x8192x4096 ![] bcast_S_S2x8192x4096 (constant S_ .f32 0x00000000#32))) (maximumf (Host.dotGeneral dot_S2x8192x1024_S1024x4096_S2x8192x4096_2_0_01_1_n_n none h2 u) (broadcastInDim S2x8192x4096 ![] bcast_S_S2x8192x4096 (constant S_ .f32 0x00000000#32)))) w)

/-- The reference's result over its arguments, in these stages. -/
def REF (a0 : FVec Ideal S2x8192x1024 .f32) (a1 : FVec Ideal S1024 .f32) (a2 : FVec Ideal S1024x7112 .f32)
    (a3 : FVec Ideal S4x1024 .f32) (a4 a5 a6 a7 : FVec Ideal S16384x512 .bf16) (a8 : FVec Ideal S4x256x1024 .f32)
    (a9 : FVec Ideal S1024x1024 .f32) (a10 : FVec Ideal S1024 .f32) (a11 : FVec Ideal S1024x4096 .f32)
    (a12 : FVec Ideal S4096x1024 .f32) (a13 : FVec Ideal S1024 .f32) : FVec Ideal S16384x1024 .f32 :=
  let x1 := mixedR a0 (gatesR (rmsR a0 a1) a2 a3) (projR a8 (branchesR a4 a5 a6 a7)) a9
  shapeCast _ (rmsR (fedR x1 (rmsR x1 a10) a11 a12) a13) shapeCasts_S2x8192x1024_S16384x1024

/-- The stages make up the reference's result. -/
theorem res_eq (m : (ℓ : Loc nD τ sig) → Buf (Elt Ideal) ℓ) (c : Dev nD) :
    Cert.TailRefIdeal.Value.res_main_v83 m c
      = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := rfl

/-- The norm, at a row. -/
theorem rmsR_at (x : FVec Ideal S2x8192x1024 .f32) (g : FVec Ideal S1024 .f32) (b : Fin 2) (s : Fin 8192) (d : Fin 1024) :
    rmsR x g (ix3 b s d) = rms (fun k => x (ix3 b s k)) (fun k => g (ix1 k)) d := by
  pointwise [rmsR, rms, width, eps]

/-- The gates, at a row. -/
theorem gatesR_at (h : FVec Ideal S2x8192x1024 .f32) (w : FVec Ideal S1024x7112 .f32) (a : FVec Ideal S4x1024 .f32)
    (b : Fin 2) (s : Fin 8192) (n : Fin 4) (d : Fin 1024) :
    gatesR h w a (ix4 b s n d)
      = gate (fun k => h (ix3 b s k)) (fun k => w (ix2 k ⟨3016 + (n.val * 1024 + d.val), by omega⟩)) (a (ix2 n d)) := by
  pointwise [gatesR, gate]

/-- A branch's heads, at a row. -/
theorem headsR_at (a : FVec Ideal S16384x512 .bf16) (b : Fin 2) (s : Fin 8192) (k : Fin 256) :
    headsR a (ix3 b s k)
      = a (ix2 ⟨b.val * 8192 + s.val, by omega⟩ ⟨(k.val / 64) * 128 + k.val % 64, by omega⟩) := by
  pointwise [headsR]

/-- The branches, at a row. -/
theorem branchesR_at (oa ob oc od : FVec Ideal S16384x512 .bf16) (b : Fin 2) (s : Fin 8192) (n : Fin 4) (k : Fin 256) :
    branchesR oa ob oc od (ix4 b s n k) = headsR (![oa, ob, oc, od] n) (ix3 b s k) := by
  fin_cases n <;> pointwise [branchesR]

/-- The projections, at a row. -/
theorem projR_at (w : FVec Ideal S4x256x1024 .f32) (o : FVec Ideal S2x8192x4x256 .f32)
    (b : Fin 2) (s : Fin 8192) (n : Fin 4) (d : Fin 1024) :
    projR w o (ix4 b s n d) = ∑ k : Fin 256, o (ix4 b s n k) * w (ix3 n k d) := by
  pointwise [projR]
  exact Finset.sum_congr rfl fun k _ => mul_comm _ _

/-- The merge, at a row. -/
theorem mixedR_at (x : FVec Ideal S2x8192x1024 .f32) (gates proj : FVec Ideal S2x8192x4x1024 .f32)
    (w : FVec Ideal S1024x1024 .f32) (b : Fin 2) (s : Fin 8192) (d : Fin 1024) :
    mixedR x gates proj w (ix3 b s d)
      = mixed (fun k => x (ix3 b s k)) (fun n k => gates (ix4 b s n k)) (fun n k => proj (ix4 b s n k))
          (fun k e => w (ix2 k e)) d := by
  pointwise [mixedR, mixed]

/-- The feed-forward part, at a row. -/
theorem fedR_at (x1 h2 : FVec Ideal S2x8192x1024 .f32) (u : FVec Ideal S1024x4096 .f32) (w : FVec Ideal S4096x1024 .f32)
    (b : Fin 2) (s : Fin 8192) (d : Fin 1024) :
    fedR x1 h2 u w (ix3 b s d)
      = fed (fun k => x1 (ix3 b s k)) (fun k => h2 (ix3 b s k)) (fun f k => u (ix2 k f)) (fun f e => w (ix2 f e)) d := by
  pointwise [fedR, fed, unit]

/-- The reference's result, at a row. -/
theorem REF_at (a0 : FVec Ideal S2x8192x1024 .f32) (a1 : FVec Ideal S1024 .f32) (a2 : FVec Ideal S1024x7112 .f32)
    (a3 : FVec Ideal S4x1024 .f32) (a4 a5 a6 a7 : FVec Ideal S16384x512 .bf16) (a8 : FVec Ideal S4x256x1024 .f32)
    (a9 : FVec Ideal S1024x1024 .f32) (a10 : FVec Ideal S1024 .f32) (a11 : FVec Ideal S1024x4096 .f32)
    (a12 : FVec Ideal S4096x1024 .f32) (a13 : FVec Ideal S1024 .f32) (R : Fin 16384) (d : Fin 1024) :
    REF a0 a1 a2 a3 a4 a5 a6 a7 a8 a9 a10 a11 a12 a13 (ix2 R d)
      = tail (fun k => a0 (ix3 ⟨R.val / 8192, by omega⟩ ⟨R.val % 8192, by omega⟩ k)) (fun k => a1 (ix1 k))
          (fun n e k => a2 (ix2 k ⟨3016 + (n.val * 1024 + e.val), by omega⟩)) (fun n e => a3 (ix2 n e))
          (fun n e => ∑ k : Fin 256, (![a4, a5, a6, a7] n) (ix2 R ⟨(k.val / 64) * 128 + k.val % 64, by omega⟩) * a8 (ix3 n k e))
          (fun k e => a9 (ix2 k e)) (fun k => a10 (ix1 k)) (fun f k => a11 (ix2 k f)) (fun f e => a12 (ix2 f e))
          (fun k => a13 (ix1 k)) d := by
  obtain ⟨b, s, hb, hs, hR⟩ : ∃ (b : Fin 2) (s : Fin 8192), (⟨R.val / 8192, by omega⟩ : Fin 2) = b
      ∧ (⟨R.val % 8192, by omega⟩ : Fin 8192) = s ∧ R = ⟨b.val * 8192 + s.val, by omega⟩ :=
    ⟨_, _, rfl, rfl, Fin.ext (by simp only []; omega)⟩
  have h : REF a0 a1 a2 a3 a4 a5 a6 a7 a8 a9 a10 a11 a12 a13 (ix2 R d)
      = rmsR (fedR (mixedR a0 (gatesR (rmsR a0 a1) a2 a3) (projR a8 (branchesR a4 a5 a6 a7)) a9)
          (rmsR (mixedR a0 (gatesR (rmsR a0 a1) a2 a3) (projR a8 (branchesR a4 a5 a6 a7)) a9) a10) a11 a12) a13
          (ix3 b s d) := by
    unfold REF
    pointwise []
    rw [hb, hs]
  rw [h, hb, hs]
  simp only [rmsR_at, fedR_at, mixedR_at, gatesR_at, projR_at, branchesR_at, headsR_at, ← hR]
  rfl

end Cert.TailRefIdeal.Val

end
-- ==== Proof.TailClaim.lean ====
/- The tail's claims: its frames, its idealization, its value. -/
module

public import proofs.«01_k».proof.Defs
public import proofs.«01_k».proof.Proof.TailArr
public import proofs.«01_k».proof.Proof.TailRef
public import proofs.«01_k».proof.Proof.Gen.Tail.Frame

@[expose] public section

set_option maxRecDepth 16384

noncomputable section

open Idealize.ShloMosaic Idealize.SL.Sem

namespace Cert.Tail.Claims

/-- The kernel runs and leaves its arguments, on machine floats. -/
theorem frame_p : Cert.quiescent_Tail := fun m ρ _ => Cert.Tail.Gen.frame m ρ

/-- The kernel runs and leaves its arguments, on extended reals. -/
theorem frame_pi : Cert.quiescent_TailIdeal := fun m ρ _ => Cert.TailIdeal.Gen.frame m ρ

/-- The reference runs and leaves its arguments: its run at the arguments; it declares no semaphore. -/
theorem frame_ri : Cert.quiescent_TailRefIdeal := fun m ρ _ =>
  (θ_run Cert.TailRefIdeal.defs _ _).mono (fun r h => ⟨fun c => (h c).2, sem_eq_zero_of_no_sems (by decide) r.2⟩)
    (Cert.TailRefIdeal.Value.run (F := Ideal) m ρ)

/-- The kernel's array and the reference's, over the same arguments: the tail of every row. -/
theorem same (a0 : FVec Ideal Cert.TailIdeal.S2x8192x1024 .f32) (a1 : FVec Ideal Cert.TailIdeal.S1024 .f32)
    (a2 : FVec Ideal Cert.TailIdeal.S1024x7112 .f32) (a3 : FVec Ideal Cert.TailIdeal.S4x1024 .f32)
    (a4 a5 a6 a7 : FVec Ideal Cert.TailIdeal.S16384x512 .bf16) (a8 : FVec Ideal Cert.TailIdeal.S4x256x1024 .f32)
    (a9 : FVec Ideal Cert.TailIdeal.S1024x1024 .f32) (a10 : FVec Ideal Cert.TailIdeal.S1024 .f32)
    (a11 : FVec Ideal Cert.TailIdeal.S1024x4096 .f32) (a12 : FVec Ideal Cert.TailIdeal.S4096x1024 .f32)
    (a13 : FVec Ideal Cert.TailIdeal.S1024 .f32) :
    Cert.TailRefIdeal.Val.REF a0 a1 a2 a3 a4 a5 a6 a7 a8 a9 a10 a11 a12 a13
      = Cert.TailIdeal.Val.G a0 a1 a2 a3 a4 a5 a6 a7 a8 a9 a10 a11 a12 a13 := by
  funext j
  idx_vars j
  exact Cert.TailRefIdeal.Val.REF_at a0 a1 a2 a3 a4 a5 a6 a7 a8 a9 a10 a11 a12 a13 _ _

/-- The kernel's result is the reference's. -/
theorem algebraic : Cert.algebraic_TailIdeal_TailRefIdeal := by
  pair_intro
  · run_from Cert.TailIdeal.Value.run_blocks m g
  · run_from Cert.TailRefIdeal.Value.run m' g'
    obtain ⟨h0, h1, h2, h3, h4, h5, h6, h7, h8, h9, h10, h11, h12, h13⟩ := hagree c
    refine (Cert.TailRefIdeal.Val.res_eq m' c).trans (Eq.trans ?_ (Cert.TailIdeal.Val.final m c).symm)
    rw [h0, h1, h2, h3, h4, h5, h6, h7, h8, h9, h10, h11, h12, h13]
    exact same _ _ _ _ _ _ _ _ _ _ _ _ _ _

end Cert.Tail.Claims

end
-- ==== Proof.InnerKernel.lean ====
/- What the inner tail's kernel stores, row by row. -/
module

public import proofs.«01_k».proof.Proof.TailSpec
public import proofs.«01_k».proof.Proof.Gen.InnerIdeal.Frame
public import Idealize.ShloMosaic.Lib.Pointwise

@[expose] public section

set_option maxRecDepth 16384

noncomputable section

open scoped BigOperators
open Idealize.ShloMosaic Idealize.ShloMosaic.TcCoe Idealize.SL.Sem

namespace Cert.InnerIdeal.Val

open Cert.InnerIdeal Cert.InnerIdeal.Gen Cert.Tail.Spec

/-- The normed row. -/
theorem pay3_at (v0 : Vec Ideal S512x1024 .f32) (v2 : Vec Ideal S1x1024 .f32) (r : Fin 512) (d : Fin 1024) :
    k0_pay3 (F := Ideal) v0 v2 (ix2 r d) = rms (fun k => v0 (ix2 r k)) (fun k => v2 (ix2 0 k)) d := by
  pointwise [k0_pay3, k0_pay2, rms, width, eps]

/-- The first gated branch. -/
theorem pay4_at (v0 : Vec Ideal S512x1024 .f32) (v2 : Vec Ideal S1x1024 .f32) (w : Vec Ideal S1024x1024 .bf16)
    (b : Vec Ideal S1x1024 .f32) (o : Vec Ideal S512x512 .bf16) (wb : Vec Ideal S1x512x1024 .bf16)
    (r : Fin 512) (d : Fin 1024) :
    k0_pay4 (F := Ideal) v0 v2 w b o wb (ix2 r d)
      = gate (fun k => k0_pay3 (F := Ideal) v0 v2 (ix2 r k)) (fun k => w (ix2 k d)) (b (ix2 0 d))
        * ∑ c : Fin 512, o (ix2 r c) * wb (ix3 0 c d) := by
  pointwise [k0_pay4, gate]
  simp only [zero_sub]

/-- The second gated branch, added. -/
theorem pay5_at (h : FVec Ideal S512x1024 .bf16) (a : FVec Ideal S512x1024 .f32) (w : Vec Ideal S1024x1024 .bf16)
    (b : Vec Ideal S1x1024 .f32) (o : Vec Ideal S512x512 .bf16) (wb : Vec Ideal S1x512x1024 .bf16)
    (r : Fin 512) (d : Fin 1024) :
    k0_pay5 (F := Ideal) h a w b o wb (ix2 r d)
      = a (ix2 r d) + gate (fun k => h (ix2 r k)) (fun k => w (ix2 k d)) (b (ix2 0 d))
        * ∑ c : Fin 512, o (ix2 r c) * wb (ix3 0 c d) := by
  pointwise [k0_pay5, gate]
  simp only [zero_sub]

/-- The third gate. -/
theorem pay6_at (h : FVec Ideal S512x1024 .bf16) (w : Vec Ideal S1024x1024 .bf16)
    (b : Vec Ideal S1x1024 .f32) (r : Fin 512) (d : Fin 1024) :
    k0_pay6 (F := Ideal) h w b (ix2 r d)
      = gate (fun k => h (ix2 r k)) (fun k => w (ix2 k d)) (b (ix2 0 d)) := by
  pointwise [k0_pay6, gate]
  simp only [zero_sub]

/-- The row after the merge and the output projection. -/
theorem pay8_at (v1 : FVec Ideal S512x1024 .f32) (v16 : FVec Ideal S512x1024 .bf16) (v53 v66 : FVec Ideal S512x1024 .f32)
    (v67 : Vec Ideal S512x512 .bf16) (v68 : Vec Ideal S1x512x1024 .bf16)
    (v73 : Vec Ideal S1024x1024 .bf16) (v76 : Vec Ideal S1x1024 .f32) (v86 : Vec Ideal S512x512 .bf16)
    (v87 : Vec Ideal S1x512x1024 .bf16) (v93 : Vec Ideal S1024x1024 .bf16) (r : Fin 512) (d : Fin 1024) :
    k0_pay8 (F := Ideal) v1 v16 v53 v66 v67 (k0_pay7 v68) (constant S512x1024 .f32 0x00000000#32) v73 v76 v86 v87 v93 (ix2 r d)
      = v1 (ix2 r d) + ∑ k : Fin 1024, ((v53 (ix2 r k) + v66 (ix2 r k) * ∑ c : Fin 512, v67 (ix2 r c) * v68 (ix3 0 c k))
          + gate (fun l => v16 (ix2 r l)) (fun l => v73 (ix2 l k)) (v76 (ix2 0 k))
            * ∑ c : Fin 512, v86 (ix2 r c) * v87 (ix3 0 c k)) * v93 (ix2 k d) := by
  pointwise [k0_pay8, k0_pay7, gate]
  simp only [zero_sub]

/-- The second norm. -/
theorem pay11_at (v1 : FVec Ideal S512x1024 .f32) (v16 : FVec Ideal S512x1024 .bf16) (v53 v66 : FVec Ideal S512x1024 .f32)
    (v67 : Vec Ideal S512x512 .bf16) (v69 : FVec Ideal S512x1024 .bf16) (z : FVec Ideal S512x1024 .f32)
    (v73 : Vec Ideal S1024x1024 .bf16) (v76 : Vec Ideal S1x1024 .f32) (v86 : Vec Ideal S512x512 .bf16)
    (v87 : Vec Ideal S1x512x1024 .bf16) (v93 : Vec Ideal S1024x1024 .bf16) (g : Vec Ideal S1x1024 .f32)
    (r : Fin 512) (d : Fin 1024) :
    k0_pay11 (F := Ideal) (k0_pay8 v1 v16 v53 v66 v67 v69 z v73 v76 v86 v87 v93) (k0_pay9 g)
        (k0_pay10 v1 v16 v53 v66 v67 v69 z v73 v76 v86 v87 v93) (ix2 r d)
      = rms (fun k => k0_pay8 (F := Ideal) v1 v16 v53 v66 v67 v69 z v73 v76 v86 v87 v93 (ix2 r k)) (fun k => g (ix2 0 k)) d := by
  generalize hy : k0_pay8 (F := Ideal) v1 v16 v53 v66 v67 v69 z v73 v76 v86 v87 v93 = y
  pointwise [k0_pay11, k0_pay9, k0_pay10, rms, width, eps, hy]

/-- Three of the four chunks of the feed-forward part. -/
theorem pay12_at (x1 : FVec Ideal S512x1024 .f32) (g : FVec Ideal S1x1024 .f32) (s : FVec Ideal S512x1024 .f32)
    (u0 d0 u1 d1 u2 d2 : Vec Ideal S1024x1024 .bf16) (r : Fin 512) (d : Fin 1024) :
    k0_pay12 (F := Ideal) x1 g s u0 d0 u1 d1 u2 d2 (ix2 r d)
      = ((x1 (ix2 r d)
          + ∑ f : Fin 1024, unit (fun k => k0_pay11 (F := Ideal) x1 g s (ix2 r k)) (fun k => u0 (ix2 k f)) * d0 (ix2 f d))
          + ∑ f : Fin 1024, unit (fun k => k0_pay11 (F := Ideal) x1 g s (ix2 r k)) (fun k => u1 (ix2 k f)) * d1 (ix2 f d))
          + ∑ f : Fin 1024, unit (fun k => k0_pay11 (F := Ideal) x1 g s (ix2 r k)) (fun k => u2 (ix2 k f)) * d2 (ix2 f d) := by
  pointwise [k0_pay12, unit]

/-- The last chunk, in the form that is stored. -/
theorem pay1_at (h2 : FVec Ideal S512x1024 .bf16) (y : FVec Ideal S512x1024 .f32) (u : Vec Ideal S1024x1024 .bf16)
    (w : Vec Ideal S1024x1024 .bf16) (r : Fin 512) (d : Fin 1024) :
    k0_pay1 (F := Ideal) h2 y u w (ix2 r d)
      = y (ix2 r d) + ∑ f : Fin 1024, unit (fun l => h2 (ix2 r l)) (fun l => u (ix2 l f)) * w (ix2 f d) := by
  pointwise [k0_pay1, unit]

end Cert.InnerIdeal.Val

end
-- ==== Proof.InnerOut.lean ====
/- What the inner tail's kernel leaves in its output block: the inner tail of every row of its input block. -/
module

public import proofs.«01_k».proof.Proof.InnerKernel
public import Idealize.ShloMosaic.Lib.Pipeline.ValueKit

@[expose] public section

set_option maxRecDepth 16384

noncomputable section

open scoped BigOperators
open Idealize.ShloMosaic Idealize.ShloMosaic.TcCoe Idealize.SL.Sem

namespace Cert.InnerIdeal.Val

open Cert.InnerIdeal Cert.InnerIdeal.Gen Cert.Tail.Spec

/-- The output block, row by row. -/
theorem out_at (x0 : Vec Ideal S512x1024 .f32) (x1 : Vec Ideal S1x1024 .f32) (x2 : Vec Ideal S1024x4096 .bf16)
    (x3 : Vec Ideal S4x1024 .f32) (x4 x5 x6 x7 : Vec Ideal S512x512 .bf16) (x8 : Vec Ideal S4x512x1024 .bf16)
    (x9 : Vec Ideal S1024x1024 .bf16) (x10 : Vec Ideal S1x1024 .f32) (x11 : Vec Ideal S1024x4096 .bf16)
    (x12 : Vec Ideal S4096x1024 .bf16) (x13 : Vec Ideal S1x1024 .f32) (r : Fin 512) (d : Fin 1024) :
    out0_14 (F := Ideal) x0 x1 x2 x3 x4 x5 x6 x7 x8 x9 x10 x11 x12 x13 (ix2 r d)
      = innerTail (fun k => x0 (ix2 r k)) (fun k => x1 (ix2 0 k))
          (fun n e k => x2 (ix2 k ⟨n.val * 1024 + e.val, by omega⟩)) (fun n e => x3 (ix2 n e))
          (fun n e => ∑ c : Fin 512, (![x4, x5, x6, x7] n) (ix2 r c) * x8 (ix3 n c e))
          (fun k e => x9 (ix2 k e)) (fun k => x10 (ix2 0 k)) (fun f k => x11 (ix2 k f)) (fun f e => x12 (ix2 f e)) d := by
  frame_out
  rw [pay1_at]
  unfold k0_pay21 k0_pay20 k0_pay19
  simp only [k0_pay13, k0_pay14, k0_pay15, k0_pay16, k0_pay17, k0_pay18, pay12_at, pay11_at, pay8_at, pay6_at, pay5_at, pay4_at, pay3_at]
  have hp : ∀ k : Fin 1024, k0_pay2 (F := Ideal) (View.ld x0 r0_0) (ix2 r k) = x0 (ix2 r k) := fun k => by
    pointwise [k0_pay2]
  unfold innerTail
  simp only [hp]
  rw [fed_blocks]
  rw [funext (mixed_four _ _ _ _)]
  pointwise []

end Cert.InnerIdeal.Val

end
-- ==== Proof.InnerEnt.lean ====
/- The inner tail's input blocks, as the launch finds them. -/
module

public import proofs.«01_k».proof.Proof.InnerOut
public import proofs.«01_k».proof.Proof.Gen.InnerIdeal.Value

@[expose] public section

set_option maxRecDepth 16384

noncomputable section

open scoped BigOperators
open Idealize.ShloMosaic Idealize.ShloMosaic.TcCoe Idealize.SL.Sem
open Idealize.ShloMosaic.Pipeline (Dat)

namespace Cert.InnerIdeal.Val

open Cert.InnerIdeal Cert.InnerIdeal.Gen Cert.Tail.Spec

variable (m : (ℓ : Loc nD τ sig) → Buf (Elt Ideal) ℓ)

/-- A sum over four slots of 128 lanes, of which the last 64 hold zero, is the sum over four times 64. -/
theorem sum_slots (f : Fin 512 → EReal) (hf : ∀ k : Fin 512, 64 ≤ k.val % 128 → f k = 0) :
    ∑ c : Fin 512, f c = ∑ k : Fin 256, f ⟨(k.val / 64) * 128 + k.val % 64, by omega⟩ := by
  rw [Fin.sum_univ_tiles 4 128 rfl f, Fin.sum_univ_tiles 4 64 rfl]
  refine Finset.sum_congr rfl fun h _ => ?_
  refine (Fin.sum_univ_add (a := 64) (b := 64) _).trans ?_
  refine (congrArg₂ (· + ·) ?_ ?_).trans (add_zero _)
  · refine Finset.sum_congr rfl fun t _ => ?_
    congr 1
    ext
    simp only [Fin.val_castAdd]
    omega
  · refine Finset.sum_eq_zero fun t _ => hf _ ?_
    simp only [Fin.val_natAdd]
    omega

/-- The windows' blocks: the rows' windows move with the point, the others stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] ∧ win0_8.index t = ![0, 0, 0]
    ∧ win0_9.index t = ![0, 0] ∧ win0_10.index t = ![0, 0] ∧ win0_11.index t = ![0, 0] ∧ win0_12.index t = ![0, 0]
    ∧ win0_13.index t = ![0, 0] ∧ win0_14.index t = ![t.val, 0] :=
  (by decide +kernel : ∀ t : Fin grid0.N, _)

/-! What the launch finds in the arrays that the host prepared. -/

/-- An array the host prepared, from the arguments. -/
theorem ent_v1 (c : Dev nD) : V m c main_v1 = (truncf .bf16 (extractStridedSlice S1024x4096 ![0, 3016] (m ((c : Thread nD τ).loc main_arg2) : FVec Ideal S1024x7112 .f32) slices_S1024x7112_S1024x4096_0_3016) bitsLt_bf16_f32 : FVec Ideal S1024x4096 .bf16) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp

/-- An array the host prepared, from the arguments. -/
theorem ent_v6 (c : Dev nD) : V m c main_v6 = (shapeCast _ (m ((c : Thread nD τ).loc main_arg0)) shapeCasts_S2x8192x1024_S16384x1024) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp
  rfl

/-- An array the host prepared, from the arguments. -/
theorem ent_v7 (c : Dev nD) : V m c main_v7 = (shapeCast _ (m ((c : Thread nD τ).loc main_arg1)) shapeCasts_S1024_S1x1024) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp
  rfl

/-- An array the host prepared, from the arguments. -/
theorem ent_v9 (c : Dev nD) : V m c main_v9 = (shapeCast _ (m ((c : Thread nD τ).loc main_arg10)) shapeCasts_S1024_S1x1024) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp
  rfl

/-- An array the host prepared, from the arguments. -/
theorem ent_v8 (c : Dev nD) : V m c main_v8 = (truncf .bf16 (m ((c : Thread nD τ).loc main_arg9) : FVec Ideal S1024x1024 .f32) bitsLt_bf16_f32 : FVec Ideal S1024x1024 .bf16) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp

/-- An array the host prepared, from the arguments. -/
theorem ent_v10 (c : Dev nD) : V m c main_v10 = (truncf .bf16 (m ((c : Thread nD τ).loc main_arg11) : FVec Ideal S1024x4096 .f32) bitsLt_bf16_f32 : FVec Ideal S1024x4096 .bf16) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp

/-- An array the host prepared, from the arguments. -/
theorem ent_v11 (c : Dev nD) : V m c main_v11 = (truncf .bf16 (m ((c : Thread nD τ).loc main_arg12) : FVec Ideal S4096x1024 .f32) bitsLt_bf16_f32 : FVec Ideal S4096x1024 .bf16) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp

/-- An array the host prepared, from the arguments. -/
theorem ent_v5 (c : Dev nD) : V m c main_v5 = (truncf .bf16 (shapeCast _ (pad S4x4x128x1024 ![0, 0, 0, 0] ![0, 0, 64, 0] ![0, 0, 0, 0] (shapeCast _ (m ((c : Thread nD τ).loc main_arg8)) shapeCasts_S4x256x1024_S4x4x64x1024) (sitofp (F := Ideal) .f32 (constantI S_ 32 0#32)) pads_S4x4x64x1024_S4x4x128x1024_000_000_0640_000 h_S_ : FVec Ideal S4x4x128x1024 .f32) shapeCasts_S4x4x128x1024_S4x512x1024) bitsLt_bf16_f32 : FVec Ideal S4x512x1024 .bf16) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  after_results_simp
  rfl

/-- The rows, reshaped, read at a row. -/
theorem rows_at (A : FVec Ideal S2x8192x1024 .f32) (R : Fin 16384) (k : Fin 1024) :
    (shapeCast _ A shapeCasts_S2x8192x1024_S16384x1024 : FVec Ideal S16384x1024 .f32) (ix2 R k)
      = A (ix3 ⟨R.val / 8192, by omega⟩ ⟨R.val % 8192, by omega⟩ k) := by
  pointwise []

/-- The branch weights, padded head by head, read at a row. -/
theorem slots_at (A : FVec Ideal S4x256x1024 .f32) (n : Fin 4) (k : Fin 512) (e : Fin 1024) :
    (truncf .bf16 (shapeCast _ (pad S4x4x128x1024 ![0, 0, 0, 0] ![0, 0, 64, 0] ![0, 0, 0, 0]
        (shapeCast _ A shapeCasts_S4x256x1024_S4x4x64x1024) (sitofp (F := Ideal) .f32 (constantI S_ 32 0#32))
        pads_S4x4x64x1024_S4x4x128x1024_000_000_0640_000 h_S_ : FVec Ideal S4x4x128x1024 .f32)
        shapeCasts_S4x4x128x1024_S4x512x1024) bitsLt_bf16_f32 : FVec Ideal S4x512x1024 .bf16) (ix3 n k e)
      = if h : k.val % 128 < 64 then A (ix3 n ⟨(k.val / 128) * 64 + k.val % 128, by omega⟩ e) else (0 : EReal) := by
  pointwise []
  by_cases h : k.val % 128 < 64
  · rw [dif_pos ⟨by omega, h⟩, dif_pos h]
  · rw [dif_neg (fun h' => h h'.2), dif_neg h]
    show (((0#32 : BitVec 32).toInt : ℝ) : EReal) = 0
    simp

/-- The branch weights' block: a head's 64 rows at the head's slot, zero in the lanes between. -/
theorem wb_at (c : Dev nD) (t : Fin cfg0.N) (n : Fin 4) (k : Fin 512) (e : Fin 1024) :
    (iblk m c 8 t : FVec Ideal S4x512x1024 .bf16) (ix3 n k e)
      = if h : k.val % 128 < 64 then
          (m ((c : Thread nD τ).loc main_arg8) : FVec Ideal S4x256x1024 .f32)
            (ix3 n ⟨(k.val / 128) * 64 + k.val % 128, by omega⟩ e)
        else (0 : EReal) := by
  have h : (iblk m c 8 t : FVec Ideal S4x512x1024 .bf16) (ix3 n k e) = (V m c main_v5 : FVec Ideal S4x512x1024 .bf16) (ix3 n k e) := by
    blk_ext [iblk, idx t]
  rw [h, ent_v5]
  exact slots_at _ n k e

/-- The rows' block. -/
theorem x_at (c : Dev nD) (t : Fin cfg0.N) (r : Fin 512) (k : Fin 1024) :
    (iblk m c 0 t : FVec Ideal S512x1024 .f32) (ix2 r k)
      = (m ((c : Thread nD τ).loc main_arg0) : FVec Ideal S2x8192x1024 .f32)
          (ix3 ⟨(t.val * 512 + r.val) / 8192, by have := t.isLt; have h : t.val < 32 := t.isLt; omega⟩
            ⟨(t.val * 512 + r.val) % 8192, by omega⟩ k) := by
  have h : (iblk m c 0 t : FVec Ideal S512x1024 .f32) (ix2 r k) = (V m c main_v6 : FVec Ideal S16384x1024 .f32)
      (ix2 ⟨t.val * 512 + r.val, by have h : t.val < 32 := t.isLt; omega⟩ k) := by
    blk_ext [iblk, idx t]
  rw [h, ent_v6]
  exact rows_at _ _ k

/-- The gates' weights. -/
theorem wg_at (c : Dev nD) (t : Fin cfg0.N) (k : Fin 1024) (e : Fin 4096) :
    (iblk m c 2 t : FVec Ideal S1024x4096 .bf16) (ix2 k e)
      = (m ((c : Thread nD τ).loc main_arg2) : FVec Ideal S1024x7112 .f32) (ix2 k ⟨3016 + e.val, by omega⟩) := by
  have h : (iblk m c 2 t : FVec Ideal S1024x4096 .bf16) (ix2 k e) = (V m c main_v1 : FVec Ideal S1024x4096 .bf16) (ix2 k e) := by
    blk_ext [iblk, idx t]
  rw [h, ent_v1]
  pointwise []

/-- The first norm's scale. -/
theorem g1_at (c : Dev nD) (t : Fin cfg0.N) (k : Fin 1024) :
    (iblk m c 1 t : FVec Ideal S1x1024 .f32) (ix2 0 k)
      = (m ((c : Thread nD τ).loc main_arg1) : FVec Ideal S1024 .f32) (ix1 k) := by
  have h : (iblk m c 1 t : FVec Ideal S1x1024 .f32) (ix2 0 k) = (V m c main_v7 : FVec Ideal S1x1024 .f32) (ix2 0 k) := by
    blk_ext [iblk, idx t]
  rw [h, ent_v7]
  pointwise []

/-- The second norm's scale. -/
theorem g10_at (c : Dev nD) (t : Fin cfg0.N) (k : Fin 1024) :
    (iblk m c 10 t : FVec Ideal S1x1024 .f32) (ix2 0 k)
      = (m ((c : Thread nD τ).loc main_arg10) : FVec Ideal S1024 .f32) (ix1 k) := by
  have h : (iblk m c 10 t : FVec Ideal S1x1024 .f32) (ix2 0 k) = (V m c main_v9 : FVec Ideal S1x1024 .f32) (ix2 0 k) := by
    blk_ext [iblk, idx t]
  rw [h, ent_v9]
  pointwise []

/-- The output projection's weights. -/
theorem w9_at (c : Dev nD) (t : Fin cfg0.N) (k : Fin 1024) (e : Fin 1024) :
    (iblk m c 9 t : FVec Ideal S1024x1024 .bf16) (ix2 k e)
      = (m ((c : Thread nD τ).loc main_arg9) : FVec Ideal S1024x1024 .f32) (ix2 k e) := by
  have h : (iblk m c 9 t : FVec Ideal S1024x1024 .bf16) (ix2 k e) = (V m c main_v8 : FVec Ideal S1024x1024 .bf16) (ix2 k e) := by
    blk_ext [iblk, idx t]
  rw [h, ent_v8]
  pointwise []

/-- The feed-forward part's first weights. -/
theorem w11_at (c : Dev nD) (t : Fin cfg0.N) (k : Fin 1024) (e : Fin 4096) :
    (iblk m c 11 t : FVec Ideal S1024x4096 .bf16) (ix2 k e)
      = (m ((c : Thread nD τ).loc main_arg11) : FVec Ideal S1024x4096 .f32) (ix2 k e) := by
  have h : (iblk m c 11 t : FVec Ideal S1024x4096 .bf16) (ix2 k e) = (V m c main_v10 : FVec Ideal S1024x4096 .bf16) (ix2 k e) := by
    blk_ext [iblk, idx t]
  rw [h, ent_v10]
  pointwise []

/-- The feed-forward part's second weights. -/
theorem w12_at (c : Dev nD) (t : Fin cfg0.N) (k : Fin 4096) (e : Fin 1024) :
    (iblk m c 12 t : FVec Ideal S4096x1024 .bf16) (ix2 k e)
      = (m ((c : Thread nD τ).loc main_arg12) : FVec Ideal S4096x1024 .f32) (ix2 k e) := by
  have h : (iblk m c 12 t : FVec Ideal S4096x1024 .bf16) (ix2 k e) = (V m c main_v11 : FVec Ideal S4096x1024 .bf16) (ix2 k e) := by
    blk_ext [iblk, idx t]
  rw [h, ent_v11]
  pointwise []

/-- The gates' biases. -/
theorem b_at (c : Dev nD) (t : Fin cfg0.N) (n : Fin 4) (e : Fin 1024) :
    (iblk m c 3 t : FVec Ideal S4x1024 .f32) (ix2 n e)
      = (m ((c : Thread nD τ).loc main_arg3) : FVec Ideal S4x1024 .f32) (ix2 n e) := by
  blk_ext [iblk, V, idx t]

/-- The rows of branch 0. -/
theorem o4_at (c : Dev nD) (t : Fin cfg0.N) (r k : Fin 512) :
    (iblk m c 4 t : FVec Ideal S512x512 .bf16) (ix2 r k)
      = (m ((c : Thread nD τ).loc main_arg4) : FVec Ideal S16384x512 .bf16)
          (ix2 ⟨t.val * 512 + r.val, by have h : t.val < 32 := t.isLt; omega⟩ k) := by
  blk_ext [iblk, V, idx t]

/-- The rows of branch 1. -/
theorem o5_at (c : Dev nD) (t : Fin cfg0.N) (r k : Fin 512) :
    (iblk m c 5 t : FVec Ideal S512x512 .bf16) (ix2 r k)
      = (m ((c : Thread nD τ).loc main_arg5) : FVec Ideal S16384x512 .bf16)
          (ix2 ⟨t.val * 512 + r.val, by have h : t.val < 32 := t.isLt; omega⟩ k) := by
  blk_ext [iblk, V, idx t]

/-- The rows of branch 2. -/
theorem o6_at (c : Dev nD) (t : Fin cfg0.N) (r k : Fin 512) :
    (iblk m c 6 t : FVec Ideal S512x512 .bf16) (ix2 r k)
      = (m ((c : Thread nD τ).loc main_arg6) : FVec Ideal S16384x512 .bf16)
          (ix2 ⟨t.val * 512 + r.val, by have h : t.val < 32 := t.isLt; omega⟩ k) := by
  blk_ext [iblk, V, idx t]

/-- The rows of branch 3. -/
theorem o7_at (c : Dev nD) (t : Fin cfg0.N) (r k : Fin 512) :
    (iblk m c 7 t : FVec Ideal S512x512 .bf16) (ix2 r k)
      = (m ((c : Thread nD τ).loc main_arg7) : FVec Ideal S16384x512 .bf16)
          (ix2 ⟨t.val * 512 + r.val, by have h : t.val < 32 := t.isLt; omega⟩ k) := by
  blk_ext [iblk, V, idx t]

end Cert.InnerIdeal.Val

end
-- ==== Proof.InnerArr.lean ====
/- The inner tail's result array after the kernel's run. -/
module

public import proofs.«01_k».proof.Proof.InnerOut
public import proofs.«01_k».proof.Proof.InnerEnt
public import proofs.«01_k».proof.Proof.Gen.InnerIdeal.Value

@[expose] public section

set_option maxRecDepth 16384

noncomputable section

open scoped BigOperators
open Idealize.ShloMosaic Idealize.ShloMosaic.TcCoe Idealize.SL.Sem
open Idealize.ShloMosaic.Pipeline (Dat)

namespace Cert.InnerIdeal.Val

open Cert.InnerIdeal Cert.InnerIdeal.Gen Cert.Tail.Spec

variable (m : (ℓ : Loc nD τ sig) → Buf (Elt Ideal) ℓ)

/-- The result over the kernel's arguments: the inner tail of every row. -/
def G (a0 : FVec Ideal S2x8192x1024 .f32) (a1 : FVec Ideal S1024 .f32) (a2 : FVec Ideal S1024x7112 .f32)
    (a3 : FVec Ideal S4x1024 .f32) (a4 a5 a6 a7 : FVec Ideal S16384x512 .bf16) (a8 : FVec Ideal S4x256x1024 .f32)
    (a9 : FVec Ideal S1024x1024 .f32) (a10 : FVec Ideal S1024 .f32) (a11 : FVec Ideal S1024x4096 .f32)
    (a12 : FVec Ideal S4096x1024 .f32) (a13 : FVec Ideal S1024 .f32) : FVec Ideal S16384x1024 .f32 := fun j =>
  innerTail (fun k => a0 (ix3 ⟨(j 0).val / 8192, by have h := (j 0).isLt; exact Nat.div_lt_of_lt_mul h⟩
        ⟨(j 0).val % 8192, Nat.mod_lt _ (by decide)⟩ k)) (fun k => a1 (ix1 k))
    (fun n e k => a2 (ix2 k ⟨3016 + (n.val * 1024 + e.val), by omega⟩)) (fun n e => a3 (ix2 n e))
    (fun n e => ∑ k : Fin 256, (![a4, a5, a6, a7] n) (ix2 (j 0) ⟨(k.val / 64) * 128 + k.val % 64, by omega⟩) * a8 (ix3 n k e))
    (fun k e => a9 (ix2 k e)) (fun k => a10 (ix1 k)) (fun f k => a11 (ix2 k f)) (fun f e => a12 (ix2 f e)) (j 1)

/-- The branch weights and a branch's rows, slot by slot, give the branch's projection. -/
theorem proj_slots (c : Dev nD) (t : Fin cfg0.N) (o : FVec Ideal S512x512 .bf16) (a : FVec Ideal S16384x512 .bf16)
    (ho : ∀ r k : Fin 512, o (ix2 r k) = a (ix2 ⟨t.val * 512 + r.val, by have h : t.val < 32 := t.isLt; omega⟩ k))
    (r : Fin 512) (n : Fin 4) (e : Fin 1024) :
    (∑ k : Fin 512, o (ix2 r k) * (iblk m c 8 t : FVec Ideal S4x512x1024 .bf16) (ix3 n k e) : EReal)
      = ∑ k : Fin 256, a (ix2 ⟨t.val * 512 + r.val, by have h : t.val < 32 := t.isLt; omega⟩
          ⟨(k.val / 64) * 128 + k.val % 64, by omega⟩)
          * (m ((c : Thread nD τ).loc main_arg8) : FVec Ideal S4x256x1024 .f32) (ix3 n k e) := by
  rw [sum_slots _ fun k hk => by rw [wb_at, dif_neg (by omega), mul_zero]]
  refine Finset.sum_congr rfl fun k _ => ?_
  rw [wb_at, dif_pos (by simp only []; omega), ho]
  congr 3
  ext
  simp only []
  omega

/-- Every point leaves its rows' tails. -/
theorem point (c : Dev nD) (t : Fin cfg0.N) (r : Fin 512) (d : Fin 1024) :
    out0_14 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (ix2 r d)
      = G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13))
          (ix2 ⟨t.val * 512 + r.val, by have h : t.val < 32 := t.isLt; omega⟩ d) := by
  rw [out_at]
  unfold G
  congr 1
  · funext k; exact x_at m c t r k
  · funext k; exact g1_at m c t k
  · funext n e k; exact wg_at m c t k _
  · funext n e; exact b_at m c t n e
  · funext n e
    fin_cases n
    · exact proj_slots m c t _ _ (o4_at m c t) r 0 e
    · exact proj_slots m c t _ _ (o5_at m c t) r 1 e
    · exact proj_slots m c t _ _ (o6_at m c t) r 2 e
    · exact proj_slots m c t _ _ (o7_at m c t) r 3 e
  · funext k e; exact w9_at m c t k e
  · funext k; exact g10_at m c t k
  · funext f k; exact w11_at m c t k f
  · funext f e; exact w12_at m c t f e

/-- The result array after the run. -/
theorem final (c : Dev nD) : (dats m 0 c).arrAt 14 (cfgs 0).N
    = G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13)) := by
  refine (dats m 0 c).arrAt_eq_of_covers 14 _ (by decide +kernel) fun t _ y => ?_
  blk_simp
  rw [after0_14]
  idx_vars y
  refine (point m c t _ _).trans (congrArg _ ?_)
  blk_ext [idx t]

end Cert.InnerIdeal.Val

end
-- ==== Proof.InnerRef.lean ====
/- The reference of the inner tail, stage by stage, read at a row. -/
module

public import proofs.«01_k».proof.Proof.TailSpec
public import proofs.«01_k».proof.Proof.Gen.InnerRefIdeal.Run
public import Idealize.ShloMosaic.Lib.Pointwise

@[expose] public section

set_option maxRecDepth 16384

noncomputable section

open scoped BigOperators
open Idealize.ShloMosaic Idealize.ShloMosaic.TcCoe Idealize.SL.Sem

namespace Cert.InnerRefIdeal.Val

open Cert.InnerRefIdeal Cert.InnerRefIdeal.Gen Cert.Tail.Spec

/-- The norm over the whole array. -/
def rmsR (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The gates. -/
def gatesR (h : FVec Ideal S2x8192x1024 .f32) (w : FVec Ideal S1024x7112 .f32) (b : FVec Ideal S4x1024 .f32) :
    FVec Ideal S2x8192x4x1024 .f32 :=
  Host.divf (broadcastInDim S2x8192x4x1024 ![] bcast_S_S2x8192x4x1024 (constant S_ .f32 0x3F800000#32)) (addf (broadcastInDim S2x8192x4x1024 ![] bcast_S_S2x8192x4x1024 (constant S_ .f32 0x3F800000#32)) (Host.exp (Host.negf (addf (shapeCast _ (Host.dotGeneral dot_S2x8192x1024_S1024x4096_S2x8192x4096_2_0_01_1_n_n none h (extractStridedSlice S1024x4096 ![0, 3016] w slices_S1024x7112_S1024x4096_0_3016)) shapeCasts_S2x8192x4096_S2x8192x4x1024) (broadcastInDim S2x8192x4x1024 ![0, 1, 2, 3] bcast_S1x1x4x1024_S2x8192x4x1024_0_1_2_3 (broadcastInDim S1x1x4x1024 ![2, 3] bcast_S4x1024_S1x1x4x1024_2_3 b))))))

/-- A branch's four heads side by side, without the lanes that pad them. -/
def headsR (a : FVec Ideal S16384x512 .bf16) : FVec Ideal S2x8192x256 .f32 :=
  shapeCast _ (extractStridedSlice S2x8192x4x64 ![0, 0, 0, 0] (shapeCast _ (extf .f32 a bitsLt_bf16_f32) shapeCasts_S16384x512_S2x8192x4x128) slices_S2x8192x4x128_S2x8192x4x64_0_0_0_0) shapeCasts_S2x8192x4x64_S2x8192x256

/-- The four branches side by side. -/
def branchesR (oa ob oc od : FVec Ideal S16384x512 .bf16) : FVec Ideal S2x8192x4x256 .f32 :=
  concatenate S2x8192x4x256 2 [⟨S2x8192x1x256, ((broadcastInDim S2x8192x1x256 ![0, 1, 3] bcast_S2x8192x256_S2x8192x1x256_0_1_3 (headsR oa)) : (⟨S2x8192x1x256, .f32⟩ : BufTy).Contents (Elt Ideal))⟩, ⟨S2x8192x1x256, ((broadcastInDim S2x8192x1x256 ![0, 1, 3] bcast_S2x8192x256_S2x8192x1x256_0_1_3 (headsR ob)) : (⟨S2x8192x1x256, .f32⟩ : BufTy).Contents (Elt Ideal))⟩, ⟨S2x8192x1x256, ((broadcastInDim S2x8192x1x256 ![0, 1, 3] bcast_S2x8192x256_S2x8192x1x256_0_1_3 (headsR oc)) : (⟨S2x8192x1x256, .f32⟩ : BufTy).Contents (Elt Ideal))⟩, ⟨S2x8192x1x256, ((broadcastInDim S2x8192x1x256 ![0, 1, 3] bcast_S2x8192x256_S2x8192x1x256_0_1_3 (headsR od)) : (⟨S2x8192x1x256, .f32⟩ : BufTy).Contents (Elt Ideal))⟩] concatenates_S2x8192x1x256_S2x8192x1x256_S2x8192x1x256_S2x8192x1x256_S2x8192x4x256_d2

/-- The branches' projections. -/
def projR (w : FVec Ideal S4x256x1024 .f32) (o : FVec Ideal S2x8192x4x256 .f32) : FVec Ideal S2x8192x4x1024 .f32 :=
  transpose S2x8192x4x1024 [2, 3, 0, 1] (Host.dotGeneral dot_S4x256x1024_S2x8192x4x256_S4x1024x2x8192_1_3_2_01_0_2 none w o) transposes_S4x1024x2x8192_S2x8192x4x1024_2_3_0_1

/-- The rows after the merge and the output projection. -/
def mixedR (x : FVec Ideal S2x8192x1024 .f32) (gates proj : FVec Ideal S2x8192x4x1024 .f32) (w : FVec Ideal S1024x1024 .f32) :
    FVec Ideal S2x8192x1024 .f32 :=
  addf x (Host.dotGeneral dot_S2x8192x1024_S1024x1024_S2x8192x1024_2_0_01_1_n_n none (Host.reduceAdd (mulf gates proj) (constant S_ .f32 0x00000000#32) reducesTo_S2x8192x4x1024_S2x8192x1024_d2 h_S_) w)

/-- The rows after the feed-forward part. -/
def fedR (x1 h2 : FVec Ideal S2x8192x1024 .f32) (u : FVec Ideal S1024x4096 .f32) (w : FVec Ideal S4096x1024 .f32) :
    FVec Ideal S2x8192x1024 .f32 :=
  addf x1 (Host.dotGeneral dot_S2x8192x4096_S4096x1024_S2x8192x1024_2_0_01_1_n_n none (mulf (maximumf (Host.dotGeneral dot_S2x8192x1024_S1024x4096_S2x8192x4096_2_0_01_1_n_n none h2 u) (broadcastInDim S2x8192x4096 ![] bcast_S_S2x8192x4096 (constant S_ .f32 0x00000000#32))) (maximumf (Host.dotGeneral dot_S2x8192x1024_S1024x4096_S2x8192x4096_2_0_01_1_n_n none h2 u) (broadcastInDim S2x8192x4096 ![] bcast_S_S2x8192x4096 (constant S_ .f32 0x00000000#32)))) w)

/-- The reference's result over its arguments, in these stages. -/
def REF (a0 : FVec Ideal S2x8192x1024 .f32) (a1 : FVec Ideal S1024 .f32) (a2 : FVec Ideal S1024x7112 .f32)
    (a3 : FVec Ideal S4x1024 .f32) (a4 a5 a6 a7 : FVec Ideal S16384x512 .bf16) (a8 : FVec Ideal S4x256x1024 .f32)
    (a9 : FVec Ideal S1024x1024 .f32) (a10 : FVec Ideal S1024 .f32) (a11 : FVec Ideal S1024x4096 .f32)
    (a12 : FVec Ideal S4096x1024 .f32) (a13 : FVec Ideal S1024 .f32) : FVec Ideal S16384x1024 .f32 :=
  let x1 := mixedR a0 (gatesR (rmsR a0 a1) a2 a3) (projR a8 (branchesR a4 a5 a6 a7)) a9
  shapeCast _ (fedR x1 (rmsR x1 a10) a11 a12) shapeCasts_S2x8192x1024_S16384x1024

/-- The stages make up the reference's result. -/
theorem res_eq (m : (ℓ : Loc nD τ sig) → Buf (Elt Ideal) ℓ) (c : Dev nD) :
    Cert.InnerRefIdeal.Value.res_main_v70 m c
      = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := rfl

/-- The norm, at a row. -/
theorem rmsR_at (x : FVec Ideal S2x8192x1024 .f32) (g : FVec Ideal S1024 .f32) (b : Fin 2) (s : Fin 8192) (d : Fin 1024) :
    rmsR x g (ix3 b s d) = rms (fun k => x (ix3 b s k)) (fun k => g (ix1 k)) d := by
  pointwise [rmsR, rms, width, eps]

/-- The gates, at a row. -/
theorem gatesR_at (h : FVec Ideal S2x8192x1024 .f32) (w : FVec Ideal S1024x7112 .f32) (a : FVec Ideal S4x1024 .f32)
    (b : Fin 2) (s : Fin 8192) (n : Fin 4) (d : Fin 1024) :
    gatesR h w a (ix4 b s n d)
      = gate (fun k => h (ix3 b s k)) (fun k => w (ix2 k ⟨3016 + (n.val * 1024 + d.val), by omega⟩)) (a (ix2 n d)) := by
  pointwise [gatesR, gate]

/-- A branch's heads, at a row. -/
theorem headsR_at (a : FVec Ideal S16384x512 .bf16) (b : Fin 2) (s : Fin 8192) (k : Fin 256) :
    headsR a (ix3 b s k)
      = a (ix2 ⟨b.val * 8192 + s.val, by omega⟩ ⟨(k.val / 64) * 128 + k.val % 64, by omega⟩) := by
  pointwise [headsR]

/-- The branches, at a row. -/
theorem branchesR_at (oa ob oc od : FVec Ideal S16384x512 .bf16) (b : Fin 2) (s : Fin 8192) (n : Fin 4) (k : Fin 256) :
    branchesR oa ob oc od (ix4 b s n k) = headsR (![oa, ob, oc, od] n) (ix3 b s k) := by
  fin_cases n <;> pointwise [branchesR]

/-- The projections, at a row. -/
theorem projR_at (w : FVec Ideal S4x256x1024 .f32) (o : FVec Ideal S2x8192x4x256 .f32)
    (b : Fin 2) (s : Fin 8192) (n : Fin 4) (d : Fin 1024) :
    projR w o (ix4 b s n d) = ∑ k : Fin 256, o (ix4 b s n k) * w (ix3 n k d) := by
  pointwise [projR]
  exact Finset.sum_congr rfl fun k _ => mul_comm _ _

/-- The merge, at a row. -/
theorem mixedR_at (x : FVec Ideal S2x8192x1024 .f32) (gates proj : FVec Ideal S2x8192x4x1024 .f32)
    (w : FVec Ideal S1024x1024 .f32) (b : Fin 2) (s : Fin 8192) (d : Fin 1024) :
    mixedR x gates proj w (ix3 b s d)
      = mixed (fun k => x (ix3 b s k)) (fun n k => gates (ix4 b s n k)) (fun n k => proj (ix4 b s n k))
          (fun k e => w (ix2 k e)) d := by
  pointwise [mixedR, mixed]

/-- The feed-forward part, at a row. -/
theorem fedR_at (x1 h2 : FVec Ideal S2x8192x1024 .f32) (u : FVec Ideal S1024x4096 .f32) (w : FVec Ideal S4096x1024 .f32)
    (b : Fin 2) (s : Fin 8192) (d : Fin 1024) :
    fedR x1 h2 u w (ix3 b s d)
      = fed (fun k => x1 (ix3 b s k)) (fun k => h2 (ix3 b s k)) (fun f k => u (ix2 k f)) (fun f e => w (ix2 f e)) d := by
  pointwise [fedR, fed, unit]

/-- The reference's result, at a row. -/
theorem REF_at (a0 : FVec Ideal S2x8192x1024 .f32) (a1 : FVec Ideal S1024 .f32) (a2 : FVec Ideal S1024x7112 .f32)
    (a3 : FVec Ideal S4x1024 .f32) (a4 a5 a6 a7 : FVec Ideal S16384x512 .bf16) (a8 : FVec Ideal S4x256x1024 .f32)
    (a9 : FVec Ideal S1024x1024 .f32) (a10 : FVec Ideal S1024 .f32) (a11 : FVec Ideal S1024x4096 .f32)
    (a12 : FVec Ideal S4096x1024 .f32) (a13 : FVec Ideal S1024 .f32) (R : Fin 16384) (d : Fin 1024) :
    REF a0 a1 a2 a3 a4 a5 a6 a7 a8 a9 a10 a11 a12 a13 (ix2 R d)
      = innerTail (fun k => a0 (ix3 ⟨R.val / 8192, by omega⟩ ⟨R.val % 8192, by omega⟩ k)) (fun k => a1 (ix1 k))
          (fun n e k => a2 (ix2 k ⟨3016 + (n.val * 1024 + e.val), by omega⟩)) (fun n e => a3 (ix2 n e))
          (fun n e => ∑ k : Fin 256, (![a4, a5, a6, a7] n) (ix2 R ⟨(k.val / 64) * 128 + k.val % 64, by omega⟩) * a8 (ix3 n k e))
          (fun k e => a9 (ix2 k e)) (fun k => a10 (ix1 k)) (fun f k => a11 (ix2 k f)) (fun f e => a12 (ix2 f e)) d := by
  obtain ⟨b, s, hb, hs, hR⟩ : ∃ (b : Fin 2) (s : Fin 8192), (⟨R.val / 8192, by omega⟩ : Fin 2) = b
      ∧ (⟨R.val % 8192, by omega⟩ : Fin 8192) = s ∧ R = ⟨b.val * 8192 + s.val, by omega⟩ :=
    ⟨_, _, rfl, rfl, Fin.ext (by simp only []; omega)⟩
  have h : REF a0 a1 a2 a3 a4 a5 a6 a7 a8 a9 a10 a11 a12 a13 (ix2 R d)
      = fedR (mixedR a0 (gatesR (rmsR a0 a1) a2 a3) (projR a8 (branchesR a4 a5 a6 a7)) a9)
          (rmsR (mixedR a0 (gatesR (rmsR a0 a1) a2 a3) (projR a8 (branchesR a4 a5 a6 a7)) a9) a10) a11 a12
          (ix3 b s d) := by
    unfold REF
    pointwise []
    rw [hb, hs]
  rw [h, hb, hs]
  simp only [rmsR_at, fedR_at, mixedR_at, gatesR_at, projR_at, branchesR_at, headsR_at, ← hR]
  rfl

end Cert.InnerRefIdeal.Val

end
-- ==== Proof.InnerClaim.lean ====
/- The inner tail's claims: its frames, its idealization, its value. -/
module

public import proofs.«01_k».proof.Defs
public import proofs.«01_k».proof.Proof.InnerArr
public import proofs.«01_k».proof.Proof.InnerRef
public import proofs.«01_k».proof.Proof.Gen.Inner.Frame

@[expose] public section

set_option maxRecDepth 16384

noncomputable section

open Idealize.ShloMosaic Idealize.SL.Sem

namespace Cert.Inner.Claims

/-- The kernel runs and leaves its arguments, on machine floats. -/
theorem frame_p : Cert.quiescent_Inner := fun m ρ _ => Cert.Inner.Gen.frame m ρ

/-- The kernel runs and leaves its arguments, on extended reals. -/
theorem frame_pi : Cert.quiescent_InnerIdeal := fun m ρ _ => Cert.InnerIdeal.Gen.frame m ρ

/-- The reference runs and leaves its arguments: its run at the arguments; it declares no semaphore. -/
theorem frame_ri : Cert.quiescent_InnerRefIdeal := fun m ρ _ =>
  (θ_run Cert.InnerRefIdeal.defs _ _).mono (fun r h => ⟨fun c => (h c).2, sem_eq_zero_of_no_sems (by decide) r.2⟩)
    (Cert.InnerRefIdeal.Value.run (F := Ideal) m ρ)

/-- The kernel's array and the reference's, over the same arguments: the inner tail of every row. -/
theorem same (a0 : FVec Ideal Cert.InnerIdeal.S2x8192x1024 .f32) (a1 : FVec Ideal Cert.InnerIdeal.S1024 .f32)
    (a2 : FVec Ideal Cert.InnerIdeal.S1024x7112 .f32) (a3 : FVec Ideal Cert.InnerIdeal.S4x1024 .f32)
    (a4 a5 a6 a7 : FVec Ideal Cert.InnerIdeal.S16384x512 .bf16) (a8 : FVec Ideal Cert.InnerIdeal.S4x256x1024 .f32)
    (a9 : FVec Ideal Cert.InnerIdeal.S1024x1024 .f32) (a10 : FVec Ideal Cert.InnerIdeal.S1024 .f32)
    (a11 : FVec Ideal Cert.InnerIdeal.S1024x4096 .f32) (a12 : FVec Ideal Cert.InnerIdeal.S4096x1024 .f32)
    (a13 : FVec Ideal Cert.InnerIdeal.S1024 .f32) :
    Cert.InnerRefIdeal.Val.REF a0 a1 a2 a3 a4 a5 a6 a7 a8 a9 a10 a11 a12 a13
      = Cert.InnerIdeal.Val.G a0 a1 a2 a3 a4 a5 a6 a7 a8 a9 a10 a11 a12 a13 := by
  funext j
  idx_vars j
  exact Cert.InnerRefIdeal.Val.REF_at a0 a1 a2 a3 a4 a5 a6 a7 a8 a9 a10 a11 a12 a13 _ _

/-- The kernel's result is the reference's. -/
theorem algebraic : Cert.algebraic_InnerIdeal_InnerRefIdeal := by
  pair_intro
  · run_from Cert.InnerIdeal.Value.run_blocks m g
  · run_from Cert.InnerRefIdeal.Value.run m' g'
    obtain ⟨h0, h1, h2, h3, h4, h5, h6, h7, h8, h9, h10, h11, h12, h13⟩ := hagree c
    refine (Cert.InnerRefIdeal.Val.res_eq m' c).trans (Eq.trans ?_ (Cert.InnerIdeal.Val.final m c).symm)
    rw [h0, h1, h2, h3, h4, h5, h6, h7, h8, h9, h10, h11, h12, h13]
    exact same _ _ _ _ _ _ _ _ _ _ _ _ _ _

end Cert.Inner.Claims

end
-- ==== Proof.SbState.lean ====
module

public import proofs.«01_k».proof.Proof.Gen.SbIdeal.Frame
public import proofs.«01_k».proof.Proof.Gen.SbIdeal.Skeleton
public import Idealize.ShloMosaic.Lib.Tactic
public import Idealize.ShloMosaic.Lib.WholeRead
public import Idealize.ShloMosaic.Lib.VecWindow
public import Idealize.ShloMosaic.Lib.Pointwise

@[expose] public section

set_option maxRecDepth 16384

noncomputable section

namespace Cert.SbIdeal.Run

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-! ## What one tile of keys does to the running state

The four heads' logits stand side by side in one `256 × 1024` array (keys down, head and query across). The running state
is the carry, each column's sum of the tiles' costs of passing so far, and for each head the weighted sum of the values.
The tiles are taken from the diagonal backwards. The payloads named here are those of the loop's first half; the other
places of the body write the same operations. -/

/-- The queries as the body uses them: scaled, and each head's in its own columns and rows. -/
def qS (x : Vec F S256x256 .f32) : FVec F S256x1024 .bf16 :=
  k0_pay69 (k0_pay63 x) k0_pay64 (k0_pay65 x) (k0_pay66 x) k0_pay67 k0_pay68

/-- The logits of one tile of keys `K` against the queries `q`, the four heads side by side. -/
def lg (q : FVec F S256x1024 .bf16) (K : Vec F S256x256 .bf16) : FVec F S256x1024 .f32 := k0_pay3 q K

/-- The running state: the columns' carry and the four heads' weighted sums. -/
structure St (F : FTy → Type) where
  m : Vec F S1x1024 .f32
  a : Vec F S128x256 .f32
  b : Vec F S128x256 .f32
  d : Vec F S128x256 .f32
  e : Vec F S128x256 .f32

/-- The state after a tile of logits `s`, the tile's values being `V h` for head `h`; `U` marks the later keys of a tile. -/
def consume (U : FVec F S256x256 .bf16) (V : Fin 4 → Vec F S128x256 .bf16) (s : Vec F S256x1024 .f32) (t : St F) : St F where
  m := k0_pay10 (k0_pay4 s) t.m
  a := k0_pay6 (k0_pay5 U s t.m) t.a (V 0)
  b := k0_pay7 (k0_pay5 U s t.m) t.b (V 1)
  d := k0_pay8 (k0_pay5 U s t.m) t.d (V 2)
  e := k0_pay9 (k0_pay5 U s t.m) t.e (V 3)

/-- The weights of the tile on the diagonal, before the mask. -/
def wD (q : FVec F S256x1024 .bf16) (U : FVec F S256x256 .bf16) (K : Vec F S256x256 .bf16) : FVec F S256x1024 .f32 := k0_pay79 q U K k0_pay71

/-- The state after the tile on the diagonal, the first one taken. -/
def stD (q : FVec F S256x1024 .bf16) (U : FVec F S256x256 .bf16) (K : Vec F S256x256 .bf16) (V : Fin 4 → Vec F S128x256 .bf16) : St F where
  m := k0_pay86 (k0_pay78 q K) k0_pay71
  a := k0_pay81 k0_pay77 (wD q U K) (Scalar.ofBits .f32 0x00000000#32) k0_pay72 (V 0)
  b := k0_pay82 k0_pay77 (wD q U K) (Scalar.ofBits .f32 0x00000000#32) k0_pay73 (V 1)
  d := k0_pay84 (k0_pay83 k0_pay77 (wD q U K) (Scalar.ofBits .f32 0x00000000#32) k0_pay74 (V 2))
  e := k0_pay85 (k0_pay80 k0_pay77 (wD q U K) (Scalar.ofBits .f32 0x00000000#32)) k0_pay75 (V 3)

/-- Tile `j` of the keys: rows `256 j …` of the block. -/
def kT (x : Vec F S8192x256 .bf16) (j : ℕ) : Vec F S256x256 .bf16 :=
  fun y => x (ix2 (⟨(256 * j + (y 0).val) % 8192, Nat.mod_lt _ (by decide)⟩ : Fin 8192) (⟨(y 1).val, (y 1).isLt⟩ : Fin 256))

/-- Tile `j` of head `h`'s values: rows `128 h …`, columns `256 j …` of the block. -/
def vT (x : Vec F S512x8192 .bf16) (j : ℕ) (h : Fin 4) : Vec F S128x256 .bf16 :=
  fun y => x (ix2 (⟨128 * h.val + (y 0).val, by have : (y 0).val < 128 := (y 0).isLt; have := h.isLt; omega⟩ : Fin 512)
    (⟨(256 * j + (y 1).val) % 8192, Nat.mod_lt _ (by decide)⟩ : Fin 8192))

/-- The state of block of queries `n` after its diagonal tile and `p` earlier tiles, the nearest first. -/
def stN (q : FVec F S256x1024 .bf16) (U : FVec F S256x256 .bf16) (K : Vec F S8192x256 .bf16) (V : Vec F S512x8192 .bf16) (n : ℕ) : ℕ → St F
  | 0 => stD q U (kT K n) (vT V n)
  | p + 1 => consume U (vT V (n - 1 - p)) (lg q (kT K (n - 1 - p))) (stN q U K V n p)

/-- What the body leaves in its result block, from the state it ends with: each head in its 128 lanes. -/
def outOf (t : St F) : Vec F S256x512 .bf16 := fun y =>
  if (y 1).val < 128 then k0_pay91 t.a (ix2 (⟨(y 0).val, (y 0).isLt⟩ : Fin 256) (⟨(y 1).val % 128, Nat.mod_lt _ (by decide)⟩ : Fin 128))
  else if (y 1).val < 256 then k0_pay91 t.b (ix2 (⟨(y 0).val, (y 0).isLt⟩ : Fin 256) (⟨(y 1).val % 128, Nat.mod_lt _ (by decide)⟩ : Fin 128))
  else if (y 1).val < 384 then k0_pay91 t.d (ix2 (⟨(y 0).val, (y 0).isLt⟩ : Fin 256) (⟨(y 1).val % 128, Nat.mod_lt _ (by decide)⟩ : Fin 128))
  else k0_pay91 t.e (ix2 (⟨(y 0).val, (y 0).isLt⟩ : Fin 256) (⟨(y 1).val % 128, Nat.mod_lt _ (by decide)⟩ : Fin 128))

/-! ## The loads of a tile, by their offsets -/

/-- Where a tile is read or written. -/
theorem off1_e : ∀ (i : grid0.Coords), k0_off1 i = ![256 * (i 1).val, 0] := by decide +kernel
/-- Where a tile is read or written. -/
theorem off2_e : ∀ (i : grid0.Coords), k0_off2 i = ![0, 256 * (i 1).val] := by decide +kernel
/-- Where a tile is read or written. -/
theorem off3_e : ∀ (i : grid0.Coords), k0_off3 i = ![128, 256 * (i 1).val] := by decide +kernel
/-- Where a tile is read or written. -/
theorem off4_e : ∀ (i : grid0.Coords), k0_off4 i = ![256, 256 * (i 1).val] := by decide +kernel
/-- Where a tile is read or written. -/
theorem off5_e : ∀ (i : grid0.Coords), k0_off5 i = ![384, 256 * (i 1).val] := by decide +kernel
/-- Where a tile is read or written. -/
theorem off6_e : ∀ (i : grid0.Coords), k0_cond1 i = 1#1 → k0_off6 i = ![256 * ((i 1).val - 1), 0] := by decide +kernel
/-- Where a tile is read or written. -/
theorem off7_1 : ∀ (i : grid0.Coords) (k : Fin (k0_t1_loop i).trips), k0_off7 i k 1#32 = ![256 * ((i 1).val - 1 - (2 * k.val + 1)), 0] := by decide +kernel
/-- Where a tile is read or written. -/
theorem off7_2 : ∀ (i : grid0.Coords) (k : Fin (k0_t1_loop i).trips), k0_off7 i k 2#32 = ![256 * ((i 1).val - 1 - (2 * k.val + 2)), 0] := by decide +kernel
/-- Where a tile is read or written. -/
theorem off8_e : ∀ (i : grid0.Coords) (k : Fin (k0_t1_loop i).trips), k0_off8 i k = ![0, 256 * ((i 1).val - 1 - 2 * k.val)] := by decide +kernel
/-- Where a tile is read or written. -/
theorem off9_e : ∀ (i : grid0.Coords) (k : Fin (k0_t1_loop i).trips), k0_off9 i k = ![128, 256 * ((i 1).val - 1 - 2 * k.val)] := by decide +kernel
/-- Where a tile is read or written. -/
theorem off10_e : ∀ (i : grid0.Coords) (k : Fin (k0_t1_loop i).trips), k0_off10 i k = ![256, 256 * ((i 1).val - 1 - 2 * k.val)] := by decide +kernel
/-- Where a tile is read or written. -/
theorem off11_e : ∀ (i : grid0.Coords) (k : Fin (k0_t1_loop i).trips), k0_off11 i k = ![384, 256 * ((i 1).val - 1 - 2 * k.val)] := by decide +kernel
/-- Where a tile is read or written. -/
theorem off12_e : ∀ (i : grid0.Coords) (k : Fin (k0_t1_loop i).trips), k0_off12 i k = ![0, 256 * ((i 1).val - 1 - (2 * k.val + 1))] := by decide +kernel
/-- Where a tile is read or written. -/
theorem off13_e : ∀ (i : grid0.Coords) (k : Fin (k0_t1_loop i).trips), k0_off13 i k = ![128, 256 * ((i 1).val - 1 - (2 * k.val + 1))] := by decide +kernel
/-- Where a tile is read or written. -/
theorem off14_e : ∀ (i : grid0.Coords) (k : Fin (k0_t1_loop i).trips), k0_off14 i k = ![256, 256 * ((i 1).val - 1 - (2 * k.val + 1))] := by decide +kernel
/-- Where a tile is read or written. -/
theorem off15_e : ∀ (i : grid0.Coords) (k : Fin (k0_t1_loop i).trips), k0_off15 i k = ![384, 256 * ((i 1).val - 1 - (2 * k.val + 1))] := by decide +kernel
/-- Where a tile is read or written. -/
theorem off25_e : ∀ (i : grid0.Coords), k0_cond2 i = 1#1 → k0_off25 i = ![0, 256 * 0] := by decide +kernel
/-- Where a tile is read or written. -/
theorem off26_e : ∀ (i : grid0.Coords), k0_cond2 i = 1#1 → k0_off26 i = ![128, 256 * 0] := by decide +kernel
/-- Where a tile is read or written. -/
theorem off27_e : ∀ (i : grid0.Coords), k0_cond2 i = 1#1 → k0_off27 i = ![256, 256 * 0] := by decide +kernel
/-- Where a tile is read or written. -/
theorem off28_e : ∀ (i : grid0.Coords), k0_cond2 i = 1#1 → k0_off28 i = ![384, 256 * 0] := by decide +kernel
/-- Where a tile is read or written. -/
theorem off29_e : ∀ (i : grid0.Coords), k0_cond3 i = 1#1 → k0_off29 i = ![256 * 0, 0] := by decide +kernel
/-- Where a tile is read or written. -/
theorem off30_2 : ∀ (i : grid0.Coords), k0_cond3 i = 1#1 → k0_off30 i 2#32 = ![0, 256 * 1] := by decide +kernel
/-- Where a tile is read or written. -/
theorem off30_1 : ∀ (i : grid0.Coords), k0_cond3 i = 1#1 → k0_off30 i 1#32 = ![0, 256 * 0] := by decide +kernel
/-- Where a tile is read or written. -/
theorem off31_2 : ∀ (i : grid0.Coords), k0_cond3 i = 1#1 → k0_off31 i 2#32 = ![128, 256 * 1] := by decide +kernel
/-- Where a tile is read or written. -/
theorem off31_1 : ∀ (i : grid0.Coords), k0_cond3 i = 1#1 → k0_off31 i 1#32 = ![128, 256 * 0] := by decide +kernel
/-- Where a tile is read or written. -/
theorem off32_2 : ∀ (i : grid0.Coords), k0_cond3 i = 1#1 → k0_off32 i 2#32 = ![256, 256 * 1] := by decide +kernel
/-- Where a tile is read or written. -/
theorem off32_1 : ∀ (i : grid0.Coords), k0_cond3 i = 1#1 → k0_off32 i 1#32 = ![256, 256 * 0] := by decide +kernel
/-- Where a tile is read or written. -/
theorem off33_2 : ∀ (i : grid0.Coords), k0_cond3 i = 1#1 → k0_off33 i 2#32 = ![384, 256 * 1] := by decide +kernel
/-- Where a tile is read or written. -/
theorem off33_1 : ∀ (i : grid0.Coords), k0_cond3 i = 1#1 → k0_off33 i 1#32 = ![384, 256 * 0] := by decide +kernel

/-- The loop takes two tiles a round. -/
theorem trips_e : ∀ i : grid0.Coords, (k0_t1_loop i).trips = ((i 1).val - 1) / 2 := by decide +kernel
/-- The first block of queries has the diagonal tile only. -/
theorem cond_zero : ∀ i : grid0.Coords, (i 1).val = 0 → ¬ k0_cond1 i = 1#1 := by decide +kernel
/-- An odd block of queries has one tile left after the loop. -/
theorem cond_odd : ∀ i : grid0.Coords, (i 1).val % 2 = 1 → k0_cond1 i = 1#1 ∧ k0_cond2 i = 1#1 ∧ ¬ k0_cond3 i = 1#1 := by decide +kernel
/-- A later even block of queries has two tiles left after the loop. -/
theorem cond_even : ∀ i : grid0.Coords, 0 < (i 1).val → (i 1).val % 2 = 0 → k0_cond1 i = 1#1 ∧ ¬ k0_cond2 i = 1#1 ∧ k0_cond3 i = 1#1 := by decide +kernel
/-- The branch without earlier tiles is taken at the first block of queries. -/
theorem par_zero : ∀ i : grid0.Coords, ¬ k0_cond1 i = 1#1 → (i 1).val = 0 := by decide +kernel
/-- The branch with one tile left is taken at odd blocks of queries. -/
theorem par_odd : ∀ i : grid0.Coords, k0_cond2 i = 1#1 → (i 1).val % 2 = 1 := by decide +kernel
/-- The branch with two tiles left is taken at later even blocks of queries. -/
theorem par_even : ∀ i : grid0.Coords, k0_cond1 i = 1#1 → k0_cond3 i = 1#1 → 0 < (i 1).val ∧ (i 1).val % 2 = 0 := by decide +kernel

/-- A load of 256 rows of the keys at row `256 j` is tile `j`. -/
theorem read_kT {κ' : Kind} {sp : Space} {M : Memref sig κ' sp S8192x256 .bf16} (h : M.IsWhole) (x : Vec F S8192x256 .bf16) (j : ℕ)
    {off : Fin 2 → ℕ} (inb : ∀ a, off a + S256x256.size a ≤ S8192x256.size a) (e : off = ![256 * j, 0]) :
    View.readAt (Elt F) M.view (Rect.unit (s := S8192x256) off S256x256.size inb).toLoadRect (h.unread x) = kT x j := by
  subst e
  funext y
  rw [h.readAt_unread]
  have h0 : 256 * j + 256 ≤ 8192 := inb 0
  have hy : (y 0).val < 256 := (y 0).isLt
  refine congrArg x (funext fun a => Fin.ext ?_)
  match a with
  | ⟨0, _⟩ =>
    show 256 * j + 1 * (y 0).val = (256 * j + (y 0).val) % 8192
    rw [Nat.mod_eq_of_lt (by omega)]; omega
  | ⟨1, _⟩ =>
    show 0 + 1 * (y 1).val = (y 1).val
    omega

/-- A load of 128 rows and 256 columns of the values at row `128 h`, column `256 j` is tile `j` of head `h`. -/
theorem read_vT {κ' : Kind} {sp : Space} {M : Memref sig κ' sp S512x8192 .bf16} (hM : M.IsWhole) (x : Vec F S512x8192 .bf16) (j : ℕ) (h : Fin 4)
    {off : Fin 2 → ℕ} (inb : ∀ a, off a + S128x256.size a ≤ S512x8192.size a) (e : off = ![128 * h.val, 256 * j]) :
    View.readAt (Elt F) M.view (Rect.unit (s := S512x8192) off S128x256.size inb).toLoadRect (hM.unread x) = vT x j h := by
  subst e
  funext y
  rw [hM.readAt_unread]
  have h0 : 256 * j + 256 ≤ 8192 := inb 1
  have hy : (y 1).val < 256 := (y 1).isLt
  refine congrArg x (funext fun a => Fin.ext ?_)
  match a with
  | ⟨0, _⟩ =>
    show 128 * h.val + 1 * (y 0).val = 128 * h.val + (y 0).val
    omega
  | ⟨1, _⟩ =>
    show 256 * j + 1 * (y 1).val = (256 * j + (y 1).val) % 8192
    rw [Nat.mod_eq_of_lt (by omega)]; omega

/-- A whole memref after a store of all of it holds what was stored. -/
theorem writes_unread {κ' : Kind} {sp : Space} {s : Shape} {el : EltTy} {M : Memref sig κ' sp s el} (h : M.IsWhole)
    (f : M.view.ty.Contents (Elt F)) {off : Fin s.rank → ℕ} (inb : ∀ a, off a + s.size a ≤ s.size a)
    (w : (Rect.unit off s.size inb).shape.Idx → Elt F el) (L : List (View.Piece (Elt F) s el)) :
    M.view.writes (Elt F) f (⟨Rect.unit off s.size inb, w⟩ :: L) = h.unread w :=
  h.eq_unread (View.read_writes_full M.view f inb w L)

/-- A load of all of a whole memref. -/
theorem readAt_unread_full {κ' : Kind} {sp : Space} {s : Shape} {el : EltTy} {M : Memref sig κ' sp s el} (h : M.IsWhole)
    (x : s.Idx → Elt F el) {off : Fin s.rank → ℕ} (inb : ∀ a, off a + s.size a ≤ s.size a) :
    View.readAt (Elt F) M.view (Rect.unit off s.size inb).toLoadRect (h.unread x) = x := by
  rw [View.readAt_full, h.read_unread]

/-! ## The other places of the body write the same operations -/

/-- The same step, printed again by the program. -/
theorem t_lg (q : FVec F S256x1024 .bf16) (K : Vec F S256x256 .bf16) :
    k0_pay3 q K = lg q K := rfl
/-- The same step, printed again by the program. -/
theorem t_lg2 (q : FVec F S256x1024 .bf16) (K : Vec F S256x256 .bf16) :
    k0_pay11 q K = lg q K := rfl
/-- The same step, printed again by the program. -/
theorem t_m2 (s : Vec F S256x1024 .f32) (m : Vec F S1x1024 .f32) :
    k0_pay61 (k0_pay20 (k0_pay13 s (k0_pay12 s) (Scalar.ofBits .f32 0x00000000#32)) m) = k0_pay10 (k0_pay4 s) m := rfl
/-- The same step, printed again by the program. -/
theorem t_a2 (U : FVec F S256x256 .bf16) (s : Vec F S256x1024 .f32) (m : Vec F S1x1024 .f32) (x : Vec F S128x256 .f32) (V : Vec F S128x256 .bf16) :
    k0_pay15 U s (k0_pay12 s) (Scalar.ofBits .f32 0x00000000#32) m x V = k0_pay6 (k0_pay5 U s m) x V := rfl
/-- The same step, printed again by the program. -/
theorem t_b2 (U : FVec F S256x256 .bf16) (s : Vec F S256x1024 .f32) (m : Vec F S1x1024 .f32) (x : Vec F S128x256 .f32) (V : Vec F S128x256 .bf16) :
    k0_pay17 (k0_pay16 U s (k0_pay12 s) (Scalar.ofBits .f32 0x00000000#32) m x V) = k0_pay7 (k0_pay5 U s m) x V := rfl
/-- The same step, printed again by the program. -/
theorem t_d2 (U : FVec F S256x256 .bf16) (s : Vec F S256x1024 .f32) (m : Vec F S1x1024 .f32) (x : Vec F S128x256 .f32) (V : Vec F S128x256 .bf16) :
    k0_pay18 (k0_pay14 U s (k0_pay12 s) (Scalar.ofBits .f32 0x00000000#32) m) x V = k0_pay8 (k0_pay5 U s m) x V := rfl
/-- The same step, printed again by the program. -/
theorem t_e2 (U : FVec F S256x256 .bf16) (s : Vec F S256x1024 .f32) (m : Vec F S1x1024 .f32) (x : Vec F S128x256 .f32) (V : Vec F S128x256 .bf16) :
    k0_pay19 (k0_pay14 U s (k0_pay12 s) (Scalar.ofBits .f32 0x00000000#32) m) x V = k0_pay9 (k0_pay5 U s m) x V := rfl
/-- The same step, printed again by the program. -/
theorem o_m (s : Vec F S256x1024 .f32) (m : Vec F S1x1024 .f32) :
    k0_pay87 (k0_pay39 s) m = k0_pay10 (k0_pay4 s) m := rfl
/-- The same step, printed again by the program. -/
theorem o_a (U : FVec F S256x256 .bf16) (s : Vec F S256x1024 .f32) (m : Vec F S1x1024 .f32) (x : Vec F S128x256 .f32) (V : Vec F S128x256 .bf16) :
    k0_pay41 U s m x V = k0_pay6 (k0_pay5 U s m) x V := rfl
/-- The same step, printed again by the program. -/
theorem o_b (U : FVec F S256x256 .bf16) (s : Vec F S256x1024 .f32) (m : Vec F S1x1024 .f32) (x : Vec F S128x256 .f32) (V : Vec F S128x256 .bf16) :
    k0_pay42 (k0_pay40 U s m) x V = k0_pay7 (k0_pay5 U s m) x V := rfl
/-- The same step, printed again by the program. -/
theorem o_d (U : FVec F S256x256 .bf16) (s : Vec F S256x1024 .f32) (m : Vec F S1x1024 .f32) (x : Vec F S128x256 .f32) (V : Vec F S128x256 .bf16) :
    k0_pay43 (k0_pay40 U s m) x V = k0_pay8 (k0_pay5 U s m) x V := rfl
/-- The same step, printed again by the program. -/
theorem o_e (U : FVec F S256x256 .bf16) (s : Vec F S256x1024 .f32) (m : Vec F S1x1024 .f32) (x : Vec F S128x256 .f32) (V : Vec F S128x256 .bf16) :
    k0_pay44 (k0_pay40 U s m) x V = k0_pay9 (k0_pay5 U s m) x V := rfl
/-- The same step, printed again by the program. -/
theorem p_lg0 (q : FVec F S256x1024 .bf16) (K : Vec F S256x256 .bf16) :
    k0_pay60 q K = lg q K := rfl
/-- The same step, printed again by the program. -/
theorem p_lg (q : FVec F S256x1024 .bf16) (K : Vec F S256x256 .bf16) :
    k0_pay45 q K = lg q K := rfl
/-- The same step, printed again by the program. -/
theorem p_m1 (s : Vec F S256x1024 .f32) (m : Vec F S1x1024 .f32) :
    k0_pay52 (k0_pay46 s) m = k0_pay10 (k0_pay4 s) m := rfl
/-- The same step, printed again by the program. -/
theorem p_a1 (U : FVec F S256x256 .bf16) (s : Vec F S256x1024 .f32) (m : Vec F S1x1024 .f32) (x : Vec F S128x256 .f32) (V : Vec F S128x256 .bf16) :
    k0_pay48 (k0_pay47 U s m) x V = k0_pay6 (k0_pay5 U s m) x V := rfl
/-- The same step, printed again by the program. -/
theorem p_b1 (U : FVec F S256x256 .bf16) (s : Vec F S256x1024 .f32) (m : Vec F S1x1024 .f32) (x : Vec F S128x256 .f32) (V : Vec F S128x256 .bf16) :
    k0_pay49 (k0_pay47 U s m) x V = k0_pay7 (k0_pay5 U s m) x V := rfl
/-- The same step, printed again by the program. -/
theorem p_d1 (U : FVec F S256x256 .bf16) (s : Vec F S256x1024 .f32) (m : Vec F S1x1024 .f32) (x : Vec F S128x256 .f32) (V : Vec F S128x256 .bf16) :
    k0_pay50 (k0_pay47 U s m) x V = k0_pay8 (k0_pay5 U s m) x V := rfl
/-- The same step, printed again by the program. -/
theorem p_e1 (U : FVec F S256x256 .bf16) (s : Vec F S256x1024 .f32) (m : Vec F S1x1024 .f32) (x : Vec F S128x256 .f32) (V : Vec F S128x256 .bf16) :
    k0_pay51 (k0_pay47 U s m) x V = k0_pay9 (k0_pay5 U s m) x V := rfl
/-- The same step, printed again by the program. -/
theorem p_m2 (s : Vec F S256x1024 .f32) (m : Vec F S1x1024 .f32) :
    k0_pay90 (k0_pay53 s) m = k0_pay10 (k0_pay4 s) m := rfl
/-- The same step, printed again by the program. -/
theorem p_a2 (U : FVec F S256x256 .bf16) (s : Vec F S256x1024 .f32) (m : Vec F S1x1024 .f32) (x : Vec F S128x256 .f32) (V : Vec F S128x256 .bf16) :
    k0_pay57 s (k0_pay53 s) (k0_pay54 U s) (k0_pay55 m) x V = k0_pay6 (k0_pay5 U s m) x V := rfl
/-- The same step, printed again by the program. -/
theorem p_b2 (U : FVec F S256x256 .bf16) (s : Vec F S256x1024 .f32) (m : Vec F S1x1024 .f32) (x : Vec F S128x256 .f32) (V : Vec F S128x256 .bf16) :
    k0_pay58 s (k0_pay53 s) (k0_pay54 U s) (k0_pay55 m) x V = k0_pay7 (k0_pay5 U s m) x V := rfl
/-- The same step, printed again by the program. -/
theorem p_d2 (U : FVec F S256x256 .bf16) (s : Vec F S256x1024 .f32) (m : Vec F S1x1024 .f32) (x : Vec F S128x256 .f32) (V : Vec F S128x256 .bf16) :
    k0_pay88 (k0_pay59 s (k0_pay53 s) (k0_pay54 U s) (k0_pay55 m) x V) = k0_pay8 (k0_pay5 U s m) x V := rfl
/-- The same step, printed again by the program. -/
theorem p_e2 (U : FVec F S256x256 .bf16) (s : Vec F S256x1024 .f32) (m : Vec F S1x1024 .f32) (x : Vec F S128x256 .f32) (V : Vec F S128x256 .bf16) :
    k0_pay89 (k0_pay56 s (k0_pay53 s) (k0_pay54 U s) (k0_pay55 m)) x V = k0_pay9 (k0_pay5 U s m) x V := rfl

end Cert.SbIdeal.Run

end
-- ==== Proof.SbPoint.lean ====
/- The stick-breaking kernel's arithmetic at one element, over the extended reals. -/
module

public import proofs.«01_k».proof.Proof.SbState
public import Idealize.ShloMosaic.Lib.Pointwise
public import Idealize.ShloMosaic.Lib.WordCmp

@[expose] public section

set_option maxRecDepth 16384

noncomputable section

namespace Cert.SbIdeal.Run

open scoped BigOperators
open Cert.SbIdeal Cert.SbIdeal.Gen
open Idealize.ShloMosaic
open Idealize.ShloMosaic.TcCoe Idealize.ShloMosaic.Tactic

/-- The named constants: one over the logarithm of two, and that over eight. -/
theorem log2e_eq : (Named.named κ "log2e" 0x3FB8AA3B#32 : Ideal .f32) = (((Real.log 2)⁻¹ : ℝ) : EReal) := rfl

/-- The scale on the queries. -/
def qs : ℝ := (1 / 8) * (Real.log 2)⁻¹
/-- The named scale on extended reals. -/
theorem sbscale_eq : (Named.named κ "sbscale" 0x3E38AA3B#32 : Ideal .f32) = (qs : EReal) := rfl

/-- One, written as a float. -/
theorem one_eq : Ideal.ofBits .f32 0x3F800000#32 = (1 : EReal) := by
  simp [Ideal.ofBits, Ideal.ieee, -EReal.coe_mul]; norm_num

/-- An entry of a tile of logits: the sum of products of key and query. -/
theorem lg_at (q : FVec Ideal S256x1024 .bf16) (K : Vec Ideal S256x256 .bf16) (r : Fin 256) (c : Fin 1024) :
    lg q K (ix2 r c) = (∑ e : Fin 256, K (ix2 r e) * q (ix2 e c) : EReal) := by
  pointwise [lg, k0_pay3]

/-- What a key takes off the stick, before any mask. -/
theorem nlf_at (s : Vec Ideal S256x1024 .f32) (r : Fin 256) (c : Fin 1024) :
    k0_pay4 s (ix2 r c) = (max (s (ix2 r c) : EReal) 0
      + Ideal.log (1 + Ideal.exp2 (0 - max (s (ix2 r c) : EReal) (-(s (ix2 r c) : EReal)))) * (((Real.log 2)⁻¹ : ℝ) : EReal) : EReal) := by
  rw [← log2e_eq, ← one_eq]
  pointwise [k0_pay4]
  rfl

/-- A key's weight: a power of two. -/
theorem wt_at (U : FVec Ideal S256x256 .bf16) (s : Vec Ideal S256x1024 .f32) (m : Vec Ideal S1x1024 .f32) (r : Fin 256) (c : Fin 1024) :
    k0_pay5 U s m (ix2 r c) = (Ideal.exp2 ((s (ix2 r c) : EReal) - (k0_pay4 s (ix2 r c)
      + (∑ k : Fin 256, U (ix2 r k) * k0_pay4 s (ix2 k c) + m (ix2 (0 : Fin 1) c)))) : EReal) := by
  pointwise [k0_pay5]
  rfl

/-- The carry after a tile. -/
theorem carry_at (f : FVec Ideal S256x1024 .f32) (m : Vec Ideal S1x1024 .f32) (c : Fin 1024) :
    k0_pay10 f m (ix2 (0 : Fin 1) c) = (m (ix2 (0 : Fin 1) c) + ∑ k : Fin 256, f (ix2 k c) : EReal) := by
  pointwise [k0_pay10]

/-- The carry after the diagonal's tile. -/
theorem carryD_at (f : FVec Ideal S256x1024 .f32) (m : Vec Ideal S1x1024 .f32) (c : Fin 1024) :
    k0_pay86 f m (ix2 (0 : Fin 1) c) = (m (ix2 (0 : Fin 1) c) + ∑ k : Fin 256, f (ix2 k c) : EReal) := by
  pointwise [k0_pay86]

/-- An entry of an accumulator after a tile: the tile's weighted values added. -/
theorem acc0_at (w : FVec Ideal S256x1024 .bf16) (x : Vec Ideal S128x256 .f32) (V : Vec Ideal S128x256 .bf16) (r : Fin 128) (c : Fin 256) :
    k0_pay6 w x V (ix2 r c) = (x (ix2 r c) + ∑ k : Fin 256, V (ix2 r k) * w (ix2 k (⟨c.val, by omega⟩ : Fin 1024)) : EReal) := by
  pointwise [k0_pay6]

/-- An entry of an accumulator after a tile: the tile's weighted values added. -/
theorem acc1_at (w : FVec Ideal S256x1024 .bf16) (x : Vec Ideal S128x256 .f32) (V : Vec Ideal S128x256 .bf16) (r : Fin 128) (c : Fin 256) :
    k0_pay7 w x V (ix2 r c) = (x (ix2 r c) + ∑ k : Fin 256, V (ix2 r k) * w (ix2 k (⟨256 + c.val, by omega⟩ : Fin 1024)) : EReal) := by
  pointwise [k0_pay7]

/-- An entry of an accumulator after a tile: the tile's weighted values added. -/
theorem acc2_at (w : FVec Ideal S256x1024 .bf16) (x : Vec Ideal S128x256 .f32) (V : Vec Ideal S128x256 .bf16) (r : Fin 128) (c : Fin 256) :
    k0_pay8 w x V (ix2 r c) = (x (ix2 r c) + ∑ k : Fin 256, V (ix2 r k) * w (ix2 k (⟨512 + c.val, by omega⟩ : Fin 1024)) : EReal) := by
  pointwise [k0_pay8]

/-- An entry of an accumulator after a tile: the tile's weighted values added. -/
theorem acc3_at (w : FVec Ideal S256x1024 .bf16) (x : Vec Ideal S128x256 .f32) (V : Vec Ideal S128x256 .bf16) (r : Fin 128) (c : Fin 256) :
    k0_pay9 w x V (ix2 r c) = (x (ix2 r c) + ∑ k : Fin 256, V (ix2 r k) * w (ix2 k (⟨768 + c.val, by omega⟩ : Fin 1024)) : EReal) := by
  pointwise [k0_pay9]

/-- An entry of an accumulator after the diagonal's tile: the tile's weighted values added. -/
theorem accD0_at (M : IVec S256x1024 1) (w : FVec Ideal S256x1024 .f32) (z : Ideal .f32) (x : Vec Ideal S128x256 .f32) (V : Vec Ideal S128x256 .bf16) (r : Fin 128) (c : Fin 256) :
    k0_pay81 M w z x V (ix2 r c) = (x (ix2 r c) + ∑ k : Fin 256, V (ix2 r k) * k0_pay80 M w z (ix2 k (⟨c.val, by omega⟩ : Fin 1024)) : EReal) := by
  pointwise [k0_pay81]

/-- An entry of an accumulator after the diagonal's tile: the tile's weighted values added. -/
theorem accD1_at (M : IVec S256x1024 1) (w : FVec Ideal S256x1024 .f32) (z : Ideal .f32) (x : Vec Ideal S128x256 .f32) (V : Vec Ideal S128x256 .bf16) (r : Fin 128) (c : Fin 256) :
    k0_pay82 M w z x V (ix2 r c) = (x (ix2 r c) + ∑ k : Fin 256, V (ix2 r k) * k0_pay80 M w z (ix2 k (⟨256 + c.val, by omega⟩ : Fin 1024)) : EReal) := by
  pointwise [k0_pay82]

/-- An entry of an accumulator after the diagonal's tile: the tile's weighted values added. -/
theorem accD2_at (M : IVec S256x1024 1) (w : FVec Ideal S256x1024 .f32) (z : Ideal .f32) (x : Vec Ideal S128x256 .f32) (V : Vec Ideal S128x256 .bf16) (r : Fin 128) (c : Fin 256) :
    k0_pay84 (k0_pay83 M w z x V) (ix2 r c) = (x (ix2 r c) + ∑ k : Fin 256, V (ix2 r k) * k0_pay80 M w z (ix2 k (⟨512 + c.val, by omega⟩ : Fin 1024)) : EReal) := by
  pointwise [k0_pay84, k0_pay83]

/-- An entry of an accumulator after the diagonal's tile: the tile's weighted values added. -/
theorem accD3_at (M : IVec S256x1024 1) (w : FVec Ideal S256x1024 .f32) (z : Ideal .f32) (x : Vec Ideal S128x256 .f32) (V : Vec Ideal S128x256 .bf16) (r : Fin 128) (c : Fin 256) :
    k0_pay85 (k0_pay80 M w z) x V (ix2 r c) = (x (ix2 r c) + ∑ k : Fin 256, V (ix2 r k) * k0_pay80 M w z (ix2 k (⟨768 + c.val, by omega⟩ : Fin 1024)) : EReal) := by
  pointwise [k0_pay85]

/-- The diagonal's weights under the mask. -/
theorem mwt_at (M : IVec S256x1024 1) (w : FVec Ideal S256x1024 .f32) (r : Fin 256) (c : Fin 1024) :
    k0_pay80 M w (Scalar.ofBits .f32 0x00000000#32) (ix2 r c) = (Scalar.select (M (ix2 r c)) (w (ix2 r c)) 0 : EReal) := by
  pointwise [k0_pay80]

/-- The diagonal's logits. -/
theorem lgD_eq (q : FVec Ideal S256x1024 .bf16) (K : Vec Ideal S256x256 .bf16) (r : Fin 256) (c : Fin 1024) :
    k0_pay76 q K (ix2 r c) = lg q K (ix2 r c) := by
  rw [lg_at]
  pointwise [k0_pay76]

/-- What a key of the diagonal's tile takes off the stick. -/
theorem nlfD_at (q : FVec Ideal S256x1024 .bf16) (K : Vec Ideal S256x256 .bf16) (r : Fin 256) (c : Fin 1024) :
    k0_pay78 q K (ix2 r c) = (Scalar.select (k0_pay77 (ix2 r c)) (k0_pay4 (lg q K) (ix2 r c)) 0 : EReal) := by
  rw [nlf_at, ← lgD_eq, ← log2e_eq, ← one_eq]
  pointwise [k0_pay78]
  rfl

/-- A weight of the diagonal's tile, before the mask. -/
theorem wD_at (q : FVec Ideal S256x1024 .bf16) (U : FVec Ideal S256x256 .bf16) (K : Vec Ideal S256x256 .bf16) (r : Fin 256) (c : Fin 1024) :
    wD q U K (ix2 r c) = (Ideal.exp2 ((lg q K (ix2 r c) : EReal) - (k0_pay78 q K (ix2 r c)
      + (∑ k : Fin 256, U (ix2 r k) * k0_pay78 q K (ix2 k c) + 0))) : EReal) := by
  rw [← lgD_eq]
  pointwise [wD, k0_pay79, k0_pay71]
  rfl

/-- The carry starts from zero. -/
theorem m₀_at (c : Fin 1024) : (k0_pay71 : FVec Ideal S1x1024 .f32) (ix2 (0 : Fin 1) c) = (0 : EReal) := by
  pointwise [k0_pay71]
/-- The accumulator starts from zero. -/
theorem a₀_at (r : Fin 128) (c : Fin 256) : (k0_pay72 : FVec Ideal S128x256 .f32) (ix2 r c) = (0 : EReal) := by
  pointwise [k0_pay72]
/-- The accumulator starts from zero. -/
theorem b₀_at (r : Fin 128) (c : Fin 256) : (k0_pay73 : FVec Ideal S128x256 .f32) (ix2 r c) = (0 : EReal) := by
  pointwise [k0_pay73]
/-- The accumulator starts from zero. -/
theorem d₀_at (r : Fin 128) (c : Fin 256) : (k0_pay74 : FVec Ideal S128x256 .f32) (ix2 r c) = (0 : EReal) := by
  pointwise [k0_pay74]
/-- The accumulator starts from zero. -/
theorem e₀_at (r : Fin 128) (c : Fin 256) : (k0_pay75 : FVec Ideal S128x256 .f32) (ix2 r c) = (0 : EReal) := by
  pointwise [k0_pay75]

/-- A head's result: its weighted sum. -/
theorem out_at (x : Vec Ideal S128x256 .f32) (r : Fin 256) (c : Fin 128) :
    k0_pay91 x (ix2 r c) = (x (ix2 c r) : EReal) := by
  pointwise [k0_pay91]

/-- The later keys of a tile. -/
theorem U_at (r k : Fin 256) : (k0_pay70 : FVec Ideal S256x256 .bf16) (ix2 r k) = (if r.val < k.val then 1 else 0 : EReal) := by
  have h : (k0_pay70 : FVec Ideal S256x256 .bf16) (ix2 r k)
      = (((BitVec.setWidth 32 (IntOp.cmpi CmpIPredicate.sgt (BitVec.ofNat 32 k.val) (BitVec.ofNat 32 r.val))).toInt : ℝ) : EReal) := by
    pointwise [k0_pay70]
    rfl
  have hk : (BitVec.ofNat 32 k.val).toNat = k.val := by simp; omega
  have hr : (BitVec.ofNat 32 r.val).toNat = r.val := by simp; omega
  rw [h, WordCmp.cmpi_sgt_of_lt (by simp; omega) (by simp; omega), hk, hr]
  by_cases hc : r.val < k.val <;> simp [hc]

/-- A column's query within its block. -/
theorem col_eq : ∀ c : Fin 1024,
    (Scalar.select
        (IntOp.andi
          (IntOp.xori
            (IntOp.cmpi CmpIPredicate.slt
              (IntOp.remsi ArithUnit.vector (BitVec.ofNat 32 c.val)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 c.val)
              (Scalar.select (Scalar.cmpi CmpIPredicate.eq 256#32 0#32) 1#32 256#32))
            0#32))
        (IntOp.addi
          (IntOp.remsi ArithUnit.vector (BitVec.ofNat 32 c.val)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 c.val)
          (Scalar.select (Scalar.cmpi CmpIPredicate.eq 256#32 0#32) 1#32 256#32)) : BitVec 32) = BitVec.ofNat 32 (c.val % 256) := by
  decide +kernel

/-- The mask on the diagonal's tile keeps the keys before the query. -/
theorem M_at (r : Fin 256) (c : Fin 1024) : k0_pay77 (ix2 r c) = (if r.val < c.val % 256 then 1#1 else 0#1) := by
  pointwise [k0_pay77]
  rw [col_eq, WordCmp.cmpi_slt_of_lt (by simp; omega) (by simp; omega)]
  have hr : (BitVec.ofNat 32 r.val).toNat = r.val := by simp; omega
  have hc : (BitVec.ofNat 32 (c.val % 256)).toNat = c.val % 256 := by simp; omega
  rw [hr, hc]
  by_cases h : r.val < c.val % 256 <;> simp [h]

/-- The head a lane belongs to. -/
theorem head_eq : ∀ e c : Fin 256, k0_pay64 (ix2 e c) = BitVec.ofNat 32 (e.val / 64) := fun e c => by
  have h : ∀ e : Fin 256, (Scalar.select (IntOp.andi (IntOp.cmpi CmpIPredicate.ne
      (IntOp.subi (BitVec.setWidth 32 (IntOp.cmpi CmpIPredicate.sgt (BitVec.ofNat 32 e.val) 0#32)) (BitVec.setWidth 32 (IntOp.cmpi CmpIPredicate.slt (BitVec.ofNat 32 e.val) 0#32)))
      (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 e.val) 64#32) 0#32))
      (IntOp.subi (IntOp.divsi ArithUnit.vector (BitVec.ofNat 32 e.val) 64#32) 1#32) (IntOp.divsi ArithUnit.vector (BitVec.ofNat 32 e.val) 64#32) : BitVec 32)
      = BitVec.ofNat 32 (e.val / 64) := by decide +kernel
  refine Eq.trans ?_ (h e)
  pointwise [k0_pay64]

/-- The queries, scaled. -/
theorem q_at (x : Vec Ideal S256x256 .f32) (e c : Fin 256) : k0_pay63 x (ix2 e c) = (x (ix2 e c) * (qs : EReal) : EReal) := by
  rw [← sbscale_eq]
  pointwise [k0_pay63]

/-- A lane's test for its head. -/
theorem sel_eq (e : Fin 256) (h : Fin 4) (x : EReal) :
    (Scalar.select (IntOp.cmpi CmpIPredicate.eq (BitVec.ofNat 32 (e.val / 64)) (BitVec.ofNat 32 h.val)) x 0 : EReal) = if e.val / 64 = h.val then x else 0 := by
  have h1 : (BitVec.ofNat 32 (e.val / 64)).toNat = e.val / 64 := by simp; omega
  have h2 : (BitVec.ofNat 32 h.val).toNat = h.val := by simp; omega
  rw [WordCmp.cmpi_eq_eq_toNat, h1, h2]
  by_cases hc : e.val / 64 = h.val <;> simp [hc, Scalar.select]

/-- Head 0's queries among the stacked: the other heads' lanes are zero. -/
theorem qS0_at (x : Vec Ideal S256x256 .f32) (e c : Fin 256) :
    qS x (ix2 e (⟨c.val, by omega⟩ : Fin 1024)) = (if e.val / 64 = 0 then x (ix2 e c) * (qs : EReal) else 0 : EReal) := by
  refine Eq.trans ?_ (sel_eq e 0 _)
  rw [← q_at, ← head_eq e c]
  pointwise [qS, k0_pay69, k0_pay65, k0_pay66, k0_pay67, k0_pay68]

/-- Head 1's queries among the stacked: the other heads' lanes are zero. -/
theorem qS1_at (x : Vec Ideal S256x256 .f32) (e c : Fin 256) :
    qS x (ix2 e (⟨256 + c.val, by omega⟩ : Fin 1024)) = (if e.val / 64 = 1 then x (ix2 e c) * (qs : EReal) else 0 : EReal) := by
  refine Eq.trans ?_ (sel_eq e 1 _)
  rw [← q_at, ← head_eq e c]
  pointwise [qS, k0_pay69, k0_pay65, k0_pay66, k0_pay67, k0_pay68]

/-- Head 2's queries among the stacked: the other heads' lanes are zero. -/
theorem qS2_at (x : Vec Ideal S256x256 .f32) (e c : Fin 256) :
    qS x (ix2 e (⟨512 + c.val, by omega⟩ : Fin 1024)) = (if e.val / 64 = 2 then x (ix2 e c) * (qs : EReal) else 0 : EReal) := by
  refine Eq.trans ?_ (sel_eq e 2 _)
  rw [← q_at, ← head_eq e c]
  pointwise [qS, k0_pay69, k0_pay65, k0_pay66, k0_pay67, k0_pay68]
  rw [dif_neg (by omega), dif_neg (by omega), dif_pos (by omega)]
  exact congrArg (fun z : Fin 256 => Scalar.select (IntOp.cmpi CmpIPredicate.eq (k0_pay64 (ix2 e z)) 2#32) (k0_pay63 x (ix2 e z)) (0 : EReal)) (Fin.ext (by show 512 + c.val - 256 - 256 = c.val; omega))

/-- Head 3's queries among the stacked: the other heads' lanes are zero. -/
theorem qS3_at (x : Vec Ideal S256x256 .f32) (e c : Fin 256) :
    qS x (ix2 e (⟨768 + c.val, by omega⟩ : Fin 1024)) = (if e.val / 64 = 3 then x (ix2 e c) * (qs : EReal) else 0 : EReal) := by
  refine Eq.trans ?_ (sel_eq e 3 _)
  rw [← q_at, ← head_eq e c]
  pointwise [qS, k0_pay69, k0_pay65, k0_pay66, k0_pay67, k0_pay68]
  rw [dif_neg (by omega), dif_neg (by omega), dif_neg (by omega)]
  exact congrArg (fun z : Fin 256 => Scalar.select (IntOp.cmpi CmpIPredicate.eq (k0_pay64 (ix2 e z)) 3#32) (k0_pay63 x (ix2 e z)) (0 : EReal)) (Fin.ext (by show 768 + c.val - 256 - 256 - 256 = c.val; omega))

end Cert.SbIdeal.Run

end
-- ==== Proof.SbSpec.lean ====
/- Stick-breaking attention over the extended reals, and two ways to it. -/
module

public import proofs.«01_k».proof.Proof.MlaSpec

@[expose] public section

noncomputable section

namespace Cert.Sb.Soft

open scoped BigOperators
open Idealize.ShloMosaic Cert.Mla.Soft

/-- Minus the logarithm of the chance that a key with logit `z` is passed over. -/
def sp (z : EReal) : EReal := max z 0 + Ideal.log (1 + Ideal.exp (-(max z (-z))))

/-- What a key takes off the stick for query `T`, as a logarithm: nothing from the query on. -/
def fail (z : ℕ → EReal) (T p : ℕ) : EReal := if p < T then sp (z p) else 0

/-- What the keys from `p` on, below `B`, take off. -/
def rest (z : ℕ → EReal) (T B p : ℕ) : EReal := ∑ j ∈ Finset.Ico p B, fail z T j

/-- Key `p`'s share of the stick: what the keys after it have left, times the chance that it is taken. -/
def share (z : ℕ → EReal) (T B p : ℕ) : EReal := if p < T then Ideal.exp (z p - rest z T B p) else 0

/-- Query `T`'s result: the values by the keys' shares. -/
def stick (z v : ℕ → EReal) (T : ℕ) : EReal := ∑ p ∈ Finset.range 8192, v p * share z T 8192 p

/-- From the query on nothing is taken off. -/
theorem rest_of_le (z : ℕ → EReal) (T B B' p : ℕ) (hB : T ≤ B) (hB' : B ≤ B') : rest z T B p = rest z T B' p := by
  unfold rest
  refine Finset.sum_subset (Finset.Ico_subset_Ico_right hB') fun j hj hn => ?_
  rw [Finset.mem_Ico] at hj hn
  rw [fail, if_neg (by omega)]

/-- The keys before the end of the query's block are all that count. -/
theorem stick_of_range (z v : ℕ → EReal) (T B : ℕ) (hT : T ≤ B) (hB : B ≤ 8192) :
    ∑ p ∈ Finset.range B, v p * share z T B p = stick z v T := by
  have h : ∀ p, share z T B p = share z T 8192 p := fun p => by
    unfold share
    rw [rest_of_le z T B 8192 p hT hB]
  rw [Finset.sum_congr rfl fun p _ => by rw [h p]]
  refine Finset.sum_subset (Finset.range_subset_range.2 hB) fun p _ hp => ?_
  rw [share, if_neg (by simp at hp; omega), mul_zero]

/-! ## What a key takes off, case by case -/

/-- The larger of two reals. -/
theorem coe_max (x y : ℝ) : ((max x y : ℝ) : EReal) = max (x : EReal) (y : EReal) := EReal.coe_strictMono.monotone.map_max

/-- The distance of a real from zero. -/
theorem coe_abs (y : ℝ) : max (y : EReal) (-(y : EReal)) = ((|y| : ℝ) : EReal) := by
  rw [← EReal.coe_neg, ← coe_max]; rfl

/-- The same as `sp`, of a real. -/
def spr (z : ℝ) : ℝ := max z 0 + Real.log (1 + Real.exp (-|z|))

/-- A real logit takes off a real. -/
theorem sp_coe (z : ℝ) : sp (z : EReal) = (spr z : EReal) := by
  have hp : (0 : ℝ) < Real.exp (-|z|) := Real.exp_pos _
  rw [sp, coe_abs, ← EReal.coe_neg, Ideal.exp_coe, ← EReal.coe_one, ← EReal.coe_add, Ideal.log_coe, if_neg (by linarith), ← EReal.coe_zero,
    ← coe_max, ← EReal.coe_add]
  rfl

/-- The logarithm of one. -/
theorem log_one : Ideal.log (1 : EReal) = 0 := by
  rw [← EReal.coe_one, Ideal.log_coe, if_neg (by norm_num), Real.log_one, EReal.coe_zero]

/-- A key certain to be taken leaves nothing. -/
theorem sp_top : sp ⊤ = ⊤ := by
  rw [sp, EReal.neg_top, max_eq_left bot_le, max_eq_left le_top, EReal.neg_top, Ideal.exp_bot, add_zero, log_one, add_zero]

/-- A key certain to be passed over takes nothing. -/
theorem sp_bot : sp ⊥ = 0 := by
  rw [sp, EReal.neg_bot, max_eq_right bot_le, max_eq_right bot_le, EReal.neg_top, Ideal.exp_bot, add_zero, log_one, add_zero]

/-- What is taken off is never negative. -/
theorem sp_nonneg (z : EReal) : 0 ≤ sp z := by
  induction z with
  | bot => rw [sp_bot]
  | top => rw [sp_top]; exact le_top
  | coe r =>
    rw [sp_coe, ← EReal.coe_zero]
    refine EReal.coe_le_coe_iff.2 (add_nonneg (le_max_right _ _) (Real.log_nonneg ?_))
    have : (0 : ℝ) < Real.exp (-|r|) := Real.exp_pos _
    linarith

/-- What is taken off is never negative. -/
theorem fail_nonneg (z : ℕ → EReal) (T p : ℕ) : 0 ≤ fail z T p := by
  unfold fail
  split
  · exact sp_nonneg _
  · exact le_refl _

/-- What is taken off is never negative. -/
theorem rest_nonneg (z : ℕ → EReal) (T B p : ℕ) : 0 ≤ rest z T B p := Finset.sum_nonneg fun j _ => fail_nonneg z T j

/-! ## The kernel's arithmetic, in powers of two -/

/-- The logarithm of two is positive. -/
theorem log2_pos : 0 < Real.log 2 := Real.log_pos (by norm_num)

/-- So is its inverse. -/
theorem unit_pos : 0 < (Real.log 2)⁻¹ := inv_pos.2 log2_pos

/-- Powers of two in units of `log 2` are exponentials. -/
theorem pow_log2 (y : ℝ) : (2 : ℝ) ^ (y * (Real.log 2)⁻¹) = Real.exp y := by
  rw [Real.rpow_def_of_pos (by norm_num)]
  congr 1
  have := log2_pos.ne'
  field_simp

/-- Powers of two in units of `log 2` are exponentials. -/
theorem exp2_unit (x : EReal) : Ideal.exp2 (x * (((Real.log 2)⁻¹ : ℝ) : EReal)) = Ideal.exp x := by
  induction x with
  | bot => rw [EReal.bot_mul_coe_of_pos unit_pos]; rfl
  | top => rw [EReal.top_mul_coe_of_pos unit_pos]; rfl
  | coe r =>
    rw [← EReal.coe_mul, Ideal.exp2_coe, Ideal.exp_coe]
    exact congrArg _ (pow_log2 r)

/-- A nonnegative real goes into a sum. -/
theorem sum_mul_coe {ι : Type} (t : Finset ι) (f : ι → EReal) (s : ℝ) (hs : 0 ≤ s) : (∑ i ∈ t, f i) * (s : EReal) = ∑ i ∈ t, f i * (s : EReal) := by
  classical
  refine Finset.induction_on t (by simp) fun i t hi ih => ?_
  rw [Finset.sum_insert hi, Finset.sum_insert hi, EReal.right_distrib_of_nonneg_of_ne_top (EReal.coe_nonneg.2 hs) (EReal.coe_ne_top _), ih]

/-- The same as `fail`, in units of `log 2`. -/
def fail2 (z : ℕ → EReal) (T p : ℕ) : EReal := fail z T p * (((Real.log 2)⁻¹ : ℝ) : EReal)

/-- The same as `rest`, in units of `log 2`. -/
def rest2 (z : ℕ → EReal) (T B p : ℕ) : EReal := ∑ j ∈ Finset.Ico p B, fail2 z T j

/-- The two units. -/
theorem rest2_eq (z : ℕ → EReal) (T B p : ℕ) : rest2 z T B p = rest z T B p * (((Real.log 2)⁻¹ : ℝ) : EReal) := by
  unfold rest2 rest fail2
  rw [sum_mul_coe _ _ _ unit_pos.le]

/-- The later rows of a tile of 256, picked out and summed. -/
theorem later_sum (f : ℕ → EReal) (N : ℕ) (r : Fin 256) (U : Fin 256 → EReal) (hU : ∀ k, U k = if r.val < k.val then 1 else 0) :
    ∑ k : Fin 256, U k * f (N + k.val) = ∑ j ∈ Finset.Ico (N + r.val + 1) (N + 256), f j := by
  have h1 : ∀ k : Fin 256, U k * f (N + k.val) = if r.val < k.val then f (N + k.val) else 0 := fun k => by
    rw [hU]
    split <;> simp
  rw [Finset.sum_congr rfl fun k _ => h1 k, ← Finset.sum_range (fun k => if r.val < k then f (N + k) else 0)]
  rw [← Finset.sum_filter]
  have h2 : ∑ j ∈ Finset.Ico (r.val + 1) 256, f (N + j) = ∑ j ∈ Finset.Ico (N + r.val + 1) (N + 256), f j := by
    rw [Finset.sum_Ico_add f (r.val + 1) 256 N]
    congr 2 <;> omega
  rw [← h2]
  refine Finset.sum_congr ?_ fun _ _ => rfl
  ext k
  simp only [Finset.mem_filter, Finset.mem_range, Finset.mem_Ico]
  omega

/-- A sum from `N` on, its first 256 terms apart. -/
theorem sum_tile {M : Type} [AddCommMonoid M] (f : ℕ → M) (N B : ℕ) (h : N + 256 ≤ B) :
    ∑ p ∈ Finset.Ico N B, f p = ∑ p ∈ Finset.Ico (N + 256) B, f p + ∑ k : Fin 256, f (N + k.val) := by
  rw [← Finset.sum_range (fun k => f (N + k)), add_comm, ← Finset.sum_Ico_consecutive f (show N ≤ N + 256 by omega) h]
  congr 1
  rw [Finset.sum_Ico_eq_sum_range]
  congr 2
  omega

/-- The kernel's weight of a key before the query: its share of the stick. -/
theorem weight_eq (z : ℕ → EReal) (T B N : ℕ) (r : Fin 256) (h : N + r.val < T) (hB : N + 256 ≤ B) (U F : Fin 256 → EReal)
    (hU : ∀ k, U k = if r.val < k.val then 1 else 0) (hF : ∀ k, F k = fail2 z T (N + k.val)) :
    Ideal.exp2 (z (N + r.val) * (((Real.log 2)⁻¹ : ℝ) : EReal) - (F r + (∑ k, U k * F k + rest2 z T B (N + 256)))) = share z T B (N + r.val) := by
  rw [Finset.sum_congr rfl fun k _ => by rw [hF k], hF, later_sum (fail2 z T) N r U hU]
  have e : fail2 z T (N + r.val) + (∑ j ∈ Finset.Ico (N + r.val + 1) (N + 256), fail2 z T j + rest2 z T B (N + 256))
      = rest z T B (N + r.val) * (((Real.log 2)⁻¹ : ℝ) : EReal) := by
    rw [← rest2_eq]
    unfold rest2
    rw [Finset.sum_Ico_consecutive _ (by omega) hB, ← Finset.sum_eq_sum_Ico_succ_bot (by omega)]
  rw [e, share, if_pos h, sub_eq_add_neg, ← EReal.neg_mul, ← EReal.right_distrib_of_nonneg_of_ne_top (EReal.coe_nonneg.2 unit_pos.le) (EReal.coe_ne_top _),
    exp2_unit, ← sub_eq_add_neg]

/-- What is held of a column and a row after the keys from `N` to `B`: what they take off the stick, and the values by their shares. -/
def Held (z v : ℕ → EReal) (T B N : ℕ) (m a : EReal) : Prop :=
  m = rest2 z T B N ∧ a = ∑ p ∈ Finset.Ico N B, v p * share z T B p

/-- One tile: its keys' failures and their values by their shares are added. -/
theorem held_step (z v : ℕ → EReal) (T B N : ℕ) (m a : EReal) (hB : N + 256 ≤ B) (F V A : Fin 256 → EReal)
    (hF : ∀ k, F k = fail2 z T (N + k.val)) (hV : ∀ k, V k = v (N + k.val))
    (hA : ∀ k, A k = share z T B (N + k.val)) (h : Held z v T B (N + 256) m a) :
    Held z v T B N (m + ∑ k, F k) (a + ∑ k, V k * A k) := by
  refine ⟨?_, ?_⟩
  · rw [h.1, Finset.sum_congr rfl fun k _ => hF k]
    unfold rest2
    rw [sum_tile _ N B hB]
  · rw [h.2, sum_tile _ N B hB]
    exact congrArg _ (Finset.sum_congr rfl fun k _ => by rw [hV k, hA k])

/-- The kernel's failure of a logit in units of `log 2`. -/
theorem nlf_eq (z y : EReal) (hy : y = z * (((Real.log 2)⁻¹ : ℝ) : EReal)) :
    max y 0 + Ideal.log (1 + Ideal.exp2 (0 - max y (-y))) * (((Real.log 2)⁻¹ : ℝ) : EReal) = sp z * (((Real.log 2)⁻¹ : ℝ) : EReal) := by
  induction z with
  | bot =>
    rw [EReal.bot_mul_coe_of_pos unit_pos] at hy
    rw [hy, sp_bot, EReal.neg_bot, max_eq_right bot_le, max_eq_right bot_le, zero_sub, EReal.neg_top, show Ideal.exp2 ⊥ = 0 from rfl, add_zero, log_one,
      zero_mul, add_zero]
  | top =>
    rw [EReal.top_mul_coe_of_pos unit_pos] at hy
    rw [hy, sp_top, EReal.neg_top, max_eq_left bot_le, max_eq_left le_top, zero_sub, EReal.neg_top, show Ideal.exp2 ⊥ = 0 from rfl, add_zero, log_one,
      zero_mul, add_zero, EReal.top_mul_coe_of_pos unit_pos]
  | coe r =>
    have hp : (0 : ℝ) < Real.exp (-|r|) := Real.exp_pos _
    have ha : -|r * (Real.log 2)⁻¹| = -|r| * (Real.log 2)⁻¹ := by rw [abs_mul, abs_of_pos unit_pos, neg_mul]
    rw [hy, ← EReal.coe_mul, coe_abs, zero_sub, ← EReal.coe_neg, ha, EReal.coe_mul (-|r|), exp2_unit, Ideal.exp_coe, ← EReal.coe_one, ← EReal.coe_add,
      Ideal.log_coe, if_neg (by linarith), ← EReal.coe_zero, ← coe_max, ← EReal.coe_mul, ← EReal.coe_add, sp_coe, ← EReal.coe_mul]
    congr 1
    unfold spr
    rw [add_mul, max_mul_of_nonneg _ _ unit_pos.le, zero_mul]

/-! ## The reference's arithmetic -/

/-- The two forms of a softplus are one logit apart. -/
theorem spr_neg (z : ℝ) : spr (-z) = spr z - z := by
  unfold spr
  rw [abs_neg]
  rcases le_total 0 z with h | h
  · rw [max_eq_right (by linarith), max_eq_left h]; ring
  · rw [max_eq_left (by linarith), max_eq_right h]; ring

/-- A sum of nonnegatives, negated term by term. -/
theorem sum_neg_of_nonneg (f : ℕ → EReal) (hf : ∀ j, 0 ≤ f j) (t : Finset ℕ) : ∑ j ∈ t, -f j = -∑ j ∈ t, f j := by
  refine Finset.induction_on t (by simp) fun i t hi ih => ?_
  have h1 : f i ≠ ⊥ := (lt_of_lt_of_le EReal.bot_lt_zero (hf i)).ne'
  have h2 : ∑ j ∈ t, f j ≠ ⊥ := (lt_of_lt_of_le EReal.bot_lt_zero (Finset.sum_nonneg fun j _ => hf j)).ne'
  rw [Finset.sum_insert hi, Finset.sum_insert hi, ih, EReal.neg_add (Or.inl h1) (Or.inr h2), sub_eq_add_neg]

/-- A share's logarithm, from the two signs of the logit and what the later keys take off. -/
theorem log_share (z R : EReal) (hR : 0 ≤ R) : -sp (-z) + (-(sp z + R) - -sp z) = z - (sp z + R) := by
  have hb : R ≠ ⊥ := (lt_of_lt_of_le EReal.bot_lt_zero hR).ne'
  induction z with
  | bot => rw [EReal.neg_bot, sp_top, EReal.neg_top, EReal.bot_add, sub_eq_add_neg, EReal.bot_add]
  | top => rw [EReal.neg_top, sp_top, sp_bot, EReal.top_add_of_ne_bot hb, EReal.neg_top, sub_eq_add_neg, EReal.bot_add, EReal.add_bot, sub_eq_add_neg, EReal.neg_top,
      EReal.add_bot]
  | coe r =>
    rw [← EReal.coe_neg, sp_coe, sp_coe, spr_neg]
    induction R with
    | bot => exact absurd rfl hb
    | top => rw [EReal.coe_add_top, EReal.neg_top, sub_eq_add_neg (⊥ : EReal), EReal.bot_add, EReal.add_bot, sub_eq_add_neg (r : EReal), EReal.neg_top, EReal.add_bot]
    | coe x =>
      rw [← EReal.coe_add, ← EReal.coe_neg, ← EReal.coe_neg, ← EReal.coe_neg, ← EReal.coe_sub, ← EReal.coe_add, ← EReal.coe_sub]
      congr 1
      ring

/-- A share from its logarithm, the failures summed with signs. -/
theorem share_eq (z : ℕ → EReal) (T p : ℕ) (h : p < T) (hT : T ≤ 8192) :
    Ideal.exp (-sp (-z p) + (∑ j ∈ Finset.Ico p 8192, -fail z T j - -fail z T p)) = share z T 8192 p := by
  have e : rest z T 8192 p = sp (z p) + rest z T 8192 (p + 1) := by
    unfold rest
    rw [Finset.sum_eq_sum_Ico_succ_bot (by omega), fail, if_pos h]
  have e' : fail z T p = sp (z p) := if_pos h
  rw [share, if_pos h, sum_neg_of_nonneg _ (fail_nonneg z T), e']
  show Ideal.exp (-sp (-z p) + (-rest z T 8192 p - -sp (z p))) = _
  rw [e, log_share _ _ (rest_nonneg _ _ _ _)]

/-! ## The logits -/

/-- A query's score against a key before scaling. -/
def dot (q k : Fin 64 → EReal) : EReal := ∑ w, q w * k w

/-- The kernel's logit, over all heads' lanes with the other heads' queries zeroed, is the scaled score. -/
theorem lanes_dot (q k : Fin 64 → EReal) (s : ℝ) (hs : 0 ≤ s) (h : Fin 4) (Q K : Fin 256 → EReal)
    (hQ : ∀ e : Fin 256, Q e = if e.val / 64 = h.val then q ⟨e.val % 64, Nat.mod_lt _ (by decide)⟩ * (s : EReal) else 0)
    (hK : ∀ w : Fin 64, K ⟨64 * h.val + w.val, by omega⟩ = k w) :
    ∑ e, K e * Q e = dot q k * (s : EReal) := by
  rw [dot, sum_mul_coe _ _ _ hs]
  symm
  refine Finset.sum_of_injOn (fun w : Fin 64 => (⟨64 * h.val + w.val, by omega⟩ : Fin 256)) ?_ ?_ ?_ ?_
  · intro a _ b _ e
    have := congrArg Fin.val e
    exact Fin.ext (by simpa using this)
  · intro w _
    exact Finset.mem_coe.2 (Finset.mem_univ _)
  · intro e _ he
    rw [hQ, if_neg, mul_zero]
    intro hh
    exact he ⟨⟨e.val % 64, Nat.mod_lt _ (by decide)⟩, Finset.mem_coe.2 (Finset.mem_univ _), Fin.ext (by show 64 * h.val + e.val % 64 = e.val; omega)⟩
  · intro w _
    rw [hK, hQ, if_pos (by show (64 * h.val + w.val) / 64 = h.val; omega)]
    have e : (⟨(64 * h.val + w.val) % 64, Nat.mod_lt _ (by decide)⟩ : Fin 64) = w := Fin.ext (by show (64 * h.val + w.val) % 64 = w.val; omega)
    show _ = k w * (q ⟨(64 * h.val + w.val) % 64, _⟩ * (s : EReal))
    rw [e, mul_comm (q w), mul_assoc]

/-- A query's logit against key `p`. -/
def zed (a0 a1 : FVec Ideal ⟨4, ![2, 8192, 4, 64]⟩ .f32) (b : Fin 2) (T : Fin 8192) (h : Fin 4) (p : ℕ) : EReal :=
  dot (fun w => a0 (ix4 b T h w)) (fun w => a1 (ix4 b ⟨p % 8192, Nat.mod_lt _ (by decide)⟩ h w)) * ((1 / 8 : ℝ) : EReal)

end Cert.Sb.Soft

end
-- ==== Proof.SbOut.lean ====
/- What the stick-breaking kernel leaves in a block of its result: each query's values by the keys' shares. -/
module

public import proofs.«01_k».proof.Proof.SbPoint
public import proofs.«01_k».proof.Proof.SbSpec

@[expose] public section

set_option maxRecDepth 16384

noncomputable section

namespace Cert.SbIdeal.Run

open scoped BigOperators
open Cert.SbIdeal Cert.SbIdeal.Gen
open Idealize.ShloMosaic
open Idealize.ShloMosaic.TcCoe Idealize.ShloMosaic.Tactic
open Cert.Sb.Soft

/-- The column of head `h`'s query `c`. -/
def col (h : Fin 4) (c : Fin 256) : Fin 1024 := ⟨256 * h.val + c.val, by omega⟩
/-- Lane `w` of head `h`'s values. -/
def slot (h : Fin 4) (w : Fin 128) : Fin 512 := ⟨128 * h.val + w.val, by omega⟩

/-- The head's weighted sum in a state. -/
def St.acc (t : St Ideal) (h : Fin 4) : Vec Ideal S128x256 .f32 := match h with
  | 0 => t.a
  | 1 => t.b
  | 2 => t.d
  | 3 => t.e

/-- The columns of a head among those of all four. -/
theorem col_zero (c : Fin 256) : col 0 c = ⟨c.val, by omega⟩ := Fin.ext (by show 256 * 0 + c.val = c.val; omega)

/-- A column's query within its block. -/
theorem col_mod (h : Fin 4) (c : Fin 256) : (col h c).val % 256 = c.val := by show (256 * h.val + c.val) % 256 = c.val; omega

/-- An entry of the stacked queries. -/
theorem qS_at (x : Vec Ideal S256x256 .f32) (h : Fin 4) (e c : Fin 256) :
    qS x (ix2 e (col h c)) = (if e.val / 64 = h.val then x (ix2 e c) * (qs : EReal) else 0 : EReal) := by
  match h with
  | 0 =>
    rw [col_zero]
    exact qS0_at x e c
  | 1 => exact qS1_at x e c
  | 2 => exact qS2_at x e c
  | 3 => exact qS3_at x e c

/-- The head's weighted sum after a tile. -/
theorem consume_acc (U : FVec Ideal S256x256 .bf16) (V : Fin 4 → Vec Ideal S128x256 .bf16) (s : Vec Ideal S256x1024 .f32) (t : St Ideal) (h : Fin 4) (r : Fin 128) (c : Fin 256) :
    (consume U V s t).acc h (ix2 r c) = (t.acc h (ix2 r c) + ∑ k : Fin 256, V h (ix2 r k) * k0_pay5 U s t.m (ix2 k (col h c)) : EReal) := by
  match h with
  | 0 =>
    simp only [col_zero]
    exact acc0_at (k0_pay5 U s t.m) t.a (V 0) r c
  | 1 => exact acc1_at (k0_pay5 U s t.m) t.b (V 1) r c
  | 2 => exact acc2_at (k0_pay5 U s t.m) t.d (V 2) r c
  | 3 => exact acc3_at (k0_pay5 U s t.m) t.e (V 3) r c

/-- The head's weighted sum after the diagonal's tile. -/
theorem stD_acc (q : FVec Ideal S256x1024 .bf16) (U : FVec Ideal S256x256 .bf16) (K : Vec Ideal S256x256 .bf16) (V : Fin 4 → Vec Ideal S128x256 .bf16) (h : Fin 4) (r : Fin 128) (c : Fin 256) :
    (stD q U K V).acc h (ix2 r c)
      = (0 + ∑ k : Fin 256, V h (ix2 r k) * k0_pay80 k0_pay77 (wD q U K) (Scalar.ofBits .f32 0x00000000#32) (ix2 k (col h c)) : EReal) := by
  match h with
  | 0 =>
    simp only [col_zero]
    exact (accD0_at k0_pay77 (wD q U K) _ (k0_pay72 (F := Ideal)) (V 0) r c).trans (congrArg (· + _) (a₀_at r c))
  | 1 => exact (accD1_at k0_pay77 (wD q U K) _ (k0_pay73 (F := Ideal)) (V 1) r c).trans (congrArg (· + _) (b₀_at r c))
  | 2 => exact (accD2_at k0_pay77 (wD q U K) _ (k0_pay74 (F := Ideal)) (V 2) r c).trans (congrArg (· + _) (d₀_at r c))
  | 3 => exact (accD3_at k0_pay77 (wD q U K) _ (k0_pay75 (F := Ideal)) (V 3) r c).trans (congrArg (· + _) (e₀_at r c))

section column

variable (q : FVec Ideal S256x1024 .bf16) (K : Vec Ideal S8192x256 .bf16) (V : Vec Ideal S512x8192 .bf16) (h : Fin 4) (c : Fin 256)

/-- Key `p`'s logit against the column's query. -/
def logit (p : ℕ) : EReal := ∑ e : Fin 256, K (ix2 (⟨p % 8192, Nat.mod_lt _ (by decide)⟩ : Fin 8192) e) * q (ix2 e (col h c))
/-- Row `r` of the head's values at key `p`. -/
def val (r : Fin 128) (p : ℕ) : EReal := V (ix2 (slot h r) (⟨p % 8192, Nat.mod_lt _ (by decide)⟩ : Fin 8192))

/-- An entry of a tile of logits: the sum of products of key and query. -/
theorem lg_tile (j : ℕ) (k : Fin 256) : lg q (kT K j) (ix2 k (col h c)) = logit q K h c (256 * j + k.val) := by
  rw [lg_at]
  rfl

/-- An entry of a tile of values. -/
theorem val_tile (r : Fin 128) (j : ℕ) (k : Fin 256) : vT V j h (ix2 r k) = val V h r (256 * j + k.val) := rfl

variable (z : ℕ → EReal) (hz : ∀ p, logit q K h c p = z p * (((Real.log 2)⁻¹ : ℝ) : EReal))
include hz

/-- What a key takes off the stick, before any mask. -/
theorem nlf_tile (j : ℕ) (k : Fin 256) : k0_pay4 (lg q (kT K j)) (ix2 k (col h c)) = sp (z (256 * j + k.val)) * (((Real.log 2)⁻¹ : ℝ) : EReal) := by
  rw [nlf_at, lg_tile]
  exact nlf_eq _ _ (hz _)

/-- The same for the diagonal's tile: nothing from the query on. -/
theorem nlfD_tile (n : ℕ) (k : Fin 256) : k0_pay78 q (kT K n) (ix2 k (col h c)) = fail2 z (256 * n + c.val) (256 * n + k.val) := by
  rw [nlfD_at, M_at, col_mod, nlf_tile q K h c z hz]
  unfold fail2 fail
  by_cases hk : k.val < c.val
  · rw [if_pos hk, if_pos (by omega)]; rfl
  · rw [if_neg hk, if_neg (by omega), zero_mul]; rfl

/-- A weight of the diagonal's tile. -/
theorem wtD_tile (n : ℕ) (k : Fin 256) :
    k0_pay80 k0_pay77 (wD q k0_pay70 (kT K n)) (Scalar.ofBits .f32 0x00000000#32) (ix2 k (col h c))
      = share z (256 * n + c.val) (256 * n + 256) (256 * n + k.val) := by
  rw [mwt_at, M_at, col_mod]
  by_cases hk : k.val < c.val
  · rw [if_pos hk]
    show (wD q k0_pay70 (kT K n) (ix2 k (col h c)) : EReal) = _
    rw [wD_at, lg_tile, hz]
    have := weight_eq z (256 * n + c.val) (256 * n + 256) (256 * n) k (by omega) (le_refl _) (fun j => k0_pay70 (F := Ideal) (ix2 k j))
      (fun j => k0_pay78 q (kT K n) (ix2 j (col h c))) (U_at k) (nlfD_tile q K h c z hz n)
    rw [show rest2 z (256 * n + c.val) (256 * n + 256) (256 * n + 256) = 0 by unfold rest2; simp] at this
    exact this
  · rw [if_neg hk, share, if_neg (by omega)]; rfl

/-- The state after the diagonal's tile. -/
theorem stD_held (n : ℕ) (r : Fin 128) :
    Held z (val V h r) (256 * n + c.val) (256 * n + 256) (256 * n) ((stD q k0_pay70 (kT K n) (vT V n)).m (ix2 (0 : Fin 1) (col h c)))
      ((stD q k0_pay70 (kT K n) (vT V n)).acc h (ix2 r c)) := by
  rw [stD_acc]
  have hm : (stD q k0_pay70 (kT K n) (vT V n)).m (ix2 (0 : Fin 1) (col h c)) = (0 + ∑ k : Fin 256, k0_pay78 q (kT K n) (ix2 k (col h c)) : EReal) :=
    (carryD_at (k0_pay78 q (kT K n)) (k0_pay71 (F := Ideal)) (col h c)).trans (congrArg (· + _) (m₀_at _))
  rw [hm]
  refine held_step z (val V h r) _ _ _ 0 0 (le_refl _) _ (fun k => vT V n h (ix2 r k)) _ (nlfD_tile q K h c z hz n) (val_tile V h r n) (wtD_tile q K h c z hz n) ⟨?_, ?_⟩
  · unfold rest2; simp
  · simp

/-- A later block's state after the diagonal's tile and `p` earlier ones. -/
theorem stN_held (n : ℕ) (r : Fin 128) (p : ℕ) (hp : p ≤ n) :
    Held z (val V h r) (256 * n + c.val) (256 * n + 256) (256 * (n - p)) ((stN q k0_pay70 K V n p).m (ix2 (0 : Fin 1) (col h c)))
      ((stN q k0_pay70 K V n p).acc h (ix2 r c)) := by
  induction p with
  | zero => exact stD_held q K V h c z hz n r
  | succ p ih =>
    have e : 256 * (n - p) = 256 * (n - 1 - p) + 256 := by omega
    have e' : n - (p + 1) = n - 1 - p := by omega
    have ih := ih (by omega)
    rw [e] at ih
    rw [e']
    have hF : ∀ k : Fin 256, k0_pay4 (lg q (kT K (n - 1 - p))) (ix2 k (col h c)) = fail2 z (256 * n + c.val) (256 * (n - 1 - p) + k.val) := fun k => by
      rw [nlf_tile q K h c z hz, fail2, fail, if_pos (by omega)]
    have hm : (stN q k0_pay70 K V n (p + 1)).m (ix2 (0 : Fin 1) (col h c))
        = ((stN q k0_pay70 K V n p).m (ix2 (0 : Fin 1) (col h c)) + ∑ k : Fin 256, k0_pay4 (lg q (kT K (n - 1 - p))) (ix2 k (col h c)) : EReal) :=
      carry_at (k0_pay4 (lg q (kT K (n - 1 - p)))) (stN q k0_pay70 K V n p).m (col h c)
    have ha : (stN q k0_pay70 K V n (p + 1)).acc h (ix2 r c)
        = ((stN q k0_pay70 K V n p).acc h (ix2 r c) + ∑ k : Fin 256, vT V (n - 1 - p) h (ix2 r k)
          * k0_pay5 k0_pay70 (lg q (kT K (n - 1 - p))) (stN q k0_pay70 K V n p).m (ix2 k (col h c)) : EReal) :=
      consume_acc k0_pay70 (vT V (n - 1 - p)) (lg q (kT K (n - 1 - p))) (stN q k0_pay70 K V n p) h r c
    rw [hm, ha]
    refine held_step z (val V h r) _ _ _ _ _ (by omega) _ (fun k => vT V (n - 1 - p) h (ix2 r k)) _ hF (val_tile V h r (n - 1 - p)) (fun k => ?_) ih
    rw [wt_at, lg_tile, hz, ih.1]
    exact weight_eq z (256 * n + c.val) (256 * n + 256) (256 * (n - 1 - p)) k (by omega) (by omega) (fun j => k0_pay70 (F := Ideal) (ix2 k j))
      (fun j => k0_pay4 (lg q (kT K (n - 1 - p))) (ix2 j (col h c))) (U_at k) hF

/-- The head's sum at the end: the values by their shares. -/
theorem stN_out (n : ℕ) (hn : n < 32) (r : Fin 128) :
    (stN q k0_pay70 K V n n).acc h (ix2 r c) = stick z (val V h r) (256 * n + c.val) := by
  have := (stN_held q K V h c z hz n r n (le_refl _)).2
  rw [this, Nat.sub_self, Nat.mul_zero, ← Finset.range_eq_Ico]
  exact stick_of_range z _ _ _ (by omega) (by omega)

end column

/-- The result block at a query's lane. -/
theorem outOf_at (t : St Ideal) (h : Fin 4) (c : Fin 256) (d : Fin 128) :
    outOf t (ix2 c (slot h d)) = (t.acc h (ix2 d c) : EReal) := by
  have e : ∀ (x : Vec Ideal S128x256 .f32), k0_pay91 x (ix2 (⟨c.val, c.isLt⟩ : Fin 256) (⟨(slot h d).val % 128, Nat.mod_lt _ (by decide)⟩ : Fin 128))
      = (x (ix2 d c) : EReal) := fun x => by
    rw [show (⟨(slot h d).val % 128, Nat.mod_lt _ (by decide)⟩ : Fin 128) = d from Fin.ext (by show (128 * h.val + d.val) % 128 = d.val; omega)]
    exact out_at x c d
  have hd := d.isLt
  show (if (slot h d).val < 128 then _ else if (slot h d).val < 256 then _ else if (slot h d).val < 384 then _ else _) = _
  have hs : (slot h d).val = 128 * h.val + d.val := rfl
  match h with
  | 0 => rw [if_pos (by rw [hs]; show 128 * 0 + _ < _; omega)]; exact e t.a
  | 1 => rw [if_neg (by rw [hs]; show ¬ 128 * 1 + _ < _; omega), if_pos (by rw [hs]; show 128 * 1 + _ < _; omega)]; exact e t.b
  | 2 => rw [if_neg (by rw [hs]; show ¬ 128 * 2 + _ < _; omega), if_neg (by rw [hs]; show ¬ 128 * 2 + _ < _; omega), if_pos (by rw [hs]; show 128 * 2 + _ < _; omega)]; exact e t.d
  | 3 => rw [if_neg (by rw [hs]; show ¬ 128 * 3 + _ < _; omega), if_neg (by rw [hs]; show ¬ 128 * 3 + _ < _; omega), if_neg (by rw [hs]; show ¬ 128 * 3 + _ < _; omega)]; exact e t.e

end Cert.SbIdeal.Run

end
-- ==== Proof.SbRun.lean ====
module

public import proofs.«01_k».proof.Proof.Gen.SbIdeal.Frame
public import proofs.«01_k».proof.Proof.Gen.SbIdeal.Skeleton
public import proofs.«01_k».proof.Proof.Gen.SbIdeal.Loops
public import proofs.«01_k».proof.Proof.SbState
public import Idealize.ShloMosaic.Lib.Tactic
public import Idealize.ShloMosaic.Lib.LoopRemainder
public import Idealize.ShloMosaic.Lib.WholeRead
public import Idealize.ShloMosaic.Lib.VecWindow

@[expose] public section

set_option maxRecDepth 16384

noncomputable section

namespace Cert.SbIdeal.Run

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

/-- The program has one variant. -/
abbrev 𝒱₀ : Variants := Variants.none

/-- What the loop's buffers hold before trip `k`: the two blocks it reads, the logits of the next tile and the state after the diagonal tile and `2 k` earlier ones. -/
abbrev inv (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (q : FVec F S256x1024 .bf16) (U : FVec F S256x256 .bf16) (x3 : Vec F S8192x256 .bf16) (x4 : Vec F S512x8192 .bf16)
     (k : ℕ) : sProp 𝕄 :=
  iprop((arg3.view.loc (c : Thread nD τ) ↦{fullShare} harg3.unread x3) ∗ (arg4.view.loc (c : Thread nD τ) ↦{fullShare} harg4.unread x4) ∗ (arg6.view.loc (c : Thread nD τ) ↦{fullShare} harg6.unread (lg q (kT x3 ((i 1).val - 1 - 2 * k)))) ∗ (∃ f, (arg7.view.loc (c : Thread nD τ) ↦{fullShare} f))
    ∗ (arg8.view.loc (c : Thread nD τ) ↦{fullShare} harg8.unread (stN q U x3 x4 (i 1).val (2 * k)).m) ∗ (arg9.view.loc (c : Thread nD τ) ↦{fullShare} harg9.unread (stN q U x3 x4 (i 1).val (2 * k)).a) ∗ (arg10.view.loc (c : Thread nD τ) ↦{fullShare} harg10.unread (stN q U x3 x4 (i 1).val (2 * k)).b)
    ∗ (arg11.view.loc (c : Thread nD τ) ↦{fullShare} harg11.unread (stN q U x3 x4 (i 1).val (2 * k)).d) ∗ (arg12.view.loc (c : Thread nD τ) ↦{fullShare} harg12.unread (stN q U x3 x4 (i 1).val (2 * k)).e))

/-- A load of a whole view just stored whole. -/
theorem readCov_1 {κ' : Kind} {sp : Space} {s : Shape} {el : EltTy} (v : View sig κ' sp s el) {off off' : Fin s.rank → ℕ}
    (inb : ∀ a, off a + s.size a ≤ s.size a) (inb' : ∀ a, off' a + s.size a ≤ s.size a)
    (w : (Rect.unit off' s.size inb').shape.Idx → Elt F el) (L : List (View.Piece (Elt F) s el)) :
    v.readCov (⟨Rect.unit off' s.size inb', w⟩ :: L) (Rect.unit off s.size inb).toLoadRect = w := View.readCov_full v inb inb' w L

/-- One trip from any contents: the second tile's logits, two tiles consumed, the third tile's logits. -/
theorem trip (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (q : FVec F S256x1024 .bf16) (U : FVec F S256x256 .bf16) (arg1 : BitVec 32) (k0_h1 : k0_cond1 i = 1#1)
    (k : Fin (k0_t1_loop i).trips) (x3 : Vec F S8192x256 .bf16) (x4 : Vec F S512x8192 .bf16)
    (s : Vec F S256x1024 .f32) (t : St F) (f7 : arg7.view.ty.Contents (Elt F)) :
    iprop((arg3.view.loc (c : Thread nD τ) ↦{fullShare} harg3.unread x3) ∗ (arg4.view.loc (c : Thread nD τ) ↦{fullShare} harg4.unread x4) ∗ (arg6.view.loc (c : Thread nD τ) ↦{fullShare} harg6.unread s) ∗ (arg7.view.loc (c : Thread nD τ) ↦{fullShare} f7) ∗ (arg8.view.loc (c : Thread nD τ) ↦{fullShare} harg8.unread t.m)
      ∗ (arg9.view.loc (c : Thread nD τ) ↦{fullShare} harg9.unread t.a) ∗ (arg10.view.loc (c : Thread nD τ) ↦{fullShare} harg10.unread t.b) ∗ (arg11.view.loc (c : Thread nD τ) ↦{fullShare} harg11.unread t.d) ∗ (arg12.view.loc (c : Thread nD τ) ↦{fullShare} harg12.unread t.e))
    ⊢ (wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg1 q U k0_h1 k ())
       (fun _ => iprop((arg3.view.loc (c : Thread nD τ) ↦{fullShare} harg3.unread x3) ∗ (arg4.view.loc (c : Thread nD τ) ↦{fullShare} harg4.unread x4) ∗ (arg6.view.loc (c : Thread nD τ) ↦{fullShare} harg6.unread (lg q (kT x3 ((i 1).val - 1 - (2 * k.val + 2)))))
         ∗ (∃ f, (arg7.view.loc (c : Thread nD τ) ↦{fullShare} f)) ∗ (arg8.view.loc (c : Thread nD τ) ↦{fullShare} harg8.unread (consume U (vT x4 ((i 1).val - 1 - (2 * k.val + 1))) (lg q (kT x3 ((i 1).val - 1 - (2 * k.val + 1)))) (consume U (vT x4 ((i 1).val - 1 - 2 * k.val)) s t)).m) ∗ (arg9.view.loc (c : Thread nD τ) ↦{fullShare} harg9.unread (consume U (vT x4 ((i 1).val - 1 - (2 * k.val + 1))) (lg q (kT x3 ((i 1).val - 1 - (2 * k.val + 1)))) (consume U (vT x4 ((i 1).val - 1 - 2 * k.val)) s t)).a) ∗ (arg10.view.loc (c : Thread nD τ) ↦{fullShare} harg10.unread (consume U (vT x4 ((i 1).val - 1 - (2 * k.val + 1))) (lg q (kT x3 ((i 1).val - 1 - (2 * k.val + 1)))) (consume U (vT x4 ((i 1).val - 1 - 2 * k.val)) s t)).b)
         ∗ (arg11.view.loc (c : Thread nD τ) ↦{fullShare} harg11.unread (consume U (vT x4 ((i 1).val - 1 - (2 * k.val + 1))) (lg q (kT x3 ((i 1).val - 1 - (2 * k.val + 1)))) (consume U (vT x4 ((i 1).val - 1 - 2 * k.val)) s t)).d) ∗ (arg12.view.loc (c : Thread nD τ) ↦{fullShare} harg12.unread (consume U (vT x4 ((i 1).val - 1 - (2 * k.val + 1))) (lg q (kT x3 ((i 1).val - 1 - (2 * k.val + 1)))) (consume U (vT x4 ((i 1).val - 1 - 2 * k.val)) s t)).e))) : sProp 𝕄) := by
  unfold k0_t1_body
  sl_open_parts
  iintro ⟨H3, H4, H6, H7, H8, H9, H10, H11, H12⟩
  sl_exec
  sl_step
  sl_unfold_run_names
  simp only [writes_unread harg6, writes_unread harg8, writes_unread harg9, writes_unread harg10, writes_unread harg11, writes_unread harg12, readCov_1 arg7.view, readCov_1 arg8.view, readCov_1 arg9.view, readCov_1 arg10.view, readCov_1 arg11.view, readCov_1 arg12.view, readAt_unread_full harg6, readAt_unread_full harg8, readAt_unread_full harg9, readAt_unread_full harg10, readAt_unread_full harg11, readAt_unread_full harg12, Memref.IsWhole.read_unread, t_lg, t_lg2, t_m2, t_a2, t_b2, t_d2, t_e2,
    read_kT harg3 x3 ((i 1).val - 1 - (2 * k.val + 1)) _ (off7_1 i k), read_kT harg3 x3 ((i 1).val - 1 - (2 * k.val + 2)) _ (off7_2 i k),
    read_vT harg4 x4 ((i 1).val - 1 - 2 * k.val) 0 _ (off8_e i k),
    read_vT harg4 x4 ((i 1).val - 1 - 2 * k.val) 1 _ (off9_e i k),
    read_vT harg4 x4 ((i 1).val - 1 - 2 * k.val) 2 _ (off10_e i k),
    read_vT harg4 x4 ((i 1).val - 1 - 2 * k.val) 3 _ (off11_e i k),
    read_vT harg4 x4 ((i 1).val - 1 - (2 * k.val + 1)) 0 _ (off12_e i k),
    read_vT harg4 x4 ((i 1).val - 1 - (2 * k.val + 1)) 1 _ (off13_e i k),
    read_vT harg4 x4 ((i 1).val - 1 - (2 * k.val + 1)) 2 _ (off14_e i k),
    read_vT harg4 x4 ((i 1).val - 1 - (2 * k.val + 1)) 3 _ (off15_e i k)]
  isplitl [H3]; · iexact H3
  isplitl [H4]; · iexact H4
  isplitl [H6]; · iexact H6
  isplitl [H7]; · iexists _; iexact H7
  isplitl [H8]; · iexact H8
  isplitl [H9]; · iexact H9
  isplitl [H10]; · iexact H10
  isplitl [H11]; · iexact H11
  iexact H12

set_option warn.classDefReducibility false in
/-- The loop's invariant, by one trip from each state. -/
@[sl_loop] def loopInv (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (q : FVec F S256x1024 .bf16) (U : FVec F S256x256 .bf16) (arg1 : BitVec 32) (k0_h1 : k0_cond1 i = 1#1)
    (x3 : Vec F S8192x256 .bf16) (x4 : Vec F S512x8192 .bf16)  :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg1 q U k0_h1 where
  inv := fun k _ => inv c i arg2 harg2 arg3 harg3 arg4 harg4 arg5 harg5 arg6 harg6 arg7 harg7 arg8 harg8 arg9 harg9 arg10 harg10 arg11 harg11 arg12 harg12 q U x3 x4 k
  step := fun k acc => by
    iintro ⟨H3, H4, H6, ⟨%f7, H7⟩, H8, H9, H10, H11, H12⟩
    iapply (wp_wand_r Idealize.ShloMosaic.frame (wpE (defs₀ (F := F)) 𝒱₀ (c : Thread nD τ) none) Set.univ)
    isplitl [H3 H4 H6 H7 H8 H9 H10 H11 H12]
    · iapply (trip c i arg2 harg2 arg3 harg3 arg4 harg4 arg5 harg5 arg6 harg6 arg7 harg7 arg8 harg8 arg9 harg9 arg10 harg10 arg11 harg11 arg12 harg12 q U arg1 k0_h1 k x3 x4 (lg q (kT x3 ((i 1).val - 1 - 2 * k.val))) (stN q U x3 x4 (i 1).val (2 * k.val)) f7)
      iframe
    · iintro %_ ⟨H3, H4, H6, ⟨%f7', H7⟩, H8, H9, H10, H11, H12⟩
      isplitl [H3]; · iexact H3
      isplitl [H4]; · iexact H4
      isplitl [H6]; · iexact H6
      isplitl [H7]; · iexists _; iexact H7
      isplitl [H8]; · iexact H8
      isplitl [H9]; · iexact H9
      isplitl [H10]; · iexact H10
      isplitl [H11]; · iexact H11
      iexact H12

end Cert.SbIdeal.Run

end
-- ==== Proof.SbBody.lean ====
module

public import proofs.«01_k».proof.Proof.Gen.SbIdeal.Frame
public import proofs.«01_k».proof.Proof.Gen.SbIdeal.Skeleton
public import proofs.«01_k».proof.Proof.Gen.SbIdeal.Loops
public import proofs.«01_k».proof.Proof.SbRun
public import Idealize.ShloMosaic.Lib.WritesUnit
public import Idealize.ShloMosaic.Lib.Tactic
public import Idealize.ShloMosaic.Lib.LoopRemainder
public import Idealize.ShloMosaic.Lib.WholeRead
public import Idealize.ShloMosaic.Lib.VecWindow

@[expose] public section

set_option maxRecDepth 16384

noncomputable section

namespace Cert.SbIdeal.Run

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

set_option maxHeartbeats 2000000

/-- The four stores of the result block, a head each, leave the block at `outOf`. -/
theorem out_eq {M : Memref sig .tc .vmem S256x512 .bf16} (h : M.IsWhole) (f : M.view.ty.Contents (Elt F)) (m : Vec F S1x1024 .f32)
    (a b d e : Vec F S128x256 .f32) (i0 i1 i2 i3) :
    M.view.writes (Elt F) f [⟨Rect.unit (s := S256x512) ![0, 384] S256x128.size i3, k0_pay2 e⟩, ⟨Rect.unit (s := S256x512) ![0, 256] S256x128.size i2, k0_pay1 d⟩,
      ⟨Rect.unit (s := S256x512) ![0, 128] S256x128.size i1, k0_pay92 b⟩, ⟨Rect.unit (s := S256x512) ![0, 0] S256x128.size i0, k0_pay91 a⟩]
      = h.unread (outOf ⟨m, a, b, d, e⟩) := by
  refine h.eq_unread (funext fun y => ?_)
  have hy0 : (y 0).val < 256 := (y 0).isLt
  have hy1 : (y 1).val < 512 := (y 1).isLt
  unfold outOf
  by_cases c1 : (y 1).val < 128
  · rw [if_pos c1]
    refine (View.read_writes_cons_unit_of_not_mem _ _ _ _ _ _ rfl 1 (.inl (by show (y 1).val < 384; omega))).trans ?_
    refine (View.read_writes_cons_unit_of_not_mem _ _ _ _ _ _ rfl 1 (.inl (by show (y 1).val < 256; omega))).trans ?_
    refine (View.read_writes_cons_unit_of_not_mem _ _ _ _ _ _ rfl 1 (.inl (by show (y 1).val < 128; omega))).trans ?_
    exact View.read_writes_cons_unit_of_mem _ _ _ _ _ _ _ rfl (fun q => by match q with | ⟨0, _⟩ => (show (y 0).val = 0 + (y 0).val; omega) | ⟨1, _⟩ => (show (y 1).val = 0 + (y 1).val % 128; omega))
  rw [if_neg c1]
  by_cases c2 : (y 1).val < 256
  · rw [if_pos c2]
    refine (View.read_writes_cons_unit_of_not_mem _ _ _ _ _ _ rfl 1 (.inl (by show (y 1).val < 384; omega))).trans ?_
    refine (View.read_writes_cons_unit_of_not_mem _ _ _ _ _ _ rfl 1 (.inl (by show (y 1).val < 256; omega))).trans ?_
    exact View.read_writes_cons_unit_of_mem _ _ _ _ _ _ _ rfl (fun q => by match q with | ⟨0, _⟩ => (show (y 0).val = 0 + (y 0).val; omega) | ⟨1, _⟩ => (show (y 1).val = 128 + (y 1).val % 128; omega))
  rw [if_neg c2]
  by_cases c3 : (y 1).val < 384
  · rw [if_pos c3]
    refine (View.read_writes_cons_unit_of_not_mem _ _ _ _ _ _ rfl 1 (.inl (by show (y 1).val < 384; omega))).trans ?_
    exact View.read_writes_cons_unit_of_mem _ _ _ _ _ _ _ rfl (fun q => by match q with | ⟨0, _⟩ => (show (y 0).val = 0 + (y 0).val; omega) | ⟨1, _⟩ => (show (y 1).val = 256 + (y 1).val % 128; omega))
  rw [if_neg c3]
  exact View.read_writes_cons_unit_of_mem _ _ _ _ _ _ _ rfl (fun q => by match q with | ⟨0, _⟩ => (show (y 0).val = 0 + (y 0).val; omega) | ⟨1, _⟩ => (show (y 1).val = 384 + (y 1).val % 128; omega))

/-- The first block of queries ends with its diagonal tile. -/
theorem stN_zero (q : FVec F S256x1024 .bf16) (U : FVec F S256x256 .bf16) (K : Vec F S8192x256 .bf16) (V : Vec F S512x8192 .bf16) (n : ℕ) (h : n = 0) :
    stN q U K V n n = stD q U (kT K n) (vT V n) := by
  subst h; rfl

/-- An earlier tile's state is the state before it, one tile on. -/
theorem stN_last (q : FVec F S256x1024 .bf16) (U : FVec F S256x256 .bf16) (K : Vec F S8192x256 .bf16) (V : Vec F S512x8192 .bf16) (n : ℕ) (h : 0 < n) :
    stN q U K V n n = consume U (vT V 0) (lg q (kT K 0)) (stN q U K V n (n - 1)) := by
  obtain ⟨n, rfl⟩ : ∃ k, n = k + 1 := ⟨n - 1, by omega⟩
  show consume U (vT V (n + 1 - 1 - n)) (lg q (kT K (n + 1 - 1 - n))) (stN q U K V (n + 1) n) = _
  rw [show n + 1 - 1 - n = 0 by omega]
  rfl

/-- The last two steps of a state taken apart. -/
theorem stN_two (q : FVec F S256x1024 .bf16) (U : FVec F S256x256 .bf16) (K : Vec F S8192x256 .bf16) (V : Vec F S512x8192 .bf16) (n : ℕ) (h : 1 < n) :
    stN q U K V n n = consume U (vT V 0) (lg q (kT K 0)) (consume U (vT V 1) (lg q (kT K 1)) (stN q U K V n (n - 2))) := by
  obtain ⟨n, rfl⟩ : ∃ k, n = k + 2 := ⟨n - 2, by omega⟩
  show consume U (vT V (n + 2 - 1 - (n + 1))) (lg q (kT K (n + 2 - 1 - (n + 1)))) (consume U (vT V (n + 2 - 1 - n)) (lg q (kT K (n + 2 - 1 - n))) (stN q U K V (n + 2) n)) = _
  rw [show n + 2 - 1 - (n + 1) = 0 by omega, show n + 2 - 1 - n = 1 by omega]
  rfl

/-- The first block of queries, which has the diagonal tile only: the body ends and leaves the block's result. -/
theorem run_zero (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (hc1 : ¬ k0_cond1 i = 1#1)
    (x2 : Vec F S256x256 .f32) (x3 : Vec F S8192x256 .bf16) (x4 : Vec F S512x8192 .bf16) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (E : Set ℕ) (K : PUnit → sProp 𝕄) :
    iprop((arg2.view.loc (c : Thread nD τ) ↦{fullShare} harg2.unread x2) ∗ (arg3.view.loc (c : Thread nD τ) ↦{fullShare} harg3.unread x3) ∗ (arg4.view.loc (c : Thread nD τ) ↦{fullShare} harg4.unread x4)
      ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12)
      ∗ (iprop((arg2.view.loc (c : Thread nD τ) ↦{fullShare} harg2.unread x2) ∗ (arg3.view.loc (c : Thread nD τ) ↦{fullShare} harg3.unread x3) ∗ (arg4.view.loc (c : Thread nD τ) ↦{fullShare} harg4.unread x4)
        ∗ (arg5.view.loc (c : Thread nD τ) ↦{fullShare} harg5.unread (outOf (stN (qS x2) k0_pay70 x3 x4 (i 1).val (i 1).val)))
        ∗ (∃ f, (arg6.view.loc (c : Thread nD τ) ↦{fullShare} f)) ∗ (∃ f, (arg7.view.loc (c : Thread nD τ) ↦{fullShare} f)) ∗ (∃ f, (arg8.view.loc (c : Thread nD τ) ↦{fullShare} f)) ∗ (∃ f, (arg9.view.loc (c : Thread nD τ) ↦{fullShare} f)) ∗ (∃ f, (arg10.view.loc (c : Thread nD τ) ↦{fullShare} f)) ∗ (∃ f, (arg11.view.loc (c : Thread nD τ) ↦{fullShare} f)) ∗ (∃ f, (arg12.view.loc (c : Thread nD τ) ↦{fullShare} f))) -∗ K ⟨⟩))
      ⊢ wp frame (wpE (defs₀ (F := F)) 𝒱₀ (c : Thread nD τ) none) Set.univ (cc0_stickbreak (F := F) i arg2 harg2 arg3 harg3 arg4 harg4 arg5 harg5 arg6 harg6 arg7 harg7 arg8 harg8 arg9 harg9 arg10 harg10 arg11 harg11 arg12 harg12) K := by
  iintro ⟨H2, H3, H4, H5, H6, H7, H8, H9, H10, H11, H12, Hk⟩
  have h0 := par_zero i hc1
  sl_unfold [cc0_stickbreak]
  sl_open_parts
  sl_exec
  sl_unfold_run_names
  simp only [writes_unread harg6, writes_unread harg7, writes_unread harg8, writes_unread harg9, writes_unread harg10, writes_unread harg11, writes_unread harg12,
    readCov_1 arg6.view, readCov_1 arg7.view, readCov_1 arg8.view, readCov_1 arg9.view, readCov_1 arg10.view, readCov_1 arg11.view, readCov_1 arg12.view,
    readAt_unread_full harg6, readAt_unread_full harg7, readAt_unread_full harg8, readAt_unread_full harg9, readAt_unread_full harg10, readAt_unread_full harg11, readAt_unread_full harg12,
    readAt_unread_full harg2 x2, read_kT harg3 x3 (i 1).val _ (off1_e i), read_vT harg4 x4 (i 1).val 0 _ (off2_e i), read_vT harg4 x4 (i 1).val 1 _ (off3_e i), read_vT harg4 x4 (i 1).val 2 _ (off4_e i), read_vT harg4 x4 (i 1).val 3 _ (off5_e i)]
  rw [stN_zero _ _ _ _ _ h0]
  rw [out_eq harg5 _ (stD (qS x2) k0_pay70 (kT x3 (i 1).val) (vT x4 (i 1).val)).m]
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

/-- An odd block of queries: the body ends and leaves the block's result. -/
theorem run_odd (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (hc1 : k0_cond1 i = 1#1) (hc2 : k0_cond2 i = 1#1) (hc3 : ¬ k0_cond3 i = 1#1)
    (x2 : Vec F S256x256 .f32) (x3 : Vec F S8192x256 .bf16) (x4 : Vec F S512x8192 .bf16) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (E : Set ℕ) (K : PUnit → sProp 𝕄) :
    iprop((arg2.view.loc (c : Thread nD τ) ↦{fullShare} harg2.unread x2) ∗ (arg3.view.loc (c : Thread nD τ) ↦{fullShare} harg3.unread x3) ∗ (arg4.view.loc (c : Thread nD τ) ↦{fullShare} harg4.unread x4)
      ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12)
      ∗ (iprop((arg2.view.loc (c : Thread nD τ) ↦{fullShare} harg2.unread x2) ∗ (arg3.view.loc (c : Thread nD τ) ↦{fullShare} harg3.unread x3) ∗ (arg4.view.loc (c : Thread nD τ) ↦{fullShare} harg4.unread x4)
        ∗ (arg5.view.loc (c : Thread nD τ) ↦{fullShare} harg5.unread (outOf (stN (qS x2) k0_pay70 x3 x4 (i 1).val (i 1).val)))
        ∗ (∃ f, (arg6.view.loc (c : Thread nD τ) ↦{fullShare} f)) ∗ (∃ f, (arg7.view.loc (c : Thread nD τ) ↦{fullShare} f)) ∗ (∃ f, (arg8.view.loc (c : Thread nD τ) ↦{fullShare} f)) ∗ (∃ f, (arg9.view.loc (c : Thread nD τ) ↦{fullShare} f)) ∗ (∃ f, (arg10.view.loc (c : Thread nD τ) ↦{fullShare} f)) ∗ (∃ f, (arg11.view.loc (c : Thread nD τ) ↦{fullShare} f)) ∗ (∃ f, (arg12.view.loc (c : Thread nD τ) ↦{fullShare} f))) -∗ K ⟨⟩))
      ⊢ wp frame (wpE (defs₀ (F := F)) 𝒱₀ (c : Thread nD τ) none) Set.univ (cc0_stickbreak (F := F) i arg2 harg2 arg3 harg3 arg4 harg4 arg5 harg5 arg6 harg6 arg7 harg7 arg8 harg8 arg9 harg9 arg10 harg10 arg11 harg11 arg12 harg12) K := by
  iintro ⟨H2, H3, H4, H5, H6, H7, H8, H9, H10, H11, H12, Hk⟩
  have h2 : 2 * Scf.trips (k0_t1_loop i).lb (k0_t1_loop i).ub (k0_t1_loop i).st = (i 1).val - 1 := (congrArg (2 * ·) (trips_e i)).trans (by have := par_odd i hc2; omega)
  sl_unfold [cc0_stickbreak]
  sl_open_parts
  sl_exec
  rw [Prog.bind_assoc]
  sl_unfold_run_names
  simp only [writes_unread harg6, writes_unread harg7, writes_unread harg8, writes_unread harg9, writes_unread harg10, writes_unread harg11, writes_unread harg12,
    readCov_1 arg6.view, readCov_1 arg7.view, readCov_1 arg8.view, readCov_1 arg9.view, readCov_1 arg10.view, readCov_1 arg11.view, readCov_1 arg12.view,
    readAt_unread_full harg6, readAt_unread_full harg7, readAt_unread_full harg8, readAt_unread_full harg9, readAt_unread_full harg10, readAt_unread_full harg11, readAt_unread_full harg12,
    readAt_unread_full harg2 x2, read_kT harg3 x3 (i 1).val _ (off1_e i), read_vT harg4 x4 (i 1).val 0 _ (off2_e i), read_vT harg4 x4 (i 1).val 1 _ (off3_e i), read_vT harg4 x4 (i 1).val 2 _ (off4_e i), read_vT harg4 x4 (i 1).val 3 _ (off5_e i), read_kT harg3 x3 ((i 1).val - 1) _ (off6_e i hc1), p_lg0]
  rw [Prog.bind_assoc]
  sl_exec
  rw [Prog.bind_assoc]
  sl_exec
  sl_unfold_run_names
  rw [h2]
  simp only [writes_unread harg6, writes_unread harg7, writes_unread harg8, writes_unread harg9, writes_unread harg10, writes_unread harg11, writes_unread harg12,
    readCov_1 arg6.view, readCov_1 arg7.view, readCov_1 arg8.view, readCov_1 arg9.view, readCov_1 arg10.view, readCov_1 arg11.view, readCov_1 arg12.view,
    readAt_unread_full harg6, readAt_unread_full harg7, readAt_unread_full harg8, readAt_unread_full harg9, readAt_unread_full harg10, readAt_unread_full harg11, readAt_unread_full harg12,
    read_vT harg4 x4 0 0 _ (off25_e i hc2), read_vT harg4 x4 0 1 _ (off26_e i hc2), read_vT harg4 x4 0 2 _ (off27_e i hc2), read_vT harg4 x4 0 3 _ (off28_e i hc2), o_m, o_a, o_b, o_d, o_e, Nat.sub_self]
  rw [stN_last (qS x2) k0_pay70 x3 x4 (i 1).val (by have := par_odd i hc2; omega)]
  rw [out_eq harg5 _ k0_pay71]
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

/-- A later even block of queries: the body ends and leaves the block's result. -/
theorem run_even (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (hc1 : k0_cond1 i = 1#1) (hc2 : ¬ k0_cond2 i = 1#1) (hc3 : k0_cond3 i = 1#1)
    (x2 : Vec F S256x256 .f32) (x3 : Vec F S8192x256 .bf16) (x4 : Vec F S512x8192 .bf16) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (E : Set ℕ) (K : PUnit → sProp 𝕄) :
    iprop((arg2.view.loc (c : Thread nD τ) ↦{fullShare} harg2.unread x2) ∗ (arg3.view.loc (c : Thread nD τ) ↦{fullShare} harg3.unread x3) ∗ (arg4.view.loc (c : Thread nD τ) ↦{fullShare} harg4.unread x4)
      ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12)
      ∗ (iprop((arg2.view.loc (c : Thread nD τ) ↦{fullShare} harg2.unread x2) ∗ (arg3.view.loc (c : Thread nD τ) ↦{fullShare} harg3.unread x3) ∗ (arg4.view.loc (c : Thread nD τ) ↦{fullShare} harg4.unread x4)
        ∗ (arg5.view.loc (c : Thread nD τ) ↦{fullShare} harg5.unread (outOf (stN (qS x2) k0_pay70 x3 x4 (i 1).val (i 1).val)))
        ∗ (∃ f, (arg6.view.loc (c : Thread nD τ) ↦{fullShare} f)) ∗ (∃ f, (arg7.view.loc (c : Thread nD τ) ↦{fullShare} f)) ∗ (∃ f, (arg8.view.loc (c : Thread nD τ) ↦{fullShare} f)) ∗ (∃ f, (arg9.view.loc (c : Thread nD τ) ↦{fullShare} f)) ∗ (∃ f, (arg10.view.loc (c : Thread nD τ) ↦{fullShare} f)) ∗ (∃ f, (arg11.view.loc (c : Thread nD τ) ↦{fullShare} f)) ∗ (∃ f, (arg12.view.loc (c : Thread nD τ) ↦{fullShare} f))) -∗ K ⟨⟩))
      ⊢ wp frame (wpE (defs₀ (F := F)) 𝒱₀ (c : Thread nD τ) none) Set.univ (cc0_stickbreak (F := F) i arg2 harg2 arg3 harg3 arg4 harg4 arg5 harg5 arg6 harg6 arg7 harg7 arg8 harg8 arg9 harg9 arg10 harg10 arg11 harg11 arg12 harg12) K := by
  iintro ⟨H2, H3, H4, H5, H6, H7, H8, H9, H10, H11, H12, Hk⟩
  have h2 : 2 * Scf.trips (k0_t1_loop i).lb (k0_t1_loop i).ub (k0_t1_loop i).st = (i 1).val - 2 := (congrArg (2 * ·) (trips_e i)).trans (by have := par_even i hc1 hc3; omega)
  have h1 : (i 1).val - 1 - ((i 1).val - 2) = 1 := by have := par_even i hc1 hc3; omega
  sl_unfold [cc0_stickbreak]
  sl_open_parts
  sl_exec
  rw [Prog.bind_assoc]
  sl_unfold_run_names
  simp only [writes_unread harg6, writes_unread harg7, writes_unread harg8, writes_unread harg9, writes_unread harg10, writes_unread harg11, writes_unread harg12,
    readCov_1 arg6.view, readCov_1 arg7.view, readCov_1 arg8.view, readCov_1 arg9.view, readCov_1 arg10.view, readCov_1 arg11.view, readCov_1 arg12.view,
    readAt_unread_full harg6, readAt_unread_full harg7, readAt_unread_full harg8, readAt_unread_full harg9, readAt_unread_full harg10, readAt_unread_full harg11, readAt_unread_full harg12,
    readAt_unread_full harg2 x2, read_kT harg3 x3 (i 1).val _ (off1_e i), read_vT harg4 x4 (i 1).val 0 _ (off2_e i), read_vT harg4 x4 (i 1).val 1 _ (off3_e i), read_vT harg4 x4 (i 1).val 2 _ (off4_e i), read_vT harg4 x4 (i 1).val 3 _ (off5_e i), read_kT harg3 x3 ((i 1).val - 1) _ (off6_e i hc1), p_lg0]
  rw [Prog.bind_assoc]
  sl_exec
  rw [Prog.bind_assoc]
  sl_exec
  sl_unfold_run_names
  rw [h2]
  simp only [writes_unread harg6, writes_unread harg7, writes_unread harg8, writes_unread harg9, writes_unread harg10, writes_unread harg11, writes_unread harg12,
    readCov_1 arg6.view, readCov_1 arg7.view, readCov_1 arg8.view, readCov_1 arg9.view, readCov_1 arg10.view, readCov_1 arg11.view, readCov_1 arg12.view,
    readAt_unread_full harg6, readAt_unread_full harg7, readAt_unread_full harg8, readAt_unread_full harg9, readAt_unread_full harg10, readAt_unread_full harg11, readAt_unread_full harg12,
    read_vT harg4 x4 1 0 _ (off30_2 i hc3), read_vT harg4 x4 0 0 _ (off30_1 i hc3), read_vT harg4 x4 1 1 _ (off31_2 i hc3), read_vT harg4 x4 0 1 _ (off31_1 i hc3), read_vT harg4 x4 1 2 _ (off32_2 i hc3), read_vT harg4 x4 0 2 _ (off32_1 i hc3), read_vT harg4 x4 1 3 _ (off33_2 i hc3), read_vT harg4 x4 0 3 _ (off33_1 i hc3), read_kT harg3 x3 0 _ (off29_e i hc3), h1, p_lg, p_m1, p_a1, p_b1, p_d1, p_e1, p_m2, p_a2, p_b2, p_d2, p_e2]
  rw [stN_two (qS x2) k0_pay70 x3 x4 (i 1).val (by have := par_even i hc1 hc3; omega)]
  rw [out_eq harg5 _ k0_pay71]
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.SbIdeal.Run

end
-- ==== Proof.SbFrame.lean ====
module

public import proofs.«01_k».proof.Proof.Gen.SbIdeal.Frame
public import proofs.«01_k».proof.Proof.Gen.SbIdeal.Skeleton
public import proofs.«01_k».proof.Proof.Gen.SbIdeal.Loops
public import proofs.«01_k».proof.Proof.SbBody
public import Idealize.ShloMosaic.Lib.Tactic
public import Idealize.ShloMosaic.Lib.LoopRemainder
public import Idealize.ShloMosaic.Lib.WholeRead
public import Idealize.ShloMosaic.Lib.VecWindow

@[expose] public section

set_option maxRecDepth 16384

noncomputable section

namespace Cert.SbIdeal.Run

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-- One step of the grid on whole staging memrefs: the three blocks come back as they were, the result block holds what
the queries' block `i 1` ends with, and the scratch holds something. -/
theorem kernelRun (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S512x8192 .bf16) (harg4 : arg4.IsWhole) (arg5 : Memref sig .tc .vmem S256x512 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole)
    (x2 : Vec F S256x256 .f32) (x3 : Vec F S8192x256 .bf16) (x4 : Vec F S512x8192 .bf16) (K : PUnit → sProp 𝕄) :
    iprop(owns (c : Thread nD τ) arg2 fullShare x2 ∗ owns (c : Thread nD τ) arg3 fullShare x3 ∗ owns (c : Thread nD τ) arg4 fullShare x4
      ∗ (∃ d, owns (c : Thread nD τ) arg5 fullShare d) ∗ (∃ f, (arg6.view.loc (c : Thread nD τ) ↦{fullShare} f)) ∗ (∃ f, (arg7.view.loc (c : Thread nD τ) ↦{fullShare} f)) ∗ (∃ f, (arg8.view.loc (c : Thread nD τ) ↦{fullShare} f)) ∗ (∃ f, (arg9.view.loc (c : Thread nD τ) ↦{fullShare} f)) ∗ (∃ f, (arg10.view.loc (c : Thread nD τ) ↦{fullShare} f)) ∗ (∃ f, (arg11.view.loc (c : Thread nD τ) ↦{fullShare} f)) ∗ (∃ f, (arg12.view.loc (c : Thread nD τ) ↦{fullShare} f))
      ∗ (iprop(owns (c : Thread nD τ) arg2 fullShare x2 ∗ owns (c : Thread nD τ) arg3 fullShare x3 ∗ owns (c : Thread nD τ) arg4 fullShare x4
        ∗ owns (c : Thread nD τ) arg5 fullShare (outOf (stN (qS x2) k0_pay70 x3 x4 (i 1).val (i 1).val)) ∗ (∃ f, (arg6.view.loc (c : Thread nD τ) ↦{fullShare} f)) ∗ (∃ f, (arg7.view.loc (c : Thread nD τ) ↦{fullShare} f)) ∗ (∃ f, (arg8.view.loc (c : Thread nD τ) ↦{fullShare} f)) ∗ (∃ f, (arg9.view.loc (c : Thread nD τ) ↦{fullShare} f)) ∗ (∃ f, (arg10.view.loc (c : Thread nD τ) ↦{fullShare} f)) ∗ (∃ f, (arg11.view.loc (c : Thread nD τ) ↦{fullShare} f)) ∗ (∃ f, (arg12.view.loc (c : Thread nD τ) ↦{fullShare} f))) -∗ K ⟨⟩))
      ⊢ wp frame (wpE (defs₀ (F := F)) 𝒱₀ (c : Thread nD τ) none) Set.univ (cc0_stickbreak (F := F) i arg2 harg2 arg3 harg3 arg4 harg4 arg5 harg5 arg6 harg6 arg7 harg7 arg8 harg8 arg9 harg9 arg10 harg10 arg11 harg11 arg12 harg12) K := by
  unfold owns
  rw [harg2.set_eq_univ, harg3.set_eq_univ, harg4.set_eq_univ, harg5.set_eq_univ]
  iintro ⟨⟨%f2, %hf2, H2⟩, ⟨%f3, %hf3, H3⟩, ⟨%f4, %hf4, H4⟩, ⟨%d5, %f5, -, H5⟩, ⟨%f6, H6⟩, ⟨%f7, H7⟩, ⟨%f8, H8⟩, ⟨%f9, H9⟩, ⟨%f10, H10⟩, ⟨%f11, H11⟩, ⟨%f12, H12⟩, Hk⟩
  obtain rfl := harg2.eq_unread hf2; obtain rfl := harg3.eq_unread hf3; obtain rfl := harg4.eq_unread hf4
  rcases Nat.eq_zero_or_pos (i 1).val with h0 | h0
  · iapply (run_zero c i arg2 harg2 arg3 harg3 arg4 harg4 arg5 harg5 arg6 harg6 arg7 harg7 arg8 harg8 arg9 harg9 arg10 harg10 arg11 harg11 arg12 harg12 (cond_zero i h0) x2 x3 x4 f5 f6 f7 f8 f9 f10 f11 f12 Set.univ K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]; · iexact H8
    isplitl [H9]; · iexact H9
    isplitl [H10]; · iexact H10
    isplitl [H11]; · iexact H11
    iexact H12
  rcases Nat.mod_two_eq_zero_or_one (i 1).val with hp | hp
  · iapply (run_even c i arg2 harg2 arg3 harg3 arg4 harg4 arg5 harg5 arg6 harg6 arg7 harg7 arg8 harg8 arg9 harg9 arg10 harg10 arg11 harg11 arg12 harg12 (cond_even i h0 hp).1 (cond_even i h0 hp).2.1 (cond_even i h0 hp).2.2 x2 x3 x4 f5 f6 f7 f8 f9 f10 f11 f12 Set.univ K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]; · iexact H8
    isplitl [H9]; · iexact H9
    isplitl [H10]; · iexact H10
    isplitl [H11]; · iexact H11
    iexact H12
  · iapply (run_odd c i arg2 harg2 arg3 harg3 arg4 harg4 arg5 harg5 arg6 harg6 arg7 harg7 arg8 harg8 arg9 harg9 arg10 harg10 arg11 harg11 arg12 harg12 (cond_odd i hp).1 (cond_odd i hp).2.1 (cond_odd i hp).2.2 x2 x3 x4 f5 f6 f7 f8 f9 f10 f11 f12 Set.univ K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]; · iexact H8
    isplitl [H9]; · iexact H9
    isplitl [H10]; · iexact H10
    isplitl [H11]; · iexact H11
    iexact H12

/-- What the body leaves in the result's staging buffer at a point. -/
def outsAt (c : Dev nD) (t : Fin cfg0.N) : Vec F S256x512 .bf16 :=
  outOf (stN (qS (iblk m c 0 t)) k0_pay70 (iblk m c 1 t) (iblk m c 2 t) (grid0.coords t 1).val (grid0.coords t 1).val)

/-- The arrays as the region finds them; after the body each input's buffer at its block and the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

/-- The arrays the pipeline starts from are those at the launch. -/
theorem A_eq (c : Dev nD) (w : Fin cfg0.W) : (dats m 0 c).A w = V m c (Pipeline.arrRef spec0 w) := rfl
/-- What a window holds after a step. -/
theorem after0_0 (c : Dev nD) (t : Fin cfg0.N) : (dats m 0 c).after 0 t = iblk m c 0 t := by dsimp only [dats]
/-- What a window holds after a step. -/
theorem after0_1 (c : Dev nD) (t : Fin cfg0.N) : (dats m 0 c).after 1 t = iblk m c 1 t := by dsimp only [dats]
/-- What a window holds after a step. -/
theorem after0_2 (c : Dev nD) (t : Fin cfg0.N) : (dats m 0 c).after 2 t = iblk m c 2 t := by dsimp only [dats]
/-- What a window holds after a step. -/
theorem after0_3 (c : Dev nD) (t : Fin cfg0.N) : (dats m 0 c).after 3 t = outsAt m c t := by dsimp only [dats]

/-- What a window holds before a step. -/
theorem before0_0 (c : Dev nD) (t : Fin cfg0.N) (d) : (dats m 0 c).before 0 t d = iblk m c 0 t :=
  before0_0_of m (dats m 0 c) (A_eq m c 0) (after0_0 m c) t d
/-- What a window holds before a step. -/
theorem before0_1 (c : Dev nD) (t : Fin cfg0.N) (d) : (dats m 0 c).before 1 t d = iblk m c 1 t :=
  before0_1_of m (dats m 0 c) (A_eq m c 1) (after0_1 m c) t d
/-- What a window holds before a step. -/
theorem before0_2 (c : Dev nD) (t : Fin cfg0.N) (d) : (dats m 0 c).before 2 t d = iblk m c 2 t :=
  before0_2_of m (dats m 0 c) (A_eq m c 2) (after0_2 m c) t d

/-- The class invariant opened: the seven scratch buffers at something, and the generator's register. -/
theorem phi_eq (c : Dev nD) : (Pipeline.ΦA (Val := Elt F) spec0 c : sProp 𝕄) = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f)) ∗ ∃ r, prngReg c r) := by
  unfold Pipeline.ΦA
  rw [scopedRest0_eq]

/-- Every step of the grid meets the pipeline's obligation. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3,
    show (dats m 0 c).Φ t.castSucc = Pipeline.ΦA spec0 c from rfl, phi_eq]
  unfold outsAt
  iintro ⟨⟨⟨G0, G1, G2, G3, G4, G5, G6⟩, Hr⟩, Ho, ⟨%d0, H0⟩, ⟨%d1, H1⟩, ⟨%d2, H2⟩, ⟨%d3, H3⟩⟩
  iapply (kernelRun c (grid0.coords t) _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [G0]; · iexact G0
  isplitl [G1]; · iexact G1
  isplitl [G2]; · iexact G2
  isplitl [G3]; · iexact G3
  isplitl [G4]; · iexact G4
  isplitl [G5]; · iexact G5
  isplitl [G6]; · iexact G6
  iintro ⟨H0, H1, H2, H3, G0, G1, G2, G3, G4, G5, G6⟩
  isplitl [G0 G1 G2 G3 G4 G5 G6 Hr]
  · isplitl [G0 G1 G2 G3 G4 G5 G6]
    · isplitl [G0]; · iexact G0
      isplitl [G1]; · iexact G1
      isplitl [G2]; · iexact G2
      isplitl [G3]; · iexact G3
      isplitl [G4]; · iexact G4
      isplitl [G5]; · iexact G5
      iexact G6
    iexact Hr
  isplitl [Ho]; · iexact Ho
  isplitl [H0]; · iexact H0
  isplitl [H1]; · iexact H1
  isplitl [H2]; · iexact H2
  iexact H3

set_option backward.isDefEq.respectTransparency.types false in
/-- Every run of the program ends, the pipeline's arrays as the proof data say, the host lines after the region done. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- Every run ends with the arguments as they were and no semaphore held. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

end Cert.SbIdeal.Run

end
-- ==== Proof.SbEnt.lean ====
/- The stick-breaking kernel's input arrays, as the launch finds them, in terms of the arguments. -/
module

public import proofs.«01_k».proof.Proof.SbFrame
public import Idealize.ShloMosaic.Lib.Pointwise
public import Idealize.ShloMosaic.Lib.Pipeline.ValueKit

@[expose] public section

set_option maxRecDepth 16384

noncomputable section

namespace Cert.SbIdeal.Run

open scoped BigOperators
open Cert.SbIdeal Cert.SbIdeal.Gen
open Idealize.ShloMosaic Idealize.SL.Sem
open Idealize.ShloMosaic.TcCoe Idealize.ShloMosaic.Tactic
open Idealize.ShloMosaic.Pipeline (Dat)

/-- The queries as the kernel takes them: heads side by side, one column per query. -/
def qArr (a0 : FVec Ideal S2x8192x4x64 .f32) : FVec Ideal S256x16384 .f32 :=
  transpose S256x16384 [1, 0] (shapeCast S16384x256 a0 shapeCasts_S2x8192x4x64_S16384x256) transposes_S16384x256_S256x16384_1_0

/-- The keys as the kernel takes them: heads side by side, one row per key. -/
def kArr (a1 : FVec Ideal S2x8192x4x64 .f32) : FVec Ideal S16384x256 .bf16 :=
  truncf .bf16 (shapeCast S16384x256 a1 shapeCasts_S2x8192x4x64_S16384x256) bitsLt_bf16_f32

/-- The values as the kernel takes them: heads in slots of 128 rows, one column per key. -/
def vArr (a2 : FVec Ideal S2x8192x4x64 .f32) : FVec Ideal S512x16384 .bf16 :=
  truncf .bf16 (transpose S512x16384 [1, 0] (shapeCast S16384x512 (pad S16384x4x128 ![0, 0, 0] ![0, 0, 64] ![0, 0, 0]
      (shapeCast S16384x4x64 (shapeCast S16384x256 a2 shapeCasts_S2x8192x4x64_S16384x256) shapeCasts_S16384x256_S16384x4x64)
      (sitofp (F := Ideal) .f32 (constantI S_ 32 0#32)) pads_S16384x4x64_S16384x4x128_000_000_0640 h_S_ : FVec Ideal S16384x4x128 .f32)
      shapeCasts_S16384x4x128_S16384x512) transposes_S16384x512_S512x16384_1_0) bitsLt_bf16_f32

variable (m : (ℓ : Loc nD τ sig) → Buf (Elt Ideal) ℓ)

/-- The array the launch finds is the one the host code prepares from the argument. -/
theorem ent_q (c : Dev nD) : V m c main_v1 = qArr (m ((c : Thread nD τ).loc main_arg0)) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.ternary, StableHlo.TRef.toBuf,
    StableHlo.TRef.ofBuf, cast_eq]
  after_results_simp
  rfl

/-- The array the launch finds is the one the host code prepares from the argument. -/
theorem ent_k (c : Dev nD) : V m c main_v9 = kArr (m ((c : Thread nD τ).loc main_arg1)) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.ternary, StableHlo.TRef.toBuf,
    StableHlo.TRef.ofBuf, cast_eq]
  after_results_simp
  rfl

/-- The array the launch finds is the one the host code prepares from the argument. -/
theorem ent_v (c : Dev nD) : V m c main_v7 = vArr (m ((c : Thread nD τ).loc main_arg2)) := by
  show StableHlo.after ([hostOps0, hostOps0_1, hostOps0_2].flatten) _ _ = _
  simp only [hostOps0, hostOps0_1, hostOps0_2, List.flatten_cons, List.flatten_nil, List.append_nil, List.cons_append,
    List.nil_append, StableHlo.TRef.binary, StableHlo.TRef.nullary, StableHlo.TRef.unary, StableHlo.TRef.ternary, StableHlo.TRef.toBuf,
    StableHlo.TRef.ofBuf, cast_eq]
  after_results_simp
  rfl

/-- A prepared query's lane. -/
theorem qArr_at (a0 : FVec Ideal S2x8192x4x64 .f32) (b : Fin 2) (t : Fin 8192) (h : Fin 4) (w : Fin 64) :
    qArr a0 (ix2 (⟨64 * h.val + w.val, by omega⟩ : Fin 256) (⟨b.val * 8192 + t.val, by omega⟩ : Fin 16384)) = (a0 (ix4 b t h w) : EReal) := by
  pointwise [qArr]

/-- A prepared key's lane. -/
theorem kArr_at (a1 : FVec Ideal S2x8192x4x64 .f32) (b : Fin 2) (t : Fin 8192) (h : Fin 4) (w : Fin 64) :
    kArr a1 (ix2 (⟨b.val * 8192 + t.val, by omega⟩ : Fin 16384) (⟨64 * h.val + w.val, by omega⟩ : Fin 256)) = (a1 (ix4 b t h w) : EReal) := by
  pointwise [kArr]

/-- A prepared value's row of its slot's first 64. -/
theorem vArr_at (a2 : FVec Ideal S2x8192x4x64 .f32) (b : Fin 2) (t : Fin 8192) (h : Fin 4) (w : Fin 64) :
    vArr a2 (ix2 (⟨128 * h.val + w.val, by omega⟩ : Fin 512) (⟨b.val * 8192 + t.val, by omega⟩ : Fin 16384)) = (a2 (ix4 b t h w) : EReal) := by
  pointwise [vArr]
  rw [dif_pos ⟨by omega, by omega⟩]
  exact congrArg (fun k => a2 (ix4 b t h k)) (Fin.ext (by show (128 * h.val + w.val) % 128 = w.val; omega))

end Cert.SbIdeal.Run

end
-- ==== Proof.SbArr.lean ====
/- The stick-breaking kernel's result array after its run. -/
module

public import proofs.«01_k».proof.Proof.SbOut
public import proofs.«01_k».proof.Proof.SbEnt
public import proofs.«01_k».proof.Proof.SbSpec

@[expose] public section

set_option maxRecDepth 16384

noncomputable section

namespace Cert.SbIdeal.Run

open scoped BigOperators
open Cert.SbIdeal Cert.SbIdeal.Gen
open Idealize.ShloMosaic Idealize.SL.Sem
open Idealize.ShloMosaic.TcCoe Idealize.ShloMosaic.Tactic
open Idealize.ShloMosaic.Pipeline (Dat)
open Cert.Mla.Soft Cert.Sb.Soft

variable (m : (ℓ : Loc nD τ sig) → Buf (Elt Ideal) ℓ)

/-- The windows' blocks: the queries' and the result's move with the point, the keys' and the values' with the batch. -/
theorem idx : ∀ t : Fin cfg0.N, win0_0.index t = ![0, t.val] ∧ win0_1.index t = ![t.val / 32, 0] ∧ win0_2.index t = ![0, t.val / 32]
    ∧ win0_3.index t = ![t.val, 0] :=
  (by decide +kernel : ∀ t : Fin grid0.N, _)

/-- The point's block of queries. -/
theorem coord1 : ∀ t : Fin cfg0.N, (grid0.coords t 1).val = t.val % 32 := (by decide +kernel : ∀ t : Fin grid0.N, _)

/-- The entry of the block of queries at a point of the grid, in the array it is cut from. -/
theorem q_blk (c : Dev nD) (t : Fin cfg0.N) (r : Fin 256) (y : Fin 256) :
    (iblk m c 0 t : FVec Ideal S256x256 .f32) (ix2 r y)
      = qArr (m ((c : Thread nD τ).loc main_arg0)) (ix2 r ⟨t.val * 256 + y.val, by have h : t.val < 64 := t.isLt; omega⟩) := by
  have h : (iblk m c 0 t : FVec Ideal S256x256 .f32) (ix2 r y) = (V m c main_v1 : FVec Ideal S256x16384 .f32)
      (ix2 r ⟨t.val * 256 + y.val, by have h : t.val < 64 := t.isLt; omega⟩) := by
    blk_ext [iblk, idx t]
  rw [h, ent_q]

/-- The entry of the block of keys at a point of the grid, in the array it is cut from. -/
theorem k_blk (c : Dev nD) (t : Fin cfg0.N) (p : Fin 8192) (w : Fin 256) :
    (iblk m c 1 t : FVec Ideal S8192x256 .bf16) (ix2 p w)
      = kArr (m ((c : Thread nD τ).loc main_arg1)) (ix2 ⟨t.val / 32 * 8192 + p.val, by have h : t.val < 64 := t.isLt; omega⟩ w) := by
  have h : (iblk m c 1 t : FVec Ideal S8192x256 .bf16) (ix2 p w) = (V m c main_v9 : FVec Ideal S16384x256 .bf16)
      (ix2 ⟨t.val / 32 * 8192 + p.val, by have h : t.val < 64 := t.isLt; omega⟩ w) := by
    blk_ext [iblk, idx t]
  rw [h, ent_k]

/-- The entry of the block of values at a point of the grid, in the array it is cut from. -/
theorem v_blk (c : Dev nD) (t : Fin cfg0.N) (r : Fin 512) (p : Fin 8192) :
    (iblk m c 2 t : FVec Ideal S512x8192 .bf16) (ix2 r p)
      = vArr (m ((c : Thread nD τ).loc main_arg2)) (ix2 r ⟨t.val / 32 * 8192 + p.val, by have h : t.val < 64 := t.isLt; omega⟩) := by
  have h : (iblk m c 2 t : FVec Ideal S512x8192 .bf16) (ix2 r p) = (V m c main_v7 : FVec Ideal S512x16384 .bf16)
      (ix2 r ⟨t.val / 32 * 8192 + p.val, by have h : t.val < 64 := t.isLt; omega⟩) := by
    blk_ext [iblk, idx t]
  rw [h, ent_v]

/-- The kernel's result array over its arguments: every query's values by the keys' shares, lane by lane. -/
def G (a0 a1 a2 : FVec Ideal S2x8192x4x64 .f32) : FVec Ideal S16384x512 .bf16 := fun j =>
  stick (zed a0 a1 ⟨(j 0).val / 8192, by have h := (j 0).isLt; exact Nat.div_lt_of_lt_mul h⟩ ⟨(j 0).val % 8192, Nat.mod_lt _ (by decide)⟩
      ⟨(j 1).val / 128, by have h := (j 1).isLt; exact Nat.div_lt_of_lt_mul h⟩)
    (fun p => vArr a2 (ix2 (⟨(j 1).val, (j 1).isLt⟩ : Fin 512) (⟨(j 0).val / 8192 * 8192 + p % 8192, by
      have h : (j 0).val < 16384 := (j 0).isLt; omega⟩ : Fin 16384)))
    ((j 0).val % 8192)

/-- Every point leaves its queries' results. -/
theorem point (c : Dev nD) (t : Fin cfg0.N)
    (y : Fin 256) (l : Fin 512) :
    outsAt m c t (ix2 y l)
      = G (m ((c : Thread nD τ).loc main_arg0)) (m ((c : Thread nD τ).loc main_arg1)) (m ((c : Thread nD τ).loc main_arg2)) (ix2 ⟨t.val * 256 + y.val, by have h : t.val < 64 := t.isLt; omega⟩ l) := by
  have ht : t.val < 64 := t.isLt
  obtain ⟨h, d, rfl⟩ : ∃ (h : Fin 4) (d : Fin 128), l = slot h d :=
    ⟨⟨l.val / 128, by omega⟩, ⟨l.val % 128, by omega⟩, Fin.ext (by show l.val = 128 * (l.val / 128) + l.val % 128; omega)⟩
  generalize hA0 : (m ((c : Thread nD τ).loc main_arg0) : FVec Ideal S2x8192x4x64 .f32) = a0 at *
  generalize hA1 : (m ((c : Thread nD τ).loc main_arg1) : FVec Ideal S2x8192x4x64 .f32) = a1 at *
  generalize hA2 : (m ((c : Thread nD τ).loc main_arg2) : FVec Ideal S2x8192x4x64 .f32) = a2 at *
  have hi : (grid0.coords t 1).val = t.val % 32 := coord1 t
  -- the logits, in units of `log 2`
  have hlog : ∀ p : ℕ, logit (qS (iblk m c 0 t)) (iblk m c 1 t) h y p
      = zed a0 a1 ⟨t.val / 32, by omega⟩ ⟨t.val % 32 * 256 + y.val, by omega⟩ h p * (((Real.log 2)⁻¹ : ℝ) : EReal) := fun p => by
    unfold logit zed
    refine (lanes_dot (fun w => a0 (ix4 ⟨t.val / 32, by omega⟩ ⟨t.val % 32 * 256 + y.val, by omega⟩ h w))
      (fun w => a1 (ix4 ⟨t.val / 32, by omega⟩ ⟨p % 8192, Nat.mod_lt _ (by decide)⟩ h w)) qs (mul_nonneg (by norm_num) unit_pos.le) h _ _ (fun e => ?_) (fun w => ?_)).trans
      (by rw [qs, EReal.coe_mul, mul_assoc])
    · rw [qS_at]
      by_cases he : e.val / 64 = h.val
      · rw [if_pos he, if_pos he, q_blk, hA0]
        have := qArr_at a0 ⟨t.val / 32, by omega⟩ ⟨t.val % 32 * 256 + y.val, by omega⟩ h ⟨e.val % 64, Nat.mod_lt _ (by decide)⟩
        rw [← this]
        congr 2
        refine congrArg₂ ix2 (Fin.ext ?_) (Fin.ext ?_)
        · show e.val = 64 * h.val + e.val % 64
          omega
        · show t.val * 256 + y.val = t.val / 32 * 8192 + (t.val % 32 * 256 + y.val)
          omega
      · rw [if_neg he, if_neg he]
    · rw [k_blk, hA1]
      exact kArr_at a1 ⟨t.val / 32, by omega⟩ ⟨p % 8192, Nat.mod_lt _ (by decide)⟩ h w
  have hval : ∀ (r : Fin 128) (p : ℕ), val (iblk m c 2 t) h r p
      = vArr a2 (ix2 (slot h r) ⟨t.val / 32 * 8192 + p % 8192, by omega⟩) := fun r p => by
    unfold val
    rw [v_blk, hA2]
  unfold outsAt
  rw [outOf_at, hi, stN_out _ _ _ h y _ hlog _ (by omega), show val (iblk m c 2 t) h d = _ from funext (hval d)]
  unfold G
  have g0 : (t.val * 256 + y.val) / 8192 = t.val / 32 := by omega
  have g1 : (t.val * 256 + y.val) % 8192 = t.val % 32 * 256 + y.val := by omega
  have g2 : (slot h d).val / 128 = h.val := by show (128 * h.val + d.val) / 128 = h.val; omega
  have g3 : 256 * (t.val % 32) + y.val = t.val % 32 * 256 + y.val := by omega
  rw [g3]
  show stick (zed a0 a1 _ _ _) _ _ = stick (zed a0 a1 ⟨(t.val * 256 + y.val) / 8192, _⟩ ⟨(t.val * 256 + y.val) % 8192, _⟩ ⟨(slot h d).val / 128, _⟩)
    (fun p => vArr a2 (ix2 (slot h d) ⟨(t.val * 256 + y.val) / 8192 * 8192 + p % 8192, _⟩)) ((t.val * 256 + y.val) % 8192)
  simp only [g0, g1, g2]

/-- The kernel's result array after the run. -/
theorem final (c : Dev nD) :
    (dats m 0 c).arrAt 3 (cfgs 0).N = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  refine (point m c t _ _).trans (congrArg _ ?_)
  blk_ext [idx t]

end Cert.SbIdeal.Run

end
-- ==== Proof.SbSuffix.lean ====
/- A running sum from the right along the last axis, as the host writes it: a window over everything, padded high. -/
module

public import proofs.«01_k».proof.Proof.MlaSpec
public import Idealize.ShloMosaic.Lib.Pointwise

@[expose] public section

noncomputable section

namespace Cert.Sb.Suffix

open scoped BigOperators
open Idealize.ShloMosaic

/-- A left fold of additions is the start plus the sum. -/
theorem foldl_sum {α : Type} (G : α → EReal) (l : List α) (v : EReal) : l.foldl (fun r n => r + G n) v = v + (l.map G).sum := by
  induction l generalizing v with
  | nil => simp
  | cons a l ih => rw [List.foldl_cons, ih, List.map_cons, List.sum_cons, add_assoc]

/-- A sum over shifted places, zero past the end, is the sum from the shift on. -/
theorem shifted (g : ℕ → EReal) (N p : ℕ) (hp : p < N) :
    ∑ k : Fin N, (if p + k.val < N then g (p + k.val) else 0) = ∑ j ∈ Finset.Ico p N, g j := by
  rw [← Finset.sum_range (fun k => if p + k < N then g (p + k) else 0), Finset.sum_Ico_eq_sum_range]
  symm
  rw [← Finset.sum_subset (s₁ := Finset.range (N - p)) (s₂ := Finset.range N) (Finset.range_subset_range.2 (by omega))
    (f := fun k => if p + k < N then g (p + k) else 0) (fun k _ hk => if_neg (by rw [Finset.mem_range] at hk; omega))]
  refine Finset.sum_congr rfl fun k hk => ?_
  rw [Finset.mem_range] at hk
  rw [if_pos (by omega)]

/-- The entry at `p` of the running sum from the right is the sum of the entries from `p` on. -/
theorem suffix_at {A B C N M : ℕ} (x : FVec Ideal (⟨4, ![A, B, C, N]⟩ : Shape) .f32) {u : Shape} (init : u.Idx → Ideal .f32)
    (h : (⟨4, ![A, B, C, N]⟩ : Shape).ReduceWindows (![1, 1, 1, N] : Fin 4 → ℕ) ![1, 1, 1, 1] ![0, 0, 0, 0] ![0, 0, 0, M] (⟨4, ![A, B, C, N]⟩ : Shape))
    (hu : 0 < u.numel) (hi : init (Shape.Idx.first hu) = (0 : EReal)) (g : ℕ → EReal) (a : Fin A) (b : Fin B) (c : Fin C)
    (hg : ∀ k : Fin N, x (ix4 a b c k) = g k.val) (p : Fin N) :
    Host.reduceWindowAdd ![1, 1, 1, N] ![1, 1, 1, 1] ![0, 0, 0, 0] ![0, 0, 0, M] x init h hu (ix4 a b c p) = ∑ j ∈ Finset.Ico p.val N, g j := by
  show Host.reduceWindow (s := (⟨4, ![A, B, C, N]⟩ : Shape)) (· + ·) ![1, 1, 1, N] ![1, 1, 1, 1] ![0, 0, 0, 0] ![0, 0, 0, M] x
    (fun _ : (⟨0, ![]⟩ : Shape).Idx => init (Shape.Idx.first hu)) h (by decide) (ix4 a b c p) = _
  unfold Host.reduceWindow
  rw [hi]
  dsimp only
  rw [foldl_sum, zero_add, ← Fin.sum_univ_def]
  refine (Finset.sum_congr rfl fun n _ => dite_congr rfl (fun _ => rfl) (fun _ => rfl)).trans ((Equiv.sum_comp ((⟨4, ![1, 1, 1, N]⟩ : Shape).rowMajor.symm) (fun w => if hin : ∀ e : Fin 4, (![0, 0, 0, 0] : Fin 4 → ℕ) e ≤ ((ix4 a b c p : (⟨4, ![A, B, C, N]⟩ : Shape).Idx) e).val * (![1, 1, 1, 1] : Fin 4 → ℕ) e + (w e).val
      ∧ ((ix4 a b c p : (⟨4, ![A, B, C, N]⟩ : Shape).Idx) e).val * (![1, 1, 1, 1] : Fin 4 → ℕ) e + (w e).val - (![0, 0, 0, 0] : Fin 4 → ℕ) e < (![A, B, C, N] : Fin 4 → ℕ) e
      then x (fun e => ⟨_, (hin e).2⟩) else (0 : EReal))).trans ?_)
  refine (sum_idx4 (n0 := 1) (n1 := 1) (n2 := 1) (n3 := N) _).trans ?_
  rw [Fin.sum_univ_one, Fin.sum_univ_one, Fin.sum_univ_one, ← shifted g N p.val p.isLt]
  refine Finset.sum_congr rfl fun k _ => ?_
  by_cases hk : p.val + k.val < N
  · rw [if_pos hk, dif_pos fun e => by
      match e with
      | ⟨0, _⟩ => exact ⟨Nat.zero_le _, by show a.val * 1 + 0 - 0 < A; omega⟩
      | ⟨1, _⟩ => exact ⟨Nat.zero_le _, by show b.val * 1 + 0 - 0 < B; omega⟩
      | ⟨2, _⟩ => exact ⟨Nat.zero_le _, by show c.val * 1 + 0 - 0 < C; omega⟩
      | ⟨3, _⟩ => exact ⟨Nat.zero_le _, by show p.val * 1 + k.val - 0 < N; omega⟩]
    rw [← hg ⟨p.val + k.val, hk⟩]
    refine congrArg x (funext fun e => Fin.ext ?_)
    match e with
    | ⟨0, _⟩ => show a.val * 1 + 0 - 0 = a.val; omega
    | ⟨1, _⟩ => show b.val * 1 + 0 - 0 = b.val; omega
    | ⟨2, _⟩ => show c.val * 1 + 0 - 0 = c.val; omega
    | ⟨3, _⟩ => show p.val * 1 + k.val - 0 = p.val + k.val; omega
  · rw [if_neg hk, dif_neg fun hin => hk (by
      have := (hin 3).2
      change p.val * 1 + k.val - 0 < N at this
      omega)]

end Cert.Sb.Suffix

end
-- ==== Proof.SbRef.lean ====
/- The reference's stick-breaking attention, entry by entry: its logits, what every key leaves of the stick, the running
sum from the right, the shares and the values by them. -/
module

public import proofs.«01_k».proof.Proof.Gen.SbRefIdeal.Run
public import proofs.«01_k».proof.Proof.SbSpec
public import proofs.«01_k».proof.Proof.SbSuffix
public import Idealize.ShloMosaic.Lib.Pointwise
public import Idealize.ShloMosaic.Lib.WordCmp

@[expose] public section

set_option maxRecDepth 16384

noncomputable section

open scoped BigOperators
open Idealize.ShloMosaic Idealize.ShloMosaic.TcCoe Idealize.SL.Sem

namespace Cert.SbRefIdeal.Val

open Cert.SbRefIdeal Cert.SbRefIdeal.Gen Cert.Mla.Soft Cert.Sb.Soft

/-- Where a key is before a query. -/
def pastR : IVec S8192x8192 1 :=
  cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))

/-- The scaled logits. -/
def zR (a0 a1 : FVec Ideal S2x8192x4x64 .f32) : FVec Ideal S2x4x8192x8192 .f32 :=
  mulf (Host.dotGeneral dot_S2x8192x4x64_S2x8192x4x64_S2x4x8192x8192_3_3_1_1_02_02 none a0 a1) (broadcastInDim S2x4x8192x8192 ![] bcast_S_S2x4x8192x8192 (constant S_ .f32 0x3E000000#32))

/-- The logarithm of the sigmoid. -/
def lsR (x : FVec Ideal S2x4x8192x8192 .f32) : FVec Ideal S2x4x8192x8192 .f32 :=
  Host.negf (select (cmpf .une (subf (Host.negf x) (broadcastInDim S2x4x8192x8192 ![] bcast_S_S2x4x8192x8192 (constant S_ .f32 0x00000000#32))) (subf (Host.negf x) (broadcastInDim S2x4x8192x8192 ![] bcast_S_S2x4x8192x8192 (constant S_ .f32 0x00000000#32))))
    (addf (Host.negf x) (broadcastInDim S2x4x8192x8192 ![] bcast_S_S2x4x8192x8192 (constant S_ .f32 0x00000000#32)))
    (addf (maximumf (Host.negf x) (broadcastInDim S2x4x8192x8192 ![] bcast_S_S2x4x8192x8192 (constant S_ .f32 0x00000000#32)))
      (Host.log1p (Host.exp (Host.negf (Host.absf (subf (Host.negf x) (broadcastInDim S2x4x8192x8192 ![] bcast_S_S2x4x8192x8192 (constant S_ .f32 0x00000000#32)))))))))

/-- Zero wherever a key is not before its query. -/
def keepR (x : FVec Ideal S2x4x8192x8192 .f32) : FVec Ideal S2x4x8192x8192 .f32 :=
  select (broadcastInDim S2x4x8192x8192 ![2, 3] bcast_S8192x8192_S2x4x8192x8192_2_3 pastR) x (broadcastInDim S2x4x8192x8192 ![] bcast_S_S2x4x8192x8192 (id (constant S_ .f32 0x00000000#32)))

/-- The running sum from the right. -/
def sumR (x : FVec Ideal S2x4x8192x8192 .f32) : FVec Ideal S2x4x8192x8192 .f32 :=
  Host.reduceWindowAdd ![1, 1, 1, 8192] ![1, 1, 1, 1] ![0, 0, 0, 0] ![0, 0, 0, 8191] x (broadcastInDim S_ ![] bcast_S_S_ (constant S_ .f32 0x00000000#32)) reduceWindows_S2x4x8192x8192_S2x4x8192x8192_w1s1p0_0_w1s1p0_0_w1s1p0_0_w8192s1p0_8191 h_S_

/-- A share before the mask: the key is taken, the later ones were passed over. -/
def shareR (l s f : FVec Ideal S2x4x8192x8192 .f32) : FVec Ideal S2x4x8192x8192 .f32 := Host.exp (addf l (subf s f))

/-- The values by their shares. -/
def outR (a2 : FVec Ideal S2x8192x4x64 .f32) (p : FVec Ideal S2x4x8192x8192 .f32) : FVec Ideal S2x8192x4x64 .f32 :=
  transpose S2x8192x4x64 [0, 3, 1, 2] (Host.dotGeneral dot_S2x8192x4x64_S2x4x8192x8192_S2x4x64x8192_1_3_3_2_02_01 none a2 p) transposes_S2x4x64x8192_S2x8192x4x64_0_3_1_2

/-- The reference's result as a function of its arguments. -/
def REF (a0 a1 a2 : FVec Ideal S2x8192x4x64 .f32) : FVec Ideal S2x8192x4x64 .f32 :=
  outR a2 (keepR (shareR (lsR (zR a0 a1)) (sumR (keepR (lsR (Host.negf (zR a0 a1))))) (keepR (lsR (Host.negf (zR a0 a1))))))

/-- The reference's run leaves that function of the arguments. -/
theorem res_eq (m : (ℓ : Loc nD τ sig) → Buf (Elt Ideal) ℓ) (c : Dev nD) :
    Value.res_main_v19 m c = REF (m ((c.tc : Thread nD τ).loc main_arg0)) (m ((c.tc : Thread nD τ).loc main_arg1))
      (m ((c.tc : Thread nD τ).loc main_arg2)) := rfl

/-- The literal scale. -/
theorem scale_eq : Ideal.ofBits .f32 0x3E000000#32 = ((1 / 8 : ℝ) : EReal) := by
  simp [Ideal.ofBits, Ideal.ieee, -EReal.coe_mul]; norm_num

/-- The literal zero. -/
theorem zero_eq : Ideal.ofBits .f32 0x00000000#32 = 0 := by simp [Ideal.ofBits, Ideal.ieee]

/-- The mask at a query and a key. -/
theorem past_at (T p : Fin 8192) : pastR (ix2 T p) = if p.val < T.val then 1#1 else 0#1 := by
  have h : pastR (ix2 T p) = IntOp.cmpi CmpIPredicate.slt (BitVec.ofNat 32 p.val) (BitVec.ofNat 32 T.val) := by
    pointwise [pastR]
  have hp : (BitVec.ofNat 32 p.val).toNat = p.val := by simp; omega
  have hT : (BitVec.ofNat 32 T.val).toNat = T.val := by simp; omega
  rw [h, WordCmp.cmpi_slt_of_lt (by simp; omega) (by simp; omega), hp, hT]
  by_cases hc : p.val < T.val <;> simp [hc]

/-- A scaled logit. -/
theorem z_at (a0 a1 : FVec Ideal S2x8192x4x64 .f32) (b : Fin 2) (h : Fin 4) (T p : Fin 8192) :
    zR a0 a1 (ix4 b h T p) = dot (fun w => a0 (ix4 b T h w)) (fun w => a1 (ix4 b p h w)) * ((1 / 8 : ℝ) : EReal) := by
  rw [← scale_eq]
  pointwise [zR, dot]

/-- A kept entry. -/
theorem keep_at (x : FVec Ideal S2x4x8192x8192 .f32) (b : Fin 2) (h : Fin 4) (T p : Fin 8192) :
    keepR x (ix4 b h T p) = if p.val < T.val then x (ix4 b h T p) else (0 : EReal) := by
  have h1 : keepR x (ix4 b h T p) = Scalar.select (pastR (ix2 T p)) (x (ix4 b h T p)) (id (constant S_ FTy.f32 0x00000000#32) ix0) := by
    pointwise [keepR]
  have h2 : id (constant (F := Ideal) S_ FTy.f32 0x00000000#32) ix0 = (0 : EReal) := zero_eq
  rw [h1, past_at, h2]
  by_cases hc : p.val < T.val <;> simp [hc, Scalar.select]

/-- The entries of the negation. -/
theorem neg_at (x : FVec Ideal S2x4x8192x8192 .f32) (b : Fin 2) (h : Fin 4) (T p : Fin 8192) :
    Host.negf x (ix4 b h T p) = (-(x (ix4 b h T p)) : EReal) := by
  pointwise []

/-- The logarithm of the sigmoid: minus what the opposite logit takes off. -/
theorem ls_at (x : FVec Ideal S2x4x8192x8192 .f32) (b : Fin 2) (h : Fin 4) (T p : Fin 8192) :
    lsR x (ix4 b h T p) = -sp (-x (ix4 b h T p)) := by
  have e : lsR x (ix4 b h T p) = -(max (-(x (ix4 b h T p))) 0 + Ideal.log1p (Ideal.exp (-(max (-(x (ix4 b h T p))) (-(-(x (ix4 b h T p)))))))) := by
    pointwise [lsR]
    rw [if_neg (fun hne => hne rfl)]
    rfl
  exact e

/-- An entry of the running sum. -/
theorem sum_at (x : FVec Ideal S2x4x8192x8192 .f32) (b : Fin 2) (h : Fin 4) (T : Fin 8192) (g : ℕ → EReal) (hg : ∀ k : Fin 8192, x (ix4 b h T k) = g k.val) (p : Fin 8192) :
    sumR x (ix4 b h T p) = ∑ j ∈ Finset.Ico p.val 8192, g j :=
  Cert.Sb.Suffix.suffix_at x _ _ h_S_ zero_eq g b h T hg p

/-- A share before the mask. -/
theorem share_at (l s f : FVec Ideal S2x4x8192x8192 .f32) (b : Fin 2) (h : Fin 4) (T p : Fin 8192) :
    shareR l s f (ix4 b h T p) = Ideal.exp (l (ix4 b h T p) + (s (ix4 b h T p) - f (ix4 b h T p))) := by
  pointwise [shareR]

/-- An entry of the result. -/
theorem out_at (a2 : FVec Ideal S2x8192x4x64 .f32) (p : FVec Ideal S2x4x8192x8192 .f32) (b : Fin 2) (h : Fin 4) (T : Fin 8192) (d : Fin 64) :
    outR a2 p (ix4 b T h d) = ∑ j : Fin 8192, a2 (ix4 b j h d) * p (ix4 b h T j) := by
  pointwise [outR]

/-- An entry of the result: the values by the keys' shares. -/
theorem REF_at (a0 a1 a2 : FVec Ideal S2x8192x4x64 .f32) (b : Fin 2) (T : Fin 8192) (h : Fin 4) (d : Fin 64) (z : ℕ → EReal)
    (hz : ∀ p : Fin 8192, dot (fun w => a0 (ix4 b T h w)) (fun w => a1 (ix4 b p h w)) * ((1 / 8 : ℝ) : EReal) = z p.val) :
    REF a0 a1 a2 (ix4 b T h d) = ∑ p : Fin 8192, a2 (ix4 b p h d) * share z T.val 8192 p.val := by
  unfold REF
  rw [out_at]
  generalize hZ : zR a0 a1 = Z
  have hZa : ∀ p : Fin 8192, Z (ix4 b h T p) = z p.val := fun p => by rw [← hZ, z_at, hz]
  have hf : ∀ p : Fin 8192, keepR (lsR (Host.negf Z)) (ix4 b h T p) = -fail z T.val p.val := fun p => by
    rw [keep_at, ls_at, neg_at, hZa, neg_neg, fail]
    by_cases hc : p.val < T.val
    · rw [if_pos hc, if_pos hc]
    · rw [if_neg hc, if_neg hc, neg_zero]
  refine Finset.sum_congr rfl fun p _ => congrArg _ ?_
  rw [keep_at]
  by_cases hc : p.val < T.val
  · rw [if_pos hc, share_at, ls_at, hZa, sum_at _ b h T (fun j => -fail z T.val j) hf p, hf p]
    exact share_eq z T.val p.val hc (by omega)
  · rw [if_neg hc, share, if_neg hc]

end Cert.SbRefIdeal.Val

end
-- ==== Proof.SbClaim.lean ====
/- The stick-breaking attention's claims: its frames, its idealization, its value. -/
module

public import proofs.«01_k».proof.Defs
public import proofs.«01_k».proof.Proof.Gen.SbRef.Run
public import proofs.«01_k».proof.Proof.SbBitsFrame
public import proofs.«01_k».proof.Proof.MlaClaim
public import proofs.«01_k».proof.Proof.SbArr
public import proofs.«01_k».proof.Proof.SbRef

@[expose] public section

set_option maxRecDepth 16384

noncomputable section

open scoped BigOperators
open Idealize.ShloMosaic Idealize.SL.Sem
open Cert.Mla.Soft Cert.Sb.Soft

namespace Cert.Sb.Claims

/-- The kernel runs and leaves its arguments, on machine floats. -/
theorem frame_p : Cert.quiescent_Sb := fun m ρ _ => Cert.Sb.Run.frame_all m ρ

/-- The kernel runs and leaves its arguments, on extended reals. -/
theorem frame_pi : Cert.quiescent_SbIdeal := fun m ρ _ => Cert.SbIdeal.Run.frame_all m ρ

/-- The reference runs and leaves its arguments, on machine floats: its run at the arguments; it declares no semaphore. -/
theorem frame_r : Cert.quiescent_SbRef := fun m ρ _ =>
  (θ_run Cert.SbRef.defs _ _).mono (fun r h => ⟨fun c => (h c).2, sem_eq_zero_of_no_sems (by decide) r.2⟩)
    (Cert.SbRef.Value.run (F := Bits) m ρ)

/-- The same on extended reals. -/
theorem frame_ri : Cert.quiescent_SbRefIdeal := fun m ρ _ =>
  (θ_run Cert.SbRefIdeal.defs _ _).mono (fun r h => ⟨fun c => (h c).2, sem_eq_zero_of_no_sems (by decide) r.2⟩)
    (Cert.SbRefIdeal.Value.run (F := Ideal) m ρ)

/-- The two named constants: the queries' scale and the logarithm of e to base two. -/
theorem preserves : Cert.preserves_Sb_SbIdeal :=
  ⟨IdealRules.named_const.statement Cert.SbIdeal.κ "sbscale" .f32 0x3E38AA3B#32 (((1 / 8) * (Real.log 2)⁻¹ : ℝ) : EReal) rfl,
    IdealRules.named_const.statement Cert.SbIdeal.κ "log2e" .f32 0x3FB8AA3B#32 (((Real.log 2)⁻¹ : ℝ) : EReal) rfl⟩

/-- The kernel's result on the host, from the array its call leaves: every head's 64 lanes of its slot. -/
def heads (o : FVec Ideal Cert.SbIdeal.S16384x512 .bf16) : FVec Ideal Cert.SbIdeal.S2x8192x4x64 .f32 :=
  extf .f32 (extractStridedSlice Cert.SbIdeal.S2x8192x4x64 ![0, 0, 0, 0] (shapeCast Cert.SbIdeal.S2x8192x4x128 o Cert.SbIdeal.Gen.shapeCasts_S16384x512_S2x8192x4x128)
    Cert.SbIdeal.Gen.slices_S2x8192x4x128_S2x8192x4x64_0_0_0_0) Cert.SbIdeal.Gen.bitsLt_bf16_f32

/-- An entry of it. -/
theorem heads_at (o : FVec Ideal Cert.SbIdeal.S16384x512 .bf16) (b : Fin 2) (T : Fin 8192) (h : Fin 4) (d : Fin 64) :
    heads o (ix4 b T h d) = o (ix2 (⟨b.val * 8192 + T.val, by omega⟩ : Fin 16384) (⟨h.val * 128 + d.val, by omega⟩ : Fin 512)) := by
  pointwise [heads]

/-- What the host leaves after the call. -/
theorem tail_read (m : (ℓ : Loc Cert.SbIdeal.nD Cert.SbIdeal.τ Cert.SbIdeal.sig) → Buf (Elt Ideal) ℓ) (c : Dev Cert.SbIdeal.nD) :
    Pipeline.afterTail₀ Cert.SbIdeal.cfgs (Cert.SbIdeal.Run.dats m) 0 (Cert.SbIdeal.Gen.V0 m) [Cert.SbIdeal.Gen.hostOps1] c Cert.SbIdeal.main_v13
      = heads ((Cert.SbIdeal.Run.dats m 0 c).arrAt 3 (Cert.SbIdeal.cfgs 0).N) := by
  unfold Pipeline.afterTail₀
  simp only [Cert.SbIdeal.Gen.hostOps1, List.flatten_cons, List.flatten_nil, List.append_nil]
  after_results_simp
  exact congrArg heads (Pipeline.withArrays_arr (Cert.SbIdeal.cfgs 0).spec (by decide) c (Cert.SbIdeal.Gen.V0 m c)
    (fun w => (Cert.SbIdeal.Run.dats m 0 c).arrAt w (Cert.SbIdeal.cfgs 0).N) 3)

/-- The kernel's run: its result read, its arguments as they were. -/
theorem run_value (m : (ℓ : Loc Cert.SbIdeal.nD Cert.SbIdeal.τ Cert.SbIdeal.sig) → Buf (Elt Ideal) ℓ) (ρ : Dev Cert.SbIdeal.nD → PrngReg) :
    θ_run Cert.SbIdeal.defs (onTc (τ := Cert.SbIdeal.τ) (Cert.SbIdeal.main (F := Ideal))) ⟨m, fun _ => 0, ρ⟩ fun r => ∀ c : Dev Cert.SbIdeal.nD,
      r.2.mem ((c.tc : Thread Cert.SbIdeal.nD Cert.SbIdeal.τ).loc Cert.SbIdeal.main_v13) = heads ((Cert.SbIdeal.Run.dats m 0 c).arrAt 3 (Cert.SbIdeal.cfgs 0).N)
      ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2) :=
  (θ_run Cert.SbIdeal.defs _ _).mono (fun r h c =>
    ⟨((h.1.1 c).2 Cert.SbIdeal.main_v13 (Pipeline.mem_restRefs_of Cert.SbIdeal.main_v13 (by decide) (by decide))).trans (tail_read m c), h.2.1 c⟩)
    (θ_run_and (Cert.SbIdeal.Run.run_main m ρ) (Cert.SbIdeal.Run.frame_all m ρ))

/-- What a head's lane of the kernel's array holds: the values by the keys' shares. -/
theorem G_at (a0 a1 a2 : FVec Ideal Cert.SbIdeal.S2x8192x4x64 .f32) (b : Fin 2) (T : Fin 8192) (h : Fin 4) (d : Fin 64) :
    Cert.SbIdeal.Run.G a0 a1 a2 (ix2 (⟨b.val * 8192 + T.val, by omega⟩ : Fin 16384) (⟨h.val * 128 + d.val, by omega⟩ : Fin 512))
      = ∑ p : Fin 8192, a2 (ix4 b p h d) * share (zed a0 a1 b T h) T.val 8192 p.val := by
  have e0 : (b.val * 8192 + T.val) / 8192 = b.val := by omega
  have e1 : (b.val * 8192 + T.val) % 8192 = T.val := by omega
  have e2 : (h.val * 128 + d.val) / 128 = h.val := by omega
  have hG : Cert.SbIdeal.Run.G a0 a1 a2 (ix2 (⟨b.val * 8192 + T.val, by omega⟩ : Fin 16384) (⟨h.val * 128 + d.val, by omega⟩ : Fin 512))
      = stick (zed a0 a1 ⟨(b.val * 8192 + T.val) / 8192, by omega⟩ ⟨(b.val * 8192 + T.val) % 8192, by omega⟩ ⟨(h.val * 128 + d.val) / 128, by omega⟩)
        (fun p => Cert.SbIdeal.Run.vArr a2 (ix2 (⟨h.val * 128 + d.val, by omega⟩ : Fin 512) (⟨(b.val * 8192 + T.val) / 8192 * 8192 + p % 8192, by omega⟩ : Fin 16384)))
        ((b.val * 8192 + T.val) % 8192) := rfl
  rw [hG]
  simp only [e0, e1, e2, Fin.eta]
  unfold stick
  rw [Finset.sum_range]
  refine Finset.sum_congr rfl fun p _ => congrArg (· * _) ?_
  have hp : p.val % 8192 = p.val := Nat.mod_eq_of_lt p.isLt
  refine Eq.trans (congrArg _ ?_) (Cert.SbIdeal.Run.vArr_at a2 b p h d)
  congr 1
  · exact Fin.ext (by show h.val * 128 + d.val = 128 * h.val + d.val; omega)
  · exact Fin.ext (by show b.val * 8192 + p.val % 8192 = b.val * 8192 + p.val; omega)

/-- The reference's entry is the kernel's. -/
theorem same_at (a0 a1 a2 : FVec Ideal Cert.SbIdeal.S2x8192x4x64 .f32) (b : Fin 2) (T : Fin 8192) (h : Fin 4) (d : Fin 64) :
    Cert.SbRefIdeal.Val.REF a0 a1 a2 (ix4 b T h d) = heads (Cert.SbIdeal.Run.G a0 a1 a2) (ix4 b T h d) := by
  rw [heads_at, G_at]
  refine Cert.SbRefIdeal.Val.REF_at a0 a1 a2 b T h d (zed a0 a1 b T h) fun p => ?_
  have hp : p.val % 8192 = p.val := Nat.mod_eq_of_lt p.isLt
  unfold zed
  simp only [hp, Fin.eta]

/-- The reference's array is the kernel's. -/
theorem same (a0 a1 a2 : FVec Ideal Cert.SbIdeal.S2x8192x4x64 .f32) :
    Cert.SbRefIdeal.Val.REF a0 a1 a2 = heads (Cert.SbIdeal.Run.G a0 a1 a2) := by
  funext j
  idx_vars j
  exact same_at a0 a1 a2 _ _ _ _

/-- The kernel's result is the reference's. -/
theorem algebraic : Cert.algebraic_SbIdeal_SbRefIdeal := by
  pair_intro
  · run_from run_value m g
  · run_from Cert.SbRefIdeal.Value.run m' g'
    obtain ⟨h0, h1, h2⟩ := hagree c
    refine (Cert.SbRefIdeal.Val.res_eq m' c).trans (Eq.trans ?_ (congrArg heads (Cert.SbIdeal.Run.final m c)).symm)
    rw [h0, h1, h2]
    exact same _ _ _

end Cert.Sb.Claims

end
-- ==== Proof.lean ====
/- The certificate's claim, put together from the calls' own modules. -/
module

public import proofs.«01_k».proof.Defs
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.Pre_finite
public import proofs.«01_k».proof.Proof.Gen.MlaRefIdeal.Run
public import proofs.«01_k».proof.Proof.Gen.TailIdeal.Value
public import proofs.«01_k».proof.Proof.Gen.TailRefIdeal.Run
public import proofs.«01_k».proof.Proof.Gen.Sb
public import proofs.«01_k».proof.Proof.Gen.Sb.Skeleton
public import proofs.«01_k».proof.Proof.Gen.Sb.Loops
public import proofs.«01_k».proof.Proof.Gen.Sb.Launch
public import proofs.«01_k».proof.Proof.Gen.Sb.Points
public import proofs.«01_k».proof.Proof.Gen.Sb.Frame
public import proofs.«01_k».proof.Proof.Gen.SbIdeal
public import proofs.«01_k».proof.Proof.Gen.SbIdeal.Skeleton
public import proofs.«01_k».proof.Proof.Gen.SbIdeal.Loops
public import proofs.«01_k».proof.Proof.Gen.SbIdeal.Launch
public import proofs.«01_k».proof.Proof.Gen.SbIdeal.Points
public import proofs.«01_k».proof.Proof.Gen.SbIdeal.Frame
public import proofs.«01_k».proof.Proof.Gen.SbRefIdeal
public import proofs.«01_k».proof.Proof.Gen.SbRefIdeal.Run
public import proofs.«01_k».proof.Proof.MlaClaim
public import proofs.«01_k».proof.Proof.TailClaim
public import proofs.«01_k».proof.Proof.Gen.Inner
public import proofs.«01_k».proof.Proof.Gen.Inner.Skeleton
public import proofs.«01_k».proof.Proof.Gen.Inner.Launch
public import proofs.«01_k».proof.Proof.Gen.Inner.Points
public import proofs.«01_k».proof.Proof.Gen.Inner.Frame
public import proofs.«01_k».proof.Proof.Gen.InnerIdeal
public import proofs.«01_k».proof.Proof.Gen.InnerIdeal.Skeleton
public import proofs.«01_k».proof.Proof.Gen.InnerIdeal.Launch
public import proofs.«01_k».proof.Proof.Gen.InnerIdeal.Points
public import proofs.«01_k».proof.Proof.Gen.InnerIdeal.Frame
public import proofs.«01_k».proof.Proof.Gen.InnerRefIdeal
public import proofs.«01_k».proof.Proof.Gen.InnerIdeal.Value
public import proofs.«01_k».proof.Proof.Gen.InnerRefIdeal.Run
public import proofs.«01_k».proof.Proof.InnerClaim
public import proofs.«01_k».proof.Proof.SbClaim
public import proofs.«01_k».proof.Proof.Gen.MlaRef.Run
public import proofs.«01_k».proof.Proof.Gen.SbRef.Run
public import Idealize.ShloMosaic.Adequacy
public import Idealize.ShloMosaic.Init

@[expose] public section

noncomputable section

namespace Cert.Proof

/-- Everything the certificate claims. -/
theorem claim : Cert.Claim := ⟨Cert.Mla.Gen.facts, Cert.MlaIdeal.Gen.facts, Cert.MlaRef.Gen.facts, Cert.MlaRefIdeal.Gen.facts, Cert.Tail.Gen.facts,
  Cert.TailIdeal.Gen.facts, Cert.TailRefIdeal.Gen.facts,
  Cert.Inner.Gen.facts, Cert.InnerIdeal.Gen.facts, Cert.InnerRefIdeal.Gen.facts,
  Cert.Sb.Gen.facts, Cert.SbIdeal.Gen.facts, Cert.SbRef.Gen.facts, Cert.SbRefIdeal.Gen.facts, Cert.Pre_finite.Gen.facts,
  Cert.Mla.Claims.frame_p, Cert.Mla.Claims.frame_pi, Cert.Mla.Claims.frame_pi_pre, Cert.Mla.Claims.frame_r, Cert.Mla.Claims.frame_ri, Cert.Mla.Claims.frame_ri_pre,
  Cert.Tail.Claims.frame_p, Cert.Tail.Claims.frame_pi, Cert.Tail.Claims.frame_ri,
  Cert.Inner.Claims.frame_p, Cert.Inner.Claims.frame_pi, Cert.Inner.Claims.frame_ri,
  Cert.Sb.Claims.frame_p, Cert.Sb.Claims.frame_pi, Cert.Sb.Claims.frame_r, Cert.Sb.Claims.frame_ri,
  Cert.Mla.Claims.preserves, Cert.Mla.Claims.algebraic, trivial, Cert.Tail.Claims.algebraic,
  trivial, Cert.Inner.Claims.algebraic,
  Cert.Sb.Claims.preserves, Cert.Sb.Claims.algebraic⟩

end Cert.Proof

end
